-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)) (v2 : (c : Dev Cert.KernelIdeal.nD) → Buf (Elt Ideal) ((c.tc : Thread Cert.KernelIdeal.nD Cert.KernelIdeal.τ).loc Cert.KernelIdeal.main_v71_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_v71_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v150) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)) (v4 : (c : Dev Cert.Kernel2Ideal.nD) → Buf (Elt Ideal) ((c.tc : Thread Cert.Kernel2Ideal.nD Cert.Kernel2Ideal.τ).loc Cert.Kernel2Ideal.main_v24_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_v24_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v79) = v0 c
          ∧ r.2.mem ((c.tc : Thread Cert.Reference2Ideal.nD Cert.Reference2Ideal.τ).loc Cert.Reference2Ideal.main_v80) = v1 c
          ∧ r.2.mem ((c.tc : Thread Cert.Reference2Ideal.nD Cert.Reference2Ideal.τ).loc Cert.Reference2Ideal.main_v78) = v2 c
          ∧ r.2.mem ((c.tc : Thread Cert.Reference2Ideal.nD Cert.Reference2Ideal.τ).loc Cert.Reference2Ideal.main_v81) = v3 c
          ∧ r.2.mem ((c.tc : Thread Cert.Reference2Ideal.nD Cert.Reference2Ideal.τ).loc Cert.Reference2Ideal.main_v82) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_v28_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v22)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v18_1)) (v2 : (c : Dev Cert.Kernel5Ideal.nD) → Buf (Elt Ideal) ((c.tc : Thread Cert.Kernel5Ideal.nD Cert.Kernel5Ideal.τ).loc Cert.Kernel5Ideal.main_v18_2)) (v3 : (c : Dev Cert.Kernel5Ideal.nD) → Buf (Elt Ideal) ((c.tc : Thread Cert.Kernel5Ideal.nD Cert.Kernel5Ideal.τ).loc Cert.Kernel5Ideal.main_v18_3)) (v4 : (c : Dev Cert.Kernel5Ideal.nD) → Buf (Elt Ideal) ((c.tc : Thread Cert.Kernel5Ideal.nD Cert.Kernel5Ideal.τ).loc Cert.Kernel5Ideal.main_v18_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v18_1) = v1 c
          ∧ r.2.mem ((c.tc : Thread Cert.Kernel5Ideal.nD Cert.Kernel5Ideal.τ).loc Cert.Kernel5Ideal.main_v18_2) = v2 c
          ∧ r.2.mem ((c.tc : Thread Cert.Kernel5Ideal.nD Cert.Kernel5Ideal.τ).loc Cert.Kernel5Ideal.main_v18_3) = v3 c
          ∧ r.2.mem ((c.tc : Thread Cert.Kernel5Ideal.nD Cert.Kernel5Ideal.τ).loc Cert.Kernel5Ideal.main_v18_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_v43) = v1 c
          ∧ r.2.mem ((c.tc : Thread Cert.Reference5Ideal.nD Cert.Reference5Ideal.τ).loc Cert.Reference5Ideal.main_v44) = v2 c
          ∧ r.2.mem ((c.tc : Thread Cert.Reference5Ideal.nD Cert.Reference5Ideal.τ).loc Cert.Reference5Ideal.main_v41) = v3 c
          ∧ r.2.mem ((c.tc : Thread Cert.Reference5Ideal.nD Cert.Reference5Ideal.τ).loc Cert.Reference5Ideal.main_v59) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v20_0)) (v1 : (c : Dev Cert.Kernel6Ideal.nD) → Buf (Elt Ideal) ((c.tc : Thread Cert.Kernel6Ideal.nD Cert.Kernel6Ideal.τ).loc Cert.Kernel6Ideal.main_v20_1)) (v2 : (c : Dev Cert.Kernel6Ideal.nD) → Buf (Elt Ideal) ((c.tc : Thread Cert.Kernel6Ideal.nD Cert.Kernel6Ideal.τ).loc Cert.Kernel6Ideal.main_v20_2)) (v3 : (c : Dev Cert.Kernel6Ideal.nD) → Buf (Elt Ideal) ((c.tc : Thread Cert.Kernel6Ideal.nD Cert.Kernel6Ideal.τ).loc Cert.Kernel6Ideal.main_v20_3)) (v4 : (c : Dev Cert.Kernel6Ideal.nD) → Buf (Elt Ideal) ((c.tc : Thread Cert.Kernel6Ideal.nD Cert.Kernel6Ideal.τ).loc Cert.Kernel6Ideal.main_v20_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20_0) = v0 c
          ∧ r.2.mem ((c.tc : Thread Cert.Kernel6Ideal.nD Cert.Kernel6Ideal.τ).loc Cert.Kernel6Ideal.main_v20_1) = v1 c
          ∧ r.2.mem ((c.tc : Thread Cert.Kernel6Ideal.nD Cert.Kernel6Ideal.τ).loc Cert.Kernel6Ideal.main_v20_2) = v2 c
          ∧ r.2.mem ((c.tc : Thread Cert.Kernel6Ideal.nD Cert.Kernel6Ideal.τ).loc Cert.Kernel6Ideal.main_v20_3) = v3 c
          ∧ r.2.mem ((c.tc : Thread Cert.Kernel6Ideal.nD Cert.Kernel6Ideal.τ).loc Cert.Kernel6Ideal.main_v20_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_v21) = v2 c
          ∧ r.2.mem ((c.tc : Thread Cert.Reference6Ideal.nD Cert.Reference6Ideal.τ).loc Cert.Reference6Ideal.main_v22) = v3 c
          ∧ r.2.mem ((c.tc : Thread Cert.Reference6Ideal.nD Cert.Reference6Ideal.τ).loc Cert.Reference6Ideal.main_v23) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v22)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v12_0)) (v1 : (c : Dev Cert.Kernel8Ideal.nD) → Buf (Elt Ideal) ((c.tc : Thread Cert.Kernel8Ideal.nD Cert.Kernel8Ideal.τ).loc Cert.Kernel8Ideal.main_v12_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12_0) = v0 c
          ∧ r.2.mem ((c.tc : Thread Cert.Kernel8Ideal.nD Cert.Kernel8Ideal.τ).loc Cert.Kernel8Ideal.main_v12_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v40) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)) (v2 : (c : Dev Cert.Kernel9Ideal.nD) → Buf (Elt Ideal) ((c.tc : Thread Cert.Kernel9Ideal.nD Cert.Kernel9Ideal.τ).loc Cert.Kernel9Ideal.main_v7_2)) (v3 : (c : Dev Cert.Kernel9Ideal.nD) → Buf (Elt Ideal) ((c.tc : Thread Cert.Kernel9Ideal.nD Cert.Kernel9Ideal.τ).loc Cert.Kernel9Ideal.main_v7_3)) (v4 : (c : Dev Cert.Kernel9Ideal.nD) → Buf (Elt Ideal) ((c.tc : Thread Cert.Kernel9Ideal.nD Cert.Kernel9Ideal.τ).loc Cert.Kernel9Ideal.main_v7_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_v7_2) = v2 c
          ∧ r.2.mem ((c.tc : Thread Cert.Kernel9Ideal.nD Cert.Kernel9Ideal.τ).loc Cert.Kernel9Ideal.main_v7_3) = v3 c
          ∧ r.2.mem ((c.tc : Thread Cert.Kernel9Ideal.nD Cert.Kernel9Ideal.τ).loc Cert.Kernel9Ideal.main_v7_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v37) = v1 c
          ∧ r.2.mem ((c.tc : Thread Cert.Reference9Ideal.nD Cert.Reference9Ideal.τ).loc Cert.Reference9Ideal.main_v38) = v2 c
          ∧ r.2.mem ((c.tc : Thread Cert.Reference9Ideal.nD Cert.Reference9Ideal.τ).loc Cert.Reference9Ideal.main_v35) = v3 c
          ∧ r.2.mem ((c.tc : Thread Cert.Reference9Ideal.nD Cert.Reference9Ideal.τ).loc Cert.Reference9Ideal.main_v53) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)) (v2 : (c : Dev Cert.Kernel10Ideal.nD) → Buf (Elt Ideal) ((c.tc : Thread Cert.Kernel10Ideal.nD Cert.Kernel10Ideal.τ).loc Cert.Kernel10Ideal.main_v8_2)) (v3 : (c : Dev Cert.Kernel10Ideal.nD) → Buf (Elt Ideal) ((c.tc : Thread Cert.Kernel10Ideal.nD Cert.Kernel10Ideal.τ).loc Cert.Kernel10Ideal.main_v8_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_v8_2) = v2 c
          ∧ r.2.mem ((c.tc : Thread Cert.Kernel10Ideal.nD Cert.Kernel10Ideal.τ).loc Cert.Kernel10Ideal.main_v8_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v31) = v0 c
          ∧ r.2.mem ((c.tc : Thread Cert.Reference10Ideal.nD Cert.Reference10Ideal.τ).loc Cert.Reference10Ideal.main_v32) = v1 c
          ∧ r.2.mem ((c.tc : Thread Cert.Reference10Ideal.nD Cert.Reference10Ideal.τ).loc Cert.Reference10Ideal.main_v33) = v2 c
          ∧ r.2.mem ((c.tc : Thread Cert.Reference10Ideal.nD Cert.Reference10Ideal.τ).loc Cert.Reference10Ideal.main_v34) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v25_0)) (v1 : (c : Dev Cert.Kernel11Ideal.nD) → Buf (Elt Ideal) ((c.tc : Thread Cert.Kernel11Ideal.nD Cert.Kernel11Ideal.τ).loc Cert.Kernel11Ideal.main_v25_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v25_0) = v0 c
          ∧ r.2.mem ((c.tc : Thread Cert.Kernel11Ideal.nD Cert.Kernel11Ideal.τ).loc Cert.Kernel11Ideal.main_v25_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v44_0)) (v1 : (c : Dev Cert.Kernel12Ideal.nD) → Buf (Elt Ideal) ((c.tc : Thread Cert.Kernel12Ideal.nD Cert.Kernel12Ideal.τ).loc Cert.Kernel12Ideal.main_v44_1)) (v2 : (c : Dev Cert.Kernel12Ideal.nD) → Buf (Elt Ideal) ((c.tc : Thread Cert.Kernel12Ideal.nD Cert.Kernel12Ideal.τ).loc Cert.Kernel12Ideal.main_v44_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v44_0) = v0 c
          ∧ r.2.mem ((c.tc : Thread Cert.Kernel12Ideal.nD Cert.Kernel12Ideal.τ).loc Cert.Kernel12Ideal.main_v44_1) = v1 c
          ∧ r.2.mem ((c.tc : Thread Cert.Kernel12Ideal.nD Cert.Kernel12Ideal.τ).loc Cert.Kernel12Ideal.main_v44_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v19) = v0 c
          ∧ r.2.mem ((c.tc : Thread Cert.Reference12Ideal.nD Cert.Reference12Ideal.τ).loc Cert.Reference12Ideal.main_v26) = v1 c
          ∧ r.2.mem ((c.tc : Thread Cert.Reference12Ideal.nD Cert.Reference12Ideal.τ).loc Cert.Reference12Ideal.main_v24) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v32_0)) (v1 : (c : Dev Cert.Kernel13Ideal.nD) → Buf (Elt Ideal) ((c.tc : Thread Cert.Kernel13Ideal.nD Cert.Kernel13Ideal.τ).loc Cert.Kernel13Ideal.main_v32_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v32_0) = v0 c
          ∧ r.2.mem ((c.tc : Thread Cert.Kernel13Ideal.nD Cert.Kernel13Ideal.τ).loc Cert.Kernel13Ideal.main_v32_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v29) = v0 c
          ∧ r.2.mem ((c.tc : Thread Cert.Reference13Ideal.nD Cert.Reference13Ideal.τ).loc Cert.Reference13Ideal.main_v32) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v18_0)) (v1 : (c : Dev Cert.Kernel14Ideal.nD) → Buf (Elt Ideal) ((c.tc : Thread Cert.Kernel14Ideal.nD Cert.Kernel14Ideal.τ).loc Cert.Kernel14Ideal.main_v18_1)) (v2 : (c : Dev Cert.Kernel14Ideal.nD) → Buf (Elt Ideal) ((c.tc : Thread Cert.Kernel14Ideal.nD Cert.Kernel14Ideal.τ).loc Cert.Kernel14Ideal.main_v18_2)) (v3 : (c : Dev Cert.Kernel14Ideal.nD) → Buf (Elt Ideal) ((c.tc : Thread Cert.Kernel14Ideal.nD Cert.Kernel14Ideal.τ).loc Cert.Kernel14Ideal.main_v18_3)) (v4 : (c : Dev Cert.Kernel14Ideal.nD) → Buf (Elt Ideal) ((c.tc : Thread Cert.Kernel14Ideal.nD Cert.Kernel14Ideal.τ).loc Cert.Kernel14Ideal.main_v18_4)) (v5 : (c : Dev Cert.Kernel14Ideal.nD) → Buf (Elt Ideal) ((c.tc : Thread Cert.Kernel14Ideal.nD Cert.Kernel14Ideal.τ).loc Cert.Kernel14Ideal.main_v18_5)) (v6 : (c : Dev Cert.Kernel14Ideal.nD) → Buf (Elt Ideal) ((c.tc : Thread Cert.Kernel14Ideal.nD Cert.Kernel14Ideal.τ).loc Cert.Kernel14Ideal.main_v18_6)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v18_0) = v0 c
          ∧ r.2.mem ((c.tc : Thread Cert.Kernel14Ideal.nD Cert.Kernel14Ideal.τ).loc Cert.Kernel14Ideal.main_v18_1) = v1 c
          ∧ r.2.mem ((c.tc : Thread Cert.Kernel14Ideal.nD Cert.Kernel14Ideal.τ).loc Cert.Kernel14Ideal.main_v18_2) = v2 c
          ∧ r.2.mem ((c.tc : Thread Cert.Kernel14Ideal.nD Cert.Kernel14Ideal.τ).loc Cert.Kernel14Ideal.main_v18_3) = v3 c
          ∧ r.2.mem ((c.tc : Thread Cert.Kernel14Ideal.nD Cert.Kernel14Ideal.τ).loc Cert.Kernel14Ideal.main_v18_4) = v4 c
          ∧ r.2.mem ((c.tc : Thread Cert.Kernel14Ideal.nD Cert.Kernel14Ideal.τ).loc Cert.Kernel14Ideal.main_v18_5) = v5 c
          ∧ r.2.mem ((c.tc : Thread Cert.Kernel14Ideal.nD Cert.Kernel14Ideal.τ).loc Cert.Kernel14Ideal.main_v18_6) = v6 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v181) = v0 c
          ∧ r.2.mem ((c.tc : Thread Cert.Reference14Ideal.nD Cert.Reference14Ideal.τ).loc Cert.Reference14Ideal.main_v224) = v1 c
          ∧ r.2.mem ((c.tc : Thread Cert.Reference14Ideal.nD Cert.Reference14Ideal.τ).loc Cert.Reference14Ideal.main_v225) = v2 c
          ∧ r.2.mem ((c.tc : Thread Cert.Reference14Ideal.nD Cert.Reference14Ideal.τ).loc Cert.Reference14Ideal.main_v226) = v3 c
          ∧ r.2.mem ((c.tc : Thread Cert.Reference14Ideal.nD Cert.Reference14Ideal.τ).loc Cert.Reference14Ideal.main_v227) = v4 c
          ∧ r.2.mem ((c.tc : Thread Cert.Reference14Ideal.nD Cert.Reference14Ideal.τ).loc Cert.Reference14Ideal.main_v228) = v5 c
          ∧ r.2.mem ((c.tc : Thread Cert.Reference14Ideal.nD Cert.Reference14Ideal.τ).loc Cert.Reference14Ideal.main_v229) = v6 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v145) = v0 c
          ∧ r.2.mem ((c.tc : Thread Cert.Reference19Ideal.nD Cert.Reference19Ideal.τ).loc Cert.Reference19Ideal.main_v146) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite2 : Cert.Pre_finite2.Facts) (hPre_finite8 : Cert.Pre_finite8.Facts) (hPre_finite14 : Cert.Pre_finite14.Facts) (hPre_finite19 : Cert.Pre_finite19.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S8192x512 : Shape := ⟨2, ![8192, 512]⟩
abbrev S4x128x128 : Shape := ⟨3, ![4, 128, 128]⟩
abbrev S1x512 : Shape := ⟨2, ![1, 512]⟩
abbrev S_ : Shape := ⟨0, ![]⟩

class Facts : Prop where
  bcast_S_S4x128x128 : S_.BroadcastsInDim S4x128x128 (![] : Fin 0 → Fin S4x128x128.rank)
  reducesTo_S4x128x128_S_d0_1_2 : S4x128x128.ReducesTo [0, 1, 2] S_
  h_S_ : 0 < S_.numel
  bcast_S_S1x512 : S_.BroadcastsInDim S1x512 (![] : Fin 0 → Fin S1x512.rank)
  reducesTo_S1x512_S_d0_1 : S1x512.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x512 .f32) (main_arg1 : FVec F S4x128x128 .f32) (main_arg2 : FVec F S1x512 .f32) (main_arg3 : FVec F S8192x512 .f32) : IVec S_ 1 :=
  let main_v0 : FVec F S4x128x128 .f32 := Host.absf main_arg1
  let main_cst : FVec F S_ .f32 := constant S_ .f32 0x7F800000#32
  let main_v1 : FVec F S4x128x128 .f32 := broadcastInDim S4x128x128 ![] bcast_S_S4x128x128 main_cst
  let main_v2 : IVec S4x128x128 1 := cmpf .olt main_v0 main_v1
  let main_c : IVec S_ 1 := constantI S_ 1 1#1
  let main_v3 : IVec S_ 1 := (fun x v => Host.reduce IntOp.andi x v reducesTo_S4x128x128_S_d0_1_2 h_S_) main_v2 main_c
  let main_v4 : FVec F S1x512 .f32 := Host.absf main_arg2
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  main_v13
-- ==== Pre_finite14.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S256x1024 .f32) (main_arg5 : FVec F S1024 .f32) (main_arg6 : FVec F S8192x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S8192x256 .f32) (main_arg2 : FVec F S1x1024 .f32) (main_arg3 : FVec F S1024x1024 .f32) (main_arg4 : FVec F S256x1024 .f32) (main_arg5 : FVec F S1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Pre_finite19.lean ====
abbrev S8192x512 : Shape := ⟨2, ![8192, 512]⟩
abbrev S4x128x128 : Shape := ⟨3, ![4, 128, 128]⟩
abbrev S1x512 : Shape := ⟨2, ![1, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S4x128x128 .f32) (main_arg2 : FVec F S1x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Pre_finite2.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1x1024 .f32) (main_arg2 : FVec F S2816x1024 .f32) (main_arg3 : FVec F S2816x1024 .f32) (main_arg4 : FVec F S2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_v13 main_v16
-- ==== Pre_finite8.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S8192x4096 : S_.BroadcastsInDim S8192x4096 (![] : Fin 0 → Fin S8192x4096.rank)
  reducesTo_S8192x4096_S_d0_1 : S8192x4096.ReducesTo [0, 1] S_

variable [Facts]

def fn_part1 {F : FTy → Type} [FloatOps F] (main_arg4 : FVec F S8192x1024 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S1x1024 .f32) (main_arg2 : FVec F S1024x4096 .f32) (main_arg3 : FVec F S8192x4096 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_v13 main_v16
-- ==== Kernel.lean ====
abbrev S8192x512 : Shape := ⟨2, ![8192, 512]⟩
abbrev S4x128x128 : Shape := ⟨3, ![4, 128, 128]⟩
abbrev S1x512 : Shape := ⟨2, ![1, 512]⟩
abbrev S1x8192x512 : Shape := ⟨3, ![1, 8192, 512]⟩
abbrev S_ : Shape := ⟨0, ![]⟩
abbrev S8192 : Shape := ⟨1, ![8192]⟩
abbrev S1x8192x128 : Shape := ⟨3, ![1, 8192, 128]⟩
abbrev S1x2x128 : Shape := ⟨3, ![1, 2, 128]⟩
abbrev S1x8190x128 : Shape := ⟨3, ![1, 8190, 128]⟩
abbrev S1x8192x1 : Shape := ⟨3, ![1, 8192, 1]⟩
abbrev S1x4x128 : Shape := ⟨3, ![1, 4, 128]⟩
abbrev S1x8188x128 : Shape := ⟨3, ![1, 8188, 128]⟩
abbrev S1x8x128 : Shape := ⟨3, ![1, 8, 128]⟩
abbrev S1x8184x128 : Shape := ⟨3, ![1, 8184, 128]⟩
abbrev S1x16x128 : Shape := ⟨3, ![1, 16, 128]⟩
abbrev S1x8176x128 : Shape := ⟨3, ![1, 8176, 128]⟩
abbrev S1x8192x1x128 : Shape := ⟨4, ![1, 8192, 1, 128]⟩
abbrev S1x8192x4x128 : Shape := ⟨4, ![1, 8192, 4, 128]⟩
abbrev S512x512 : Shape := ⟨2, ![512, 512]⟩
abbrev S16x512 : Shape := ⟨2, ![16, 512]⟩
abbrev S528x1 : Shape := ⟨2, ![528, 1]⟩
abbrev S1x128 : Shape := ⟨2, ![1, 128]⟩
abbrev S512x128 : Shape := ⟨2, ![512, 128]⟩
abbrev S1x128x128 : Shape := ⟨3, ![1, 128, 128]⟩
abbrev S128x128 : Shape := ⟨2, ![128, 128]⟩
abbrev S128 : Shape := ⟨1, ![128]⟩
abbrev S16x128 : Shape := ⟨2, ![16, 128]⟩
abbrev S528x128 : Shape := ⟨2, ![528, 128]⟩

abbrev nBuf : Space → Nat
  | .hbm => 92
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S4x128x128, .f32⟩
  | .hbm, ⟨2, _⟩ => ⟨S1x512, .f32⟩
  | .hbm, ⟨3, _⟩ => ⟨S8192x512, .f32⟩
  | .hbm, ⟨4, _⟩ => ⟨S1x8192x512, .f32⟩
  | .hbm, ⟨5, _⟩ => ⟨S_, .f32⟩
  | .hbm, ⟨6, _⟩ => ⟨S_, .f32⟩
  | .hbm, ⟨7, _⟩ => ⟨S1x8192x512, .f32⟩
  | .hbm, ⟨8, _⟩ => ⟨S8192, .i32⟩
  | .hbm, ⟨9, _⟩ => ⟨S1x8192x128, .f32⟩
  | .hbm, ⟨10, _⟩ => ⟨S_, .f32⟩
  | .hbm, ⟨11, _⟩ => ⟨S1x2x128, .f32⟩
  | .hbm, ⟨12, _⟩ => ⟨S1x8190x128, .f32⟩
  | .hbm, ⟨13, _⟩ => ⟨S1x8192x128, .f32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .f32⟩
  | .hbm, ⟨21, _⟩ => ⟨S1x8192x1, .f32⟩
  | .hbm, ⟨22, _⟩ => ⟨S1x8192x128, .f32⟩
  | .hbm, ⟨23, _⟩ => ⟨S1x8192x128, .f32⟩
  | .hbm, ⟨24, _⟩ => ⟨S1x8192x128, .f32⟩
  | .hbm, ⟨25, _⟩ => ⟨S1x8192x128, .f32⟩
  | .hbm, ⟨26, _⟩ => ⟨S1x8192x128, .f32⟩
  | .hbm, ⟨27, _⟩ => ⟨S1x8192x128, .f32⟩
  | .hbm, ⟨28, _⟩ => ⟨S_, .f32⟩
  | .hbm, ⟨29, _⟩ => ⟨S1x4x128, .f32⟩
  | .hbm, ⟨30, _⟩ => ⟨S1x8188x128, .f32⟩
  | .hbm, ⟨31, _⟩ => ⟨S1x8192x128, .f32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .f32⟩
  | .hbm, ⟨39, _⟩ => ⟨S1x8192x1, .f32⟩
  | .hbm, ⟨40, _⟩ => ⟨S1x8192x128, .f32⟩
  | .hbm, ⟨41, _⟩ => ⟨S1x8192x128, .f32⟩
  | .hbm, ⟨42, _⟩ => ⟨S1x8192x128, .f32⟩
  | .hbm, ⟨43, _⟩ => ⟨S1x8192x128, .f32⟩
  | .hbm, ⟨44, _⟩ => ⟨S1x8192x128, .f32⟩
  | .hbm, ⟨45, _⟩ => ⟨S1x8192x128, .f32⟩
  | .hbm, ⟨46, _⟩ => ⟨S_, .f32⟩
  | .hbm, ⟨47, _⟩ => ⟨S1x8x128, .f32⟩
  | .hbm, ⟨48, _⟩ => ⟨S1x8184x128, .f32⟩
  | .hbm, ⟨49, _⟩ => ⟨S1x8192x128, .f32⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S8192, .f32⟩
  | .hbm, ⟨57, _⟩ => ⟨S1x8192x1, .f32⟩
  | .hbm, ⟨58, _⟩ => ⟨S1x8192x128, .f32⟩
  | .hbm, ⟨59, _⟩ => ⟨S1x8192x128, .f32⟩
  | .hbm, ⟨60, _⟩ => ⟨S1x8192x128, .f32⟩
  | .hbm, ⟨61, _⟩ => ⟨S1x8192x128, .f32⟩
  | .hbm, ⟨62, _⟩ => ⟨S1x8192x128, .f32⟩
  | .hbm, ⟨63, _⟩ => ⟨S1x8192x128, .f32⟩
  | .hbm, ⟨64, _⟩ => ⟨S_, .f32⟩
  | .hbm, ⟨65, _⟩ => ⟨S1x16x128, .f32⟩
  | .hbm, ⟨66, _⟩ => ⟨S1x8176x128, .f32⟩
  | .hbm, ⟨67, _⟩ => ⟨S1x8192x128, .f32⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S8192, .f32⟩
  | .hbm, ⟨75, _⟩ => ⟨S1x8192x1, .f32⟩
  | .hbm, ⟨76, _⟩ => ⟨S1x8192x128, .f32⟩
  | .hbm, ⟨77, _⟩ => ⟨S1x8192x128, .f32⟩
  | .hbm, ⟨78, _⟩ => ⟨S1x8192x128, .f32⟩
  | .hbm, ⟨79, _⟩ => ⟨S1x8192x128, .f32⟩
  | .hbm, ⟨80, _⟩ => ⟨S1x8192x128, .f32⟩
  | .hbm, ⟨81, _⟩ => ⟨S1x8192x1x128, .f32⟩
  | .hbm, ⟨82, _⟩ => ⟨S1x8192x1x128, .f32⟩
  | .hbm, ⟨83, _⟩ => ⟨S1x8192x1x128, .f32⟩
  | .hbm, ⟨84, _⟩ => ⟨S1x8192x1x128, .f32⟩
  | .hbm, ⟨85, _⟩ => ⟨S1x8192x4x128, .f32⟩
  | .hbm, ⟨86, _⟩ => ⟨S8192x512, .f32⟩
  | .hbm, ⟨87, _⟩ => ⟨S8192x512, .bf16⟩
  | .hbm, ⟨88, _⟩ => ⟨S4x128x128, .bf16⟩
  | .hbm, ⟨89, _⟩ => ⟨S8192x512, .bf16⟩
  | .hbm, ⟨90, _⟩ => ⟨S4x128x128, .f32⟩
  | .hbm, ⟨91, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .bf16⟩
  | .local _ .vmem, ⟨5, _⟩ => ⟨S512x512, .bf16⟩
  | .local _ .vmem, ⟨6, _⟩ => ⟨S4x128x128, .bf16⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S4x128x128, .f32⟩
  | .local _ .vmem, ⟨11, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_8 : Ref sig .tc := ⟨.hbm, 68, rfl⟩
abbrev main_v52 : Ref sig .tc := ⟨.hbm, 69, rfl⟩
abbrev main_v53 : Ref sig .tc := ⟨.hbm, 70, rfl⟩
abbrev main_c_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71_0 : Ref sig .tc := ⟨.hbm, 89, rfl⟩
abbrev main_v71_1 : Ref sig .tc := ⟨.hbm, 90, rfl⟩
abbrev main_v71_2 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x512 : Shape := ⟨2, ![8192, 512]⟩
abbrev S4x128x128 : Shape := ⟨3, ![4, 128, 128]⟩
abbrev S1x512 : Shape := ⟨2, ![1, 512]⟩
abbrev S1x8192x512 : Shape := ⟨3, ![1, 8192, 512]⟩
abbrev S512 : Shape := ⟨1, ![512]⟩
abbrev S_ : Shape := ⟨0, ![]⟩
abbrev S8192 : Shape := ⟨1, ![8192]⟩
abbrev S1x8192x128 : Shape := ⟨3, ![1, 8192, 128]⟩
abbrev S1x2x128 : Shape := ⟨3, ![1, 2, 128]⟩
abbrev S1x8190x128 : Shape := ⟨3, ![1, 8190, 128]⟩
abbrev S1x8192x1 : Shape := ⟨3, ![1, 8192, 1]⟩
abbrev S1x4x128 : Shape := ⟨3, ![1, 4, 128]⟩
abbrev S1x8188x128 : Shape := ⟨3, ![1, 8188, 128]⟩
abbrev S1x8x128 : Shape := ⟨3, ![1, 8, 128]⟩
abbrev S1x8184x128 : Shape := ⟨3, ![1, 8184, 128]⟩
abbrev S1x16x128 : Shape := ⟨3, ![1, 16, 128]⟩
abbrev S1x8176x128 : Shape := ⟨3, ![1, 8176, 128]⟩
abbrev S1x8192x1x128 : Shape := ⟨4, ![1, 8192, 1, 128]⟩
abbrev S1x8192x4x128 : Shape := ⟨4, ![1, 8192, 4, 128]⟩
abbrev S4x128x1x8192 : Shape := ⟨4, ![4, 128, 1, 8192]⟩
abbrev S1x1x512 : Shape := ⟨3, ![1, 1, 512]⟩
abbrev S4x1x8192x128 : Shape := ⟨4, ![4, 1, 8192, 128]⟩

abbrev nBuf : Space → Nat
  | .hbm => 189
  | .vmem => 0
  | .smem => 0
  | _ => 0

abbrev hbmTy0_0 (i : Nat) : BufTy := match i % 128 with
  | 0 => ⟨S8192x512, .f32⟩
  | 1 => ⟨S4x128x128, .f32⟩
  | 2 => ⟨S1x512, .f32⟩
  | 3 => ⟨S8192x512, .f32⟩
  | 4 => ⟨S1x8192x512, .f32⟩
  | 5 => ⟨S512, .f32⟩
  | 6 => ⟨S_, .f32⟩
  | 7 => ⟨S_, .f32⟩
  | 8 => ⟨S1x8192x512, .f32⟩
  | 9 => ⟨S8192, .i32⟩
  | 10 => ⟨S1x8192x128, .f32⟩
  | 11 => ⟨S_, .f32⟩
  | 12 => ⟨S1x2x128, .f32⟩
  | 13 => ⟨S1x8190x128, .f32⟩
  | 14 => ⟨S1x8192x128, .f32⟩
  | 15 => ⟨S_, .f32⟩
  | 16 => ⟨S1x2x128, .f32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S8192, .f32⟩
  | 24 => ⟨S1x8192x1, .f32⟩
  | 25 => ⟨S1x8192x128, .f32⟩
  | 26 => ⟨S1x8192x128, .f32⟩
  | 27 => ⟨S1x8192x128, .f32⟩
  | 28 => ⟨S1x8192x128, .f32⟩
  | 29 => ⟨S1x8192x128, .f32⟩
  | 30 => ⟨S1x8192x128, .f32⟩
  | 31 => ⟨S_, .f32⟩
  | 32 => ⟨S1x4x128, .f32⟩
  | 33 => ⟨S1x8188x128, .f32⟩
  | 34 => ⟨S1x8192x128, .f32⟩
  | 35 => ⟨S_, .f32⟩
  | 36 => ⟨S1x4x128, .f32⟩
  | 37 => ⟨S_, .i32⟩
  | 38 => ⟨S8192, .i32⟩
  | 39 => ⟨S8192, .i32⟩
  | 40 => ⟨S_, .i32⟩
  | 41 => ⟨S8192, .i32⟩
  | 42 => ⟨S8192, .i32⟩
  | 43 => ⟨S8192, .f32⟩
  | 44 => ⟨S1x8192x1, .f32⟩
  | 45 => ⟨S1x8192x128, .f32⟩
  | 46 => ⟨S1x8192x128, .f32⟩
  | 47 => ⟨S1x8192x128, .f32⟩
  | 48 => ⟨S1x8192x128, .f32⟩
  | 49 => ⟨S1x8192x128, .f32⟩
  | 50 => ⟨S1x8192x128, .f32⟩
  | 51 => ⟨S_, .f32⟩
  | 52 => ⟨S1x8x128, .f32⟩
  | 53 => ⟨S1x8184x128, .f32⟩
  | 54 => ⟨S1x8192x128, .f32⟩
  | 55 => ⟨S_, .f32⟩
  | 56 => ⟨S1x8x128, .f32⟩
  | 57 => ⟨S_, .i32⟩
  | 58 => ⟨S8192, .i32⟩
  | 59 => ⟨S8192, .i32⟩
  | 60 => ⟨S_, .i32⟩
  | 61 => ⟨S8192, .i32⟩
  | 62 => ⟨S8192, .i32⟩
  | 63 => ⟨S8192, .f32⟩
  | 64 => ⟨S1x8192x1, .f32⟩
  | 65 => ⟨S1x8192x128, .f32⟩
  | 66 => ⟨S1x8192x128, .f32⟩
  | 67 => ⟨S1x8192x128, .f32⟩
  | 68 => ⟨S1x8192x128, .f32⟩
  | 69 => ⟨S1x8192x128, .f32⟩
  | 70 => ⟨S1x8192x128, .f32⟩
  | 71 => ⟨S_, .f32⟩
  | 72 => ⟨S1x16x128, .f32⟩
  | 73 => ⟨S1x8176x128, .f32⟩
  | 74 => ⟨S1x8192x128, .f32⟩
  | 75 => ⟨S_, .f32⟩
  | 76 => ⟨S1x16x128, .f32⟩
  | 77 => ⟨S_, .i32⟩
  | 78 => ⟨S8192, .i32⟩
  | 79 => ⟨S8192, .i32⟩
  | 80 => ⟨S_, .i32⟩
  | 81 => ⟨S8192, .i32⟩
  | 82 => ⟨S8192, .i32⟩
  | 83 => ⟨S8192, .f32⟩
  | 84 => ⟨S1x8192x1, .f32⟩
  | 85 => ⟨S1x8192x128, .f32⟩
  | 86 => ⟨S1x8192x128, .f32⟩
  | 87 => ⟨S1x8192x128, .f32⟩
  | 88 => ⟨S1x8192x128, .f32⟩
  | 89 => ⟨S1x8192x128, .f32⟩
  | 90 => ⟨S1x8192x1x128, .f32⟩
  | 91 => ⟨S1x8192x1x128, .f32⟩
  | 92 => ⟨S1x8192x1x128, .f32⟩
  | 93 => ⟨S1x8192x1x128, .f32⟩
  | 94 => ⟨S1x8192x4x128, .f32⟩
  | 95 => ⟨S4x128x1x8192, .f32⟩
  | 96 => ⟨S1x8192x4x128, .f32⟩
  | 97 => ⟨S1x8192x512, .f32⟩
  | 98 => ⟨S1x1x512, .f32⟩
  | 99 => ⟨S1x8192x512, .f32⟩
  | 100 => ⟨S1x8192x512, .f32⟩
  | 101 => ⟨S1x8192x512, .f32⟩
  | 102 => ⟨S1x8192x512, .f32⟩
  | 103 => ⟨S_, .f32⟩
  | 104 => ⟨S1x512, .f32⟩
  | 105 => ⟨S1x1x512, .f32⟩
  | 106 => ⟨S1x8192x512, .f32⟩
  | 107 => ⟨S1x8192x512, .f32⟩
  | 108 => ⟨S_, .f32⟩
  | 109 => ⟨S512, .f32⟩
  | 110 => ⟨S1x8192x4x128, .f32⟩
  | 111 => ⟨S4x128x1x8192, .f32⟩
  | 112 => ⟨S4x1x8192x128, .f32⟩
  | 113 => ⟨S1x8192x4x128, .f32⟩
  | 114 => ⟨S4x128x128, .f32⟩
  | 115 => ⟨S4x128x128, .f32⟩
  | 116 => ⟨S1x8192x1x128, .f32⟩
  | 117 => ⟨S1x8192x128, .f32⟩
  | 118 => ⟨S1x8192x1x128, .f32⟩
  | 119 => ⟨S1x8192x128, .f32⟩
  | 120 => ⟨S1x8192x1x128, .f32⟩
  | 121 => ⟨S1x8192x128, .f32⟩
  | 122 => ⟨S1x8192x1x128, .f32⟩
  | 123 => ⟨S1x8192x128, .f32⟩
  | 124 => ⟨S1x8192x128, .f32⟩
  | 125 => ⟨S_, .f32⟩
  | 126 => ⟨S1x8192x512, .f32⟩
  | 127 => ⟨S1x8192x128, .f32⟩
  | _ => ⟨S8192x512, .f32⟩

abbrev hbmTy0_1 (i : Nat) : BufTy := match i % 128 with
  | 0 => ⟨S1x8192x128, .f32⟩
  | 1 => ⟨S1x8192x128, .f32⟩
  | 2 => ⟨S1x16x128, .f32⟩
  | 3 => ⟨S1x8176x128, .f32⟩
  | 4 => ⟨S_, .f32⟩
  | 5 => ⟨S1x8192x128, .f32⟩
  | 6 => ⟨S1x8192x128, .f32⟩
  | 7 => ⟨S_, .f32⟩
  | 8 => ⟨S1x8192x512, .f32⟩
  | 9 => ⟨S1x8192x128, .f32⟩
  | 10 => ⟨S_, .f32⟩
  | 11 => ⟨S1x8192x512, .f32⟩
  | 12 => ⟨S1x8192x512, .f32⟩
  | 13 => ⟨S1x8192x128, .f32⟩
  | 14 => ⟨S1x8192x128, .f32⟩
  | 15 => ⟨S1x8192x128, .f32⟩
  | 16 => ⟨S1x8x128, .f32⟩
  | 17 => ⟨S1x8184x128, .f32⟩
  | 18 => ⟨S_, .f32⟩
  | 19 => ⟨S1x8192x128, .f32⟩
  | 20 => ⟨S1x8192x128, .f32⟩
  | 21 => ⟨S_, .f32⟩
  | 22 => ⟨S1x8192x512, .f32⟩
  | 23 => ⟨S1x8192x512, .f32⟩
  | 24 => ⟨S1x8192x128, .f32⟩
  | 25 => ⟨S_, .f32⟩
  | 26 => ⟨S1x8192x512, .f32⟩
  | 27 => ⟨S1x8192x512, .f32⟩
  | 28 => ⟨S1x8192x128, .f32⟩
  | 29 => ⟨S1x8192x128, .f32⟩
  | 30 => ⟨S1x8192x128, .f32⟩
  | 31 => ⟨S1x4x128, .f32⟩
  | 32 => ⟨S1x8188x128, .f32⟩
  | 33 => ⟨S_, .f32⟩
  | 34 => ⟨S1x8192x128, .f32⟩
  | 35 => ⟨S1x8192x128, .f32⟩
  | 36 => ⟨S_, .f32⟩
  | 37 => ⟨S1x8192x512, .f32⟩
  | 38 => ⟨S1x8192x512, .f32⟩
  | 39 => ⟨S1x8192x128, .f32⟩
  | 40 => ⟨S_, .f32⟩
  | 41 => ⟨S1x8192x512, .f32⟩
  | 42 => ⟨S1x8192x512, .f32⟩
  | 43 => ⟨S1x8192x128, .f32⟩
  | 44 => ⟨S1x8192x128, .f32⟩
  | 45 => ⟨S1x8192x128, .f32⟩
  | 46 => ⟨S1x2x128, .f32⟩
  | 47 => ⟨S1x8190x128, .f32⟩
  | 48 => ⟨S_, .f32⟩
  | 49 => ⟨S1x8192x128, .f32⟩
  | 50 => ⟨S1x8192x128, .f32⟩
  | 51 => ⟨S_, .f32⟩
  | 52 => ⟨S1x8192x512, .f32⟩
  | 53 => ⟨S1x8192x512, .f32⟩
  | 54 => ⟨S_, .f32⟩
  | 55 => ⟨S_, .f32⟩
  | 56 => ⟨S1x8192x512, .f32⟩
  | 57 => ⟨S1x8192x512, .f32⟩
  | 58 => ⟨S8192x512, .f32⟩
  | 59 => ⟨S8192x512, .bf16⟩
  | 60 => ⟨S1x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_14 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_15 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_16 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_17 : Ref sig .tc := ⟨.hbm, 132, rfl⟩
abbrev main_v107 : Ref sig .tc := ⟨.hbm, 133, rfl⟩
abbrev main_v108 : Ref sig .tc := ⟨.hbm, 134, rfl⟩
abbrev main_cst_18 : Ref sig .tc := ⟨.hbm, 135, rfl⟩
abbrev main_v109 : Ref sig .tc := ⟨.hbm, 136, rfl⟩
abbrev main_v110 : Ref sig .tc := ⟨.hbm, 137, rfl⟩
abbrev main_cst_19 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_20 : Ref sig .tc := ⟨.hbm, 146, rfl⟩
abbrev main_v118 : Ref sig .tc := ⟨.hbm, 147, rfl⟩
abbrev main_v119 : Ref sig .tc := ⟨.hbm, 148, rfl⟩
abbrev main_cst_21 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_22 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_cst_23 : Ref sig .tc := ⟨.hbm, 161, rfl⟩
abbrev main_v130 : Ref sig .tc := ⟨.hbm, 162, rfl⟩
abbrev main_v131 : Ref sig .tc := ⟨.hbm, 163, rfl⟩
abbrev main_cst_24 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_cst_25 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_cst_26 : Ref sig .tc := ⟨.hbm, 176, rfl⟩
abbrev main_v142 : Ref sig .tc := ⟨.hbm, 177, rfl⟩
abbrev main_v143 : Ref sig .tc := ⟨.hbm, 178, rfl⟩
abbrev main_cst_27 : Ref sig .tc := ⟨.hbm, 179, rfl⟩
abbrev main_v144 : Ref sig .tc := ⟨.hbm, 180, rfl⟩
abbrev main_v145 : Ref sig .tc := ⟨.hbm, 181, rfl⟩
abbrev main_call1_call0_cst : Ref sig .tc := ⟨.hbm, 182, rfl⟩
abbrev main_call1_call0_v0 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 38
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1024x2816, .f32⟩
  | .hbm, ⟨24, _⟩ => ⟨S8192x2816, .f32⟩
  | .hbm, ⟨25, _⟩ => ⟨S8192x2816, .bf16⟩
  | .hbm, ⟨26, _⟩ => ⟨S1024x2816, .f32⟩
  | .hbm, ⟨27, _⟩ => ⟨S8192x2816, .f32⟩
  | .hbm, ⟨28, _⟩ => ⟨S8192x2816, .bf16⟩
  | .hbm, ⟨29, _⟩ => ⟨S2816x1024, .bf16⟩
  | .hbm, ⟨30, _⟩ => ⟨S2816x1024, .bf16⟩
  | .hbm, ⟨31, _⟩ => ⟨S2816x1024, .bf16⟩
  | .hbm, ⟨32, _⟩ => ⟨S8192x1024, .bf16⟩
  | .hbm, ⟨33, _⟩ => ⟨S8192x2816, .bf16⟩
  | .hbm, ⟨34, _⟩ => ⟨S8192x2816, .bf16⟩
  | .hbm, ⟨35, _⟩ => ⟨S8192x1024, .f32⟩
  | .hbm, ⟨36, _⟩ => ⟨S8192x1024, .bf16⟩
  | .hbm, ⟨37, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S2816x1024, .bf16⟩
  | .local _ .vmem, ⟨13, _⟩ => ⟨S2816x1024, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference2Ideal.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩

abbrev nBuf : Space → Nat
  | .hbm => 131
  | .vmem => 0
  | .smem => 0
  | _ => 0

abbrev hbmTy0_0 (i : Nat) : BufTy := match i % 128 with
  | 0 => ⟨S8192x1024, .f32⟩
  | 1 => ⟨S1x1024, .f32⟩
  | 2 => ⟨S2816x1024, .f32⟩
  | 3 => ⟨S2816x1024, .f32⟩
  | 4 => ⟨S2816x1024, .f32⟩
  | 5 => ⟨S8192x1024, .f32⟩
  | 6 => ⟨S1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1024, .f32⟩
  | 19 => ⟨S8192x1024, .f32⟩
  | 20 => ⟨S1x1024, .f32⟩
  | 21 => ⟨S8192x1024, .f32⟩
  | 22 => ⟨S8192x1024, .f32⟩
  | 23 => ⟨S1024x2816, .f32⟩
  | 24 => ⟨S8192x2816, .f32⟩
  | 25 => ⟨S1024x2816, .f32⟩
  | 26 => ⟨S8192x2816, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S_, .f32⟩
  | 33 => ⟨S8192x2816, .f32⟩
  | 34 => ⟨S8192x2816, .f32⟩
  | 35 => ⟨S_, .f32⟩
  | 36 => ⟨S8192x2816, .f32⟩
  | 37 => ⟨S8192x2816, .f32⟩
  | 38 => ⟨S8192x2816, .f32⟩
  | 39 => ⟨S8192x2816, .f32⟩
  | 40 => ⟨S8192x2816, .f32⟩
  | 41 => ⟨S8192x1024, .f32⟩
  | 42 => ⟨S8192x2816, .f32⟩
  | 43 => ⟨S8192x2816, .f32⟩
  | 44 => ⟨S8192x2816, .f32⟩
  | 45 => ⟨S8192x2816, .f32⟩
  | 46 => ⟨S8192x2816, .f32⟩
  | 47 => ⟨S8192x2816, .f32⟩
  | 48 => ⟨S8192x2816, .f32⟩
  | 49 => ⟨S1024, .f32⟩
  | 50 => ⟨S1024x2816, .f32⟩
  | 51 => ⟨S1024x2816, .f32⟩
  | 52 => ⟨S8192x1024, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1024, .f32⟩
  | 68 => ⟨S8192x1024, .f32⟩
  | 69 => ⟨S1x1024, .f32⟩
  | 70 => ⟨S8192x1024, .f32⟩
  | 71 => ⟨S8192x1024, .f32⟩
  | 72 => ⟨S8192x2816, .f32⟩
  | 73 => ⟨S8192x2816, .f32⟩
  | 74 => ⟨S8192x2816, .f32⟩
  | 75 => ⟨S8192x2816, .f32⟩
  | 76 => ⟨S_, .f32⟩
  | 77 => ⟨S8192x2816, .f32⟩
  | 78 => ⟨S8192x2816, .f32⟩
  | 79 => ⟨S_, .f32⟩
  | 80 => ⟨S8192x2816, .f32⟩
  | 81 => ⟨S8192x2816, .f32⟩
  | 82 => ⟨S_, .f32⟩
  | 83 => ⟨S8192x2816, .f32⟩
  | 84 => ⟨S8192x2816, .f32⟩
  | 85 => ⟨S8192x2816, .f32⟩
  | 86 => ⟨S8192x2816, .f32⟩
  | 87 => ⟨S8192x2816, .f32⟩
  | 88 => ⟨S8192x1024, .f32⟩
  | 89 => ⟨S8192x1024, .f32⟩
  | 90 => ⟨S8192x1024, .f32⟩
  | 91 => ⟨S8192x2816, .f32⟩
  | 92 => ⟨S8192x2816, .f32⟩
  | 93 => ⟨S8192x2816, .f32⟩
  | 94 => ⟨S8192x2816, .f32⟩
  | 95 => ⟨S8192x2816, .f32⟩
  | 96 => ⟨S8192x2816, .f32⟩
  | 97 => ⟨S8192x2816, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S1024, .f32⟩
  | 104 => ⟨S1x1024, .f32⟩
  | 105 => ⟨S8192x1024, .f32⟩
  | 106 => ⟨S8192x1024, .f32⟩
  | 107 => ⟨S_, .f32⟩
  | 108 => ⟨S1024, .f32⟩
  | 109 => ⟨S8192x1024, .f32⟩
  | 110 => ⟨S_, .f32⟩
  | 111 => ⟨S8192, .f32⟩
  | 112 => ⟨S8192x1, .f32⟩
  | 113 => ⟨S8192x1024, .f32⟩
  | 114 => ⟨S8192x1024, .f32⟩
  | 115 => ⟨S8192x1024, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x2816, .bf16⟩
  | _ => ⟨S8192x1024, .f32⟩

abbrev hbmTy0_1 (i : Nat) : BufTy := match i % 128 with
  | 0 => ⟨S8192x2816, .bf16⟩
  | 1 => ⟨S8192x1024, .bf16⟩
  | 2 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_v46_2 : Ref sig .tc := ⟨.hbm, 81, rfl⟩
abbrev main_call2_cst_1 : Ref sig .tc := ⟨.hbm, 82, rfl⟩
abbrev main_call2_v6 : Ref sig .tc := ⟨.hbm, 83, rfl⟩
abbrev main_call2_v7 : Ref sig .tc := ⟨.hbm, 84, rfl⟩
abbrev main_v46_1 : Ref sig .tc := ⟨.hbm, 85, rfl⟩
abbrev main_v46_0 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_6 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_7 : Ref sig .tc := ⟨.hbm, 107, rfl⟩
abbrev main_v63 : Ref sig .tc := ⟨.hbm, 108, rfl⟩
abbrev main_v64 : Ref sig .tc := ⟨.hbm, 109, rfl⟩
abbrev main_cst_8 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_9 : Ref sig .tc := ⟨.hbm, 117, rfl⟩
abbrev main_v71 : Ref sig .tc := ⟨.hbm, 118, rfl⟩
abbrev main_v72 : Ref sig .tc := ⟨.hbm, 119, rfl⟩
abbrev main_cst_10 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 54
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1024x2816, .f32⟩
  | .hbm, ⟨24, _⟩ => ⟨S8192x2816, .f32⟩
  | .hbm, ⟨25, _⟩ => ⟨S1024x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .bf16⟩
  | .hbm, ⟨50, _⟩ => ⟨S8192x2816, .bf16⟩
  | .hbm, ⟨51, _⟩ => ⟨S8192x2816, .bf16⟩
  | .hbm, ⟨52, _⟩ => ⟨S2816x1024, .f32⟩
  | .hbm, ⟨53, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | .local _ .vmem, ⟨9, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28_0 : Ref sig .tc := ⟨.hbm, 52, rfl⟩
abbrev main_v28_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S8192x1024 : Shape := ⟨2, ![8192, 1024]⟩
abbrev S1x1024 : Shape := ⟨2, ![1, 1024]⟩
abbrev S2816x1024 : Shape := ⟨2, ![2816, 1024]⟩
abbrev S1024x2816 : Shape := ⟨2, ![1024, 2816]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S1024x2816, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S8192x1024, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S2816x1024, .f32⟩
  | .hbm, ⟨51, _⟩ => ⟨S1024x2816, .f32⟩
  | .hbm, ⟨52, _⟩ => ⟨S2816x1024, .f32⟩
  | .hbm, ⟨53, _⟩ => ⟨S1024x2816, .f32⟩
  | .hbm, ⟨54, _⟩ => ⟨S2816x1024, .f32⟩
  | .hbm, ⟨55, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S512x2816 : Shape := ⟨2, ![512, 2816]⟩
abbrev S512x1024 : Shape := ⟨2, ![512, 1024]⟩

abbrev nBuf : Space → Nat
  | .hbm => 40
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1024x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S1024x2816, .f32⟩
  | .hbm, ⟨35, _⟩ => ⟨S8192x2816, .f32⟩
  | .hbm, ⟨36, _⟩ => ⟨S8192x2816, .f32⟩
  | .hbm, ⟨37, _⟩ => ⟨S8192x2816, .bf16⟩
  | .hbm, ⟨38, _⟩ => ⟨S8192x1024, .bf16⟩
  | .hbm, ⟨39, _⟩ => ⟨S2816x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S8192x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x1024, .f32⟩
  | .hbm, ⟨38, _⟩ => ⟨S8192x1024, .f32⟩
  | .hbm, ⟨39, _⟩ => ⟨S1024x2816, .f32⟩
  | .hbm, ⟨40, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 32
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S1x1024, .f32⟩
  | .hbm, ⟨6, _⟩ => ⟨S2816x1024, .bf16⟩
  | .hbm, ⟨7, _⟩ => ⟨S2816x1024, .bf16⟩
  | .hbm, ⟨8, _⟩ => ⟨S2816x1024, .bf16⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S8192x2816, .bf16⟩
  | .hbm, ⟨28, _⟩ => ⟨S8192x2816, .bf16⟩
  | .hbm, ⟨29, _⟩ => ⟨S8192x2816, .bf16⟩
  | .hbm, ⟨30, _⟩ => ⟨S8192x1024, .f32⟩
  | .hbm, ⟨31, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S2816x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S2816x1024, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]
-- ==== Reference5Ideal.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1024x2816, .f32⟩
  | .hbm, ⟨24, _⟩ => ⟨S8192x2816, .f32⟩
  | .hbm, ⟨25, _⟩ => ⟨S1024x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S1024, .f32⟩
  | .hbm, ⟨38, _⟩ => ⟨S1024x2816, .f32⟩
  | .hbm, ⟨39, _⟩ => ⟨S1024x2816, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S_, .f32⟩
  | .hbm, ⟨61, _⟩ => ⟨S8192x2816, .f32⟩
  | .hbm, ⟨62, _⟩ => ⟨S8192x2816, .f32⟩
  | .hbm, ⟨63, _⟩ => ⟨S_, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x1024, .f32⟩
  | .hbm, ⟨69, _⟩ => ⟨S8192x1024, .f32⟩
  | .hbm, ⟨70, _⟩ => ⟨S8192x2816, .bf16⟩
  | .hbm, ⟨71, _⟩ => ⟨S8192x2816, .bf16⟩
  | .hbm, ⟨72, _⟩ => ⟨S8192x2816, .bf16⟩
  | .hbm, ⟨73, _⟩ => ⟨S1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S8192x1, .f32⟩
  | .hbm, ⟨85, _⟩ => ⟨S8192x1024, .f32⟩
  | .hbm, ⟨86, _⟩ => ⟨S8192x1024, .f32⟩
  | .hbm, ⟨87, _⟩ => ⟨S1x1024, .f32⟩
  | .hbm, ⟨88, _⟩ => ⟨S8192x1024, .f32⟩
  | .hbm, ⟨89, _⟩ => ⟨S8192x1024, .f32⟩
  | .hbm, ⟨90, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_5 : Ref sig .tc := ⟨.hbm, 75, rfl⟩
abbrev main_v47 : Ref sig .tc := ⟨.hbm, 76, rfl⟩
abbrev main_v48 : Ref sig .tc := ⟨.hbm, 77, rfl⟩
abbrev main_cst_6 : Ref sig .tc := ⟨.hbm, 78, rfl⟩
abbrev main_v49 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S8192x512 : Shape := ⟨2, ![8192, 512]⟩
abbrev S512x1024 : Shape := ⟨2, ![512, 1024]⟩
abbrev S512x512 : Shape := ⟨2, ![512, 512]⟩

abbrev nBuf : Space → Nat
  | .hbm => 31
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1024x4096, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S8192x512, .f32⟩
  | .hbm, ⟨27, _⟩ => ⟨S8192x512, .bf16⟩
  | .hbm, ⟨28, _⟩ => ⟨S8192x1024, .bf16⟩
  | .hbm, ⟨29, _⟩ => ⟨S8192x1024, .bf16⟩
  | .hbm, ⟨30, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev main_v20_2 : Ref sig .tc := ⟨.hbm, 28, rfl⟩
abbrev main_v20_3 : Ref sig .tc := ⟨.hbm, 29, rfl⟩
abbrev main_v20_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S8192x1024 : Shape := ⟨2, ![8192, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S8192x512 : Shape := ⟨2, ![8192, 512]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S8192x512, .f32⟩
  | .hbm, ⟨22, _⟩ => ⟨S8192x512, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x512, .bf16⟩
  | .hbm, ⟨27, _⟩ => ⟨S8192x1024, .bf16⟩
  | .hbm, ⟨28, _⟩ => ⟨S8192x1024, .bf16⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x512 : Shape := ⟨2, ![8192, 512]⟩
abbrev S4x1024x1024 : Shape := ⟨3, ![4, 1024, 1024]⟩
abbrev S512x1024 : Shape := ⟨2, ![512, 1024]⟩
abbrev S512x512 : Shape := ⟨2, ![512, 512]⟩
abbrev S1024x1024 : Shape := ⟨2, ![1024, 1024]⟩
abbrev S1x1024x1024 : Shape := ⟨3, ![1, 1024, 1024]⟩

abbrev nBuf : Space → Nat
  | .hbm => 30
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x4096, .bf16⟩
  | .hbm, ⟨23, _⟩ => ⟨S8192x512, .bf16⟩
  | .hbm, ⟨24, _⟩ => ⟨S8192x512, .bf16⟩
  | .hbm, ⟨25, _⟩ => ⟨S8192x512, .bf16⟩
  | .hbm, ⟨26, _⟩ => ⟨S8192x512, .bf16⟩
  | .hbm, ⟨27, _⟩ => ⟨S8192x1024, .bf16⟩
  | .hbm, ⟨28, _⟩ => ⟨S8192x1024, .bf16⟩
  | .hbm, ⟨29, _⟩ => ⟨S4x1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S4x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S4x1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference7Ideal.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S4096x1024, .f32⟩
  | .hbm, ⟨23, _⟩ => ⟨S1024x4096, .f32⟩
  | .hbm, ⟨24, _⟩ => ⟨S1024x4x1024, .f32⟩
  | .hbm, ⟨25, _⟩ => ⟨S4x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S1024x1024 : Shape := ⟨2, ![1024, 1024]⟩
abbrev S8192x512 : Shape := ⟨2, ![8192, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 19
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S1024x4096, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8192x4096, .bf16⟩
  | .hbm, ⟨11, _⟩ => ⟨S8192x512, .bf16⟩
  | .hbm, ⟨12, _⟩ => ⟨S8192x512, .bf16⟩
  | .hbm, ⟨13, _⟩ => ⟨S8192x512, .bf16⟩
  | .hbm, ⟨14, _⟩ => ⟨S8192x512, .bf16⟩
  | .hbm, ⟨15, _⟩ => ⟨S8192x1024, .bf16⟩
  | .hbm, ⟨16, _⟩ => ⟨S8192x1024, .bf16⟩
  | .hbm, ⟨17, _⟩ => ⟨S8192x1024, .f32⟩
  | .hbm, ⟨18, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference8Ideal.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel9.lean ====
abbrev S8192x512 : Shape := ⟨2, ![8192, 512]⟩
abbrev S8192x1024 : Shape := ⟨2, ![8192, 1024]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 21
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S1x1024, .f32⟩
  | .hbm, ⟨9, _⟩ => ⟨S8192x512, .bf16⟩
  | .hbm, ⟨10, _⟩ => ⟨S8192x512, .bf16⟩
  | .hbm, ⟨11, _⟩ => ⟨S8192x1024, .bf16⟩
  | .hbm, ⟨12, _⟩ => ⟨S8192x1024, .bf16⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .f32⟩
  | .hbm, ⟨20, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference9Ideal.lean ====
abbrev S8192x512 : Shape := ⟨2, ![8192, 512]⟩
abbrev S8192x1024 : Shape := ⟨2, ![8192, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S8192x1024, .bf16⟩
  | .hbm, ⟨55, _⟩ => ⟨S8192x1024, .bf16⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel10.lean ====
abbrev S8192x512 : Shape := ⟨2, ![8192, 512]⟩
abbrev S8192x1024 : Shape := ⟨2, ![8192, 1024]⟩
abbrev S512x1024 : Shape := ⟨2, ![512, 1024]⟩
abbrev S1024x1024 : Shape := ⟨2, ![1024, 1024]⟩

abbrev nBuf : Space → Nat
  | .hbm => 20
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S1024x1024, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference10Ideal.lean ====
abbrev S8192x512 : Shape := ⟨2, ![8192, 512]⟩
abbrev S8192x1024 : Shape := ⟨2, ![8192, 1024]⟩
abbrev S512x1024 : Shape := ⟨2, ![512, 1024]⟩
abbrev S1024x1024 : Shape := ⟨2, ![1024, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .bf16⟩
  | .hbm, ⟨46, _⟩ => ⟨S8192x1024, .bf16⟩
  | .hbm, ⟨47, _⟩ => ⟨S8192x1024, .bf16⟩
  | .hbm, ⟨48, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel11.lean ====
abbrev S8192x512 : Shape := ⟨2, ![8192, 512]⟩
abbrev S8192x1024 : Shape := ⟨2, ![8192, 1024]⟩
abbrev S512x1024 : Shape := ⟨2, ![512, 1024]⟩
abbrev S1024x1024 : Shape := ⟨2, ![1024, 1024]⟩
abbrev S_ : Shape := ⟨0, ![]⟩
abbrev S1024x512 : Shape := ⟨2, ![1024, 512]⟩

abbrev nBuf : Space → Nat
  | .hbm => 39
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x1024, .bf16⟩
  | .hbm, ⟨35, _⟩ => ⟨S512x1024, .bf16⟩
  | .hbm, ⟨36, _⟩ => ⟨S512x1024, .bf16⟩
  | .hbm, ⟨37, _⟩ => ⟨S8192x512, .f32⟩
  | .hbm, ⟨38, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S8192x512 : Shape := ⟨2, ![8192, 512]⟩
abbrev S8192x1024 : Shape := ⟨2, ![8192, 1024]⟩
abbrev S512x1024 : Shape := ⟨2, ![512, 1024]⟩
abbrev S1024x1024 : Shape := ⟨2, ![1024, 1024]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x512, .f32⟩
  | .hbm, ⟨34, _⟩ => ⟨S8192x512, .f32⟩
  | .hbm, ⟨35, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Kernel12.lean ====
abbrev S8192x512 : Shape := ⟨2, ![8192, 512]⟩
abbrev S8192x1024 : Shape := ⟨2, ![8192, 1024]⟩
abbrev S512x1024 : Shape := ⟨2, ![512, 1024]⟩
abbrev S1024x1024 : Shape := ⟨2, ![1024, 1024]⟩
abbrev S_ : Shape := ⟨0, ![]⟩
abbrev S1024x512 : Shape := ⟨2, ![1024, 512]⟩

abbrev nBuf : Space → Nat
  | .hbm => 63
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S8192x512, .bf16⟩
  | .hbm, ⟨56, _⟩ => ⟨S8192x512, .bf16⟩
  | .hbm, ⟨57, _⟩ => ⟨S8192x1024, .bf16⟩
  | .hbm, ⟨58, _⟩ => ⟨S8192x1024, .bf16⟩
  | .hbm, ⟨59, _⟩ => ⟨S8192x1024, .bf16⟩
  | .hbm, ⟨60, _⟩ => ⟨S1024x1024, .f32⟩
  | .hbm, ⟨61, _⟩ => ⟨S512x1024, .f32⟩
  | .hbm, ⟨62, _⟩ => ⟨S512x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S512x1024, .f32⟩
  | .local _ .vmem, ⟨14, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44_0 : Ref sig .tc := ⟨.hbm, 60, rfl⟩
abbrev main_v44_1 : Ref sig .tc := ⟨.hbm, 61, rfl⟩
abbrev main_v44_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== Reference12Ideal.lean ====
abbrev S8192x512 : Shape := ⟨2, ![8192, 512]⟩
abbrev S8192x1024 : Shape := ⟨2, ![8192, 1024]⟩
abbrev S512x1024 : Shape := ⟨2, ![512, 1024]⟩
abbrev S1024x1024 : Shape := ⟨2, ![1024, 1024]⟩
abbrev S_ : Shape := ⟨0, ![]⟩
abbrev S1024x512 : Shape := ⟨2, ![1024, 512]⟩

abbrev nBuf : Space → Nat
  | .hbm => 39
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1024x1024, .f32⟩
  | .hbm, ⟨31, _⟩ => ⟨S1024x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1024x512, .f32⟩
  | .hbm, ⟨36, _⟩ => ⟨S512x1024, .f32⟩
  | .hbm, ⟨37, _⟩ => ⟨S1024x512, .f32⟩
  | .hbm, ⟨38, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel13.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x256 : Shape := ⟨2, ![1024, 256]⟩

abbrev nBuf : Space → Nat
  | .hbm => 46
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1x1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S256x1024, .f32⟩
  | .hbm, ⟨45, _⟩ => ⟨S1024x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference13Ideal.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x256 : Shape := ⟨2, ![1024, 256]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1x1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1024x256, .f32⟩
  | .hbm, ⟨41, _⟩ => ⟨S256x1024, .f32⟩
  | .hbm, ⟨42, _⟩ => ⟨S8192x1024, .f32⟩
  | .hbm, ⟨43, _⟩ => ⟨S1024x1024, .f32⟩
  | .hbm, ⟨44, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel14.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 35
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1x1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S1024x1024, .bf16⟩
  | .hbm, ⟨26, _⟩ => ⟨S256x1024, .bf16⟩
  | .hbm, ⟨27, _⟩ => ⟨S1x1024, .f32⟩
  | .hbm, ⟨28, _⟩ => ⟨S8192x1024, .f32⟩
  | .hbm, ⟨29, _⟩ => ⟨S8192x1024, .bf16⟩
  | .hbm, ⟨30, _⟩ => ⟨S8192x1024, .bf16⟩
  | .hbm, ⟨31, _⟩ => ⟨S8192x1024, .bf16⟩
  | .hbm, ⟨32, _⟩ => ⟨S1x1024, .f32⟩
  | .hbm, ⟨33, _⟩ => ⟨S1x1024, .f32⟩
  | .hbm, ⟨34, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x256, .f32⟩
  | .local _ .vmem, ⟨3, _⟩ => ⟨S512x256, .f32⟩
  | .local _ .vmem, ⟨4, _⟩ => ⟨S1024x1024, .bf16⟩
  | .local _ .vmem, ⟨5, _⟩ => ⟨S256x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v18_4 : Ref sig .tc := ⟨.hbm, 32, rfl⟩
abbrev main_v18_5 : Ref sig .tc := ⟨.hbm, 33, rfl⟩
abbrev main_v18_6 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Reference14Ideal.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 297
  | .vmem => 0
  | .smem => 0
  | _ => 0

abbrev hbmTy0_0 (i : Nat) : BufTy := match i % 128 with
  | 0 => ⟨S8192x1024, .f32⟩
  | 1 => ⟨S8192x256, .f32⟩
  | 2 => ⟨S1x1024, .f32⟩
  | 3 => ⟨S1024x1024, .f32⟩
  | 4 => ⟨S256x1024, .f32⟩
  | 5 => ⟨S1024, .f32⟩
  | 6 => ⟨S8192x1024, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1024, .f32⟩
  | 20 => ⟨S8192x1024, .f32⟩
  | 21 => ⟨S1x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S_, .f32⟩
  | 42 => ⟨S8192, .f32⟩
  | 43 => ⟨S8192x1, .f32⟩
  | 44 => ⟨S_, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1024, .f32⟩
  | 56 => ⟨S8192x1024, .f32⟩
  | 57 => ⟨S1x1024, .f32⟩
  | 58 => ⟨S8192x1024, .f32⟩
  | 59 => ⟨S8192x1024, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S_, .f32⟩
  | 66 => ⟨S8192, .f32⟩
  | 67 => ⟨S_, .f32⟩
  | 68 => ⟨S8192, .f32⟩
  | 69 => ⟨S8192, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S8192, .f32⟩
  | 78 => ⟨S_, .f32⟩
  | 79 => ⟨S8192, .f32⟩
  | 80 => ⟨S8192, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S_, .f32⟩
  | 87 => ⟨S8192, .f32⟩
  | 88 => ⟨S8192x1, .f32⟩
  | 89 => ⟨S8192x1024, .f32⟩
  | 90 => ⟨S8192x1024, .f32⟩
  | 91 => ⟨S8192x1, .f32⟩
  | 92 => ⟨S_, .f32⟩
  | 93 => ⟨S8192x1, .f32⟩
  | 94 => ⟨S8192x1, .f32⟩
  | 95 => ⟨S_, .f32⟩
  | 96 => ⟨S8192, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S1024, .f32⟩
  | 106 => ⟨S8192x1024, .f32⟩
  | 107 => ⟨S_, .f32⟩
  | 108 => ⟨S8192, .f32⟩
  | 109 => ⟨S8192x1, .f32⟩
  | 110 => ⟨S_, .f32⟩
  | 111 => ⟨S8192x1, .f32⟩
  | 112 => ⟨S8192x1, .f32⟩
  | 113 => ⟨S_, .f32⟩
  | 114 => ⟨S8192x1, .f32⟩
  | 115 => ⟨S8192x1, .f32⟩
  | 116 => ⟨S8192x1, .f32⟩
  | 117 => ⟨S8192x1, .f32⟩
  | 118 => ⟨S_, .f32⟩
  | 119 => ⟨S8192x1, .f32⟩
  | 120 => ⟨S8192x1, .f32⟩
  | 121 => ⟨S8192x1024, .f32⟩
  | 122 => ⟨S8192x1024, .f32⟩
  | 123 => ⟨S1x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S8192x1024, .f32⟩
  | 3 => ⟨S8192x1024, .f32⟩
  | 4 => ⟨S_, .f32⟩
  | 5 => ⟨S8192x1024, .f32⟩
  | 6 => ⟨S8192x1024, .f32⟩
  | 7 => ⟨S_, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x1024, .f32⟩
  | 30 => ⟨S8192x1024, .f32⟩
  | 31 => ⟨S1x1024, .f32⟩
  | 32 => ⟨S8192x1024, .f32⟩
  | 33 => ⟨S8192x1024, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S_, .f32⟩
  | 40 => ⟨S8192, .f32⟩
  | 41 => ⟨S_, .f32⟩
  | 42 => ⟨S8192, .f32⟩
  | 43 => ⟨S8192, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S8192, .f32⟩
  | 52 => ⟨S_, .f32⟩
  | 53 => ⟨S8192, .f32⟩
  | 54 => ⟨S8192, .f32⟩
  | 55 => ⟨S8192x1024, .f32⟩
  | 56 => ⟨S8192x1024, .f32⟩
  | 57 => ⟨S8192x1024, .f32⟩
  | 58 => ⟨S_, .f32⟩
  | 59 => ⟨S1024, .f32⟩
  | 60 => ⟨S1x1024, .f32⟩
  | 61 => ⟨S8192x1024, .f32⟩
  | 62 => ⟨S8192x1024, .f32⟩
  | 63 => ⟨S_, .f32⟩
  | 64 => ⟨S1024, .f32⟩
  | 65 => ⟨S8192x1024, .f32⟩
  | 66 => ⟨S_, .f32⟩
  | 67 => ⟨S8192, .f32⟩
  | 68 => ⟨S8192x1, .f32⟩
  | 69 => ⟨S8192x1024, .f32⟩
  | 70 => ⟨S8192x1024, .f32⟩
  | 71 => ⟨S8192x1, .f32⟩
  | 72 => ⟨S_, .f32⟩
  | 73 => ⟨S8192x1, .f32⟩
  | 74 => ⟨S8192x1, .f32⟩
  | 75 => ⟨S_, .f32⟩
  | 76 => ⟨S8192, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S_, .f32⟩
  | 87 => ⟨S1024, .f32⟩
  | 88 => ⟨S1x1024, .f32⟩
  | 89 => ⟨S8192x1024, .f32⟩
  | 90 => ⟨S8192x1024, .f32⟩
  | 91 => ⟨S_, .f32⟩
  | 92 => ⟨S1024, .f32⟩
  | 93 => ⟨S8192x1024, .f32⟩
  | 94 => ⟨S_, .f32⟩
  | 95 => ⟨S8192, .f32⟩
  | 96 => ⟨S8192x1, .f32⟩
  | 97 => ⟨S8192x1024, .f32⟩
  | 98 => ⟨S8192x1024, .f32⟩
  | 99 => ⟨S8192x1024, .f32⟩
  | 100 => ⟨S8192x1, .f32⟩
  | 101 => ⟨S_, .f32⟩
  | 102 => ⟨S8192x1, .f32⟩
  | 103 => ⟨S8192x1, .f32⟩
  | 104 => ⟨S_, .f32⟩
  | 105 => ⟨S8192, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S1024, .f32⟩
  | 112 => ⟨S8192x1024, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S_, .f32⟩
  | 120 => ⟨S8192x1, .f32⟩
  | 121 => ⟨S8192x1, .f32⟩
  | 122 => ⟨S8192x1, .f32⟩
  | 123 => ⟨S8192x1024, .f32⟩
  | 124 => ⟨S8192x1024, .f32⟩
  | 125 => ⟨S1x1024, .f32⟩
  | 126 => ⟨S8192x1024, .f32⟩
  | 127 => ⟨S8192x1024, .f32⟩
  | _ => ⟨S8192x1024, .f32⟩

abbrev hbmTy0_2 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S8192x1024, .f32⟩
  | 5 => ⟨S8192x1024, .f32⟩
  | 6 => ⟨S_, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x1024, .f32⟩
  | 29 => ⟨S8192x1024, .f32⟩
  | 30 => ⟨S_, .f32⟩
  | 31 => ⟨S1024, .f32⟩
  | 32 => ⟨S_, .f32⟩
  | 33 => ⟨S1024, .f32⟩
  | 34 => ⟨S1024, .f32⟩
  | 35 => ⟨S8192x1024, .bf16⟩
  | 36 => ⟨S8192x1024, .bf16⟩
  | 37 => ⟨S8192x1024, .bf16⟩
  | 38 => ⟨S1x1024, .f32⟩
  | 39 => ⟨S1x1024, .f32⟩
  | 40 => ⟨S1x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_cst_14 : Ref sig .tc := ⟨.hbm, 74, rfl⟩
abbrev main_cst_15 : Ref sig .tc := ⟨.hbm, 75, rfl⟩
abbrev main_v52 : Ref sig .tc := ⟨.hbm, 76, rfl⟩
abbrev main_v53 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_17 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_18 : Ref sig .tc := ⟨.hbm, 92, rfl⟩
abbrev main_v66 : Ref sig .tc := ⟨.hbm, 93, rfl⟩
abbrev main_v67 : Ref sig .tc := ⟨.hbm, 94, rfl⟩
abbrev main_cst_19 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_20 : Ref sig .tc := ⟨.hbm, 107, rfl⟩
abbrev main_v79 : Ref sig .tc := ⟨.hbm, 108, rfl⟩
abbrev main_v80 : Ref sig .tc := ⟨.hbm, 109, rfl⟩
abbrev main_cst_21 : Ref sig .tc := ⟨.hbm, 110, rfl⟩
abbrev main_v81 : Ref sig .tc := ⟨.hbm, 111, rfl⟩
abbrev main_v82 : Ref sig .tc := ⟨.hbm, 112, rfl⟩
abbrev main_cst_22 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_23 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_24 : Ref sig .tc := ⟨.hbm, 129, rfl⟩
abbrev main_v97 : Ref sig .tc := ⟨.hbm, 130, rfl⟩
abbrev main_v98 : Ref sig .tc := ⟨.hbm, 131, rfl⟩
abbrev main_cst_25 : Ref sig .tc := ⟨.hbm, 132, rfl⟩
abbrev main_v99 : Ref sig .tc := ⟨.hbm, 133, rfl⟩
abbrev main_v100 : Ref sig .tc := ⟨.hbm, 134, rfl⟩
abbrev main_cst_26 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_27 : Ref sig .tc := ⟨.hbm, 143, rfl⟩
abbrev main_v108 : Ref sig .tc := ⟨.hbm, 144, rfl⟩
abbrev main_v109 : Ref sig .tc := ⟨.hbm, 145, rfl⟩
abbrev main_cst_28 : Ref sig .tc := ⟨.hbm, 146, rfl⟩
abbrev main_v110 : Ref sig .tc := ⟨.hbm, 147, rfl⟩
abbrev main_v111 : Ref sig .tc := ⟨.hbm, 148, rfl⟩
abbrev main_cst_29 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_30 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_31 : Ref sig .tc := ⟨.hbm, 164, rfl⟩
abbrev main_v125 : Ref sig .tc := ⟨.hbm, 165, rfl⟩
abbrev main_v126 : Ref sig .tc := ⟨.hbm, 166, rfl⟩
abbrev main_cst_32 : Ref sig .tc := ⟨.hbm, 167, rfl⟩
abbrev main_v127 : Ref sig .tc := ⟨.hbm, 168, rfl⟩
abbrev main_cst_33 : Ref sig .tc := ⟨.hbm, 169, rfl⟩
abbrev main_v128 : Ref sig .tc := ⟨.hbm, 170, rfl⟩
abbrev main_v129 : Ref sig .tc := ⟨.hbm, 171, rfl⟩
abbrev main_cst_34 : Ref sig .tc := ⟨.hbm, 172, rfl⟩
abbrev main_v130 : Ref sig .tc := ⟨.hbm, 173, rfl⟩
abbrev main_cst_35 : Ref sig .tc := ⟨.hbm, 174, rfl⟩
abbrev main_v131 : Ref sig .tc := ⟨.hbm, 175, rfl⟩
abbrev main_cst_36 : Ref sig .tc := ⟨.hbm, 176, rfl⟩
abbrev main_cst_37 : Ref sig .tc := ⟨.hbm, 177, rfl⟩
abbrev main_v132 : Ref sig .tc := ⟨.hbm, 178, rfl⟩
abbrev main_v133 : Ref sig .tc := ⟨.hbm, 179, rfl⟩
abbrev main_cst_38 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_39 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_40 : Ref sig .tc := ⟨.hbm, 191, rfl⟩
abbrev main_v143 : Ref sig .tc := ⟨.hbm, 192, rfl⟩
abbrev main_v144 : Ref sig .tc := ⟨.hbm, 193, rfl⟩
abbrev main_cst_41 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_42 : Ref sig .tc := ⟨.hbm, 200, rfl⟩
abbrev main_v150 : Ref sig .tc := ⟨.hbm, 201, rfl⟩
abbrev main_v151 : Ref sig .tc := ⟨.hbm, 202, rfl⟩
abbrev main_cst_43 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_cst_44 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_cst_45 : Ref sig .tc := ⟨.hbm, 219, rfl⟩
abbrev main_v166 : Ref sig .tc := ⟨.hbm, 220, rfl⟩
abbrev main_v167 : Ref sig .tc := ⟨.hbm, 221, rfl⟩
abbrev main_cst_46 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_cst_47 : Ref sig .tc := ⟨.hbm, 229, rfl⟩
abbrev main_v174 : Ref sig .tc := ⟨.hbm, 230, rfl⟩
abbrev main_v175 : Ref sig .tc := ⟨.hbm, 231, rfl⟩
abbrev main_cst_48 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_cst_49 : Ref sig .tc := ⟨.hbm, 241, rfl⟩
abbrev main_v184 : Ref sig .tc := ⟨.hbm, 242, rfl⟩
abbrev main_v185 : Ref sig .tc := ⟨.hbm, 243, rfl⟩
abbrev main_cst_50 : Ref sig .tc := ⟨.hbm, 244, rfl⟩
abbrev main_v186 : Ref sig .tc := ⟨.hbm, 245, rfl⟩
abbrev main_v187 : Ref sig .tc := ⟨.hbm, 246, rfl⟩
abbrev main_cst_51 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_cst_52 : Ref sig .tc := ⟨.hbm, 259, rfl⟩
abbrev main_v199 : Ref sig .tc := ⟨.hbm, 260, rfl⟩
abbrev main_v200 : Ref sig .tc := ⟨.hbm, 261, rfl⟩
abbrev main_cst_53 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_cst_54 : Ref sig .tc := ⟨.hbm, 269, rfl⟩
abbrev main_v207 : Ref sig .tc := ⟨.hbm, 270, rfl⟩
abbrev main_v208 : Ref sig .tc := ⟨.hbm, 271, rfl⟩
abbrev main_cst_55 : Ref sig .tc := ⟨.hbm, 272, rfl⟩
abbrev main_v209 : Ref sig .tc := ⟨.hbm, 273, rfl⟩
abbrev main_v210 : Ref sig .tc := ⟨.hbm, 274, rfl⟩
abbrev main_cst_56 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_cst_57 : Ref sig .tc := ⟨.hbm, 286, rfl⟩
abbrev main_v221 : Ref sig .tc := ⟨.hbm, 287, rfl⟩
abbrev main_cst_58 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩

abbrev nD : Nat := 1
abbrev τ : Topo := Topo.v7x

variable {F : FTy → Type} [FloatOps F]
-- ==== Kernel15.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference15Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference16Ideal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S4x128x128 : Shape := ⟨3, ![4, 128, 128]⟩
abbrev S512x128 : Shape := ⟨2, ![512, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x128x128, .f32⟩
  | .hbm, ⟨1, _⟩ => ⟨S4x128x128, .f32⟩
  | .hbm, ⟨2, _⟩ => ⟨S4x128x128, .f32⟩
  | .hbm, ⟨3, _⟩ => ⟨S4x128x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S4x128x128 : Shape := ⟨3, ![4, 128, 128]⟩
abbrev S_ : Shape := ⟨0, ![]⟩
abbrev S512x128 : Shape := ⟨2, ![512, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x128x128, .f32⟩
  | .hbm, ⟨1, _⟩ => ⟨S4x128x128, .f32⟩
  | .hbm, ⟨2, _⟩ => ⟨S4x128x128, .f32⟩
  | .hbm, ⟨3, _⟩ => ⟨S4x128x128, .f32⟩
  | .hbm, ⟨4, _⟩ => ⟨S_, .f32⟩
  | .hbm, ⟨5, _⟩ => ⟨S4x128x128, .f32⟩
  | .hbm, ⟨6, _⟩ => ⟨S4x128x128, .f32⟩
  | .hbm, ⟨7, _⟩ => ⟨S_, .f32⟩
  | .hbm, ⟨8, _⟩ => ⟨S4x128x128, .f32⟩
  | .hbm, ⟨9, _⟩ => ⟨S4x128x128, .f32⟩
  | .hbm, ⟨10, _⟩ => ⟨S4x128x128, .f32⟩
  | .hbm, ⟨11, _⟩ => ⟨S_, .f32⟩
  | .hbm, ⟨12, _⟩ => ⟨S4x128x128, .f32⟩
  | .hbm, ⟨13, _⟩ => ⟨S4x128x128, .f32⟩
  | .hbm, ⟨14, _⟩ => ⟨S4x128x128, .f32⟩
  | .hbm, ⟨15, _⟩ => ⟨S_, .f32⟩
  | .hbm, ⟨16, _⟩ => ⟨S4x128x128, .f32⟩
  | .hbm, ⟨17, _⟩ => ⟨S4x128x128, .f32⟩
  | .hbm, ⟨18, _⟩ => ⟨S4x128x128, .f32⟩
  | .hbm, ⟨19, _⟩ => ⟨S_, .f32⟩
  | .hbm, ⟨20, _⟩ => ⟨S4x128x128, .f32⟩
  | .hbm, ⟨21, _⟩ => ⟨S4x128x128, .f32⟩
  | .hbm, ⟨22, _⟩ => ⟨S_, .f32⟩
  | .hbm, ⟨23, _⟩ => ⟨S4x128x128, .f32⟩
  | .hbm, ⟨24, _⟩ => ⟨S4x128x128, .f32⟩
  | .hbm, ⟨25, _⟩ => ⟨S4x128x128, .f32⟩
  | .hbm, ⟨26, _⟩ => ⟨S_, .f32⟩
  | .hbm, ⟨27, _⟩ => ⟨S4x128x128, .f32⟩
  | .hbm, ⟨28, _⟩ => ⟨S4x128x128, .f32⟩
  | .hbm, ⟨29, _⟩ => ⟨S4x128x128, .f32⟩
  | .hbm, ⟨30, _⟩ => ⟨S_, .f32⟩
  | .hbm, ⟨31, _⟩ => ⟨S4x128x128, .f32⟩
  | .hbm, ⟨32, _⟩ => ⟨S4x128x128, .f32⟩
  | .hbm, ⟨33, _⟩ => ⟨S4x128x128, .f32⟩
  | .hbm, ⟨34, _⟩ => ⟨S_, .f32⟩
  | .hbm, ⟨35, _⟩ => ⟨S4x128x128, .f32⟩
  | .hbm, ⟨36, _⟩ => ⟨S4x128x128, .f32⟩
  | .hbm, ⟨37, _⟩ => ⟨S512x128, .f32⟩
  | .hbm, ⟨38, _⟩ => ⟨S512x128, .f32⟩
  | .hbm, ⟨39, _⟩ => ⟨S512x128, .f32⟩
  | _, _ => ⟨S4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel19.lean ====
abbrev S8192x512 : Shape := ⟨2, ![8192, 512]⟩
abbrev S4x128x128 : Shape := ⟨3, ![4, 128, 128]⟩
abbrev S1x512 : Shape := ⟨2, ![1, 512]⟩
abbrev S512x512 : Shape := ⟨2, ![512, 512]⟩
abbrev S16x512 : Shape := ⟨2, ![16, 512]⟩
abbrev S512x1 : Shape := ⟨2, ![512, 1]⟩
abbrev S512x128 : Shape := ⟨2, ![512, 128]⟩
abbrev S16x128 : Shape := ⟨2, ![16, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S4x128x128, .f32⟩
  | .hbm, ⟨2, _⟩ => ⟨S1x512, .f32⟩
  | .hbm, ⟨3, _⟩ => ⟨S4x128x128, .bf16⟩
  | .hbm, ⟨4, _⟩ => ⟨S8192x512, .bf16⟩
  | .hbm, ⟨5, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S4x128x128, .bf16⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference19Ideal.lean ====
abbrev S8192x512 : Shape := ⟨2, ![8192, 512]⟩
abbrev S4x128x128 : Shape := ⟨3, ![4, 128, 128]⟩
abbrev S1x512 : Shape := ⟨2, ![1, 512]⟩
abbrev S1x8192x512 : Shape := ⟨3, ![1, 8192, 512]⟩
abbrev S_ : Shape := ⟨0, ![]⟩
abbrev S8192 : Shape := ⟨1, ![8192]⟩
abbrev S1x8192x128 : Shape := ⟨3, ![1, 8192, 128]⟩
abbrev S1x2x128 : Shape := ⟨3, ![1, 2, 128]⟩
abbrev S1x8190x128 : Shape := ⟨3, ![1, 8190, 128]⟩
abbrev S1x8192x1 : Shape := ⟨3, ![1, 8192, 1]⟩
abbrev S1x4x128 : Shape := ⟨3, ![1, 4, 128]⟩
abbrev S1x8188x128 : Shape := ⟨3, ![1, 8188, 128]⟩
abbrev S1x8x128 : Shape := ⟨3, ![1, 8, 128]⟩
abbrev S1x8184x128 : Shape := ⟨3, ![1, 8184, 128]⟩
abbrev S1x16x128 : Shape := ⟨3, ![1, 16, 128]⟩
abbrev S1x8176x128 : Shape := ⟨3, ![1, 8176, 128]⟩
abbrev S1x8192x1x128 : Shape := ⟨4, ![1, 8192, 1, 128]⟩
abbrev S1x8192x4x128 : Shape := ⟨4, ![1, 8192, 4, 128]⟩
abbrev S512 : Shape := ⟨1, ![512]⟩
abbrev S4x128x1x8192 : Shape := ⟨4, ![4, 128, 1, 8192]⟩
abbrev S1x1x512 : Shape := ⟨3, ![1, 1, 512]⟩

abbrev nBuf : Space → Nat
  | .hbm => 178
  | .vmem => 0
  | .smem => 0
  | _ => 0

abbrev hbmTy0_0 (i : Nat) : BufTy := match i % 128 with
  | 0 => ⟨S8192x512, .f32⟩
  | 1 => ⟨S4x128x128, .f32⟩
  | 2 => ⟨S1x512, .f32⟩
  | 3 => ⟨S1x8192x512, .f32⟩
  | 4 => ⟨S_, .f32⟩
  | 5 => ⟨S_, .f32⟩
  | 6 => ⟨S1x8192x512, .f32⟩
  | 7 => ⟨S8192, .i32⟩
  | 8 => ⟨S1x8192x128, .f32⟩
  | 9 => ⟨S_, .f32⟩
  | 10 => ⟨S1x2x128, .f32⟩
  | 11 => ⟨S1x8190x128, .f32⟩
  | 12 => ⟨S1x8192x128, .f32⟩
  | 13 => ⟨S_, .i32⟩
  | 14 => ⟨S8192, .i32⟩
  | 15 => ⟨S8192, .i32⟩
  | 16 => ⟨S_, .i32⟩
  | 17 => ⟨S8192, .i32⟩
  | 18 => ⟨S8192, .i32⟩
  | 19 => ⟨S8192, .f32⟩
  | 20 => ⟨S1x8192x1, .f32⟩
  | 21 => ⟨S1x8192x128, .f32⟩
  | 22 => ⟨S1x8192x128, .f32⟩
  | 23 => ⟨S1x8192x128, .f32⟩
  | 24 => ⟨S1x8192x128, .f32⟩
  | 25 => ⟨S1x8192x128, .f32⟩
  | 26 => ⟨S1x8192x128, .f32⟩
  | 27 => ⟨S_, .f32⟩
  | 28 => ⟨S1x4x128, .f32⟩
  | 29 => ⟨S1x8188x128, .f32⟩
  | 30 => ⟨S1x8192x128, .f32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S8192, .f32⟩
  | 38 => ⟨S1x8192x1, .f32⟩
  | 39 => ⟨S1x8192x128, .f32⟩
  | 40 => ⟨S1x8192x128, .f32⟩
  | 41 => ⟨S1x8192x128, .f32⟩
  | 42 => ⟨S1x8192x128, .f32⟩
  | 43 => ⟨S1x8192x128, .f32⟩
  | 44 => ⟨S1x8192x128, .f32⟩
  | 45 => ⟨S_, .f32⟩
  | 46 => ⟨S1x8x128, .f32⟩
  | 47 => ⟨S1x8184x128, .f32⟩
  | 48 => ⟨S1x8192x128, .f32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S8192, .f32⟩
  | 56 => ⟨S1x8192x1, .f32⟩
  | 57 => ⟨S1x8192x128, .f32⟩
  | 58 => ⟨S1x8192x128, .f32⟩
  | 59 => ⟨S1x8192x128, .f32⟩
  | 60 => ⟨S1x8192x128, .f32⟩
  | 61 => ⟨S1x8192x128, .f32⟩
  | 62 => ⟨S1x8192x128, .f32⟩
  | 63 => ⟨S_, .f32⟩
  | 64 => ⟨S1x16x128, .f32⟩
  | 65 => ⟨S1x8176x128, .f32⟩
  | 66 => ⟨S1x8192x128, .f32⟩
  | 67 => ⟨S_, .i32⟩
  | 68 => ⟨S8192, .i32⟩
  | 69 => ⟨S8192, .i32⟩
  | 70 => ⟨S_, .i32⟩
  | 71 => ⟨S8192, .i32⟩
  | 72 => ⟨S8192, .i32⟩
  | 73 => ⟨S8192, .f32⟩
  | 74 => ⟨S1x8192x1, .f32⟩
  | 75 => ⟨S1x8192x128, .f32⟩
  | 76 => ⟨S1x8192x128, .f32⟩
  | 77 => ⟨S1x8192x128, .f32⟩
  | 78 => ⟨S1x8192x128, .f32⟩
  | 79 => ⟨S1x8192x128, .f32⟩
  | 80 => ⟨S1x8192x1x128, .f32⟩
  | 81 => ⟨S1x8192x1x128, .f32⟩
  | 82 => ⟨S1x8192x1x128, .f32⟩
  | 83 => ⟨S1x8192x1x128, .f32⟩
  | 84 => ⟨S1x8192x4x128, .f32⟩
  | 85 => ⟨S8192x512, .f32⟩
  | 86 => ⟨S1x8192x512, .f32⟩
  | 87 => ⟨S512, .f32⟩
  | 88 => ⟨S_, .f32⟩
  | 89 => ⟨S_, .f32⟩
  | 90 => ⟨S1x8192x512, .f32⟩
  | 91 => ⟨S8192, .i32⟩
  | 92 => ⟨S1x8192x128, .f32⟩
  | 93 => ⟨S_, .f32⟩
  | 94 => ⟨S1x2x128, .f32⟩
  | 95 => ⟨S1x8190x128, .f32⟩
  | 96 => ⟨S1x8192x128, .f32⟩
  | 97 => ⟨S_, .i32⟩
  | 98 => ⟨S8192, .i32⟩
  | 99 => ⟨S8192, .i32⟩
  | 100 => ⟨S_, .i32⟩
  | 101 => ⟨S8192, .i32⟩
  | 102 => ⟨S8192, .i32⟩
  | 103 => ⟨S8192, .f32⟩
  | 104 => ⟨S1x8192x1, .f32⟩
  | 105 => ⟨S1x8192x128, .f32⟩
  | 106 => ⟨S1x8192x128, .f32⟩
  | 107 => ⟨S1x8192x128, .f32⟩
  | 108 => ⟨S1x8192x128, .f32⟩
  | 109 => ⟨S1x8192x128, .f32⟩
  | 110 => ⟨S1x8192x128, .f32⟩
  | 111 => ⟨S_, .f32⟩
  | 112 => ⟨S1x4x128, .f32⟩
  | 113 => ⟨S1x8188x128, .f32⟩
  | 114 => ⟨S1x8192x128, .f32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S8192, .f32⟩
  | 122 => ⟨S1x8192x1, .f32⟩
  | 123 => ⟨S1x8192x128, .f32⟩
  | 124 => ⟨S1x8192x128, .f32⟩
  | 125 => ⟨S1x8192x128, .f32⟩
  | 126 => ⟨S1x8192x128, .f32⟩
  | 127 => ⟨S1x8192x128, .f32⟩
  | _ => ⟨S8192x512, .f32⟩

abbrev hbmTy0_1 (i : Nat) : BufTy := match i % 128 with
  | 0 => ⟨S1x8192x128, .f32⟩
  | 1 => ⟨S_, .f32⟩
  | 2 => ⟨S1x8x128, .f32⟩
  | 3 => ⟨S1x8184x128, .f32⟩
  | 4 => ⟨S1x8192x128, .f32⟩
  | 5 => ⟨S_, .i32⟩
  | 6 => ⟨S8192, .i32⟩
  | 7 => ⟨S8192, .i32⟩
  | 8 => ⟨S_, .i32⟩
  | 9 => ⟨S8192, .i32⟩
  | 10 => ⟨S8192, .i32⟩
  | 11 => ⟨S8192, .f32⟩
  | 12 => ⟨S1x8192x1, .f32⟩
  | 13 => ⟨S1x8192x128, .f32⟩
  | 14 => ⟨S1x8192x128, .f32⟩
  | 15 => ⟨S1x8192x128, .f32⟩
  | 16 => ⟨S1x8192x128, .f32⟩
  | 17 => ⟨S1x8192x128, .f32⟩
  | 18 => ⟨S1x8192x128, .f32⟩
  | 19 => ⟨S_, .f32⟩
  | 20 => ⟨S1x16x128, .f32⟩
  | 21 => ⟨S1x8176x128, .f32⟩
  | 22 => ⟨S1x8192x128, .f32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S8192, .f32⟩
  | 30 => ⟨S1x8192x1, .f32⟩
  | 31 => ⟨S1x8192x128, .f32⟩
  | 32 => ⟨S1x8192x128, .f32⟩
  | 33 => ⟨S1x8192x128, .f32⟩
  | 34 => ⟨S1x8192x128, .f32⟩
  | 35 => ⟨S1x8192x128, .f32⟩
  | 36 => ⟨S1x8192x1x128, .f32⟩
  | 37 => ⟨S1x8192x1x128, .f32⟩
  | 38 => ⟨S1x8192x1x128, .f32⟩
  | 39 => ⟨S1x8192x1x128, .f32⟩
  | 40 => ⟨S1x8192x4x128, .f32⟩
  | 41 => ⟨S4x128x1x8192, .f32⟩
  | 42 => ⟨S1x8192x4x128, .f32⟩
  | 43 => ⟨S1x8192x512, .f32⟩
  | 44 => ⟨S1x1x512, .f32⟩
  | 45 => ⟨S1x8192x512, .f32⟩
  | 46 => ⟨S1x8192x512, .f32⟩
  | 47 => ⟨S8192x512, .f32⟩
  | 48 => ⟨S8192x512, .bf16⟩
  | 49 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_8 : Ref sig .tc := ⟨.hbm, 67, rfl⟩
abbrev main_v52 : Ref sig .tc := ⟨.hbm, 68, rfl⟩
abbrev main_v53 : Ref sig .tc := ⟨.hbm, 69, rfl⟩
abbrev main_c_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_call1_call0_cst : Ref sig .tc := ⟨.hbm, 88, rfl⟩
abbrev main_call1_call0_v0 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_10 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_c_11 : Ref sig .tc := ⟨.hbm, 97, rfl⟩
abbrev main_v77 : Ref sig .tc := ⟨.hbm, 98, rfl⟩
abbrev main_v78 : Ref sig .tc := ⟨.hbm, 99, rfl⟩
abbrev main_c_12 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_13 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_c_14 : Ref sig .tc := ⟨.hbm, 115, rfl⟩
abbrev main_v92 : Ref sig .tc := ⟨.hbm, 116, rfl⟩
abbrev main_v93 : Ref sig .tc := ⟨.hbm, 117, rfl⟩
abbrev main_c_15 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_16 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_c_17 : Ref sig .tc := ⟨.hbm, 133, rfl⟩
abbrev main_v107 : Ref sig .tc := ⟨.hbm, 134, rfl⟩
abbrev main_v108 : Ref sig .tc := ⟨.hbm, 135, rfl⟩
abbrev main_c_18 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_19 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_c_20 : Ref sig .tc := ⟨.hbm, 151, rfl⟩
abbrev main_v122 : Ref sig .tc := ⟨.hbm, 152, rfl⟩
abbrev main_v123 : Ref sig .tc := ⟨.hbm, 153, rfl⟩
abbrev main_c_21 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩

abbrev nD : Nat := 1
abbrev τ : Topo := Topo.v7x

variable {F : FTy → Type} [FloatOps F]
-- ==== Kernel20.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference20Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference21Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference22Ideal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Elem.lean ====
module

public import proofs.«01_k».proof.Proof.Gen.KernelIdeal.Value
public import Idealize.ShloMosaic.Lib.Pipeline.Value
public import Idealize.ShloMosaic.Lib.Tactic
public import Idealize.ShloMosaic.Lib.ValueIdx
public import Idealize.ShloMosaic.PureOps.Ideal.Laws

/-! What one tile of the pooling mixer's backward pass computes, read at an index.

`D r c` is the tile's cotangent row `r` (rows 512 … 527 come from the halo), `S c` the scale, `W c d` one group's
weight matrix; each lemma reads one stage of the body at `(r, c)`. -/

@[expose] public section

set_option maxRecDepth 16384

noncomputable section

namespace Cert.Pool

open Cert.KernelIdeal Cert.KernelIdeal.Gen Idealize.ShloMosaic Idealize.ShloMosaic.TcCoe
open Idealize.ShloMosaic.ValueIdx

/-! ## The scaled cotangent -/

theorem dmix_apply {off : Nat} (v6 : FVec Ideal S16x512 .f32) (sc : FVec Ideal S1x128 .f32) (d : FVec Ideal S512x128 .f32)
    (hs : S16x512.Slices ![0, off] S16x128) (hoff : off + 128 ≤ 512) (D : ℕ → Fin 128 → EReal) (S : Fin 128 → EReal)
    (hd : ∀ (r : Fin 512) (c : Fin 128), d (ix2 r c) = D r.val c)
    (hh : ∀ (r : Fin 16) (c : Fin 128) (k : Fin 512), k.val = off + c.val → v6 (ix2 r k) = D (512 + r.val) c)
    (hS : ∀ c : Fin 128, sc (ix2 0 c) = S c) (r : Fin 528) (c : Fin 128) :
    (truncf .bf16 (mulf (concatenate S528x128 0 [⟨S512x128, d⟩, ⟨S16x128, extractStridedSlice S16x128 ![0, off] v6 hs⟩]
      concatenates_S512x128_S16x128_S528x128_d0) (broadcastTo S528x128 sc broadcasts_S1x128_S528x128)) bitsLt_bf16_f32
        : FVec Ideal S528x128 .bf16) (ix2 r c) = D r.val c * S c := by
  rw [truncf_apply, mulf_apply]
  congr 1
  · by_cases h : r.val < 512
    · rw [concatenate_pair_apply_left (0 : Fin S528x128.rank) d _ _ (ix2 r c) rfl (ix2 ⟨r.val, h⟩ c)
        (fun b => match b with | ⟨0, _⟩ => rfl | ⟨1, _⟩ => rfl)]
      exact hd _ _
    · have hr : r.val - 512 < 16 := by have := r.isLt; omega
      rw [concatenate_pair_apply_right (s₂ := S16x128) (0 : Fin S528x128.rank) d _ _ (ix2 r c) rfl rfl (ix2 ⟨r.val - 512, hr⟩ c)
        (fun b hb => match b with | ⟨0, _⟩ => absurd rfl hb | ⟨1, _⟩ => rfl) (by show r.val - 512 + 512 = r.val; omega)]
      have hk : off + c.val < 512 := by have := c.isLt; omega
      rw [extractStridedSlice_apply ![0, off] v6 hs _ (ix2 ⟨r.val - 512, hr⟩ ⟨off + c.val, hk⟩)
        (fun a => match a with | ⟨0, _⟩ => (Nat.zero_add _).symm | ⟨1, _⟩ => rfl)]
      rw [hh _ c ⟨off + c.val, hk⟩ rfl]
      show D (512 + (r.val - 512)) c = D r.val c
      rw [show 512 + (r.val - 512) = r.val by omega]
  · rw [broadcastTo_apply sc _ (ix2 r c) (ix2 0 c) (fun a => match a with | ⟨0, _⟩ => rfl | ⟨1, _⟩ => rfl)]
    exact hS c

/-! ## The three products -/

theorem cast_w_apply {φ : FTy} (w : FVec Ideal S1x128x128 φ) (a b : Fin 128) :
    shapeCast S128x128 w shapeCasts_S1x128x128_S128x128 (ix2 a b) = w (ix3 0 a b) := by
  refine shapeCast_apply w _ (ix2 a b) (ix3 0 a b) ?_
  rw [Shape.rowMajor_val_three, Shape.rowMajor_val_two]
  show (0 * 128 + a.val) * 128 + b.val = a.val * 128 + b.val
  omega

theorem dpool_apply (x : FVec Ideal S528x128 .bf16) (w : FVec Ideal S1x128x128 .bf16) (X : ℕ → Fin 128 → EReal)
    (W : Fin 128 → Fin 128 → EReal) (hx : ∀ (r : Fin 528) (c : Fin 128), x (ix2 r c) = X r.val c)
    (hw : ∀ a b : Fin 128, w (ix3 0 a b) = W a b) (r : Fin 528) (c : Fin 128) :
    (matmul dot_S528x128_S128x128_S528x128_1_1_0_0_n_n none x (shapeCast S128x128 w shapeCasts_S1x128x128_S128x128)
      (constant S528x128 .f32 0x00000000#32) : FVec Ideal S528x128 .f32) (ix2 r c) = ∑ k : Fin 128, X r.val k * W c k := by
  rw [matmul]
  rw [Ideal.matmul_constant_zero_apply,
    ← Equiv.sum_comp (contrEquiv1 dot_S528x128_S128x128_S528x128_1_1_0_0_n_n 128 rfl rfl).symm]
  refine Finset.sum_congr rfl fun k _ => ?_
  have hk := contrEquiv1_symm_val dot_S528x128_S128x128_S528x128_1_1_0_0_n_n 128 rfl rfl k
  have el : dot_S528x128_S128x128_S528x128_1_1_0_0_n_n.lhsIdx (ix2 r c)
      ((contrEquiv1 dot_S528x128_S128x128_S528x128_1_1_0_0_n_n 128 rfl rfl).symm k) = ix2 r k :=
    funext fun a => Fin.ext (by match a with | ⟨0, _⟩ => rfl | ⟨1, _⟩ => exact hk)
  have er : dot_S528x128_S128x128_S528x128_1_1_0_0_n_n.rhsIdx (ix2 r c)
      ((contrEquiv1 dot_S528x128_S128x128_S528x128_1_1_0_0_n_n 128 rfl rfl).symm k) = ix2 c k :=
    funext fun a => Fin.ext (by match a with | ⟨0, _⟩ => rfl | ⟨1, _⟩ => exact hk)
  rw [el, er, cast_w_apply, hx, hw]

theorem mixed_apply (x : FVec Ideal S512x128 .bf16) (w : FVec Ideal S1x128x128 .bf16) (X : Fin 512 → Fin 128 → EReal)
    (W : Fin 128 → Fin 128 → EReal) (hx : ∀ (r : Fin 512) (c : Fin 128), x (ix2 r c) = X r c)
    (hw : ∀ a b : Fin 128, w (ix3 0 a b) = W a b) (r : Fin 512) (c : Fin 128) :
    (matmul dot_S512x128_S128x128_S512x128_1_0_0_1_n_n none (shapeCast S512x128 x shapeCasts_S512x128_S512x128)
      (shapeCast S128x128 w shapeCasts_S1x128x128_S128x128)
      (constant S512x128 .f32 0x00000000#32) : FVec Ideal S512x128 .f32) (ix2 r c) = ∑ k : Fin 128, X r k * W k c := by
  rw [matmul]
  rw [Ideal.matmul_constant_zero_apply,
    ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 r c)
      ((contrEquiv1 dot_S512x128_S128x128_S512x128_1_0_0_1_n_n 128 rfl rfl).symm k) = ix2 r k :=
    funext fun a => Fin.ext (by match a with | ⟨0, _⟩ => rfl | ⟨1, _⟩ => exact hk)
  have er : dot_S512x128_S128x128_S512x128_1_0_0_1_n_n.rhsIdx (ix2 r c)
      ((contrEquiv1 dot_S512x128_S128x128_S512x128_1_0_0_1_n_n 128 rfl rfl).symm k) = ix2 k c :=
    funext fun a => Fin.ext (by match a with | ⟨0, _⟩ => exact hk | ⟨1, _⟩ => rfl)
  rw [el, er, cast_w_apply, hw, shapeCast_apply x _ (ix2 r k) (ix2 r k) rfl, hx]

theorem dw_apply (x : FVec Ideal S512x128 .bf16) (y : FVec Ideal S528x128 .bf16) (prev : FVec Ideal S1x128x128 .f32)
    (X : Fin 512 → Fin 128 → EReal) (Y : ℕ → Fin 128 → EReal)
    (hx : ∀ (r : Fin 512) (c : Fin 128), x (ix2 r c) = X r c)
    (hy : ∀ (r : Fin 528) (c : Fin 128), y (ix2 r c) = Y r.val c) (z : Fin 1) (a b : Fin 128) :
    (shapeCast S1x128x128 (addf (shapeCast S128x128 prev shapeCasts_S1x128x128_S128x128)
      (matmul dot_S512x128_S512x128_S128x128_0_0_1_1_n_n none (shapeCast S512x128 x shapeCasts_S512x128_S512x128)
        (extractStridedSlice S512x128 ![0, 0] y slices_S528x128_o0_0_S512x128)
        (constant S128x128 .f32 0x00000000#32))) shapeCasts_S128x128_S1x128x128 : FVec Ideal S1x128x128 .f32) (ix3 z a b)
      = prev (ix3 z a b) + ∑ r : Fin 512, X r a * Y r.val b := by
  obtain rfl : z = 0 := Subsingleton.elim _ _
  rw [shapeCast_apply _ _ (ix3 0 a b) (ix2 a b) (by
    rw [Shape.rowMajor_val_three, Shape.rowMajor_val_two]
    show a.val * 128 + b.val = (0 * 128 + a.val) * 128 + b.val
    omega), addf_apply, cast_w_apply, matmul]
  congr 1
  rw [Ideal.matmul_constant_zero_apply,
    ← Equiv.sum_comp (contrEquiv1 dot_S512x128_S512x128_S128x128_0_0_1_1_n_n 512 rfl rfl).symm]
  refine Finset.sum_congr rfl fun k _ => ?_
  have hk := contrEquiv1_symm_val dot_S512x128_S512x128_S128x128_0_0_1_1_n_n 512 rfl rfl k
  have el : dot_S512x128_S512x128_S128x128_0_0_1_1_n_n.lhsIdx (ix2 a b)
      ((contrEquiv1 dot_S512x128_S512x128_S128x128_0_0_1_1_n_n 512 rfl rfl).symm k) = ix2 k a :=
    funext fun a => Fin.ext (by match a with | ⟨0, _⟩ => exact hk | ⟨1, _⟩ => rfl)
  have er : dot_S512x128_S512x128_S128x128_0_0_1_1_n_n.rhsIdx (ix2 a b)
      ((contrEquiv1 dot_S512x128_S512x128_S128x128_0_0_1_1_n_n 512 rfl rfl).symm k) = ix2 k b :=
    funext fun a => Fin.ext (by match a with | ⟨0, _⟩ => exact hk | ⟨1, _⟩ => rfl)
  have hk5 : k.val < 528 := by have := k.isLt; omega
  rw [el, er, shapeCast_apply x _ (ix2 k a) (ix2 k a) rfl, hx,
    extractStridedSlice_apply ![0, 0] y _ (ix2 k b) (ix2 ⟨k.val, hk5⟩ b)
      (fun a => match a with | ⟨0, _⟩ => (Nat.zero_add _).symm | ⟨1, _⟩ => (Nat.zero_add _).symm), hy]

theorem ds_apply (d y : FVec Ideal S512x128 .f32) (prev : FVec Ideal S1x128 .f32) (X Y : Fin 512 → Fin 128 → EReal)
    (hx : ∀ (r : Fin 512) (c : Fin 128), d (ix2 r c) = X r c)
    (hy : ∀ (r : Fin 512) (c : Fin 128), y (ix2 r c) = Y r c) (z : Fin 1) (c : Fin 128) :
    (addf (shapeCast S1x128 prev shapeCasts_S1x128_S1x128) (shapeCast S1x128
      (multiReduction .add [0] S128 (mulf d y) 0x00000000#32 reduces_S512x128_S128 (.inl rfl) rfl) shapeCasts_S128_S1x128)
        : FVec Ideal S1x128 .f32) (ix2 z c) = prev (ix2 z c) + ∑ r : Fin 512, X r c * Y r c := by
  rw [addf_apply, shapeCast_apply prev _ (ix2 z c) (ix2 z c) rfl]
  congr 1
  rw [shapeCast_apply _ _ (ix2 z c) (ix1 c) (by
    rw [Shape.rowMajor_val_one, Shape.rowMajor_val_two]
    show c.val = z.val * 128 + c.val
    have := z.isLt; omega)]
  refine (Ideal.multiReduction_add_single (mulf d y) 0x00000000#32 reduces_S512x128_S128 (.inl rfl) rfl (ix1 c)).trans ?_
  refine Finset.sum_congr rfl fun (r : Fin 512) _ => ?_
  have e : reduces_S512x128_S128.lift (ix1 c) r = ix2 r c :=
    funext fun a => Fin.ext (by match a with | ⟨0, _⟩ => rfl | ⟨1, _⟩ => rfl)
  rw [e, mulf_apply, hx, hy]

/-! ## The window sums -/

/-- The row count a window of `w` rows ending at row `n` averages over. -/
def cnt (w n : ℕ) : ℕ := min (n + 1) w

theorem cnt_word (i r w : ℕ) (hi : i < 16) (hr : r < 528) (hw : w ≤ 16) :
    (IntOp.minsi (IntOp.addi (IntOp.addi (IntOp.muli (BitVec.ofNat 32 i) 512#32) (BitVec.ofNat 32 r)) 1#32) (BitVec.ofNat 32 w)).toInt
      = (cnt w (512 * i + r) : ℤ) := by
  have e : IntOp.addi (IntOp.addi (IntOp.muli (BitVec.ofNat 32 i) 512#32) (BitVec.ofNat 32 r)) 1#32
      = BitVec.ofNat 32 (512 * i + r + 1) := by
    apply BitVec.eq_of_toNat_eq
    simp only [IntOp.addi, IntOp.muli, BitVec.toNat_add, BitVec.toNat_mul, BitVec.toNat_ofNat]
    omega
  rw [e]
  have h1 : (BitVec.ofNat 32 (512 * i + r + 1)).toInt = (512 * i + r + 1 : ℕ) := by
    rw [BitVec.toInt_eq_toNat_of_lt (by rw [BitVec.toNat_ofNat]; omega), BitVec.toNat_ofNat, Nat.mod_eq_of_lt (by omega)]
  have h2 : (BitVec.ofNat 32 w).toInt = (w : ℕ) := by
    rw [BitVec.toInt_eq_toNat_of_lt (by rw [BitVec.toNat_ofNat]; omega), BitVec.toNat_ofNat, Nat.mod_eq_of_lt (by omega)]
  unfold IntOp.minsi cnt
  by_cases h : (512 * i + r + 1) < w
  · rw [if_pos (by rw [BitVec.slt_iff_toInt_lt, h1, h2]; exact_mod_cast h), h1, min_eq_left (by omega)]
  · rw [if_neg (by rw [BitVec.slt_iff_toInt_lt, h1, h2]; exact_mod_cast h), h2, min_eq_right (by omega)]

theorem one_f32 : Ideal.ofBits .f32 0x3F800000#32 = ((1 : ℝ) : EReal) := by
  simp [Ideal.ofBits, Ideal.ieee, -EReal.coe_mul]; norm_num

/-- The reciprocal of the row count. -/
def rcp (w n : ℕ) : EReal := ((1 / (cnt w n : ℝ) : ℝ) : EReal)

theorem scaled_apply (i : grid0.Coords) (p : FVec Ideal S528x128 .f32) (w : ℕ) (hw0 : 0 < w) (hw : w ≤ 16) (P : ℕ → Fin 128 → EReal)
    (hp : ∀ (r : Fin 528) (c : Fin 128), p (ix2 r c) = P r.val c) (r : Fin 528) (c : Fin 128) :
    (mulf p (broadcastTo S528x128 (divf (broadcast S528x1 (Scalar.ofBits .f32 0x3F800000#32))
      (sitofp .f32 (minsi (addi (k0_pay4 i) (broadcast S528x1 1#32)) (broadcast S528x1 (BitVec.ofNat 32 w)))))
      broadcasts_S528x1_S528x128) : FVec Ideal S528x128 .f32) (ix2 r c) = P r.val c * rcp w (512 * (i 0).val + r.val) := by
  rw [mulf_apply, hp]
  congr 1
  refine (broadcastTo_apply (s := S528x1) (t := S528x128) _ _ (ix2 r c) (ix2 r 0) (fun a => match a with | ⟨0, _⟩ => rfl | ⟨1, _⟩ => rfl)).trans ?_
  rw [divf_apply, sitofp_apply]
  have e : (minsi (addi (k0_pay4 i) (broadcast S528x1 1#32)) (broadcast S528x1 (BitVec.ofNat 32 w)) : IVec S528x1 32) (ix2 r 0)
      = IntOp.minsi (IntOp.addi (IntOp.addi (IntOp.muli (BitVec.ofNat 32 (i 0).val) 512#32) (BitVec.ofNat 32 r.val)) 1#32) (BitVec.ofNat 32 w) := by
    unfold k0_pay4
    show IntOp.minsi (IntOp.addi (IntOp.addi _ (iota .tc S528x1 32 [0] iota_S528x1_d0_w32 (ix2 r 0))) _) _ = _
    rw [iota_single_apply]
    rfl
  rw [e]
  show Ideal.div (Ideal.ofBits .f32 0x3F800000#32) (((BitVec.toInt _ : ℤ) : ℝ) : EReal) = _
  have hc : (cnt w (512 * (i 0).val + r.val) : ℝ) ≠ 0 := by
    have : 0 < cnt w (512 * (i 0).val + r.val) := by unfold cnt; omega
    exact_mod_cast this.ne'
  rw [cnt_word (i 0).val r.val w (i 0).isLt r.isLt hw, one_f32]
  rw [Int.cast_natCast, Ideal.div_coe hc, ← EReal.coe_mul, one_mul]
  rfl

/-- The row-rotation of 528 rows by `528 - k`, plus the unrotated rows: a window sum of `k` rows becomes one of `2k`. -/
theorem rot_apply (v : FVec Ideal S528x128 .f32) (k L : ℕ) (hk : k < 528) (hk0 : 0 < k) (f : ℕ → EReal) (c : Fin 128)
    (hv : ∀ r : Fin 528, r.val < L → v (ix2 r c) = ∑ j ∈ Finset.range k, f (r.val + j)) (hL : L ≤ 528)
    (r : Fin 528) (hr : r.val + k < L) :
    (addf v (dynamicRotate 0 (BitVec.ofNat 32 (528 - k)) none v rotates_S528x128_d0) : FVec Ideal S528x128 .f32) (ix2 r c)
      = ∑ j ∈ Finset.range (k + k), f (r.val + j) := by
  rw [addf_apply, Finset.sum_range_add, hv r (by omega)]
  congr 1
  have hrk : r.val + k < 528 := by omega
  have e : dynamicRotate 0 (BitVec.ofNat 32 (528 - k)) none v rotates_S528x128_d0 (ix2 r c) = v (ix2 ⟨r.val + k, hrk⟩ c) := by
    unfold dynamicRotate
    refine congrArg v (funext fun a => Fin.ext ?_)
    match a with
    | ⟨0, _⟩ =>
      show (r.val + 528 - (BitVec.ofNat 32 (528 - k)).toNat % 528) % 528 = r.val + k
      rw [BitVec.toNat_ofNat]
      rw [Nat.mod_eq_of_lt (show 528 - k < 2 ^ 32 by omega), Nat.mod_eq_of_lt (show 528 - k < 528 by omega)]
      omega
    | ⟨1, _⟩ => rfl
  rw [e, hv ⟨r.val + k, hrk⟩ hr]
  refine Finset.sum_congr rfl fun j _ => ?_
  show f (r.val + k + j) = f (r.val + (k + j))
  rw [Nat.add_assoc]

/-- The tile's slice of the last stage: the window sum minus the unpooled row. -/
theorem du_apply (v p : FVec Ideal S528x128 .f32) (V P : ℕ → EReal) (c : Fin 128)
    (hv : ∀ r : Fin 528, r.val < 512 → v (ix2 r c) = V r.val) (hp : ∀ r : Fin 528, p (ix2 r c) = P r.val) (r : Fin 512) :
    (subf (extractStridedSlice S512x128 ![0, 0] v slices_S528x128_o0_0_S512x128)
      (extractStridedSlice S512x128 ![0, 0] p slices_S528x128_o0_0_S512x128) : FVec Ideal S512x128 .f32) (ix2 r c)
      = V r.val - P r.val := by
  have h : r.val < 528 := by have := r.isLt; omega
  rw [subf_apply, extractStridedSlice_apply ![0, 0] v _ (ix2 r c) (ix2 ⟨r.val, h⟩ c)
      (fun a => match a with | ⟨0, _⟩ => (Nat.zero_add _).symm | ⟨1, _⟩ => (Nat.zero_add _).symm),
    extractStridedSlice_apply ![0, 0] p _ (ix2 r c) (ix2 ⟨r.val, h⟩ c)
      (fun a => match a with | ⟨0, _⟩ => (Nat.zero_add _).symm | ⟨1, _⟩ => (Nat.zero_add _).symm), hp,
    hv ⟨r.val, h⟩ r.isLt]

end Cert.Pool

end
-- ==== Proof.Tile.lean ====
module

public import proofs.«01_k».proof.Proof.Elem

/-! The stores of one grid point, read at an index: for each of the four groups the tile of the data gradient, the
increment of the weight gradient, the increment of the scale gradient. -/

@[expose] public section

set_option maxRecDepth 16384

noncomputable section

namespace Cert.Pool

open Cert.KernelIdeal Cert.KernelIdeal.Gen Idealize.ShloMosaic Idealize.ShloMosaic.TcCoe
open Idealize.ShloMosaic.ValueIdx

/-- One row of a group's scaled cotangent times the transposed weight. -/
def bp (D : ℕ → Fin 128 → EReal) (S : Fin 128 → EReal) (W : Fin 128 → Fin 128 → EReal) (r : ℕ) (c : Fin 128) : EReal :=
  ∑ k : Fin 128, D r k * S k * W c k

/-- The tile's data gradient for a window of `w` rows: the window sum of the averaged rows, minus the row itself. -/
def bdu (D : ℕ → Fin 128 → EReal) (S : Fin 128 → EReal) (W : Fin 128 → Fin 128 → EReal) (w n0 r : ℕ) (c : Fin 128) : EReal :=
  (∑ j ∈ Finset.range w, bp D S W (r + j) c * rcp w (n0 + (r + j))) - bp D S W r c

section Du

variable (i : grid0.Coords) (H : FVec Ideal S16x512 .f32) (sc : FVec Ideal S1x128 .f32) (d : FVec Ideal S512x128 .f32)
  (w : FVec Ideal S1x128x128 .bf16) (D : ℕ → Fin 128 → EReal) (S : Fin 128 → EReal) (W : Fin 128 → Fin 128 → EReal)

theorem win_two (p : FVec Ideal S528x128 .f32) (w : ℕ) (hw0 : 0 < w) (hw : w ≤ 16) (P : ℕ → Fin 128 → EReal)
    (hp : ∀ (r : Fin 528) (c : Fin 128), p (ix2 r c) = P r.val c) (v : FVec Ideal S528x128 .f32)
    (hv : v = mulf p (broadcastTo S528x128 (divf (broadcast S528x1 (Scalar.ofBits .f32 0x3F800000#32))
      (sitofp .f32 (minsi (addi (k0_pay4 i) (broadcast S528x1 1#32)) (broadcast S528x1 (BitVec.ofNat 32 w)))))
      broadcasts_S528x1_S528x128)) (c : Fin 128) (r : Fin 528) (hr : r.val + 1 < 528) :
    (addf v (dynamicRotate 0 527#32 none v rotates_S528x128_d0) : FVec Ideal S528x128 .f32) (ix2 r c)
      = ∑ j ∈ Finset.range 2, P (r.val + j) c * rcp w (512 * (i 0).val + (r.val + j)) := by
  refine rot_apply v 1 528 (by omega) (by omega) (fun n => P n c * rcp w (512 * (i 0).val + n)) c ?_ le_rfl r hr
  intro q _
  rw [hv, Finset.sum_range_one, scaled_apply i p w hw0 hw P hp q c, Nat.add_zero]

theorem pay10_apply
    (hd : ∀ (r : Fin 512) (c : Fin 128), d (ix2 r c) = D r.val c)
    (hh : ∀ (r : Fin 16) (c : Fin 128) (k : Fin 512), k.val = 0 + c.val → k0_pay3 (F := Ideal) i H (ix2 r k) = D (512 + r.val) c)
    (hS : ∀ c : Fin 128, sc (ix2 0 c) = S c) (hw : ∀ a b : Fin 128, w (ix3 0 a b) = W a b) (r : Fin 512) (c : Fin 128) :
    k0_pay10 (F := Ideal) (k0_pay4 i) (k0_pay7 (F := Ideal) i H sc d) w (ix2 r c) = bdu D S W 2 (512 * (i 0).val) r.val c := by
  unfold k0_pay10
  dsimp only
  have hp := dpool_apply (k0_pay7 (F := Ideal) i H sc d) w (fun r c => D r c * S c) W
    (fun r c => dmix_apply (k0_pay3 (F := Ideal) i H) sc d _ (by omega) D S hd hh hS r c) hw
  rw [truncf_apply]
  exact du_apply _ _ (fun r => ∑ j ∈ Finset.range 2, bp D S W (r + j) c * rcp 2 (512 * (i 0).val + (r + j))) (fun r => bp D S W r c) c
    (fun q hq => win_two i _ 2 (by omega) (by omega) (bp D S W) hp _ rfl c q (by omega)) (fun q => hp q c) r

theorem pay17_apply
    (hd : ∀ (r : Fin 512) (c : Fin 128), d (ix2 r c) = D r.val c)
    (hh : ∀ (r : Fin 16) (c : Fin 128) (k : Fin 512), k.val = 128 + c.val → k0_pay3 (F := Ideal) i H (ix2 r k) = D (512 + r.val) c)
    (hS : ∀ c : Fin 128, sc (ix2 0 c) = S c) (hw : ∀ a b : Fin 128, w (ix3 0 a b) = W a b) (r : Fin 512) (c : Fin 128) :
    k0_pay17 (F := Ideal) (k0_pay16 (F := Ideal) (k0_pay3 (F := Ideal) i H) (k0_pay4 i) sc d w) (ix2 r c) = bdu D S W 4 (512 * (i 0).val) r.val c := by
  unfold k0_pay17 k0_pay16
  dsimp only
  have hp := dpool_apply (k0_pay14 (F := Ideal) (k0_pay3 (F := Ideal) i H) sc d) w (fun r c => D r c * S c) W
    (fun r c => dmix_apply (k0_pay3 (F := Ideal) i H) sc d _ (by omega) D S hd hh hS r c) hw
  rw [truncf_apply]
  refine du_apply _ _ (fun r => ∑ j ∈ Finset.range 4, bp D S W (r + j) c * rcp 4 (512 * (i 0).val + (r + j))) (fun r => bp D S W r c) c
    (fun q hq => ?_) (fun q => hp q c) r
  refine rot_apply _ 2 527 (by omega) (by omega) (fun n => bp D S W n c * rcp 4 (512 * (i 0).val + n)) c ?_ (by omega) q (by omega)
  intro q hq
  exact win_two i _ 4 (by omega) (by omega) (bp D S W) hp _ rfl c q (by omega)

theorem pay22_apply
    (hd : ∀ (r : Fin 512) (c : Fin 128), d (ix2 r c) = D r.val c)
    (hh : ∀ (r : Fin 16) (c : Fin 128) (k : Fin 512), k.val = 256 + c.val → k0_pay3 (F := Ideal) i H (ix2 r k) = D (512 + r.val) c)
    (hS : ∀ c : Fin 128, sc (ix2 0 c) = S c) (hw : ∀ a b : Fin 128, w (ix3 0 a b) = W a b) (r : Fin 512) (c : Fin 128) :
    k0_pay22 (F := Ideal) (k0_pay4 i) (k0_pay20 (F := Ideal) (k0_pay3 (F := Ideal) i H) sc d) w (ix2 r c) = bdu D S W 8 (512 * (i 0).val) r.val c := by
  unfold k0_pay22
  dsimp only
  have hp := dpool_apply (k0_pay20 (F := Ideal) (k0_pay3 (F := Ideal) i H) sc d) w (fun r c => D r c * S c) W
    (fun r c => dmix_apply (k0_pay3 (F := Ideal) i H) sc d _ (by omega) D S hd hh hS r c) hw
  rw [truncf_apply]
  refine du_apply _ _ (fun r => ∑ j ∈ Finset.range 8, bp D S W (r + j) c * rcp 8 (512 * (i 0).val + (r + j))) (fun r => bp D S W r c) c
    (fun q hq => ?_) (fun q => hp q c) r
  refine rot_apply _ 4 525 (by omega) (by omega) (fun n => bp D S W n c * rcp 8 (512 * (i 0).val + n)) c ?_ (by omega) q (by omega)
  intro q hq
  refine rot_apply _ 2 527 (by omega) (by omega) (fun n => bp D S W n c * rcp 8 (512 * (i 0).val + n)) c ?_ (by omega) q (by omega)
  intro q hq
  exact win_two i _ 8 (by omega) (by omega) (bp D S W) hp _ rfl c q (by omega)

theorem pay27_apply
    (hd : ∀ (r : Fin 512) (c : Fin 128), d (ix2 r c) = D r.val c)
    (hh : ∀ (r : Fin 16) (c : Fin 128) (k : Fin 512), k.val = 384 + c.val → k0_pay3 (F := Ideal) i H (ix2 r k) = D (512 + r.val) c)
    (hS : ∀ c : Fin 128, sc (ix2 0 c) = S c) (hw : ∀ a b : Fin 128, w (ix3 0 a b) = W a b) (r : Fin 512) (c : Fin 128) :
    k0_pay27 (F := Ideal) (k0_pay3 (F := Ideal) i H) (k0_pay4 i) sc d w (ix2 r c) = bdu D S W 16 (512 * (i 0).val) r.val c := by
  unfold k0_pay27
  dsimp only
  have hp := dpool_apply (k0_pay25 (F := Ideal) (k0_pay3 (F := Ideal) i H) sc d) w (fun r c => D r c * S c) W
    (fun r c => dmix_apply (k0_pay3 (F := Ideal) i H) sc d _ (by omega) D S hd hh hS r c) hw
  rw [truncf_apply]
  refine du_apply _ _ (fun r => ∑ j ∈ Finset.range 16, bp D S W (r + j) c * rcp 16 (512 * (i 0).val + (r + j))) (fun r => bp D S W r c) c
    (fun q hq => ?_) (fun q => hp q c) r
  refine rot_apply _ 8 521 (by omega) (by omega) (fun n => bp D S W n c * rcp 16 (512 * (i 0).val + n)) c ?_ (by omega) q (by omega)
  intro q hq
  refine rot_apply _ 4 525 (by omega) (by omega) (fun n => bp D S W n c * rcp 16 (512 * (i 0).val + n)) c ?_ (by omega) q (by omega)
  intro q hq
  refine rot_apply _ 2 527 (by omega) (by omega) (fun n => bp D S W n c * rcp 16 (512 * (i 0).val + n)) c ?_ (by omega) q (by omega)
  intro q hq
  exact win_two i _ 16 (by omega) (by omega) (bp D S W) hp _ rfl c q (by omega)

/-! ## The weight gradient's increments -/

variable (pb : FVec Ideal S512x128 .bf16) (prev : FVec Ideal S1x128x128 .f32) (Q : Fin 512 → Fin 128 → EReal)

theorem pay9_apply
    (hd : ∀ (r : Fin 512) (c : Fin 128), d (ix2 r c) = D r.val c)
    (hh : ∀ (r : Fin 16) (c : Fin 128) (k : Fin 512), k.val = 0 + c.val → k0_pay3 (F := Ideal) i H (ix2 r k) = D (512 + r.val) c)
    (hS : ∀ c : Fin 128, sc (ix2 0 c) = S c) (hq : ∀ (r : Fin 512) (c : Fin 128), pb (ix2 r c) = Q r c) (z : Fin 1) (a b : Fin 128) :
    k0_pay9 (F := Ideal) (k0_pay5 (F := Ideal) pb) (k0_pay7 (F := Ideal) i H sc d) (k0_pay8 (F := Ideal) prev) (ix3 z a b)
      = prev (ix3 z a b) + ∑ r : Fin 512, Q r a * (D r.val b * S b) :=
  dw_apply pb (k0_pay7 (F := Ideal) i H sc d) prev Q (fun r c => D r c * S c) hq (fun r c => dmix_apply (k0_pay3 (F := Ideal) i H) sc d _ (by omega) D S hd hh hS r c) z a b

theorem pay15_apply
    (hd : ∀ (r : Fin 512) (c : Fin 128), d (ix2 r c) = D r.val c)
    (hh : ∀ (r : Fin 16) (c : Fin 128) (k : Fin 512), k.val = 128 + c.val → k0_pay3 (F := Ideal) i H (ix2 r k) = D (512 + r.val) c)
    (hS : ∀ c : Fin 128, sc (ix2 0 c) = S c) (hq : ∀ (r : Fin 512) (c : Fin 128), pb (ix2 r c) = Q r c) (z : Fin 1) (a b : Fin 128) :
    k0_pay15 (F := Ideal) (k0_pay3 (F := Ideal) i H) sc d (k0_pay11 (F := Ideal) pb) prev (ix3 z a b)
      = prev (ix3 z a b) + ∑ r : Fin 512, Q r a * (D r.val b * S b) :=
  dw_apply pb (k0_pay14 (F := Ideal) (k0_pay3 (F := Ideal) i H) sc d) prev Q (fun r c => D r c * S c) hq (fun r c => dmix_apply (k0_pay3 (F := Ideal) i H) sc d _ (by omega) D S hd hh hS r c) z a b

theorem pay21_apply
    (hd : ∀ (r : Fin 512) (c : Fin 128), d (ix2 r c) = D r.val c)
    (hh : ∀ (r : Fin 16) (c : Fin 128) (k : Fin 512), k.val = 256 + c.val → k0_pay3 (F := Ideal) i H (ix2 r k) = D (512 + r.val) c)
    (hS : ∀ c : Fin 128, sc (ix2 0 c) = S c) (hq : ∀ (r : Fin 512) (c : Fin 128), pb (ix2 r c) = Q r c) (z : Fin 1) (a b : Fin 128) :
    k0_pay21 (F := Ideal) (k0_pay3 (F := Ideal) i H) sc d pb prev (ix3 z a b)
      = prev (ix3 z a b) + ∑ r : Fin 512, Q r a * (D r.val b * S b) :=
  dw_apply pb (k0_pay20 (F := Ideal) (k0_pay3 (F := Ideal) i H) sc d) prev Q (fun r c => D r c * S c) hq (fun r c => dmix_apply (k0_pay3 (F := Ideal) i H) sc d _ (by omega) D S hd hh hS r c) z a b

theorem pay26_apply
    (hd : ∀ (r : Fin 512) (c : Fin 128), d (ix2 r c) = D r.val c)
    (hh : ∀ (r : Fin 16) (c : Fin 128) (k : Fin 512), k.val = 384 + c.val → k0_pay3 (F := Ideal) i H (ix2 r k) = D (512 + r.val) c)
    (hS : ∀ c : Fin 128, sc (ix2 0 c) = S c) (hq : ∀ (r : Fin 512) (c : Fin 128), pb (ix2 r c) = Q r c) (z : Fin 1) (a b : Fin 128) :
    k0_pay26 (F := Ideal) (k0_pay3 (F := Ideal) i H) sc d (k0_pay23 (F := Ideal) pb) prev (ix3 z a b)
      = prev (ix3 z a b) + ∑ r : Fin 512, Q r a * (D r.val b * S b) :=
  dw_apply pb (k0_pay25 (F := Ideal) (k0_pay3 (F := Ideal) i H) sc d) prev Q (fun r c => D r c * S c) hq (fun r c => dmix_apply (k0_pay3 (F := Ideal) i H) sc d _ (by omega) D S hd hh hS r c) z a b

end Du

/-! ## The scale gradient's increments: the four groups' payloads are one function -/

theorem pay6_apply (d : FVec Ideal S512x128 .f32) (pb : FVec Ideal S512x128 .bf16) (w : FVec Ideal S1x128x128 .bf16)
    (prev : FVec Ideal S1x128 .f32) (D Q : Fin 512 → Fin 128 → EReal) (W : Fin 128 → Fin 128 → EReal)
    (hd : ∀ (r : Fin 512) (c : Fin 128), d (ix2 r c) = D r c) (hq : ∀ (r : Fin 512) (c : Fin 128), pb (ix2 r c) = Q r c)
    (hw : ∀ a b : Fin 128, w (ix3 0 a b) = W a b) (z : Fin 1) (c : Fin 128) :
    k0_pay6 (F := Ideal) d pb w prev (ix2 z c) = prev (ix2 z c) + ∑ r : Fin 512, D r c * ∑ k : Fin 128, Q r k * W k c :=
  ds_apply d _ prev D _ hd (mixed_apply pb w Q W hq hw) z c

theorem pay13_eq (d : FVec Ideal S512x128 .f32) (pb : FVec Ideal S512x128 .bf16) (w : FVec Ideal S1x128x128 .bf16)
    (prev : FVec Ideal S1x128 .f32) : k0_pay13 (F := Ideal) d (k0_pay12 (F := Ideal) pb w) prev = k0_pay6 (F := Ideal) d pb w prev := rfl
theorem pay19_eq (d : FVec Ideal S512x128 .f32) (pb : FVec Ideal S512x128 .bf16) (w : FVec Ideal S1x128x128 .bf16)
    (prev : FVec Ideal S1x128 .f32) : k0_pay19 (F := Ideal) d pb w prev = k0_pay6 (F := Ideal) d pb w prev := rfl
theorem pay24_eq (d : FVec Ideal S512x128 .f32) (pb : FVec Ideal S512x128 .bf16) (w : FVec Ideal S1x128x128 .bf16)
    (prev : FVec Ideal S1x128 .f32) : k0_pay24 (F := Ideal) d pb w prev = k0_pay6 (F := Ideal) d pb w prev := rfl

end Cert.Pool

end
-- ==== Proof.Blocks.lean ====
module

public import proofs.«01_k».proof.Proof.Tile
public import proofs.«01_k».proof.Proof.Gen.KernelIdeal.Value
public import Idealize.ShloMosaic.Lib.Pipeline.ValueKit
public import Idealize.ShloMosaic.Lib.Pipeline.ReadBack

/-! The kernel's three result arrays as functions of the arrays it is launched on: the data gradient tile by tile, the
weight and scale gradients as sums over the sixteen tiles. -/

@[expose] public section

set_option maxRecDepth 16384

noncomputable section

namespace Cert.Pool

open Cert.KernelIdeal Cert.KernelIdeal.Gen Idealize.SL.Sem Idealize.ShloMosaic.Tactic
open Idealize.ShloMosaic hiding ix0 ix1 ix2 ix3 ix4 ix5
open Idealize.ShloMosaic.TcCoe Idealize.ShloMosaic.ValueIdx
open Idealize.ShloMosaic.Pipeline (Dat)

/-- A tall array continued by zero below its last row. -/
def ext (X : S8192x512.Idx → EReal) (n : ℕ) (k : Fin 512) : EReal := if h : n < 8192 then X (ix2 ⟨n, h⟩ k) else 0

/-- Column `c` of group `g`. -/
def gcol (g : Fin 4) (c : Fin 128) : Fin 512 := ⟨128 * g.val + c.val, by have := g.isLt; have := c.isLt; omega⟩

theorem ext_of (X : S8192x512.Idx → EReal) (n : ℕ) (k : Fin 512) (i : Fin 8192) (hi : i.val = n) : X (ix2 i k) = ext X n k := by
  subst hi; unfold ext; rw [dif_pos i.isLt]

theorem ext_big (X : S8192x512.Idx → EReal) (n : ℕ) (k : Fin 512) (h : 8192 ≤ n) : ext X n k = 0 := dif_neg (by omega)

theorem gcol_of (k : Fin 512) (g : Fin 4) (c : Fin 128) (h : k.val = 128 * g.val + c.val) : k = gcol g c := Fin.ext h

/-- The column's group, and its place in the group. -/
def grp (k : Fin 512) : Fin 4 := ⟨k.val / 128, by have := k.isLt; omega⟩
def lan (k : Fin 512) : Fin 128 := ⟨k.val % 128, by omega⟩

theorem grp_of (k : Fin 512) (g : Fin 4) (c : Fin 128) (h : k.val = 128 * g.val + c.val) : grp k = g :=
  Fin.ext (by have := c.isLt; show k.val / 128 = g.val; omega)
theorem lan_of (k : Fin 512) (g : Fin 4) (c : Fin 128) (h : k.val = 128 * g.val + c.val) : lan k = c :=
  Fin.ext (by have := c.isLt; show k.val % 128 = c.val; omega)
theorem gcol_grp_lan (k : Fin 512) : gcol (grp k) (lan k) = k := Fin.ext (by show 128 * (k.val / 128) + k.val % 128 = k.val; omega)

/-! ## The three results over arrays: `X` the cotangent, `Q` the pooled activations, `W` the mixing weights, `s` the scale -/

section Arrays

variable (X Q : S8192x512.Idx → EReal) (W : S4x128x128.Idx → EReal) (s : S1x512.Idx → EReal)

def gX (g : Fin 4) (n : ℕ) (c : Fin 128) : EReal := ext X n (gcol g c)
def gS (g : Fin 4) (c : Fin 128) : EReal := s (ix2 0 (gcol g c))
def gW (g : Fin 4) (a b : Fin 128) : EReal := W (ix3 g a b)

def duOf (n : ℕ) (k : Fin 512) : EReal := bdu (gX X (grp k)) (gS s (grp k)) (gW W (grp k)) (2 ^ ((grp k).val + 1)) 0 n (lan k)

def dwTerm (t : ℕ) (y : S4x128x128.Idx) : EReal :=
  ∑ r : Fin 512, gX Q (y 0) (512 * t + r.val) (y 1) * (gX X (y 0) (512 * t + r.val) (y 2) * gS s (y 0) (y 2))

def dsTerm (t : ℕ) (y : S1x512.Idx) : EReal :=
  ∑ r : Fin 512, gX X (grp (y 1)) (512 * t + r.val) (lan (y 1))
    * ∑ k : Fin 128, gX Q (grp (y 1)) (512 * t + r.val) k * gW W (grp (y 1)) k (lan (y 1))

theorem bdu_shift (D : ℕ → Fin 128 → EReal) (S : Fin 128 → EReal) (V : Fin 128 → Fin 128 → EReal) (w n0 r : ℕ) (c : Fin 128) :
    bdu (fun n => D (n0 + n)) S V w n0 r c = bdu D S V w 0 (n0 + r) c := by
  unfold bdu bp
  simp only [Nat.zero_add, Nat.add_assoc]

end Arrays

/-! ## The launch's blocks -/

variable (m : (ℓ : Loc nD τ sig) → Buf (Elt Ideal) ℓ) (c : Dev nD)

/-- The arrays that the launch finds: cotangent, pooled activations, mixing weights, scale. -/
abbrev aX : S8192x512.Idx → EReal := V m c main_arg3
abbrev aQ : S8192x512.Idx → EReal := V m c main_v69
abbrev aW : S4x128x128.Idx → EReal := V m c main_v70
abbrev aS : S1x512.Idx → EReal := V m c main_arg2

theorem idx0 : ∀ t : Fin cfg0.N, win0_0.index t = ![t.val, 0] := (by decide +kernel : ∀ t : Fin grid0.N, win0_0.index t = ![t.val, 0])
theorem idx1 : ∀ t : Fin cfg0.N, win0_1.index t = ![min (32 * (t.val + 1)) 511, 0] := (by decide +kernel : ∀ t : Fin grid0.N, win0_1.index t = ![min (32 * (t.val + 1)) 511, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem coord : ∀ t : Fin cfg0.N, (grid0.coords t 0).val = t.val := (by decide +kernel : ∀ t : Fin grid0.N, (grid0.coords t 0).val = t.val)
theorem tlt (t : Fin cfg0.N) : t.val < 16 := t.isLt

theorem rd0 (t : Fin cfg0.N) (r k : Fin 512) : iblk m c 0 t (ix2 r k) = ext (aX m c) (512 * t.val + r.val) k := by
  have := tlt t
  refine Eq.trans ?_ (ext_of _ _ k ⟨512 * t.val + r.val, by omega⟩ rfl)
  blk_ext [iblk, idx0 t]
  show t.val * 512 + r.val = _
  omega

theorem rd1 (t : Fin cfg0.N) (ht : t.val < 15) (r : Fin 16) (k : Fin 512) : iblk m c 1 t (ix2 r k) = ext (aX m c) (512 * t.val + (512 + r.val)) k := by
  refine Eq.trans ?_ (ext_of _ _ k ⟨512 * t.val + (512 + r.val), by omega⟩ rfl)
  blk_ext [iblk, idx1 t]
  show min (32 * (t.val + 1)) 511 * 16 + r.val = _
  omega

theorem rd2 (t : Fin cfg0.N) (r k : Fin 512) : iblk m c 2 t (ix2 r k) = ext (aQ m c) (512 * t.val + r.val) k := by
  have := tlt t
  refine Eq.trans ?_ (ext_of _ _ k ⟨512 * t.val + r.val, by omega⟩ rfl)
  blk_ext [iblk, idx2 t]
  show t.val * 512 + r.val = _
  omega

theorem rd3 (t : Fin cfg0.N) (g : Fin 4) (a b : Fin 128) : iblk m c 3 t (ix3 g a b) = aW m c (ix3 g a b) := by
  blk_ext [iblk, idx3 t]

theorem rd4 (t : Fin cfg0.N) (z : Fin 1) (k : Fin 512) : iblk m c 4 t (ix2 z k) = aS m c (ix2 z k) := by
  blk_ext [iblk, idx4 t]

theorem cmp15 : ∀ t : Fin cfg0.N, Scalar.cmpi .eq (BitVec.ofNat 32 (grid0.coords t 0).val) 15#32 = if t.val = 15 then 1#1 else 0#1 :=
  (by decide +kernel : ∀ t : Fin grid0.N, Scalar.cmpi .eq (BitVec.ofNat 32 (grid0.coords t 0).val) 15#32 = if t.val = 15 then 1#1 else 0#1)

theorem halo (t : Fin cfg0.N) (r : Fin 16) (k : Fin 512) :
    k0_pay3 (F := Ideal) (grid0.coords t) (iblk m c 1 t) (ix2 r k) = ext (aX m c) (512 * t.val + (512 + r.val)) k := by
  have h16 := tlt t
  unfold k0_pay3
  dsimp only
  rw [cmp15 t]
  by_cases h : t.val = 15
  · rw [ext_big _ _ _ (by omega), if_pos h]
    show (Scalar.ofBits FTy.f32 0x00000000#32 : Ideal .f32) = 0
    exact Ideal.ofBits_zero_f32
  · rw [← rd1 m c t (by omega), if_neg h]
    rfl

theorem ldTile {e : EltTy} (Y : S512x512.Idx → Elt Ideal e) (g : Fin 4) (off : ℕ) (ho : off = 128 * g.val) (inb) (r : Fin 512) (k : Fin 128) :
    View.ld (S := S512x512) Y (Rect.unit ![0, off] ![512, 128] inb) (ix2 r k) = Y (ix2 r (gcol g k)) :=
  View.ld_unit_apply_of _ _ _ _ _ (ix2 r (gcol g k)) (fun a => match a with
    | ⟨0, _⟩ => (Nat.zero_add _).symm | ⟨1, _⟩ => by subst ho; rfl)

theorem ldRow {e : EltTy} (Y : S1x512.Idx → Elt Ideal e) (g : Fin 4) (off : ℕ) (ho : off = 128 * g.val) (inb) (z : Fin 1) (k : Fin 128) :
    View.ld (S := S1x512) Y (Rect.unit ![0, off] ![1, 128] inb) (ix2 z k) = Y (ix2 z (gcol g k)) :=
  View.ld_unit_apply_of _ _ _ _ _ (ix2 z (gcol g k)) (fun a => match a with
    | ⟨0, _⟩ => (Nat.zero_add _).symm | ⟨1, _⟩ => by subst ho; rfl)

theorem ldMat {e : EltTy} (Y : S4x128x128.Idx → Elt Ideal e) (g : Fin 4) (off : ℕ) (ho : off = g.val) (inb) (z : Fin 1) (a b : Fin 128) :
    View.ld (S := S4x128x128) Y (Rect.unit ![off, 0, 0] ![1, 128, 128] inb) (ix3 z a b) = Y (ix3 g a b) :=
  View.ld_unit_apply_of _ _ _ _ _ (ix3 g a b) (fun d => match d with
    | ⟨0, _⟩ => by subst ho; have := z.isLt; show g.val = g.val + z.val; omega
    | ⟨1, _⟩ => (Nat.zero_add _).symm | ⟨2, _⟩ => (Nat.zero_add _).symm)

theorem ld0 (t : Fin cfg0.N) (g : Fin 4) (off : ℕ) (ho : off = 128 * g.val) (inb) (r : Fin 512) (k : Fin 128) :
    View.ld (S := S512x512) (iblk m c 0 t) (Rect.unit ![0, off] ![512, 128] inb) (ix2 r k) = gX (aX m c) g (512 * t.val + r.val) k :=
  (ldTile (e := .f32) (iblk m c 0 t) g off ho inb r k).trans (rd0 m c t r _)

theorem ld2 (t : Fin cfg0.N) (g : Fin 4) (off : ℕ) (ho : off = 128 * g.val) (inb) (r : Fin 512) (k : Fin 128) :
    View.ld (S := S512x512) (iblk m c 2 t) (Rect.unit ![0, off] ![512, 128] inb) (ix2 r k) = gX (aQ m c) g (512 * t.val + r.val) k :=
  (ldTile (e := .bf16) (iblk m c 2 t) g off ho inb r k).trans (rd2 m c t r _)

theorem ld3 (t : Fin cfg0.N) (g : Fin 4) (off : ℕ) (ho : off = g.val) (inb) (a b : Fin 128) :
    View.ld (S := S4x128x128) (iblk m c 3 t) (Rect.unit ![off, 0, 0] ![1, 128, 128] inb) (ix3 0 a b) = gW (aW m c) g a b :=
  (ldMat (e := .bf16) (iblk m c 3 t) g off ho inb 0 a b).trans (rd3 m c t g a b)

theorem ld4 (t : Fin cfg0.N) (g : Fin 4) (off : ℕ) (ho : off = 128 * g.val) (inb) (k : Fin 128) :
    View.ld (S := S1x512) (iblk m c 4 t) (Rect.unit ![0, off] ![1, 128] inb) (ix2 0 k) = gS (aS m c) g k :=
  (ldRow (e := .f32) (iblk m c 4 t) g off ho inb 0 k).trans (rd4 m c t 0 _)

theorem haloOf (t : Fin cfg0.N) (g : Fin 4) (off : ℕ) (ho : off = 128 * g.val) (r : Fin 16) (q : Fin 128) (k : Fin 512)
    (hk : k.val = off + q.val) :
    k0_pay3 (F := Ideal) (grid0.coords t) (iblk m c 1 t) (ix2 r k) = gX (aX m c) g (512 * t.val + (512 + r.val)) q := by
  rw [halo, gcol_of k g q (by omega)]; rfl

/-! ## The data gradient -/

theorem duOf_eq (t : Fin cfg0.N) (g : Fin 4) (w : ℕ) (hw : w = 2 ^ (g.val + 1)) (r : ℕ) (q : Fin 128) (k : Fin 512) (hk : k.val = 128 * g.val + q.val)
    (n : ℕ) (hn : n = 512 * t.val + r) :
    bdu (fun n => gX (aX m c) g (512 * t.val + n)) (gS (aS m c) g) (gW (aW m c) g) w (512 * (grid0.coords t 0).val) r q
      = duOf (aX m c) (aW m c) (aS m c) n k := by
  subst hn hw
  rw [coord]
  unfold duOf
  rw [grp_of k g q hk, lan_of k g q hk]
  exact bdu_shift (gX (aX m c) g) _ _ _ _ _ _

/-- Pieces stored over a fill, where the pieces already cover the buffer. -/
theorem canon_drop_fill {S : Shape} {e : EltTy} (L' : List (View.Piece (Elt Ideal) S e)) (y : S.Idx) :
    ∀ (L : List (View.Piece (Elt Ideal) S e)) (_ : ∃ p ∈ L, y ∈ p.1.set), View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop_fill L' y L ?_
      obtain ⟨q, hq, hy⟩ := h
      rcases List.mem_cons.mp hq with rfl | hq
      · exact absurd hy hm
      · exact ⟨q, hq, hy⟩

theorem du_piece3 (t : Fin cfg0.N) (y : S512x512.Idx) (x : S512x128.Idx) (h0 : (y 0).val = (x 0).val) (h1 : (y 1).val = 384 + (x 1).val) :
    k0_pay27 (F := Ideal) (k0_pay3 (grid0.coords t) (iblk m c 1 t)) (k0_pay4 (grid0.coords t)) (View.ld (S := S1x512) (iblk m c 4 t) (Rect.unit ![0, 384] ![1, 128] inb_S1x512_S1x128_0_384)) (View.ld (S := S512x512) (iblk m c 0 t) (Rect.unit ![0, 384] ![512, 128] inb_S512x512_S512x128_0_384)) (View.ld (S := S4x128x128) (iblk m c 3 t) (Rect.unit ![3, 0, 0] ![1, 128, 128] inb_S4x128x128_S1x128x128_3_0_0)) x
      = duOf (aX m c) (aW m c) (aS m c) (512 * t.val + (y 0).val) (y 1) := by
  rw [ValueIdx.eq_ix2 x]
  exact (pay27_apply _ _ _ _ _ (fun n => gX (aX m c) 3 (512 * t.val + n)) (gS (aS m c) 3) (gW (aW m c) 3) (ld0 m c t 3 384 rfl _)
    (haloOf m c t 3 384 rfl) (ld4 m c t 3 384 rfl _) (ld3 m c t 3 3 rfl _) (x 0) (x 1)).trans
    (duOf_eq m c t 3 16 rfl _ _ _ h1 _ (by omega))

theorem du_piece2 (t : Fin cfg0.N) (y : S512x512.Idx) (x : S512x128.Idx) (h0 : (y 0).val = (x 0).val) (h1 : (y 1).val = 256 + (x 1).val) :
    k0_pay22 (F := Ideal) (k0_pay4 (grid0.coords t)) (k0_pay20 (k0_pay3 (grid0.coords t) (iblk m c 1 t)) (View.ld (S := S1x512) (iblk m c 4 t) (Rect.unit ![0, 256] ![1, 128] inb_S1x512_S1x128_0_256)) (View.ld (S := S512x512) (iblk m c 0 t) (Rect.unit ![0, 256] ![512, 128] inb_S512x512_S512x128_0_256))) (View.ld (S := S4x128x128) (iblk m c 3 t) (Rect.unit ![2, 0, 0] ![1, 128, 128] inb_S4x128x128_S1x128x128_2_0_0)) x
      = duOf (aX m c) (aW m c) (aS m c) (512 * t.val + (y 0).val) (y 1) := by
  rw [ValueIdx.eq_ix2 x]
  exact (pay22_apply _ _ _ _ _ (fun n => gX (aX m c) 2 (512 * t.val + n)) (gS (aS m c) 2) (gW (aW m c) 2) (ld0 m c t 2 256 rfl _)
    (haloOf m c t 2 256 rfl) (ld4 m c t 2 256 rfl _) (ld3 m c t 2 2 rfl _) (x 0) (x 1)).trans
    (duOf_eq m c t 2 8 rfl _ _ _ h1 _ (by omega))

theorem du_piece1 (t : Fin cfg0.N) (y : S512x512.Idx) (x : S512x128.Idx) (h0 : (y 0).val = (x 0).val) (h1 : (y 1).val = 128 + (x 1).val) :
    k0_pay17 (F := Ideal) (k0_pay16 (k0_pay3 (grid0.coords t) (iblk m c 1 t)) (k0_pay4 (grid0.coords t)) (View.ld (S := S1x512) (iblk m c 4 t) (Rect.unit ![0, 128] ![1, 128] inb_S1x512_S1x128_0_128)) (View.ld (S := S512x512) (iblk m c 0 t) (Rect.unit ![0, 128] ![512, 128] inb_S512x512_S512x128_0_128)) (View.ld (S := S4x128x128) (iblk m c 3 t) (Rect.unit ![1, 0, 0] ![1, 128, 128] inb_S4x128x128_S1x128x128_1_0_0))) x
      = duOf (aX m c) (aW m c) (aS m c) (512 * t.val + (y 0).val) (y 1) := by
  rw [ValueIdx.eq_ix2 x]
  exact (pay17_apply _ _ _ _ _ (fun n => gX (aX m c) 1 (512 * t.val + n)) (gS (aS m c) 1) (gW (aW m c) 1) (ld0 m c t 1 128 rfl _)
    (haloOf m c t 1 128 rfl) (ld4 m c t 1 128 rfl _) (ld3 m c t 1 1 rfl _) (x 0) (x 1)).trans
    (duOf_eq m c t 1 4 rfl _ _ _ h1 _ (by omega))

theorem du_piece0 (t : Fin cfg0.N) (y : S512x512.Idx) (x : S512x128.Idx) (h0 : (y 0).val = (x 0).val) (h1 : (y 1).val = 0 + (x 1).val) :
    k0_pay10 (F := Ideal) (k0_pay4 (grid0.coords t)) (k0_pay7 (grid0.coords t) (iblk m c 1 t) (View.ld (S := S1x512) (iblk m c 4 t) (Rect.unit ![0, 0] ![1, 128] inb_S1x512_S1x128_0_0)) (View.ld (S := S512x512) (iblk m c 0 t) (Rect.unit ![0, 0] ![512, 128] inb_S512x512_S512x128_0_0))) (View.ld (S := S4x128x128) (iblk m c 3 t) (Rect.unit ![0, 0, 0] ![1, 128, 128] inb_S4x128x128_S1x128x128_0_0_0)) x
      = duOf (aX m c) (aW m c) (aS m c) (512 * t.val + (y 0).val) (y 1) := by
  rw [ValueIdx.eq_ix2 x]
  exact (pay10_apply _ _ _ _ _ (fun n => gX (aX m c) 0 (512 * t.val + n)) (gS (aS m c) 0) (gW (aW m c) 0) (ld0 m c t 0 0 rfl _)
    (haloOf m c t 0 0 rfl) (ld4 m c t 0 0 rfl _) (ld3 m c t 0 0 rfl _) (x 0) (x 1)).trans
    (duOf_eq m c t 0 2 rfl _ _ _ h1 _ (by omega))

theorem du_point (t : Fin cfg0.N) (y : S512x512.Idx) :
    (outsAt0 m c t.val t.isLt).1 y = duOf (aX m c) (aW m c) (aS m c) (512 * t.val + (y 0).val) (y 1) := by
  by_cases h0 : t.val % 16 = 0
  · rw [outsAt0_A m c t h0]
    frame_out
    canon_tiles x h
    · exact du_piece3 m c t y x h0 h1
    · exact du_piece2 m c t y x h0 h1
    · exact du_piece1 m c t y x h0 h1
    · exact du_piece0 m c t y x h0 (by omega)
  · rw [outsAt0_B m c t h0]
    frame_out
    canon_tiles x h
    · exact du_piece3 m c t y x h0 h1
    · exact du_piece2 m c t y x h0 h1
    · exact du_piece1 m c t y x h0 h1
    · exact du_piece0 m c t y x h0 (by omega)

/-! ## The weight gradient -/

theorem dw_piece3 (t : Fin cfg0.N) (prev : FVec Ideal S4x128x128 .f32) (y : S4x128x128.Idx) (x : S1x128x128.Idx)
    (h0 : (y 0).val = 3 + (x 0).val) (h1 : (y 1).val = (x 1).val) (h2 : (y 2).val = (x 2).val) :
    k0_pay26 (F := Ideal) (k0_pay3 (grid0.coords t) (iblk m c 1 t)) (View.ld (S := S1x512) (iblk m c 4 t) (Rect.unit ![0, 384] ![1, 128] inb_S1x512_S1x128_0_384)) (View.ld (S := S512x512) (iblk m c 0 t) (Rect.unit ![0, 384] ![512, 128] inb_S512x512_S512x128_0_384)) (k0_pay23 (View.ld (S := S512x512) (iblk m c 2 t) (Rect.unit ![0, 384] ![512, 128] inb_S512x512_S512x128_0_384))) (View.ld (S := S4x128x128) prev (Rect.unit ![3, 0, 0] ![1, 128, 128] inb_S4x128x128_S1x128x128_3_0_0)) x
      = prev y + dwTerm (aX m c) (aQ m c) (aS m c) t.val y := by
  obtain ⟨z, a, b, rfl⟩ : ∃ (z : Fin 1) (a b : Fin 128), x = ix3 z a b := ⟨x 0, x 1, x 2, ValueIdx.eq_ix3 x⟩
  obtain rfl : y = ix3 3 a b := by
    rw [ValueIdx.eq_ix3 y]
    have := z.isLt
    have e0 : y 0 = (3 : Fin 4) := Fin.ext (by show (y 0).val = 3; exact h0.trans (by show 3 + z.val = 3; omega))
    rw [e0, show y 1 = a from Fin.ext h1, show y 2 = b from Fin.ext h2]
    rfl
  refine (pay26_apply _ _ _ _ (fun n => gX (aX m c) 3 (512 * t.val + n)) (gS (aS m c) 3) _ _ (fun r k => gX (aQ m c) 3 (512 * t.val + r.val) k) (ld0 m c t 3 384 rfl _)
    (haloOf m c t 3 384 rfl) (ld4 m c t 3 384 rfl _) (ld2 m c t 3 384 rfl _) z a b).trans ?_
  rw [ldMat (e := .f32) prev 3 3 rfl _ _ _ _]
  rfl

theorem dw_piece2 (t : Fin cfg0.N) (prev : FVec Ideal S4x128x128 .f32) (y : S4x128x128.Idx) (x : S1x128x128.Idx)
    (h0 : (y 0).val = 2 + (x 0).val) (h1 : (y 1).val = (x 1).val) (h2 : (y 2).val = (x 2).val) :
    k0_pay21 (F := Ideal) (k0_pay3 (grid0.coords t) (iblk m c 1 t)) (View.ld (S := S1x512) (iblk m c 4 t) (Rect.unit ![0, 256] ![1, 128] inb_S1x512_S1x128_0_256)) (View.ld (S := S512x512) (iblk m c 0 t) (Rect.unit ![0, 256] ![512, 128] inb_S512x512_S512x128_0_256)) (View.ld (S := S512x512) (iblk m c 2 t) (Rect.unit ![0, 256] ![512, 128] inb_S512x512_S512x128_0_256)) (View.ld (S := S4x128x128) prev (Rect.unit ![2, 0, 0] ![1, 128, 128] inb_S4x128x128_S1x128x128_2_0_0)) x
      = prev y + dwTerm (aX m c) (aQ m c) (aS m c) t.val y := by
  obtain ⟨z, a, b, rfl⟩ : ∃ (z : Fin 1) (a b : Fin 128), x = ix3 z a b := ⟨x 0, x 1, x 2, ValueIdx.eq_ix3 x⟩
  obtain rfl : y = ix3 2 a b := by
    rw [ValueIdx.eq_ix3 y]
    have := z.isLt
    have e0 : y 0 = (2 : Fin 4) := Fin.ext (by show (y 0).val = 2; exact h0.trans (by show 2 + z.val = 2; omega))
    rw [e0, show y 1 = a from Fin.ext h1, show y 2 = b from Fin.ext h2]
    rfl
  refine (pay21_apply _ _ _ _ (fun n => gX (aX m c) 2 (512 * t.val + n)) (gS (aS m c) 2) _ _ (fun r k => gX (aQ m c) 2 (512 * t.val + r.val) k) (ld0 m c t 2 256 rfl _)
    (haloOf m c t 2 256 rfl) (ld4 m c t 2 256 rfl _) (ld2 m c t 2 256 rfl _) z a b).trans ?_
  rw [ldMat (e := .f32) prev 2 2 rfl _ _ _ _]
  rfl

theorem dw_piece1 (t : Fin cfg0.N) (prev : FVec Ideal S4x128x128 .f32) (y : S4x128x128.Idx) (x : S1x128x128.Idx)
    (h0 : (y 0).val = 1 + (x 0).val) (h1 : (y 1).val = (x 1).val) (h2 : (y 2).val = (x 2).val) :
    k0_pay15 (F := Ideal) (k0_pay3 (grid0.coords t) (iblk m c 1 t)) (View.ld (S := S1x512) (iblk m c 4 t) (Rect.unit ![0, 128] ![1, 128] inb_S1x512_S1x128_0_128)) (View.ld (S := S512x512) (iblk m c 0 t) (Rect.unit ![0, 128] ![512, 128] inb_S512x512_S512x128_0_128)) (k0_pay11 (View.ld (S := S512x512) (iblk m c 2 t) (Rect.unit ![0, 128] ![512, 128] inb_S512x512_S512x128_0_128))) (View.ld (S := S4x128x128) prev (Rect.unit ![1, 0, 0] ![1, 128, 128] inb_S4x128x128_S1x128x128_1_0_0)) x
      = prev y + dwTerm (aX m c) (aQ m c) (aS m c) t.val y := by
  obtain ⟨z, a, b, rfl⟩ : ∃ (z : Fin 1) (a b : Fin 128), x = ix3 z a b := ⟨x 0, x 1, x 2, ValueIdx.eq_ix3 x⟩
  obtain rfl : y = ix3 1 a b := by
    rw [ValueIdx.eq_ix3 y]
    have := z.isLt
    have e0 : y 0 = (1 : Fin 4) := Fin.ext (by show (y 0).val = 1; exact h0.trans (by show 1 + z.val = 1; omega))
    rw [e0, show y 1 = a from Fin.ext h1, show y 2 = b from Fin.ext h2]
    rfl
  refine (pay15_apply _ _ _ _ (fun n => gX (aX m c) 1 (512 * t.val + n)) (gS (aS m c) 1) _ _ (fun r k => gX (aQ m c) 1 (512 * t.val + r.val) k) (ld0 m c t 1 128 rfl _)
    (haloOf m c t 1 128 rfl) (ld4 m c t 1 128 rfl _) (ld2 m c t 1 128 rfl _) z a b).trans ?_
  rw [ldMat (e := .f32) prev 1 1 rfl _ _ _ _]
  rfl

theorem dw_piece0 (t : Fin cfg0.N) (prev : FVec Ideal S4x128x128 .f32) (y : S4x128x128.Idx) (x : S1x128x128.Idx)
    (h0 : (y 0).val = 0 + (x 0).val) (h1 : (y 1).val = (x 1).val) (h2 : (y 2).val = (x 2).val) :
    k0_pay9 (F := Ideal) (k0_pay5 (View.ld (S := S512x512) (iblk m c 2 t) (Rect.unit ![0, 0] ![512, 128] inb_S512x512_S512x128_0_0))) (k0_pay7 (grid0.coords t) (iblk m c 1 t) (View.ld (S := S1x512) (iblk m c 4 t) (Rect.unit ![0, 0] ![1, 128] inb_S1x512_S1x128_0_0)) (View.ld (S := S512x512) (iblk m c 0 t) (Rect.unit ![0, 0] ![512, 128] inb_S512x512_S512x128_0_0))) (k0_pay8 (View.ld (S := S4x128x128) prev (Rect.unit ![0, 0, 0] ![1, 128, 128] inb_S4x128x128_S1x128x128_0_0_0))) x
      = prev y + dwTerm (aX m c) (aQ m c) (aS m c) t.val y := by
  obtain ⟨z, a, b, rfl⟩ : ∃ (z : Fin 1) (a b : Fin 128), x = ix3 z a b := ⟨x 0, x 1, x 2, ValueIdx.eq_ix3 x⟩
  obtain rfl : y = ix3 0 a b := by
    rw [ValueIdx.eq_ix3 y]
    have := z.isLt
    have e0 : y 0 = (0 : Fin 4) := Fin.ext (by show (y 0).val = 0; exact h0.trans (by show 0 + z.val = 0; omega))
    rw [e0, show y 1 = a from Fin.ext h1, show y 2 = b from Fin.ext h2]
    rfl
  refine (pay9_apply _ _ _ _ (fun n => gX (aX m c) 0 (512 * t.val + n)) (gS (aS m c) 0) _ _ (fun r k => gX (aQ m c) 0 (512 * t.val + r.val) k) (ld0 m c t 0 0 rfl _)
    (haloOf m c t 0 0 rfl) (ld4 m c t 0 0 rfl _) (ld2 m c t 0 0 rfl _) z a b).trans ?_
  rw [ldMat (e := .f32) prev 0 0 rfl _ _ _ _]
  rfl

theorem fill6 (y : S4x128x128.Idx) : (k0_pay1 : FVec Ideal S4x128x128 .f32) y = 0 := Ideal.ofBits_zero_f32
theorem fill7 (y : S1x512.Idx) : (k0_pay2 : FVec Ideal S1x512 .f32) y = 0 := Ideal.ofBits_zero_f32

theorem dw_first (t : Fin cfg0.N) (h0 : t.val % 16 = 0) (y : S4x128x128.Idx) :
    (outsAt0 m c t.val t.isLt).2.1 y = 0 + dwTerm (aX m c) (aQ m c) (aS m c) t.val y := by
  rw [outsAt0_A m c t h0]
  frame_open
  simp (disch := decide) only [↓ View.readCov_skip, ↓ View.readCov_cons_toLoadRect, ↓ View.readCov_fill]
  frame_out
  rw [← fill6 y]
  refine (canon_drop_fill [_] y [_, _, _, _] (View.cover_of_tiled_head _ _ _ (by rfl) y)).trans ?_
  canon_tiles x h
  · exact dw_piece3 m c t _ y x h0 h1 h2
  · exact dw_piece2 m c t _ y x h0 h1 h2
  · exact dw_piece1 m c t _ y x h0 h1 h2
  · exact dw_piece0 m c t _ y x (by omega) h1 h2

theorem dw_next (t : Fin cfg0.N) (h0 : ¬t.val % 16 = 0) (y : S4x128x128.Idx) :
    (outsAt0 m c t.val t.isLt).2.1 y
      = (outsAt0 m c (t.val - 1) (by have := t.isLt; omega)).2.1 y + dwTerm (aX m c) (aQ m c) (aS m c) t.val y := by
  rw [outsAt0_B m c t h0]
  frame_out
  canon_tiles x h
  · exact dw_piece3 m c t _ y x h0 h1 h2
  · exact dw_piece2 m c t _ y x h0 h1 h2
  · exact dw_piece1 m c t _ y x h0 h1 h2
  · exact dw_piece0 m c t _ y x (by omega) h1 h2

/-! ## The scale gradient -/

theorem ds_piece (t : Fin cfg0.N) (g : Fin 4) (off : ℕ) (ho : off = 128 * g.val) (prev : FVec Ideal S1x512 .f32) (y : S1x512.Idx) (x : S1x128.Idx)
    (h1 : (y 1).val = off + (x 1).val) (inb0) (inb3) (inb7) :
    k0_pay6 (F := Ideal) (View.ld (S := S512x512) (iblk m c 0 t) (Rect.unit ![0, off] ![512, 128] inb0))
      (View.ld (S := S512x512) (iblk m c 2 t) (Rect.unit ![0, off] ![512, 128] inb0))
      (View.ld (S := S4x128x128) (iblk m c 3 t) (Rect.unit ![g.val, 0, 0] ![1, 128, 128] inb3))
      (View.ld (S := S1x512) prev (Rect.unit ![0, off] ![1, 128] inb7)) x
      = prev y + dsTerm (aX m c) (aQ m c) (aW m c) t.val y := by
  obtain ⟨z, b, rfl⟩ : ∃ (z : Fin 1) (b : Fin 128), x = ix2 z b := ⟨x 0, x 1, ValueIdx.eq_ix2 x⟩
  obtain rfl : y = ix2 z (gcol g b) := by
    rw [ValueIdx.eq_ix2 y]
    have h : (y 1).val = off + b.val := h1
    rw [show y 0 = z from Subsingleton.elim (α := Fin 1) _ _, gcol_of (y 1) g b (by omega)]
    rfl
  refine (pay6_apply _ _ _ _ (fun r k => gX (aX m c) g (512 * t.val + r.val) k) (fun r k => gX (aQ m c) g (512 * t.val + r.val) k) (gW (aW m c) g)
    (ld0 m c t g off ho _) (ld2 m c t g off ho _) (ld3 m c t g _ rfl _) z b).trans ?_
  rw [ldRow (e := .f32) prev g off ho _ _ _]
  unfold dsTerm
  rw [grp_of _ g b rfl, lan_of _ g b rfl]

theorem ds_first (t : Fin cfg0.N) (h0 : t.val % 16 = 0) (y : S1x512.Idx) :
    (outsAt0 m c t.val t.isLt).2.2 y = 0 + dsTerm (aX m c) (aQ m c) (aW m c) t.val y := by
  rw [outsAt0_A m c t h0]
  frame_open
  simp (disch := decide) only [↓ View.readCov_skip, ↓ View.readCov_cons_toLoadRect, ↓ View.readCov_fill]
  frame_out
  rw [← fill7 y]
  refine (canon_drop_fill [_] y [_, _, _, _] (View.cover_of_tiled_head _ _ _ (by rfl) y)).trans ?_
  canon_tiles x h
  · exact ds_piece m c t 3 384 rfl _ y x h1 _ _ _
  · exact ds_piece m c t 2 256 rfl _ y x h1 _ _ _
  · exact ds_piece m c t 1 128 rfl _ y x h1 _ _ _
  · exact ds_piece m c t 0 0 rfl _ y x (by omega) _ _ _

theorem ds_next (t : Fin cfg0.N) (h0 : ¬t.val % 16 = 0) (y : S1x512.Idx) :
    (outsAt0 m c t.val t.isLt).2.2 y
      = (outsAt0 m c (t.val - 1) (by have := t.isLt; omega)).2.2 y + dsTerm (aX m c) (aQ m c) (aW m c) t.val y := by
  rw [outsAt0_B m c t h0]
  frame_out
  canon_tiles x h
  · exact ds_piece m c t 3 384 rfl _ y x h1 _ _ _
  · exact ds_piece m c t 2 256 rfl _ y x h1 _ _ _
  · exact ds_piece m c t 1 128 rfl _ y x h1 _ _ _
  · exact ds_piece m c t 0 0 rfl _ y x (by omega) _ _ _

/-! ## The arrays after the run -/

theorem du_final : (dats m 0 c).arrAt 5 cfg0.N = fun y : S8192x512.Idx => duOf (aX m c) (aW m c) (aS m c) (y 0).val (y 1) := by
  refine (dats m 0 c).arrAt_eq_of_covers 5 _ (by decide +kernel) fun t hf y => ?_
  blk_simp
  rw [after0_5]
  refine (du_point m c t y).trans ?_
  have e0 : win0_5.index t 0 = t.val := congrFun (idx5 t) 0
  have e1 : (win0_5.blk t).view.emb y 1 = y 1 := by
    refine Fin.ext ?_
    blk_simp [idx5 t]
  rw [e0, e1, Nat.mul_comm]

theorem t0_15_mod : t0_15.val % 16 = 15 := by decide +kernel
theorem N0 : cfg0.N = 16 := by decide +kernel

theorem dw_last (t : Fin cfg0.N) (ht : t.val % 16 = 15) (y : S4x128x128.Idx) :
    (outsAt0 m c t.val t.isLt).2.1 y = 0 + ∑ t ∈ Finset.range 16, dwTerm (aX m c) (aQ m c) (aS m c) t y :=
  Pipeline.eq_sum_of_reset_step_apply_single_of_mod (fun n h => (outsAt0 m c n h).2.1) 16 (fun _ => 0) (dwTerm (aX m c) (aQ m c) (aS m c))
    (dw_first m c) (dw_next m c) (le_of_eq N0) t ht y

theorem dw_final : (dats m 0 c).arrAt 6 cfg0.N = fun y : S4x128x128.Idx => 0 + ∑ t ∈ Finset.range 16, dwTerm (aX m c) (aQ m c) (aS m c) t y := by
  refine (dats m 0 c).arrAt_eq_of_after_last 6 t0_15 (by decide +kernel) _ fun j => ?_
  blk_simp
  rw [after0_6]
  exact dw_last m c t0_15 t0_15_mod j

theorem ds_last (t : Fin cfg0.N) (ht : t.val % 16 = 15) (y : S1x512.Idx) :
    (outsAt0 m c t.val t.isLt).2.2 y = 0 + ∑ t ∈ Finset.range 16, dsTerm (aX m c) (aQ m c) (aW m c) t y :=
  Pipeline.eq_sum_of_reset_step_apply_single_of_mod (fun n h => (outsAt0 m c n h).2.2) 16 (fun _ => 0) (dsTerm (aX m c) (aQ m c) (aW m c))
    (ds_first m c) (ds_next m c) (le_of_eq N0) t ht y

theorem ds_final : (dats m 0 c).arrAt 7 cfg0.N = fun y : S1x512.Idx => 0 + ∑ t ∈ Finset.range 16, dsTerm (aX m c) (aQ m c) (aW m c) t y := by
  refine (dats m 0 c).arrAt_eq_of_after_last 7 t0_15 (by decide +kernel) _ fun j => ?_
  blk_simp
  rw [after0_7]
  exact ds_last m c t0_15 t0_15_mod j

end Cert.Pool

end
-- ==== Proof.Ref.lean ====
module

public import Idealize.ShloMosaic.Lib.KernelVsHost
public import proofs.«01_k».proof.Proof.Blocks
public import proofs.«01_k».proof.Proof.Gen.ReferenceIdeal.Read

/-! The reference's stages read at an index. -/

@[expose] public section

set_option maxRecDepth 16384

noncomputable section

namespace Cert.Pool.Ref

open Cert.Pool Cert.ReferenceIdeal Cert.ReferenceIdeal.Read Idealize.SL.Sem Idealize.ShloMosaic.Tactic
open Idealize.ShloMosaic hiding ix0 ix1 ix2 ix3 ix4 ix5
open Idealize.ShloMosaic.TcCoe Idealize.ShloMosaic.ValueIdx

theorem i3_0 {a b c : ℕ} (x : Fin a) (y : Fin b) (z : Fin c) : ix3 x y z 0 = x := rfl
theorem i3_1 {a b c : ℕ} (x : Fin a) (y : Fin b) (z : Fin c) : ix3 x y z 1 = y := rfl
theorem i3_2 {a b c : ℕ} (x : Fin a) (y : Fin b) (z : Fin c) : ix3 x y z 2 = z := rfl
theorem i4_0 {a b c d : ℕ} (x : Fin a) (y : Fin b) (z : Fin c) (t : Fin d) : ix4 x y z t 0 = x := rfl
theorem i4_1 {a b c d : ℕ} (x : Fin a) (y : Fin b) (z : Fin c) (t : Fin d) : ix4 x y z t 1 = y := rfl
theorem i4_2 {a b c d : ℕ} (x : Fin a) (y : Fin b) (z : Fin c) (t : Fin d) : ix4 x y z t 2 = z := rfl
theorem i4_3 {a b c d : ℕ} (x : Fin a) (y : Fin b) (z : Fin c) (t : Fin d) : ix4 x y z t 3 = t := rfl

/-- A matrix of columns padded into one group of the 512 columns: the group's columns, zero elsewhere. -/
theorem padcol (g : Fin 4) (lo hi : ℕ) (hlo : lo = 128 * g.val) (x : S1x8192x128.Idx → EReal) (v : S_.Idx → EReal)
    (hv : ∀ i, v i = 0) (h : S1x8192x128.Pads ![0, 0, lo] ![0, 0, hi] ![0, 0, 0] S1x8192x512) (hu : 0 < S_.numel)
    (n : Fin 8192) (k : Fin 512) :
    pad S1x8192x512 ![0, 0, lo] ![0, 0, hi] ![0, 0, 0] x v h hu (ix3 0 n k) = if grp k = g then x (ix3 0 n (lan k)) else 0 := by
  subst hlo
  have hk := k.isLt
  split
  · next e =>
    have e' : k.val / 128 = g.val := congrArg Fin.val e
    refine pad_apply_of_inside _ _ _ x v h hu _ (ix3 0 n (lan k)) fun a => ?_
    match a with
    | ⟨0, _⟩ => rfl
    | ⟨1, _⟩ => show n.val = 0 + n.val * (0 + 1); omega
    | ⟨2, _⟩ => show k.val = 128 * g.val + (k.val % 128) * (0 + 1); omega
  · next e =>
    have e' : k.val / 128 ≠ g.val := fun q => e (Fin.ext q)
    refine (pad_apply_of_not_inside _ _ _ x v h hu _ (2 : Fin 3) ?_).trans (hv _)
    show ¬(128 * g.val ≤ k.val ∧ (k.val - 128 * g.val) % (0 + 1) = 0 ∧ (k.val - 128 * g.val) / (0 + 1) < 128)
    omega

/-- Rows padded at the end by zeros. -/
theorem padrow (w m : ℕ) (x : Shape.Idx ⟨3, ![1, m, 128]⟩ → EReal) (v : S_.Idx → EReal)
    (hv : ∀ i, v i = 0) (h : Shape.Pads ⟨3, ![1, m, 128]⟩ ![0, 0, 0] ![0, w, 0] ![0, 0, 0] S1x8192x128) (hu : 0 < S_.numel)
    (n : Fin 8192) (c : Fin 128) :
    pad S1x8192x128 ![0, 0, 0] ![0, w, 0] ![0, 0, 0] x v h hu (ix3 0 n c) = if hn : n.val < m then x (ix3 0 ⟨n.val, hn⟩ c) else 0 := by
  split
  · next e =>
    refine pad_apply_of_inside _ _ _ x v h hu _ (ix3 0 ⟨n.val, e⟩ c) fun a => ?_
    match a with
    | ⟨0, _⟩ => rfl
    | ⟨1, _⟩ => show n.val = 0 + n.val * (0 + 1); omega
    | ⟨2, _⟩ => show c.val = 0 + c.val * (0 + 1); omega
  · next e =>
    refine (pad_apply_of_not_inside _ _ _ x v h hu _ (1 : Fin 3) ?_).trans (hv _)
    show ¬(0 ≤ n.val ∧ (n.val - 0) % (0 + 1) = 0 ∧ (n.val - 0) / (0 + 1) < m)
    omega

/-- The row count as the reference computes it. -/
theorem count_at (n w : ℕ) (hn : n < 8192) (hw0 : 0 < w) (hw : w ≤ 16) (x : EReal) :
    FloatOps.hostDivf (F := Ideal) (φ := .f32) x (FloatOps.sitofp .f32 (IntOp.minsi (IntOp.addi (BitVec.ofNat 32 n) 1#32) (BitVec.ofNat 32 w)))
      = x * rcp w n := by
  have hc : (cnt w n : ℝ) ≠ 0 := by
    have : 0 < cnt w n := by unfold cnt; omega
    exact_mod_cast this.ne'
  have e := cnt_word (n / 512) (n % 512) w (by omega) (by omega) hw
  rw [show 512 * (n / 512) + n % 512 = n by omega,
    show IntOp.addi (IntOp.muli (BitVec.ofNat 32 (n / 512)) 512#32) (BitVec.ofNat 32 (n % 512)) = BitVec.ofNat 32 n from by
      apply BitVec.eq_of_toNat_eq
      simp only [IntOp.addi, IntOp.muli, BitVec.toNat_add, BitVec.toNat_mul, BitVec.toNat_ofNat]
      omega] at e
  show Ideal.div x (((BitVec.toInt _ : ℤ) : ℝ) : EReal) = _
  rw [e, Int.cast_natCast, Ideal.div_coe hc]
  rfl

/-- Beyond the last row nothing flows back. -/
theorem bp_big (X : S8192x512.Idx → EReal) (g : Fin 4) (S : Fin 128 → EReal) (W : Fin 128 → Fin 128 → EReal) (n : ℕ) (hn : 8192 ≤ n)
    (c : Fin 128) : bp (gX X g) S W n c = 0 := by
  refine Finset.sum_eq_zero fun k _ => ?_
  unfold gX
  rw [ext_big _ _ _ hn, zero_mul, zero_mul]

variable (x0 : (⟨S8192x512, .f32⟩ : BufTy).Contents (Elt Ideal)) (x1 : (⟨S4x128x128, .f32⟩ : BufTy).Contents (Elt Ideal))
  (x2 : (⟨S1x512, .f32⟩ : BufTy).Contents (Elt Ideal)) (x3 : (⟨S8192x512, .f32⟩ : BufTy).Contents (Elt Ideal))

theorem v84_at (n : Fin 8192) (k : Fin 512) : val_main_v84 (F := Ideal) x2 x3 (ix3 0 n k) = x3 (ix2 n k) * x2 (ix2 0 k) := by
  rw [val_main_v84_apply, val_main_v79_apply, val_main_v83_apply, val_main_v76_apply, val_main_v1_apply]
  show x3 _ * x2 _ = _
  congr 2 <;> (funext a; apply Fin.ext; fin_cases a <;> simp)

theorem v87_at (g : Fin 4) (c : Fin 128) (n : Fin 8192) :
    val_main_v87 (F := Ideal) x2 x3 (ix4 g c 0 n) = gX x3 g n.val c * gS x2 g c := by
  rw [val_main_v87_apply, val_main_v86_apply]
  rw [show (idx_main_v86 (idx_main_v87 (ix4 g c 0 n))) = ix3 0 n (gcol g c) from ?_, v84_at]
  · rw [ext_of x3 n.val _ n rfl]; rfl
  · refine (ValueIdx.eq_ix3 _).trans ?_
    have := g.isLt; have := c.isLt; have := n.isLt
    congr 1 <;> apply Fin.ext <;> simp [gcol, i4_0, i4_1, i4_2, i4_3, i3_0, i3_1, i3_2] <;> omega

theorem v88_at (g : Fin 4) (n : Fin 8192) (c : Fin 128) :
    val_main_v88 (F := Ideal) x1 x2 x3 (ix4 g 0 n c) = bp (gX x3 g) (gS x2 g) (gW x1 g) n.val c := by
  rw [val_main_v88_apply]
  refine Finset.sum_congr rfl fun k _ => ?_
  rw [show lidx_main_v88 (ix4 g 0 n c) k = ix4 g k 0 n from ?_, v87_at]
  · refine congrArg (_ * ·) (congrArg x1 ?_)
    funext a; apply Fin.ext; fin_cases a <;> simp
  · funext a; apply Fin.ext; fin_cases a <;> simp

theorem v93_at (n : Fin 8192) (c : Fin 128) :
    val_main_v93 (F := Ideal) x1 x2 x3 (ix3 0 n c) = bp (gX x3 0) (gS x2 0) (gW x1 0) n.val c := by
  rw [val_main_v93_apply, val_main_v92_apply, val_main_v89_apply, ← v88_at]
  refine congrArg _ ((ValueIdx.eq_ix4 _).trans ?_)
  have := c.isLt; have := n.isLt
  congr 1 <;> apply Fin.ext <;> simp [i4_0, i4_1, i4_2, i4_3, i3_0, i3_1, i3_2] <;> omega

theorem v138_at (n : Fin 8192) (c : Fin 128) :
    val_main_v138 (F := Ideal) x1 x2 x3 (ix3 0 n c) = bp (gX x3 0) (gS x2 0) (gW x1 0) n.val c * rcp 2 n.val := by
  rw [val_main_v138_apply, v93_at, val_main_v137_apply, val_main_v14_apply, val_main_v13_apply, val_main_v12_apply, val_main_v11_apply, val_main_v10_apply, val_main_v9_apply, val_main_c_apply, val_main_c_1_apply, val_main_v3_apply]
  exact count_at n.val 2 n.isLt (by omega) (by omega) _

theorem v143_at (n : Fin 8192) (c : Fin 128) :
    val_main_v143 (F := Ideal) x1 x2 x3 (ix3 0 n c)
      = bp (gX x3 0) (gS x2 0) (gW x1 0) n.val c * rcp 2 n.val + -(bp (gX x3 0) (gS x2 0) (gW x1 0) (n.val + 2) c * rcp 2 (n.val + 2)) := by
  rw [val_main_v143_apply, v138_at]
  show _ + val_main_v142 (F := Ideal) x1 x2 x3 (ix3 0 n c) = _
  congr 1
  unfold val_main_v142
  refine (padrow 2 8190 _ _ (fun _ => Ideal.ofBits_zero_f32) _ _ n c).trans ?_
  split
  · next hn =>
    rw [val_main_v141_apply, val_main_v139_apply, ← v138_at x1 x2 x3 ⟨n.val + 2, by omega⟩ c]
    refine congrArg (fun q => -(val_main_v138 (F := Ideal) x1 x2 x3 q)) ((ValueIdx.eq_ix3 _).trans ?_)
    congr 1 <;> apply Fin.ext <;> simp [i3_0, i3_1, i3_2] <;> omega
  · next hn => rw [bp_big _ _ _ _ _ (by omega), zero_mul, neg_zero]

theorem v144_at (n : Fin 8192) (k : Fin 512) :
    val_main_v144 (F := Ideal) x1 x2 x3 (ix3 0 n k)
      = if grp k = 0 then bp (gX x3 0) (gS x2 0) (gW x1 0) n.val (lan k) * rcp 2 n.val + -(bp (gX x3 0) (gS x2 0) (gW x1 0) (n.val + 2) (lan k) * rcp 2 (n.val + 2)) else 0 := by
  unfold val_main_v144
  refine (padcol 0 0 384 rfl _ _ (fun _ => Ideal.ofBits_zero_f32) _ _ n k).trans ?_
  rw [v143_at]

theorem v135_at (n : Fin 8192) (k : Fin 512) :
    val_main_v135 (F := Ideal) x1 x2 x3 (ix3 0 n k) = if grp k = 0 then -(bp (gX x3 0) (gS x2 0) (gW x1 0) n.val (lan k)) else 0 := by
  unfold val_main_v135
  refine (padcol 0 0 384 rfl _ _ (fun _ => Ideal.ofBits_zero_f32) _ _ n k).trans ?_
  rw [val_main_v134_apply, v93_at]
  rfl

theorem v95_at (n : Fin 8192) (c : Fin 128) :
    val_main_v95 (F := Ideal) x1 x2 x3 (ix3 0 n c) = bp (gX x3 1) (gS x2 1) (gW x1 1) n.val c := by
  rw [val_main_v95_apply, val_main_v94_apply, val_main_v89_apply, ← v88_at]
  refine congrArg _ ((ValueIdx.eq_ix4 _).trans ?_)
  have := c.isLt; have := n.isLt
  congr 1 <;> apply Fin.ext <;> simp [i4_0, i4_1, i4_2, i4_3, i3_0, i3_1, i3_2] <;> omega

theorem v126_at (n : Fin 8192) (c : Fin 128) :
    val_main_v126 (F := Ideal) x1 x2 x3 (ix3 0 n c) = bp (gX x3 1) (gS x2 1) (gW x1 1) n.val c * rcp 4 n.val := by
  rw [val_main_v126_apply, v95_at, val_main_v125_apply, val_main_v30_apply, val_main_v29_apply, val_main_v28_apply, val_main_v27_apply, val_main_v26_apply, val_main_v25_apply, val_main_c_4_apply, val_main_c_5_apply, val_main_v3_apply]
  exact count_at n.val 4 n.isLt (by omega) (by omega) _

theorem v131_at (n : Fin 8192) (c : Fin 128) :
    val_main_v131 (F := Ideal) x1 x2 x3 (ix3 0 n c)
      = bp (gX x3 1) (gS x2 1) (gW x1 1) n.val c * rcp 4 n.val + -(bp (gX x3 1) (gS x2 1) (gW x1 1) (n.val + 4) c * rcp 4 (n.val + 4)) := by
  rw [val_main_v131_apply, v126_at]
  show _ + val_main_v130 (F := Ideal) x1 x2 x3 (ix3 0 n c) = _
  congr 1
  unfold val_main_v130
  refine (padrow 4 8188 _ _ (fun _ => Ideal.ofBits_zero_f32) _ _ n c).trans ?_
  split
  · next hn =>
    rw [val_main_v129_apply, val_main_v127_apply, ← v126_at x1 x2 x3 ⟨n.val + 4, by omega⟩ c]
    refine congrArg (fun q => -(val_main_v126 (F := Ideal) x1 x2 x3 q)) ((ValueIdx.eq_ix3 _).trans ?_)
    congr 1 <;> apply Fin.ext <;> simp [i3_0, i3_1, i3_2] <;> omega
  · next hn => rw [bp_big _ _ _ _ _ (by omega), zero_mul, neg_zero]

theorem v132_at (n : Fin 8192) (k : Fin 512) :
    val_main_v132 (F := Ideal) x1 x2 x3 (ix3 0 n k)
      = if grp k = 1 then bp (gX x3 1) (gS x2 1) (gW x1 1) n.val (lan k) * rcp 4 n.val + -(bp (gX x3 1) (gS x2 1) (gW x1 1) (n.val + 4) (lan k) * rcp 4 (n.val + 4)) else 0 := by
  unfold val_main_v132
  refine (padcol 1 128 256 rfl _ _ (fun _ => Ideal.ofBits_zero_f32) _ _ n k).trans ?_
  rw [v131_at]

theorem v123_at (n : Fin 8192) (k : Fin 512) :
    val_main_v123 (F := Ideal) x1 x2 x3 (ix3 0 n k) = if grp k = 1 then -(bp (gX x3 1) (gS x2 1) (gW x1 1) n.val (lan k)) else 0 := by
  unfold val_main_v123
  refine (padcol 1 128 256 rfl _ _ (fun _ => Ideal.ofBits_zero_f32) _ _ n k).trans ?_
  rw [val_main_v122_apply, v95_at]
  rfl

theorem v97_at (n : Fin 8192) (c : Fin 128) :
    val_main_v97 (F := Ideal) x1 x2 x3 (ix3 0 n c) = bp (gX x3 2) (gS x2 2) (gW x1 2) n.val c := by
  rw [val_main_v97_apply, val_main_v96_apply, val_main_v89_apply, ← v88_at]
  refine congrArg _ ((ValueIdx.eq_ix4 _).trans ?_)
  have := c.isLt; have := n.isLt
  congr 1 <;> apply Fin.ext <;> simp [i4_0, i4_1, i4_2, i4_3, i3_0, i3_1, i3_2] <;> omega

theorem v114_at (n : Fin 8192) (c : Fin 128) :
    val_main_v114 (F := Ideal) x1 x2 x3 (ix3 0 n c) = bp (gX x3 2) (gS x2 2) (gW x1 2) n.val c * rcp 8 n.val := by
  rw [val_main_v114_apply, v97_at, val_main_v113_apply, val_main_v46_apply, val_main_v45_apply, val_main_v44_apply, val_main_v43_apply, val_main_v42_apply, val_main_v41_apply, val_main_c_8_apply, val_main_c_9_apply, val_main_v3_apply]
  exact count_at n.val 8 n.isLt (by omega) (by omega) _

theorem v119_at (n : Fin 8192) (c : Fin 128) :
    val_main_v119 (F := Ideal) x1 x2 x3 (ix3 0 n c)
      = bp (gX x3 2) (gS x2 2) (gW x1 2) n.val c * rcp 8 n.val + -(bp (gX x3 2) (gS x2 2) (gW x1 2) (n.val + 8) c * rcp 8 (n.val + 8)) := by
  rw [val_main_v119_apply, v114_at]
  show _ + val_main_v118 (F := Ideal) x1 x2 x3 (ix3 0 n c) = _
  congr 1
  unfold val_main_v118
  refine (padrow 8 8184 _ _ (fun _ => Ideal.ofBits_zero_f32) _ _ n c).trans ?_
  split
  · next hn =>
    rw [val_main_v117_apply, val_main_v115_apply, ← v114_at x1 x2 x3 ⟨n.val + 8, by omega⟩ c]
    refine congrArg (fun q => -(val_main_v114 (F := Ideal) x1 x2 x3 q)) ((ValueIdx.eq_ix3 _).trans ?_)
    congr 1 <;> apply Fin.ext <;> simp [i3_0, i3_1, i3_2] <;> omega
  · next hn => rw [bp_big _ _ _ _ _ (by omega), zero_mul, neg_zero]

theorem v120_at (n : Fin 8192) (k : Fin 512) :
    val_main_v120 (F := Ideal) x1 x2 x3 (ix3 0 n k)
      = if grp k = 2 then bp (gX x3 2) (gS x2 2) (gW x1 2) n.val (lan k) * rcp 8 n.val + -(bp (gX x3 2) (gS x2 2) (gW x1 2) (n.val + 8) (lan k) * rcp 8 (n.val + 8)) else 0 := by
  unfold val_main_v120
  refine (padcol 2 256 128 rfl _ _ (fun _ => Ideal.ofBits_zero_f32) _ _ n k).trans ?_
  rw [v119_at]

theorem v111_at (n : Fin 8192) (k : Fin 512) :
    val_main_v111 (F := Ideal) x1 x2 x3 (ix3 0 n k) = if grp k = 2 then -(bp (gX x3 2) (gS x2 2) (gW x1 2) n.val (lan k)) else 0 := by
  unfold val_main_v111
  refine (padcol 2 256 128 rfl _ _ (fun _ => Ideal.ofBits_zero_f32) _ _ n k).trans ?_
  rw [val_main_v110_apply, v97_at]
  rfl

theorem v99_at (n : Fin 8192) (c : Fin 128) :
    val_main_v99 (F := Ideal) x1 x2 x3 (ix3 0 n c) = bp (gX x3 3) (gS x2 3) (gW x1 3) n.val c := by
  rw [val_main_v99_apply, val_main_v98_apply, val_main_v89_apply, ← v88_at]
  refine congrArg _ ((ValueIdx.eq_ix4 _).trans ?_)
  have := c.isLt; have := n.isLt
  congr 1 <;> apply Fin.ext <;> simp [i4_0, i4_1, i4_2, i4_3, i3_0, i3_1, i3_2] <;> omega

theorem v103_at (n : Fin 8192) (c : Fin 128) :
    val_main_v103 (F := Ideal) x1 x2 x3 (ix3 0 n c) = bp (gX x3 3) (gS x2 3) (gW x1 3) n.val c * rcp 16 n.val := by
  rw [val_main_v103_apply, v99_at, val_main_v102_apply, val_main_v62_apply, val_main_v61_apply, val_main_v60_apply, val_main_v59_apply, val_main_v58_apply, val_main_v57_apply, val_main_c_12_apply, val_main_c_13_apply, val_main_v3_apply]
  exact count_at n.val 16 n.isLt (by omega) (by omega) _

theorem v108_at (n : Fin 8192) (c : Fin 128) :
    val_main_v108 (F := Ideal) x1 x2 x3 (ix3 0 n c)
      = bp (gX x3 3) (gS x2 3) (gW x1 3) n.val c * rcp 16 n.val + -(bp (gX x3 3) (gS x2 3) (gW x1 3) (n.val + 16) c * rcp 16 (n.val + 16)) := by
  rw [val_main_v108_apply, v103_at]
  show _ + val_main_v107 (F := Ideal) x1 x2 x3 (ix3 0 n c) = _
  congr 1
  unfold val_main_v107
  refine (padrow 16 8176 _ _ (fun _ => Ideal.ofBits_zero_f32) _ _ n c).trans ?_
  split
  · next hn =>
    rw [val_main_v106_apply, val_main_v104_apply, ← v103_at x1 x2 x3 ⟨n.val + 16, by omega⟩ c]
    refine congrArg (fun q => -(val_main_v103 (F := Ideal) x1 x2 x3 q)) ((ValueIdx.eq_ix3 _).trans ?_)
    congr 1 <;> apply Fin.ext <;> simp [i3_0, i3_1, i3_2] <;> omega
  · next hn => rw [bp_big _ _ _ _ _ (by omega), zero_mul, neg_zero]

theorem v109_at (n : Fin 8192) (k : Fin 512) :
    val_main_v109 (F := Ideal) x1 x2 x3 (ix3 0 n k)
      = if grp k = 3 then bp (gX x3 3) (gS x2 3) (gW x1 3) n.val (lan k) * rcp 16 n.val + -(bp (gX x3 3) (gS x2 3) (gW x1 3) (n.val + 16) (lan k) * rcp 16 (n.val + 16)) else 0 := by
  unfold val_main_v109
  refine (padcol 3 384 0 rfl _ _ (fun _ => Ideal.ofBits_zero_f32) _ _ n k).trans ?_
  rw [v108_at]

theorem v101_at (n : Fin 8192) (k : Fin 512) :
    val_main_v101 (F := Ideal) x1 x2 x3 (ix3 0 n k) = if grp k = 3 then -(bp (gX x3 3) (gS x2 3) (gW x1 3) n.val (lan k)) else 0 := by
  unfold val_main_v101
  refine (padcol 3 384 0 rfl _ _ (fun _ => Ideal.ofBits_zero_f32) _ _ n k).trans ?_
  rw [val_main_v100_apply, v99_at]
  rfl

/-- What one row sends back to a column, divided by that row's count. -/
def E (X : S8192x512.Idx → EReal) (W : S4x128x128.Idx → EReal) (s : S1x512.Idx → EReal) (n : ℕ) (k : Fin 512) : EReal :=
  bp (gX X (grp k)) (gS s (grp k)) (gW W (grp k)) n (lan k) * rcp (2 ^ ((grp k).val + 1)) n

theorem v145_at (n : Fin 8192) (k : Fin 512) :
    val_main_v145 (F := Ideal) x1 x2 x3 (ix3 0 n k) = E x3 x1 x2 n.val k + -E x3 x1 x2 (n.val + 2 ^ ((grp k).val + 1)) k := by
  rw [val_main_v145_apply, val_main_v133_apply, val_main_v121_apply, v109_at, v120_at, v132_at, v144_at]
  show ((_ + _) + _) + _ = _
  unfold E
  generalize hg : grp k = g
  fin_cases g <;> simp

theorem v136_at (n : Fin 8192) (k : Fin 512) :
    val_main_v136 (F := Ideal) x1 x2 x3 (ix3 0 n k) = -bp (gX x3 (grp k)) (gS x2 (grp k)) (gW x1 (grp k)) n.val (lan k) := by
  rw [val_main_v136_apply, val_main_v124_apply, val_main_v112_apply, v101_at, v111_at, v123_at, v135_at]
  show ((_ + _) + _) + _ = _
  generalize hg : grp k = g
  fin_cases g <;> simp

end Cert.Pool.Ref

end
-- ==== Proof.Ref2.lean ====
module

public import Idealize.ShloMosaic.Lib.TwoAxisContraction
public import proofs.«01_k».proof.Proof.Ref

/-! The reference's three results read at an index: the running sum over rows, the two-axis product and the column sum. -/

@[expose] public section

set_option maxRecDepth 16384

noncomputable section

namespace Cert.Pool.Ref

open Cert.Pool Cert.ReferenceIdeal Cert.ReferenceIdeal.Gen Cert.ReferenceIdeal.Read Idealize.SL.Sem Idealize.ShloMosaic.Tactic
open Idealize.ShloMosaic hiding ix0 ix1 ix2 ix3 ix4 ix5
open Idealize.ShloMosaic.TcCoe Idealize.ShloMosaic.ValueIdx

theorem i2_0 {a b : ℕ} (x : Fin a) (y : Fin b) : ix2 x y 0 = x := rfl
theorem i2_1 {a b : ℕ} (x : Fin a) (y : Fin b) : ix2 x y 1 = y := rfl

theorem foldl_add_sum {α : Type} (f : α → EReal) (l : List α) (v : EReal) :
    l.foldl (fun r n => r + f n) v = v + (l.map f).sum := by
  induction l generalizing v with
  | nil => simp
  | cons a l ih => rw [List.foldl_cons, ih, List.map_cons, List.sum_cons, add_assoc]

/-- An index of a box one wide on the outer axes is its middle coordinate. -/
def mid : (Shape.mk 3 ![1, 8192, 1]).Idx ≃ Fin 8192 where
  toFun i := i 1
  invFun k := ix3 0 k 0
  left_inv i := by
    refine Eq.trans ?_ (ValueIdx.eq_ix3 i).symm
    have h0 : (i 0).val < 1 := (i 0).isLt
    have h2 : (i 2).val < 1 := (i 2).isLt
    show ix3 (0 : Fin 1) (i 1) (0 : Fin 1) = ix3 (i 0) (i 1) (i 2)
    congr 1
    · apply Fin.ext
      show 0 = (i 0).val
      omega
    · apply Fin.ext
      show 0 = (i 2).val
      omega
  right_inv _ := rfl

/-- The running sum from the last row up: row `n` holds the sum of the rows from `n` on. -/
theorem revsum (x : S1x8192x512.Idx → EReal) (v : S_.Idx → EReal) (hv : ∀ i, v i = 0)
    (h : S1x8192x512.ReduceWindows ![1, 8192, 1] ![1, 1, 1] ![0, 0, 0] ![0, 8191, 0] S1x8192x512) (hu : 0 < S_.numel)
    (X : ℕ → EReal) (n : Fin 8192) (k : Fin 512) (hX : ∀ t : Fin 8192, x (ix3 0 t k) = X t.val) :
    Host.reduceWindowAdd (F := Ideal) (φ := .f32) ![1, 8192, 1] ![1, 1, 1] ![0, 0, 0] ![0, 8191, 0] x v h hu (ix3 0 n k)
      = ∑ d ∈ Finset.range (8192 - n.val), X (n.val + d) := by
  have hn := n.isLt
  have hk := k.isLt
  unfold Host.reduceWindowAdd
  rw [Ideal.hostReduceWindowAdd_def]
  unfold Ideal.hostReduceWindowAdd Host.reduceWindow
  dsimp only
  rw [foldl_add_sum, ← Fin.sum_univ_def, hv, zero_add]
  trans ∑ m, (fun w => (fun d : Fin 8192 => if n.val + d.val < 8192 then X (n.val + d.val) else 0) (mid w))
    ((Shape.rowMajor (Shape.mk 3 ![1, 8192, 1])).symm m)
  · refine Finset.sum_congr rfl fun m _ => ?_
    set w := (Shape.rowMajor (Shape.mk 3 ![1, 8192, 1])).symm m
    have h0 : (w 0).val < 1 := (w 0).isLt
    have h2 : (w 2).val < 1 := (w 2).isLt
    show _ = if n.val + (w 1).val < 8192 then X (n.val + (w 1).val) else 0
    split
    · next hin =>
      have h1 := (hin 1).2
      change n.val * 1 + (w 1).val - 0 < 8192 at h1
      rw [if_pos (by omega)]
      refine (congrArg x ?_).trans (hX ⟨n.val + (w 1).val, by omega⟩)
      refine (ValueIdx.eq_ix3 _).trans ?_
      congr 1
      · apply Fin.ext
        show 0 * 1 + (w 0).val - 0 = 0
        omega
      · apply Fin.ext
        show n.val * 1 + (w 1).val - 0 = n.val + (w 1).val
        omega
      · apply Fin.ext
        show k.val * 1 + (w 2).val - 0 = k.val
        omega
    · next hin =>
      rw [if_neg fun hlt => hin fun a => by
        match a with
        | ⟨0, _⟩ => show 0 ≤ 0 * 1 + (w 0).val ∧ 0 * 1 + (w 0).val - 0 < 1; omega
        | ⟨1, _⟩ => show 0 ≤ n.val * 1 + (w 1).val ∧ n.val * 1 + (w 1).val - 0 < 8192; omega
        | ⟨2, _⟩ => show 0 ≤ k.val * 1 + (w 2).val ∧ k.val * 1 + (w 2).val - 0 < 512; omega]
  rw [Equiv.sum_comp (Shape.rowMajor (Shape.mk 3 ![1, 8192, 1])).symm
      (fun w => (fun d : Fin 8192 => if n.val + d.val < 8192 then X (n.val + d.val) else 0) (mid w)),
    Equiv.sum_comp mid (fun d : Fin 8192 => if n.val + d.val < 8192 then X (n.val + d.val) else 0),
    Fin.sum_univ_eq_sum_range (fun d => if n.val + d < 8192 then X (n.val + d) else 0) 8192, ← Finset.sum_filter]
  refine Finset.sum_congr (Finset.ext fun d => ?_) fun _ _ => rfl
  rw [Finset.mem_filter, Finset.mem_range, Finset.mem_range]
  omega

variable (x0 : (⟨S8192x512, .f32⟩ : BufTy).Contents (Elt Ideal)) (x1 : (⟨S4x128x128, .f32⟩ : BufTy).Contents (Elt Ideal))
  (x2 : (⟨S1x512, .f32⟩ : BufTy).Contents (Elt Ideal)) (x3 : (⟨S8192x512, .f32⟩ : BufTy).Contents (Elt Ideal))

theorem v146_at (n : Fin 8192) (k : Fin 512) :
    val_main_v146 (F := Ideal) x1 x2 x3 (ix3 0 n k)
      = ∑ d ∈ Finset.range (8192 - n.val), (E x3 x1 x2 (n.val + d) k + -E x3 x1 x2 (n.val + d + 2 ^ ((grp k).val + 1)) k) := by
  unfold val_main_v146
  have h := fun t => v145_at x1 x2 x3 t k
  have hv : ∀ i, val_main_call1_call0_v0 (F := Ideal) i = 0 := fun i => by
    rw [val_main_call1_call0_v0_apply]
    exact Ideal.ofBits_zero_f32
  generalize val_main_call1_call0_v0 (F := Ideal) = v at hv ⊢
  generalize val_main_v145 (F := Ideal) x1 x2 x3 = y at h ⊢
  exact revsum y v hv _ _
    (fun t => E x3 x1 x2 t k + -E x3 x1 x2 (t + 2 ^ ((grp k).val + 1)) k) n k h

/-- The first result: the differences against the window's far end, summed from the row on, less what the row itself sends back. -/
theorem v149_at (n : Fin 8192) (k : Fin 512) :
    val_main_v149 (F := Ideal) x1 x2 x3 (ix2 n k)
      = -bp (gX x3 (grp k)) (gS x2 (grp k)) (gW x1 (grp k)) n.val (lan k)
        + ∑ d ∈ Finset.range (8192 - n.val), (E x3 x1 x2 (n.val + d) k + -E x3 x1 x2 (n.val + d + 2 ^ ((grp k).val + 1)) k) := by
  rw [val_main_v149_apply, val_main_v148_apply]
  show val_main_v147 (F := Ideal) x1 x2 x3 _ = _
  rw [show idx_main_v148 (ix2 n k) = ix3 0 n k from ?_, val_main_v147_apply, v136_at]
  · rw [v146_at]
    rfl
  · refine (ValueIdx.eq_ix3 _).trans ?_
    have := k.isLt; have := n.isLt
    congr 1 <;> apply Fin.ext <;> simp [i2_0, i2_1, i3_0, i3_1, i3_2] <;> omega

/-- The pooled activations by row and column. -/
def Q : S8192x512.Idx → EReal := fun y => val_main_v72 (F := Ideal) x0 (ix4 0 (y 0) (grp (y 1)) (lan (y 1)))

theorem Q_at (n : Fin 8192) (g : Fin 4) (c : Fin 128) :
    val_main_v72 (F := Ideal) x0 (ix4 0 n g c) = gX (Q x0) g n.val c := by
  unfold gX
  rw [← ext_of (Q x0) n.val _ n rfl]
  show _ = val_main_v72 (F := Ideal) x0 (ix4 0 n (grp (gcol g c)) (lan (gcol g c)))
  rw [grp_of (gcol g c) g c rfl, lan_of (gcol g c) g c rfl]

theorem v90_at (g : Fin 4) (b a : Fin 128) :
    val_main_v90 (F := Ideal) x0 x2 x3 (ix3 g b a) = ∑ n : Fin 8192, gX x3 g n.val b * gS x2 g b * gX (Q x0) g n.val a := by
  unfold val_main_v90
  simp only [Host.dotGeneral]
  rw [Ideal.dotGeneral_apply, ← Equiv.sum_comp (ValueIdx.contrEquiv2 dot_S4x128x1x8192_S1x8192x4x128_S4x128x128_23_01_1_3_0_2 1 8192 rfl rfl rfl).symm,
    Fintype.sum_prod_type, Fin.sum_univ_one]
  refine Finset.sum_congr rfl fun n _ => ?_
  have hk0 := ValueIdx.contrEquiv2_symm_val0 dot_S4x128x1x8192_S1x8192x4x128_S4x128x128_23_01_1_3_0_2 1 8192 rfl rfl rfl (0, n)
  have hk1 := ValueIdx.contrEquiv2_symm_val1 dot_S4x128x1x8192_S1x8192x4x128_S4x128x128_23_01_1_3_0_2 1 8192 rfl rfl rfl (0, n)
  have el : dot_S4x128x1x8192_S1x8192x4x128_S4x128x128_23_01_1_3_0_2.lhsIdx (ix3 g b a)
      ((ValueIdx.contrEquiv2 dot_S4x128x1x8192_S1x8192x4x128_S4x128x128_23_01_1_3_0_2 1 8192 rfl rfl rfl).symm (0, n)) = ix4 g b 0 n := funext fun x => Fin.ext (by
    match x with
    | ⟨0, _⟩ => rfl
    | ⟨1, _⟩ => rfl
    | ⟨2, _⟩ => exact hk0
    | ⟨3, _⟩ => exact hk1)
  have er : dot_S4x128x1x8192_S1x8192x4x128_S4x128x128_23_01_1_3_0_2.rhsIdx (ix3 g b a)
      ((ValueIdx.contrEquiv2 dot_S4x128x1x8192_S1x8192x4x128_S4x128x128_23_01_1_3_0_2 1 8192 rfl rfl rfl).symm (0, n)) = ix4 0 n g a := funext fun x => Fin.ext (by
    match x with
    | ⟨0, _⟩ => exact hk0
    | ⟨1, _⟩ => exact hk1
    | ⟨2, _⟩ => rfl
    | ⟨3, _⟩ => rfl)
  rw [el, er, v87_at, Q_at]

theorem v91_at (g : Fin 4) (a b : Fin 128) :
    val_main_v91 (F := Ideal) x0 x2 x3 (ix3 g a b) = ∑ n : Fin 8192, gX x3 g n.val b * gS x2 g b * gX (Q x0) g n.val a := by
  rw [val_main_v91_apply, ← v90_at]
  refine congrArg _ ((ValueIdx.eq_ix3 _).trans ?_)
  congr 1

theorem v75_at (n : Fin 8192) (k : Fin 512) :
    val_main_v75 (F := Ideal) x0 x1 (ix3 0 n k) = ∑ d : Fin 128, gW x1 (grp k) d (lan k) * gX (Q x0) (grp k) n.val d := by
  rw [val_main_v75_apply, val_main_v74_apply, show idx_main_v74 (idx_main_v75 (ix3 0 n k)) = ix4 (grp k) (lan k) 0 n from ?_, val_main_v73_apply]
  · refine Finset.sum_congr rfl fun d _ => ?_
    rw [show ridx_main_v73 (ix4 (grp k) (lan k) 0 n) d = ix4 0 n (grp k) d from ?_, Q_at]
    · refine congrArg (· * _) (congrArg x1 ((ValueIdx.eq_ix3 _).trans ?_))
      congr 1
    · refine (ValueIdx.eq_ix4 _).trans ?_
      congr 1
  · refine (ValueIdx.eq_ix4 _).trans ?_
    have := k.isLt; have := n.isLt
    congr 1 <;> apply Fin.ext <;> simp [grp, lan, i4_0, i4_1, i4_2, i4_3, i2_0, i2_1, i3_0, i3_1, i3_2] <;> omega

theorem v81_at (k : Fin 512) :
    val_main_v81 (F := Ideal) x0 x1 x3 (ix2 0 k)
      = 0 + ∑ n : Fin 8192, (∑ d : Fin 128, gW x1 (grp k) d (lan k) * gX (Q x0) (grp k) n.val d) * ext x3 n.val k := by
  rw [val_main_v81_apply]
  refine congrArg₂ (· + ·) Ideal.ofBits_zero_f32 (Finset.sum_congr rfl fun n _ => ?_)
  rw [show idx_main_v81 (ix2 0 k) n = ix3 0 n k from ?_, val_main_v80_apply, v75_at, val_main_v79_apply]
  · refine congrArg (_ * ·) ?_
    rw [← ext_of x3 n.val k n rfl]
    refine congrArg x3 ((ValueIdx.eq_ix2 _).trans ?_)
    have := k.isLt; have := n.isLt
    congr 1 <;> apply Fin.ext <;> simp [i2_0, i2_1, i3_0, i3_1, i3_2] <;> omega
  · refine (ValueIdx.eq_ix3 _).trans ?_
    congr 1

theorem v150_at (k : Fin 512) :
    val_main_v150 (F := Ideal) x0 x1 x3 (ix2 0 k)
      = 0 + (0 + ∑ n : Fin 8192, (∑ d : Fin 128, gW x1 (grp k) d (lan k) * gX (Q x0) (grp k) n.val d) * ext x3 n.val k) := by
  rw [val_main_v150_apply, ← v81_at]
  unfold val_main_v85
  simp only [Host.reduceAdd, Ideal.hostReduceAdd_def]
  unfold Ideal.hostReduceAdd
  refine congrArg₂ (· + ·) Ideal.ofBits_zero_f32 ?_
  rw [Finset.sum_eq_single (ix3 0 0 k : S1x1x512.Idx)]
  · rw [val_main_v82_apply]
    refine congrArg _ ((ValueIdx.eq_ix2 _).trans ?_)
    have := k.isLt
    congr 1 <;> apply Fin.ext <;> simp [i2_0, i2_1, i3_0, i3_1, i3_2]
  · intro i hi hne
    exfalso
    apply hne
    have e := congrFun (Finset.mem_filter.mp hi).2 (0 : Fin 1)
    have hv : (reducesTo_S1x1x512_S512_d0_1.drop i (0 : Fin 1)).val = (i 2).val :=
      (Shape.ReducesTo.drop_apply_val reducesTo_S1x1x512_S512_d0_1 i (0 : Fin 1)).trans rfl
    have h0 : (i 0).val < 1 := (i 0).isLt
    have h1 : (i 1).val < 1 := (i 1).isLt
    refine (ValueIdx.eq_ix3 i).trans ?_
    congr 1
    · apply Fin.ext
      show (i 0).val = 0
      omega
    · apply Fin.ext
      show (i 1).val = 0
      omega
  · intro h
    exfalso
    apply h
    refine Finset.mem_filter.mpr ⟨Finset.mem_univ _, funext fun b => Fin.ext ?_⟩
    match b with
    | ⟨0, _⟩ => exact (Shape.ReducesTo.drop_apply_val reducesTo_S1x1x512_S512_d0_1 (ix3 0 0 k) (0 : Fin 1)).trans rfl

end Cert.Pool.Ref

end
-- ==== Proof.Pooled.lean ====
module

public import proofs.«01_k».proof.Proof.Ref2

/-! The pooled activations and the weights as the kernel's launch finds them. -/

@[expose] public section

set_option maxRecDepth 16384

noncomputable section

namespace Cert.Pool

open Cert.KernelIdeal Cert.KernelIdeal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

variable (m : (ℓ : Loc nD τ sig) → Buf (Elt Ideal) ℓ) (c : Dev nD)

theorem W_eq : aW m c = m ((c : Thread nD τ).loc main_arg1) := by
  show V m c main_v70 = _
  unfold V hostOps0 hostOps0_1 hostOps0_2
  after_results
  rfl

theorem Q_eq0 : V m c main_v69 = (truncf (F := Ideal) (φ := .f32) .bf16 (shapeCast S8192x512
    (Cert.ReferenceIdeal.Read.val_main_v72 (F := Ideal) (m ((c : Thread nD τ).loc main_arg0)) : (⟨Cert.ReferenceIdeal.S1x8192x4x128, .f32⟩ : BufTy).Contents (Elt Ideal))
      shapeCasts_S1x8192x4x128_S8192x512) bitsLt_bf16_f32 : (⟨S8192x512, .bf16⟩ : BufTy).Contents (Elt Ideal)) := by
  unfold V hostOps0 hostOps0_1 hostOps0_2
  after_results
  rfl

end Cert.Pool

end
-- ==== Proof.Finite.lean ====
module

public import Idealize.ShloMosaic.Lib.Pipeline.Value
public import Idealize.ShloMosaic.PureOps.Ideal.Laws

/-! Extended reals that are real numbers. -/

@[expose] public section

noncomputable section

namespace Cert

open Idealize.ShloMosaic

/-- The value is a real number. -/
def IsFin (x : EReal) : Prop := ∃ r : ℝ, x = (r : EReal)

theorem IsFin.zero : IsFin 0 := ⟨0, rfl⟩
theorem IsFin.mul {x y : EReal} (hx : IsFin x) (hy : IsFin y) : IsFin (x * y) := by
  obtain ⟨a, rfl⟩ := hx
  obtain ⟨b, rfl⟩ := hy
  exact ⟨a * b, (EReal.coe_mul a b).symm⟩
theorem IsFin.add {x y : EReal} (hx : IsFin x) (hy : IsFin y) : IsFin (x + y) := by
  obtain ⟨a, rfl⟩ := hx
  obtain ⟨b, rfl⟩ := hy
  exact ⟨a + b, (EReal.coe_add a b).symm⟩
theorem IsFin.sum {ι : Type} (s : Finset ι) (f : ι → EReal) (hf : ∀ i ∈ s, IsFin (f i)) : IsFin (∑ i ∈ s, f i) := by
  classical
  induction s using Finset.induction_on with
  | empty => exact IsFin.zero
  | insert a s ha ih =>
    rw [Finset.sum_insert ha]
    exact (hf a (Finset.mem_insert_self ..)).add (ih fun i hi => hf i (Finset.mem_insert_of_mem hi))

/-- A value whose magnitude is below infinity is a real number. -/
theorem fin_of_lt (x : EReal)
    (h : FloatOps.cmpf (F := Ideal) (φ := .f32) .olt (FloatOps.hostAbsf x) (FloatOps.ofBits .f32 0x7F800000#32) = 1#1) : IsFin x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x with
  | bot => simp at h
  | top => simp at h
  | coe r => exact ⟨r, rfl⟩

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem IsFin.neg {x : EReal} (hx : IsFin x) : IsFin (-x) := by
  obtain ⟨a, rfl⟩ := hx
  exact ⟨-a, (EReal.coe_neg a).symm⟩
theorem IsFin.sub {x y : EReal} (hx : IsFin x) (hy : IsFin y) : IsFin (x - y) := by
  obtain ⟨a, rfl⟩ := hx
  obtain ⟨b, rfl⟩ := hy
  exact ⟨a - b, (EReal.coe_sub a b).symm⟩

end Cert

end
-- ==== Proof.Tel.lean ====
module

public import proofs.«01_k».proof.Proof.Ref2
public import proofs.«01_k».proof.Proof.Gen.Pre_finite
public import proofs.«01_k».proof.Proof.Finite
public import Idealize.ShloMosaic.Lib.ReduceAll

/-! Finite values, the telescoping sum, and the three results of the reference in the kernel's form. -/

@[expose] public section

set_option maxRecDepth 16384

noncomputable section

namespace Cert.Pool

open Idealize.SL.Sem Idealize.ShloMosaic.Tactic Cert.ReferenceIdeal
open Idealize.ShloMosaic hiding ix0 ix1 ix2 ix3 ix4 ix5
open Idealize.ShloMosaic.TcCoe Idealize.ShloMosaic.ValueIdx

/-! ## The telescoping sum -/

theorem tel_real (w : ℕ) (f : ℕ → ℝ) (M : ℕ) :
    ∑ d ∈ Finset.range M, (f d + -f (d + w)) = ∑ j ∈ Finset.range w, f j - ∑ j ∈ Finset.range w, f (M + j) := by
  induction M with
  | zero => simp
  | succ M ih =>
    rw [Finset.sum_range_succ, ih]
    have h1 := Finset.sum_range_succ (fun j => f (M + j)) w
    have h2 := Finset.sum_range_succ' (fun j => f (M + j)) w
    have h3 : ∑ j ∈ Finset.range w, f (M + 1 + j) = ∑ j ∈ Finset.range w, f (M + (j + 1)) :=
      Finset.sum_congr rfl fun j _ => by rw [add_assoc, add_comm 1 j]
    rw [h1] at h2
    rw [h3, show M + 0 = M from rfl] at *
    linarith

/-- Differences at a fixed distance, summed to the end of the rows, leave the first ones. -/
theorem tel (w N : ℕ) (e : ℕ → EReal) (he : ∀ t, IsFin (e t)) (hz : ∀ t, N ≤ t → e t = 0) (n : ℕ) (hn : n ≤ N) :
    ∑ d ∈ Finset.range (N - n), (e (n + d) + -e (n + d + w)) = ∑ j ∈ Finset.range w, e (n + j) := by
  choose f hf using he
  have hz' : ∀ t, N ≤ t → f t = 0 := fun t ht => by
    have := hz t ht
    rw [hf] at this
    exact_mod_cast this
  have h := tel_real w (fun d => f (n + d)) (N - n)
  rw [Finset.sum_eq_zero (f := fun j => f (n + (N - n + j))) (fun j _ => hz' _ (by omega)), sub_zero] at h
  simp only [hf, ← EReal.coe_neg, ← EReal.coe_add]
  rw [← coe_sum, ← coe_sum]
  refine congrArg _ (Eq.trans (Finset.sum_congr rfl fun d _ => ?_) h)
  rw [add_assoc]

/-- A sum over the rows is the sum over the tiles of the sums over a tile's rows. -/
theorem rows_tiles (f : ℕ → EReal) : ∑ n : Fin 8192, f n.val = ∑ t ∈ Finset.range 16, ∑ r : Fin 512, f (512 * t + r.val) := by
  rw [Fin.sum_univ_eq_sum_range f 8192, show 8192 = 16 * 512 from rfl, Finset.sum_range_mul_split]
  refine Finset.sum_congr rfl fun t _ => ?_
  rw [Fin.sum_univ_eq_sum_range (fun r => f (512 * t + r)) 512]
  exact Finset.sum_congr rfl fun r _ => by rw [mul_comm]

/-! ## The reference's results in the kernel's form -/

variable (x0 : (⟨S8192x512, .f32⟩ : BufTy).Contents (Elt Ideal)) (x1 : (⟨S4x128x128, .f32⟩ : BufTy).Contents (Elt Ideal))
  (x2 : (⟨S1x512, .f32⟩ : BufTy).Contents (Elt Ideal)) (x3 : (⟨S8192x512, .f32⟩ : BufTy).Contents (Elt Ideal))

theorem ext_fin (h3 : ∀ i, IsFin (x3 i)) (n : ℕ) (k : Fin 512) : IsFin (ext x3 n k) := by
  by_cases hn : n < 8192
  · rw [← ext_of x3 n k ⟨n, hn⟩ rfl]
    exact h3 _
  · rw [ext_big _ _ _ (by omega)]
    exact IsFin.zero

theorem E_fin (h1 : ∀ i, IsFin (x1 i)) (h2 : ∀ i, IsFin (x2 i)) (h3 : ∀ i, IsFin (x3 i)) (n : ℕ) (k : Fin 512) :
    IsFin (Ref.E x3 x1 x2 n k) := by
  refine IsFin.mul (IsFin.sum _ _ fun d _ => ?_) ⟨_, rfl⟩
  exact ((ext_fin x3 h3 n _).mul (h2 _)).mul (h1 _)

theorem du_ref (h1 : ∀ i, IsFin (x1 i)) (h2 : ∀ i, IsFin (x2 i)) (h3 : ∀ i, IsFin (x3 i)) :
    Read.val_main_v149 (F := Ideal) x1 x2 x3 = fun y : S8192x512.Idx => duOf x3 x1 x2 (y 0).val (y 1) := by
  funext y
  obtain ⟨n, k, rfl⟩ : ∃ n k, y = ix2 n k := ⟨y 0, y 1, ValueIdx.eq_ix2 y⟩
  rw [Ref.v149_at, tel _ 8192 (fun t => Ref.E x3 x1 x2 t k) (fun t => E_fin x1 x2 x3 h1 h2 h3 t k)
    (fun t ht => by
      show _ * _ = _
      rw [Ref.bp_big _ _ _ _ _ ht, zero_mul]) n.val n.isLt.le]
  show _ = bdu _ _ _ _ 0 n.val (lan k)
  unfold bdu
  rw [sub_eq_add_neg, add_comm]
  refine congrArg (· + _) (Finset.sum_congr rfl fun j _ => ?_)
  rw [zero_add]
  rfl

theorem dw_ref : Read.val_main_v91 (F := Ideal) x0 x2 x3
    = fun y : S4x128x128.Idx => 0 + ∑ t ∈ Finset.range 16, dwTerm x3 (Ref.Q x0) x2 t y := by
  funext y
  obtain ⟨g, a, b, rfl⟩ : ∃ g a b, y = ix3 g a b := ⟨y 0, y 1, y 2, ValueIdx.eq_ix3 y⟩
  rw [Ref.v91_at, zero_add, rows_tiles (fun n => gX x3 g n b * gS x2 g b * gX (Ref.Q x0) g n a)]
  exact Finset.sum_congr rfl fun t _ => Finset.sum_congr rfl fun r _ => mul_comm _ _

theorem ds_ref : Read.val_main_v150 (F := Ideal) x0 x1 x3
    = fun y : S1x512.Idx => 0 + ∑ t ∈ Finset.range 16, dsTerm x3 (Ref.Q x0) x1 t y := by
  funext y
  obtain ⟨z, k, rfl⟩ : ∃ z k, y = ix2 z k := ⟨y 0, y 1, ValueIdx.eq_ix2 y⟩
  obtain rfl : z = 0 := Subsingleton.elim _ _
  rw [Ref.v150_at, zero_add, rows_tiles (fun n => (∑ d : Fin 128, gW x1 (grp k) d (lan k) * gX (Ref.Q x0) (grp k) n d) * ext x3 n k)]
  refine congrArg _ (Finset.sum_congr rfl fun t _ => Finset.sum_congr rfl fun r _ => ?_)
  rw [mul_comm]
  refine congrArg₂ (· * ·) ?_ (Finset.sum_congr rfl fun d _ => mul_comm _ _)
  show _ = ext x3 _ (gcol (grp k) (lan k))
  rw [gcol_grp_lan]

/-! ## The precondition -/

theorem pre_fin (h : Cert.Pre_finite.fn (F := Ideal) x0 x1 x2 x3 = fun _ => 1#1) :
    (∀ i, IsFin (x1 i)) ∧ (∀ i, IsFin (x2 i)) ∧ ∀ i, IsFin (x3 i) := by
  have h0 := congrFun h ix0
  unfold Cert.Pre_finite.fn at h0
  dsimp only at h0
  obtain ⟨h12, h3⟩ := IntOp.andi_eq_one.mp h0
  obtain ⟨h1, h2⟩ := IntOp.andi_eq_one.mp h12
  haveI : Subsingleton Cert.Pre_finite.S_.Idx := ⟨fun a b => (ValueIdx.eq_ix0 a).trans (ValueIdx.eq_ix0 b).symm⟩
  exact ⟨fun i => fin_of_lt _ (Host.reduce_andi_all _ _ _ _ _ h1 i), fun i => fin_of_lt _ (Host.reduce_andi_all _ _ _ _ _ h2 i),
    fun i => fin_of_lt _ (Host.reduce_andi_all _ _ _ _ _ h3 i)⟩

end Cert.Pool

end
-- ==== Proof.Final.lean ====
module

public import proofs.«01_k».proof.Proof.Pooled
public import proofs.«01_k».proof.Proof.Tel
public import proofs.«01_k».proof.Proof.Gen.ReferenceIdeal.Run

/-! The kernel's three arrays are the reference's three results. -/

@[expose] public section

set_option maxRecDepth 16384

noncomputable section

namespace Cert.Pool

open Cert.KernelIdeal Cert.KernelIdeal.Gen Idealize.SL.Sem Idealize.ShloMosaic.Tactic
open Idealize.ShloMosaic hiding ix0 ix1 ix2 ix3 ix4 ix5
open Idealize.ShloMosaic.TcCoe Idealize.ShloMosaic.ValueIdx

variable (m : (ℓ : Loc nD τ sig) → Buf (Elt Ideal) ℓ) (c : Dev nD)

theorem Q_eq : aQ m c = Ref.Q (m ((c : Thread nD τ).loc main_arg0)) := by
  unfold aQ
  rw [Q_eq0]
  funext y
  obtain ⟨n, k, rfl⟩ : ∃ n k, y = ix2 n k := ⟨y 0, y 1, ValueIdx.eq_ix2 y⟩
  generalize hq : Cert.ReferenceIdeal.Read.val_main_v72 (F := Ideal) (m ((c : Thread nD τ).loc main_arg0)) = q
  show shapeCast S8192x512 q _ (ix2 n k) = Ref.Q _ (ix2 n k)
  unfold Ref.Q
  rw [hq]
  refine shapeCast_apply q _ (ix2 n k) (ix4 0 n (grp k) (lan k)) ?_
  rewrite [Shape.rowMajor_val_four, Shape.rowMajor_val_two]
  show ((0 * 8192 + n.val) * 4 + k.val / 128) * 128 + k.val % 128 = n.val * 512 + k.val
  omega

theorem X_eq : aX m c = m ((c : Thread nD τ).loc main_arg3) := V_main_arg3 m c
theorem S_eq : aS m c = m ((c : Thread nD τ).loc main_arg2) := V_main_arg2 m c

theorem du_eq (h1 : ∀ i : S4x128x128.Idx, IsFin (m ((c : Thread nD τ).loc main_arg1) i))
    (h2 : ∀ i : S1x512.Idx, IsFin (m ((c : Thread nD τ).loc main_arg2) i))
    (h3 : ∀ i : S8192x512.Idx, IsFin (m ((c : Thread nD τ).loc main_arg3) i)) :
    (dats m 0 c).arrAt 5 cfg0.N = Cert.ReferenceIdeal.Read.val_main_v149 (F := Ideal) (m ((c : Thread nD τ).loc main_arg1))
      (m ((c : Thread nD τ).loc main_arg2)) (m ((c : Thread nD τ).loc main_arg3)) :=
  (du_final m c).trans (by rw [X_eq, W_eq, S_eq]; exact (du_ref _ _ _ h1 h2 h3).symm)

theorem dw_eq : (dats m 0 c).arrAt 6 cfg0.N = Cert.ReferenceIdeal.Read.val_main_v91 (F := Ideal) (m ((c : Thread nD τ).loc main_arg0))
      (m ((c : Thread nD τ).loc main_arg2)) (m ((c : Thread nD τ).loc main_arg3)) :=
  (dw_final m c).trans (by rw [X_eq, Q_eq, S_eq]; exact (dw_ref _ _ _).symm)

theorem ds_eq : (dats m 0 c).arrAt 7 cfg0.N = Cert.ReferenceIdeal.Read.val_main_v150 (F := Ideal) (m ((c : Thread nD τ).loc main_arg0))
      (m ((c : Thread nD τ).loc main_arg1)) (m ((c : Thread nD τ).loc main_arg3)) :=
  (ds_final m c).trans (by rw [X_eq, Q_eq, W_eq]; exact (ds_ref _ _ _).symm)

end Cert.Pool

end
-- ==== Proof.Prod.lean ====
module

public import Idealize.ShloMosaic.Lib.Pipeline.Value
public import Idealize.ShloMosaic.Lib.Tactic
public import Idealize.ShloMosaic.Lib.ValueIdx
public import Idealize.ShloMosaic.PureOps.Ideal.Laws

/-! Products of matrices read at an element, and a long sum cut into equal tiles. -/

@[expose] public section

set_option maxRecDepth 16384

noncomputable section

namespace Cert.Ffn

open Idealize.SL.Sem Idealize.ShloMosaic
open Idealize.ShloMosaic.ValueIdx

/-- A product into a zero accumulator with one contracted axis of length `K`, read at `j`, where `L k` and `R k` are the
operands' places at contracted position `k`. -/
theorem product_at {sl sr so : Shape} {φ₁ φ₂ : FTy} (d : DotDims sl sr so) (prec : Option ContractPrecision) (K : ℕ)
    (hr : d.contr.rank = 1) (hs : d.contr.size ⟨0, by omega⟩ = K)
    (x : FVec Ideal sl φ₁) (y : FVec Ideal sr φ₂) (j : so.Idx) (L : Fin K → sl.Idx) (R : Fin K → sr.Idx)
    (hL : ∀ (k : Fin K) (q : d.contr.Idx), (q ⟨0, by omega⟩).val = k.val → d.lhsIdx j q = L k)
    (hR : ∀ (k : Fin K) (q : d.contr.Idx), (q ⟨0, by omega⟩).val = k.val → d.rhsIdx j q = R k) :
    (matmul d prec x y (constant so .f32 0x00000000#32) : FVec Ideal so .f32) j = ∑ k : Fin K, x (L k) * y (R k) := by
  rw [matmul, Ideal.matmul_constant_zero_apply, ← Equiv.sum_comp (contrEquiv1 d K hr hs).symm]
  refine Finset.sum_congr rfl fun k _ => ?_
  have hk := contrEquiv1_symm_val d K hr hs k
  rw [hL k _ hk, hR k _ hk]

/-- A sum over `n * b` positions taken tile by tile. -/
theorem sum_tiles {M : Type} [AddCommMonoid M] (n b N : ℕ) (h : N = n * b) (f : ℕ → M) :
    ∑ k : Fin N, f k.val = ∑ t ∈ Finset.range n, ∑ r : Fin b, f (b * t + r.val) := by
  subst h
  rw [Fin.sum_univ_eq_sum_range f (n * b)]
  induction n with
  | zero => simp
  | succ n ih =>
    rw [Nat.succ_mul, Finset.sum_range_add, ih, Finset.sum_range_succ, Fin.sum_univ_eq_sum_range (fun r => f (b * n + r)) b,
      Nat.mul_comm n b]

end Cert.Ffn

end
-- ==== Proof.Rows.lean ====
module

public import proofs.«01_k».proof.Proof.Prod

/-! What one row of the batch goes through in the feed-forward layer: the root-mean-square norm, the gate's logistic
function, products with weights; and row sums and row and column broadcasts of a tile read at an element. -/

@[expose] public section

set_option maxRecDepth 16384

noncomputable section

namespace Cert.Ffn

open Idealize.SL.Sem Idealize.ShloMosaic
open Idealize.ShloMosaic.ValueIdx

/-! ## A tile at an element -/

theorem row_sum {m n : ℕ} (v : FVec Ideal ⟨2, ![m, n]⟩ .f32) (h : (⟨2, ![m, n]⟩ : Shape).Reduces [1] ⟨1, ![m]⟩) (hφ : FKind.Formats .f32)
    (hacc : (0x00000000#32 : BitVec 32) = FKind.add.neutral .f32 hφ) (hc : (⟨1, ![m]⟩ : Shape).ShapeCasts ⟨2, ![m, 1]⟩) (r : Fin m) (z : Fin 1) :
    shapeCast ⟨2, ![m, 1]⟩ (multiReduction .add [1] ⟨1, ![m]⟩ v 0x00000000#32 h hφ hacc) hc (ix2 r z) = ∑ k : Fin n, v (ix2 r k) := by
  refine (shapeCast_apply _ hc (ix2 r z) (ix1 r) ?_).trans ?_
  · rw [Shape.rowMajor_val_one, Shape.rowMajor_val_two]
    show r.val = r.val * 1 + z.val
    omega
  · refine (Ideal.multiReduction_add_single v _ h hφ hacc (ix1 r)).trans (Finset.sum_congr rfl fun k _ => congrArg v ?_)
    exact funext fun a => Fin.ext (by match a with | ⟨0, _⟩ => rfl | ⟨1, _⟩ => rfl)

theorem col_sum {m n : ℕ} (v : FVec Ideal ⟨2, ![m, n]⟩ .f32) (h : (⟨2, ![m, n]⟩ : Shape).Reduces [0] ⟨1, ![n]⟩) (hφ : FKind.Formats .f32)
    (hacc : (0x00000000#32 : BitVec 32) = FKind.add.neutral .f32 hφ) (hc : (⟨1, ![n]⟩ : Shape).ShapeCasts ⟨2, ![1, n]⟩) (z : Fin 1) (k : Fin n) :
    shapeCast ⟨2, ![1, n]⟩ (multiReduction .add [0] ⟨1, ![n]⟩ v 0x00000000#32 h hφ hacc) hc (ix2 z k) = ∑ r : Fin m, v (ix2 r k) := by
  refine (shapeCast_apply _ hc (ix2 z k) (ix1 k) ?_).trans ?_
  · rw [Shape.rowMajor_val_one, Shape.rowMajor_val_two]
    show k.val = z.val * n + k.val
    have := z.isLt
    rw [show z.val = 0 by omega]
    omega
  · refine (Ideal.multiReduction_add_single v _ h hφ hacc (ix1 k)).trans (Finset.sum_congr rfl fun r _ => congrArg v ?_)
    exact funext fun a => Fin.ext (by match a with | ⟨0, _⟩ => rfl | ⟨1, _⟩ => rfl)

theorem over_cols {m n : ℕ} (x : FVec Ideal ⟨2, ![m, 1]⟩ .f32) (h : (⟨2, ![m, 1]⟩ : Shape).Broadcasts ⟨2, ![m, n]⟩) (r : Fin m) (k : Fin n) :
    broadcastTo ⟨2, ![m, n]⟩ x h (ix2 r k) = x (ix2 r 0) :=
  broadcastTo_apply x h (ix2 r k) (ix2 r 0) (fun a => match a with
    | ⟨0, _⟩ => by
        show r.val = if m = 1 then 0 else r.val
        have := r.isLt
        split <;> omega
    | ⟨1, _⟩ => rfl)

theorem over_rows {m n : ℕ} (x : FVec Ideal ⟨2, ![1, n]⟩ .f32) (h : (⟨2, ![1, n]⟩ : Shape).Broadcasts ⟨2, ![m, n]⟩) (r : Fin m) (k : Fin n) :
    broadcastTo ⟨2, ![m, n]⟩ x h (ix2 r k) = x (ix2 0 k) :=
  broadcastTo_apply x h (ix2 r k) (ix2 0 k) (fun a => match a with
    | ⟨0, _⟩ => rfl
    | ⟨1, _⟩ => by
        show k.val = if n = 1 then 0 else k.val
        have := k.isLt
        split <;> omega)

/-! ## The numbers the programs print -/

abbrev one : EReal := Ideal.ofBits .f32 0x3F800000#32
abbrev half : EReal := Ideal.ofBits .f32 0x3F000000#32
abbrev width : EReal := Ideal.ofBits .f32 0x44800000#32
abbrev tiny : EReal := Ideal.ofBits .f32 0x358637BD#32

theorem one_eq : one = 1 := by
  show Ideal.ofBits .f32 0x3F800000#32 = 1
  simp [Ideal.ofBits, Ideal.ieee]
  rw [← EReal.coe_mul]
  norm_num

theorem half_eq : half = ((1 / 2 : ℝ) : EReal) := by
  show Ideal.ofBits .f32 0x3F000000#32 = ((1 / 2 : ℝ) : EReal)
  simp [Ideal.ofBits, Ideal.ieee]
  rw [← EReal.coe_mul]
  norm_num

theorem width_eq : width = ((1024 : ℝ) : EReal) := by
  show Ideal.ofBits .f32 0x44800000#32 = ((1024 : ℝ) : EReal)
  simp [Ideal.ofBits, Ideal.ieee]
  rw [← EReal.coe_mul]
  norm_num

/-! ## The logistic function -/

/-- The logistic function as the reference writes it. -/
def sg (z : EReal) : EReal := Ideal.div one (one + Ideal.exp (-z))

theorem real_sg (r : ℝ) : sg (r : EReal) = (((1 + Real.exp (-r))⁻¹ : ℝ) : EReal) := by
  unfold sg
  rw [one_eq]
  exact Ideal.logistic_coe r

theorem tanh_half (r : ℝ) : 1 / 2 * Real.tanh (1 / 2 * r) + 1 / 2 = (1 + Real.exp (-r))⁻¹ := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, h1]
  generalize Real.exp (1 / 2 * r) = a at *
  generalize Real.exp (-(1 / 2 * r)) = b at *
  have : (0 : ℝ) < 1 + b * b := by positivity
  field_simp
  nlinarith [h2]

/-- The kernel's hyperbolic tangent at half the argument is the logistic function, at infinities too. -/
theorem sg_tanh (z : EReal) : half * Ideal.tanh (half * z) + half = sg z := by
  induction z with
  | bot =>
    have e : half * ⊥ = (⊥ : EReal) := by rw [half_eq]; exact EReal.coe_mul_bot_of_pos (by norm_num)
    rw [e, Ideal.tanh_bot, half_eq]
    unfold sg
    rw [one_eq, EReal.neg_bot, Ideal.exp_top]
    have : (1 : EReal) + ⊤ = ⊤ := rfl
    rw [this]
    unfold Ideal.div
    rw [if_neg (by simp), EReal.inv_top, mul_zero, mul_neg, mul_one, ← EReal.coe_neg, ← EReal.coe_add]
    norm_num
  | top =>
    have e : half * ⊤ = (⊤ : EReal) := by rw [half_eq]; exact EReal.coe_mul_top_of_pos (by norm_num)
    rw [e, Ideal.tanh_top, half_eq]
    unfold sg
    rw [one_eq, EReal.neg_top, Ideal.exp_bot, add_zero]
    have : Ideal.div (1 : EReal) 1 = 1 := by unfold Ideal.div; rw [if_neg one_ne_zero]; simp
    rw [this, mul_one, ← EReal.coe_add]
    norm_num
  | coe r =>
    rw [real_sg, half_eq, ← EReal.coe_mul, Ideal.tanh_coe, ← EReal.coe_mul, ← EReal.coe_add, tanh_half]

/-! ## One row through the layer -/

/-- A row against the rows of a weight matrix. -/
def lin {D E : ℕ} (h : Fin D → EReal) (W : (⟨2, ![E, D]⟩ : Shape).Idx → EReal) (k : Fin E) : EReal := ∑ j, h j * W (ix2 k j)

/-- A row against the columns of a weight matrix. -/
def lin' {D E : ℕ} (h : Fin D → EReal) (W : (⟨2, ![D, E]⟩ : Shape).Idx → EReal) (k : Fin E) : EReal := ∑ j, h j * W (ix2 j k)

/-- The reciprocal root of a row's mean square. -/
def inv (v : Fin 1024 → EReal) : EReal := Ideal.rsqrt (Ideal.div (∑ d, v d * v d) width + tiny)

/-- The gated activation. -/
def act (g u : EReal) : EReal := g * sg g * u

end Cert.Ffn

end
-- ==== Proof.BackRow.lean ====
module

public import proofs.«01_k».proof.Proof.Rows
public import proofs.«01_k».proof.Proof.Finite

/-! One row of the batch on the way back through the feed-forward layer: through the activation, the two products and the
root-mean-square norm; the kernel's and the reference's ways of writing it agree on real numbers. -/

@[expose] public section

set_option maxRecDepth 16384

noncomputable section

namespace Cert.Ffn

open Idealize.SL.Sem Idealize.ShloMosaic
open Idealize.ShloMosaic.ValueIdx

/-! ## The activation -/

/-- The cotangents of the gate and of the up projection, `a` being the activation's. -/
def dGate (a u g : EReal) : EReal := a * u * (sg g * (one + g * (one - sg g)))
def dUp (a g : EReal) : EReal := a * (g * sg g)

theorem sg_fin {g : EReal} (hg : IsFin g) : IsFin (sg g) := by
  obtain ⟨r, rfl⟩ := hg
  exact ⟨_, real_sg r⟩

theorem one_fin : IsFin one := ⟨1, one_eq.trans EReal.coe_one.symm⟩

theorem dGate_fin {a u g : EReal} (ha : IsFin a) (hu : IsFin u) (hg : IsFin g) : IsFin (dGate a u g) :=
  (ha.mul hu).mul ((sg_fin hg).mul (one_fin.add (hg.mul (one_fin.sub (sg_fin hg)))))
theorem dUp_fin {a g : EReal} (ha : IsFin a) (hg : IsFin g) : IsFin (dUp a g) := ha.mul (hg.mul (sg_fin hg))

/-- The product rule, as the reference writes the gate's cotangent. -/
theorem dGate_eq {a u g : EReal} (ha : IsFin a) (hu : IsFin u) (hg : IsFin g) :
    a * u * sg g + g * (a * u) * (sg g * (one - sg g)) = dGate a u g := by
  obtain ⟨a, rfl⟩ := ha
  obtain ⟨u, rfl⟩ := hu
  obtain ⟨g, rfl⟩ := hg
  unfold dGate
  rw [real_sg, show one = ((1 : ℝ) : EReal) from one_eq.trans EReal.coe_one.symm]
  simp only [← EReal.coe_mul, ← EReal.coe_add, ← EReal.coe_sub]
  exact congrArg _ (by ring)

/-! ## The norm -/

/-- The mean square of a row, with the small number added. -/
def ms (v : Fin 1024 → EReal) : EReal := Ideal.div (∑ d, v d * v d) width + tiny

theorem inv_ms (v : Fin 1024 → EReal) : inv v = Ideal.rsqrt (ms v) := rfl

theorem tiny_pos : ∃ e : ℝ, 0 < e ∧ tiny = (e : EReal) := by
  refine ⟨8796093 * (2 ^ 43)⁻¹, by positivity, ?_⟩
  show Ideal.ofBits .f32 0x358637BD#32 = _
  simp [Ideal.ofBits, Ideal.ieee]

theorem rsqrt_pos {q : ℝ} (hq : 0 < q) : Ideal.rsqrt (q : EReal) = (((Real.sqrt q)⁻¹ : ℝ) : EReal) := by
  rw [Ideal.rsqrt_coe, if_neg hq.not_gt, if_neg hq.ne']

theorem div_width (r : ℝ) : Ideal.div (r : EReal) width = ((r / 1024 : ℝ) : EReal) := by
  rw [width_eq, Ideal.div_coe (by norm_num), ← EReal.coe_mul]
  exact congrArg _ (by ring)

theorem ms_real (v : Fin 1024 → ℝ) : ∃ q : ℝ, 0 < q ∧ ms (fun d => (v d : EReal)) = (q : EReal) := by
  obtain ⟨e, he, ht⟩ := tiny_pos
  refine ⟨(∑ d, v d * v d) / 1024 + e, by
    have : 0 ≤ ∑ d, v d * v d := Finset.sum_nonneg fun d _ => mul_self_nonneg _
    positivity, ?_⟩
  unfold ms
  simp only [← EReal.coe_mul]
  rw [← coe_sum, div_width, ht, ← EReal.coe_add]

/-- A row's cotangent through the norm, with the stream's own added: `dh` for the scaled row, `g` the scale, `ct` the stream's. -/
def dRow (x dh g ct : Fin 1024 → EReal) (d : Fin 1024) : EReal :=
  inv x * (dh d * g d - x d * inv x * Ideal.div (∑ j, dh j * g j * (x j * inv x)) width) + ct d

/-- The reference's factor of the row itself. -/
def tw (x dh g : Fin 1024 → EReal) : EReal :=
  Ideal.div ((∑ j, x j * (dh j * g j)) * (Ideal.ofBits .f32 0xBF000000#32 * Ideal.div (inv x) (ms x))) width

theorem mhalf_eq : Ideal.ofBits .f32 0xBF000000#32 = ((-1 / 2 : ℝ) : EReal) := by
  simp [Ideal.ofBits, Ideal.ieee]
  rw [← EReal.coe_mul]
  norm_num

theorem dRow_eq {x dh g ct : Fin 1024 → EReal} (hx : ∀ d, IsFin (x d)) (hd : ∀ d, IsFin (dh d)) (hg : ∀ d, IsFin (g d)) (hc : ∀ d, IsFin (ct d)) (d : Fin 1024) :
    ct d + dh d * g d * inv x + x d * tw x dh g + tw x dh g * x d = dRow x dh g ct d := by
  choose x' hx using hx
  choose dh' hd using hd
  choose g' hg using hg
  choose ct' hc using hc
  obtain rfl : x = fun d => (x' d : EReal) := funext hx
  obtain rfl : dh = fun d => (dh' d : EReal) := funext hd
  obtain rfl : g = fun d => (g' d : EReal) := funext hg
  obtain rfl : ct = fun d => (ct' d : EReal) := funext hc
  obtain ⟨q, hq, e⟩ := ms_real x'
  have ei : inv (fun d => (x' d : EReal)) = ((Real.sqrt q)⁻¹ : ℝ) := by
    rw [inv_ms, e]
    exact rsqrt_pos hq
  unfold dRow tw
  rw [e, ei, mhalf_eq, Ideal.div_coe hq.ne']
  simp only [← EReal.coe_mul, ← coe_sum, div_width, ← EReal.coe_add, ← EReal.coe_sub]
  refine congrArg _ ?_
  have hs : ∑ j, dh' j * g' j * (x' j * (Real.sqrt q)⁻¹) = (∑ j, x' j * (dh' j * g' j)) * (Real.sqrt q)⁻¹ := by
    rw [Finset.sum_mul]
    exact Finset.sum_congr rfl fun j _ => by ring
  have h2 : 1 / q = (Real.sqrt q)⁻¹ * (Real.sqrt q)⁻¹ := by
    rw [← mul_inv, Real.mul_self_sqrt hq.le, one_div]
  rw [hs, h2]
  ring

theorem inv_fin {x : Fin 1024 → EReal} (hx : ∀ d, IsFin (x d)) : IsFin (inv x) := by
  choose x' hx using hx
  obtain rfl : x = fun d => (x' d : EReal) := funext hx
  obtain ⟨q, hq, e⟩ := ms_real x'
  rw [inv_ms, e]
  exact ⟨_, rsqrt_pos hq⟩

/-! ## The products -/

theorem lin_fin {h : Fin 1024 → EReal} {W : (⟨2, ![2816, 1024]⟩ : Shape).Idx → EReal} (hh : ∀ j, IsFin (h j)) (hW : ∀ i, IsFin (W i)) (k : Fin 2816) : IsFin (lin h W k) :=
  IsFin.sum _ _ fun j _ => (hh j).mul (hW _)
theorem lin'_fin {h : Fin 2816 → EReal} {W : (⟨2, ![2816, 1024]⟩ : Shape).Idx → EReal} (hh : ∀ j, IsFin (h j)) (hW : ∀ i, IsFin (W i)) (k : Fin 1024) : IsFin (lin' h W k) :=
  IsFin.sum _ _ fun j _ => (hh j).mul (hW _)

/-- The cotangent of the normalised row. -/
def dHid (a u g : Fin 2816 → EReal) (wg wu : (⟨2, ![2816, 1024]⟩ : Shape).Idx → EReal) (d : Fin 1024) : EReal :=
  lin' (fun k => dGate (a k) (u k) (g k)) wg d + lin' (fun k => dUp (a k) (g k)) wu d

theorem dHid_fin {a u g : Fin 2816 → EReal} {wg wu : (⟨2, ![2816, 1024]⟩ : Shape).Idx → EReal} (ha : ∀ k, IsFin (a k)) (hu : ∀ k, IsFin (u k)) (hg : ∀ k, IsFin (g k))
    (hwg : ∀ i, IsFin (wg i)) (hwu : ∀ i, IsFin (wu i)) (d : Fin 1024) : IsFin (dHid a u g wg wu d) :=
  (lin'_fin (fun k => dGate_fin (ha k) (hu k) (hg k)) hwg d).add (lin'_fin (fun k => dUp_fin (ha k) (hg k)) hwu d)

end Cert.Ffn

end
-- ==== Proof.BackRef.lean ====
module

public import proofs.«01_k».proof.Proof.BackRow
public import proofs.«01_k».proof.Proof.Gen.Reference2Ideal.Read
public import proofs.«01_k».proof.Proof.Gen.Pre_finite2
public import Idealize.ShloMosaic.Lib.ReduceAll
public import Idealize.ShloMosaic.Lib.Pipeline.ValueKit

/-! The feed-forward layer's backward pass, as the reference writes it: each cotangent's entries, for finite arguments, are
the kernel's row by row. -/

@[expose] public section

set_option maxRecDepth 16384

noncomputable section

namespace Cert.Ffn.BackRef

open Cert.Reference2Ideal Cert.Reference2Ideal.Read Idealize.SL.Sem
open Idealize.ShloMosaic hiding ix0 ix1 ix2 ix3 ix4 ix5
open Idealize.ShloMosaic.TcCoe Idealize.ShloMosaic.ValueIdx Idealize.ShloMosaic.StableHlo

variable (X C : S8192x1024.Idx → EReal) (g : S1x1024.Idx → EReal) (wg wu wd : S2816x1024.Idx → EReal) (n : Fin 8192)

/-! ## The rows -/

/-- The normalised row, gate, up projection, and the activation's cotangent. -/
abbrev hR : Fin 1024 → EReal := fun j => val_main_v13 (F := Ideal) X g (ix2 n j)
abbrev gR : Fin 2816 → EReal := fun k => val_main_v15 (F := Ideal) X g wg (ix2 n k)
abbrev uR : Fin 2816 → EReal := fun k => val_main_v17 (F := Ideal) X g wu (ix2 n k)
abbrev aR : Fin 2816 → EReal := lin (fun j => C (ix2 n j)) wd
abbrev xR : Fin 1024 → EReal := fun j => X (ix2 n j)
abbrev cR : Fin 1024 → EReal := fun j => C (ix2 n j)
abbrev nR : Fin 1024 → EReal := fun j => g (ix2 0 j)
abbrev dR : Fin 1024 → EReal := dHid (aR C wd n) (uR X g wu n) (gR X g wg n) wg wu

theorem v8_at (z : Fin 1) : val_main_v8 (F := Ideal) X (ix2 n z) = inv (xR X n) := by
  rw [val_main_v8_apply, val_main_v7_apply, val_main_v5_apply, val_main_v3_apply, val_main_v2_apply, val_main_v4_apply, val_main_v6_apply]
  refine congrArg (fun s => Ideal.rsqrt (Ideal.div s width + tiny)) ?_
  rw [val_main_cst_apply]
  refine (congrArg (· + _) Ideal.ofBits_zero_f32).trans ((zero_add _).trans (Finset.sum_congr rfl fun k _ => ?_))
  rw [val_main_v1_apply, show idx_main_v2 (idx_main_v3 (ix2 n z)) k = ix2 n k from ValueIdx.eq_ix2 _]
  rfl

theorem v12_at (d : Fin 1024) : val_main_v12 (F := Ideal) g (ix2 n d) = g (ix2 0 d) := by
  rw [val_main_v12_apply, val_main_v11_apply, val_main_v0_apply]
  exact congrArg g (funext fun a => Fin.ext (by match a with | ⟨0, _⟩ => rfl | ⟨1, _⟩ => exact Nat.mod_eq_of_lt d.isLt))

theorem v13_at (d : Fin 1024) : hR X g n d = xR X n d * inv (xR X n) * nR g d := by
  show val_main_v13 (F := Ideal) X g (ix2 n d) = _
  rw [val_main_v13_apply, val_main_v10_apply, val_main_v9_apply, show idx_main_v9 (ix2 n d) = ix2 n 0 from ValueIdx.eq_ix2 _, v8_at, v12_at]
  rfl

theorem v15_at (k : Fin 2816) : gR X g wg n k = lin (hR X g n) wg k := by
  refine (val_main_v15_apply _ _ _ _).trans (Finset.sum_congr rfl fun j _ => ?_)
  rw [val_main_v14_apply, show lidx_main_v15 (ix2 n k) j = ix2 n j from ValueIdx.eq_ix2 _,
    show idx_main_v14 (ridx_main_v15 (ix2 n k) j) = ix2 k j from ValueIdx.eq_ix2 _]

theorem v17_at (k : Fin 2816) : uR X g wu n k = lin (hR X g n) wu k := v15_at X g wu n k

theorem v21_at (k : Fin 2816) : val_main_v21 (F := Ideal) wd C (ix2 n k) = aR C wd n k := by
  refine (val_main_v21_apply _ _ _).trans (Finset.sum_congr rfl fun j _ => ?_)
  rw [show lidx_main_v21 (ix2 n k) j = ix2 n j from ValueIdx.eq_ix2 _, show ridx_main_v21 (ix2 n k) j = ix2 k j from ValueIdx.eq_ix2 _]

theorem sg_at (y : S8192x2816.Idx) : val_main_v18_2 (F := Ideal) X g wg y = sg (val_main_v15 (F := Ideal) X g wg y) := by
  rw [val_main_v18_2_apply, val_main_call0_v4_apply, val_main_call0_v3_apply, val_main_call0_v2_apply]
  rfl

/-! ## Finite arguments -/

variable {X C g wg wu wd}

theorem h_fin (hX : ∀ i, IsFin (X i)) (hg : ∀ i, IsFin (g i)) (d : Fin 1024) : IsFin (hR X g n d) := by
  rw [v13_at]
  exact ((hX _).mul (inv_fin fun j => hX _)).mul (hg _)
theorem g_fin (hX : ∀ i, IsFin (X i)) (hg : ∀ i, IsFin (g i)) (hw : ∀ i, IsFin (wg i)) (k : Fin 2816) : IsFin (gR X g wg n k) := by
  rw [v15_at]
  exact lin_fin (h_fin n hX hg) hw k
theorem u_fin (hX : ∀ i, IsFin (X i)) (hg : ∀ i, IsFin (g i)) (hw : ∀ i, IsFin (wu i)) (k : Fin 2816) : IsFin (uR X g wu n k) := g_fin n hX hg hw k
theorem a_fin (hC : ∀ i, IsFin (C i)) (hw : ∀ i, IsFin (wd i)) (k : Fin 2816) : IsFin (aR C wd n k) := lin_fin (fun j => hC _) hw k

variable (hX : ∀ i, IsFin (X i)) (hC : ∀ i, IsFin (C i)) (hg : ∀ i, IsFin (g i)) (hwg : ∀ i, IsFin (wg i)) (hwu : ∀ i, IsFin (wu i)) (hwd : ∀ i, IsFin (wd i))

/-! ## The cotangents -/

include hX hC hg hwg hwu hwd in
/-- The gate's. -/
theorem v24_at (k : Fin 2816) : val_main_v24 (F := Ideal) X g wg wu wd C (ix2 n k) = dGate (aR C wd n k) (uR X g wu n k) (gR X g wg n k) := by
  rw [val_main_v24_apply, val_main_call1_v1_apply, val_main_call1_v2_apply, val_main_call1_v0_apply, val_main_v23_apply, v21_at,
    val_main_v18_1_apply, val_main_call0_v7_apply, val_main_call0_v6_apply, sg_at]
  exact dGate_eq (a_fin n hC hwd k) (u_fin n hX hg hwu k) (g_fin n hX hg hwg k)

/-- The up projection's. -/
theorem v22_at (k : Fin 2816) : val_main_v22 (F := Ideal) X g wg wd C (ix2 n k) = dUp (aR C wd n k) (gR X g wg n k) := by
  rw [val_main_v22_apply, v21_at, val_main_v18_0_apply, sg_at]
  exact mul_comm _ _

theorem v50_same : val_main_v50 (F := Ideal) C = C := by
  funext y
  obtain ⟨i, j, rfl⟩ : ∃ i j, y = ix2 i j := ⟨y 0, y 1, ValueIdx.eq_ix2 y⟩
  rw [val_main_v50_apply]
  refine congrArg C (funext fun a => Fin.ext ?_)
  have hi := i.isLt
  have hj := j.isLt
  match a with
  | ⟨0, _⟩ => show (i.val * 1024 + j.val) / 1024 = i.val; omega
  | ⟨1, _⟩ => show (i.val * 1024 + j.val) % 1024 = j.val; omega

/-- The reference computes the forward pass, and the gate's and up projection's cotangents, twice. -/
theorem v51_same : val_main_v51 (F := Ideal) wd C = val_main_v21 (F := Ideal) wd C := by
  unfold val_main_v51
  rw [v50_same]
  rfl
theorem v52_same : val_main_v52 (F := Ideal) X g wg wd C = val_main_v22 (F := Ideal) X g wg wd C := by
  unfold val_main_v52
  rw [v51_same]
  rfl
theorem v54_same : val_main_v54 (F := Ideal) X g wg wu wd C = val_main_v24 (F := Ideal) X g wg wu wd C := by
  unfold val_main_v54 val_main_call3_v1 val_main_call3_v2 val_main_call3_v0 val_main_v53
  rw [v51_same]
  rfl

include hX hC hg hwg hwu hwd in
/-- The normalised row's. -/
theorem v57_at (d : Fin 1024) : val_main_v57 (F := Ideal) X g wg wu wd C (ix2 n d) = dR X C g wg wu wd n d := by
  refine (val_main_v57_apply _ _ _ _ _ _ _).trans ((add_comm _ _).trans ?_)
  refine congrArg₂ (· + ·) ((val_main_v56_apply _ _ _ _ _ _ _).trans (Finset.sum_congr rfl fun k _ => ?_))
    ((val_main_v55_apply _ _ _ _ _ _ _).trans (Finset.sum_congr rfl fun k _ => ?_))
  · rw [v54_same, show lidx_main_v56 (ix2 n d) k = ix2 n k from ValueIdx.eq_ix2 _, v24_at n hX hC hg hwg hwu hwd, val_main_v26_apply,
      show idx_main_v26 (ridx_main_v56 (ix2 n d) k) = ix2 k d from ValueIdx.eq_ix2 _]
  · rw [v52_same, show lidx_main_v55 (ix2 n d) k = ix2 n k from ValueIdx.eq_ix2 _, v22_at, val_main_v27_apply,
      show idx_main_v27 (ridx_main_v55 (ix2 n d) k) = ix2 k d from ValueIdx.eq_ix2 _]

theorem v35_at (z : Fin 1) : val_main_v35 (F := Ideal) X (ix2 n z) = inv (xR X n) := v8_at X n z

theorem v34_at (z : Fin 1) : val_main_v34 (F := Ideal) X (ix2 n z) = ms (xR X n) := by
  rw [val_main_v34_apply, val_main_v32_apply, val_main_v30_apply, val_main_v29_apply, val_main_v31_apply, val_main_v33_apply]
  refine congrArg (fun s => Ideal.div s width + tiny) ?_
  rw [val_main_cst_2_apply]
  refine (congrArg (· + _) Ideal.ofBits_zero_f32).trans ((zero_add _).trans (Finset.sum_congr rfl fun k _ => ?_))
  rw [val_main_v28_apply, show idx_main_v29 (idx_main_v30 (ix2 n z)) k = ix2 n k from ValueIdx.eq_ix2 _]
  rfl

theorem v61_at (d : Fin 1024) : val_main_v61 (F := Ideal) g (ix2 n d) = nR g d := v12_at g n d

include hX hC hg hwg hwu hwd in
theorem v62_at (d : Fin 1024) : val_main_v62 (F := Ideal) X g wg wu wd C (ix2 n d) = dR X C g wg wu wd n d * nR g d := by
  rw [val_main_v62_apply, v57_at n hX hC hg hwg hwu hwd, v61_at]
  rfl

include hX hC hg hwg hwu hwd in
theorem v66_at (z : Fin 1) : val_main_v66 (F := Ideal) X g wg wu wd C (ix2 n z) = ∑ j, xR X n j * (dR X C g wg wu wd n j * nR g j) := by
  rw [val_main_v66_apply, val_main_v65_apply, val_main_cst_8_apply]
  refine (congrArg (· + _) Ideal.ofBits_zero_f32).trans ((zero_add _).trans (Finset.sum_congr rfl fun j _ => ?_))
  rw [val_main_v64_apply, show idx_main_v65 (idx_main_v66 (ix2 n z)) j = ix2 n j from
    (ValueIdx.eq_ix2 _).trans (congrArg (ix2 · j) (Fin.ext (by show n.val * 1 + z.val = n.val; omega))), v62_at n hX hC hg hwg hwu hwd]
  rfl

include hX hC hg hwg hwu hwd in
theorem v74_at (d : Fin 1024) : val_main_v74 (F := Ideal) X g wg wu wd C (ix2 n d) = tw (xR X n) (dR X C g wg wu wd n) (nR g) := by
  rw [val_main_v74_apply, val_main_v73_apply, val_main_cst_10_apply]
  refine (congrArg (· + _) Ideal.ofBits_zero_f32).trans ((zero_add _).trans ((Fin.sum_univ_one _).trans ?_))
  rw [show idx_main_v73 (idx_main_v74 (ix2 n d)) 0 = ix2 n 0 from ValueIdx.eq_ix2 _, val_main_v72_apply, val_main_v70_apply, v66_at n hX hC hg hwg hwu hwd,
    val_main_v38_apply, val_main_v36_apply, v35_at, v34_at, val_main_v71_apply, val_main_v37_apply]
  rfl

include hX hC hg hwg hwu hwd in
/-- The residual stream's. -/
theorem v78_at (d : Fin 1024) : val_main_v78 (F := Ideal) X g wg wu wd C (ix2 n d) = dRow (xR X n) (dR X C g wg wu wd n) (nR g) (cR C n) d := by
  rw [val_main_v78_apply, val_main_v76_apply, val_main_v77_apply, val_main_v75_apply, val_main_v69_apply, val_main_v68_apply, v62_at n hX hC hg hwg hwu hwd,
    val_main_v67_apply, show idx_main_v67 (ix2 n d) = ix2 n 0 from ValueIdx.eq_ix2 _, v35_at, v74_at n hX hC hg hwg hwu hwd]
  exact dRow_eq (fun j => hX _) (dHid_fin (a_fin n hC hwd) (u_fin n hX hg hwu) (g_fin n hX hg hwg) hwg hwu) (fun j => hg _) (fun j => hC _) d

include hX hC hg hwg hwu hwd in
/-- The norm's scale's. -/
theorem v82_at (d : Fin 1024) : val_main_v82 (F := Ideal) X g wg wu wd C (ix2 0 d)
    = ∑ n : Fin 8192, dR X C g wg wu wd n d * (xR X n d * inv (xR X n)) := by
  rw [val_main_v82_apply, val_main_v63_apply, val_main_cst_7_apply]
  refine (congrArg (· + _) Ideal.ofBits_zero_f32).trans ((zero_add _).trans ((Fin.sum_univ_one _).trans ?_))
  rw [val_main_v60_apply, val_main_v59_apply, val_main_cst_6_apply]
  refine (congrArg (· + _) Ideal.ofBits_zero_f32).trans ((zero_add _).trans (Finset.sum_congr rfl fun k _ => ?_))
  rw [show idx_main_v59 (idx_main_v60 (idx_main_v63 (idx_main_v82 (ix2 0 d)) 0)) k = ix2 k d from
    (ValueIdx.eq_ix2 _).trans (congrArg (ix2 k ·) (Fin.ext (by show 0 * 1024 + d.val = d.val; omega)))]
  rw [val_main_v58_apply, v57_at k hX hC hg hwg hwu hwd, val_main_v40_apply, val_main_v39_apply, show idx_main_v39 (ix2 k d) = ix2 k 0 from ValueIdx.eq_ix2 _, v35_at]
  exact mul_comm _ _

/-! ## The precondition -/

theorem pre_fin (h : Cert.Pre_finite2.fn (F := Ideal) X g wg wu wd C = fun _ => 1#1) :
    (∀ i, IsFin (X i)) ∧ (∀ i, IsFin (g i)) ∧ (∀ i, IsFin (wg i)) ∧ (∀ i, IsFin (wu i)) ∧ (∀ i, IsFin (wd i)) ∧ ∀ i, IsFin (C i) := by
  have h0 := congrFun h ix0
  unfold Cert.Pre_finite2.fn Cert.Pre_finite2.fn_part1 at h0
  dsimp only at h0
  obtain ⟨h0, h5⟩ := IntOp.andi_eq_one.mp h0
  obtain ⟨h0, h4⟩ := IntOp.andi_eq_one.mp h0
  obtain ⟨h0, h3⟩ := IntOp.andi_eq_one.mp h0
  obtain ⟨h0, h2⟩ := IntOp.andi_eq_one.mp h0
  obtain ⟨h0, h1⟩ := IntOp.andi_eq_one.mp h0
  haveI : Subsingleton Cert.Pre_finite2.S_.Idx := ⟨fun a b => (ValueIdx.eq_ix0 a).trans (ValueIdx.eq_ix0 b).symm⟩
  exact ⟨fun i => fin_of_lt _ (Host.reduce_andi_all _ _ _ _ _ h0 i), fun i => fin_of_lt _ (Host.reduce_andi_all _ _ _ _ _ h1 i),
    fun i => fin_of_lt _ (Host.reduce_andi_all _ _ _ _ _ h2 i), fun i => fin_of_lt _ (Host.reduce_andi_all _ _ _ _ _ h3 i),
    fun i => fin_of_lt _ (Host.reduce_andi_all _ _ _ _ _ h4 i), fun i => fin_of_lt _ (Host.reduce_andi_all _ _ _ _ _ h5 i)⟩

end Cert.Ffn.BackRef

end
-- ==== Proof.Back.lean ====
module

public import proofs.«01_k».proof.Proof.BackRef
public import proofs.«01_k».proof.Proof.Gen.Kernel2Ideal.Value
public import Idealize.ShloMosaic.Lib.Pipeline.ValueKit
public import Idealize.ShloMosaic.Lib.Pipeline.ReadBack

/-! The feed-forward layer's backward kernel: what it leaves, a tile of 256 rows at a time, the norm's scale gradient summed
over the tiles. -/

@[expose] public section

set_option maxRecDepth 16384

noncomputable section

namespace Cert.Ffn.Back

open Cert.Kernel2Ideal Cert.Kernel2Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

/-! ## One tile -/

section Tile

variable (ct : Vec Ideal S256x1024 .bf16) (wd wg wu : Vec Ideal S2816x1024 .bf16) (g u : Vec Ideal S256x2816 .bf16)
variable (x res : Vec Ideal S256x1024 .f32) (gn : Vec Ideal S1x1024 .f32) (r : Fin 256)

/-- The activation's cotangent. -/
theorem a_at (k : Fin 2816) : k0_pay3 (F := Ideal) ct wd (ix2 r k) = lin (fun j => ct (ix2 r j)) wd k := by
  unfold k0_pay3
  rw [shapeCast_self, shapeCast_self]
  exact product_at _ _ 1024 rfl rfl ct wd (ix2 r k) (fun j => ix2 r j) (fun j => ix2 k j)
    (fun k q h => funext fun a => Fin.ext (by match a with | ⟨0, _⟩ => rfl | ⟨1, _⟩ => exact h))
    (fun k q h => funext fun a => Fin.ext (by match a with | ⟨0, _⟩ => rfl | ⟨1, _⟩ => exact h))

theorem g_at : k0_pay4 (F := Ideal) g = g := by
  unfold k0_pay4
  rw [shapeCast_self]
  rfl

theorem s_at (k : Fin 2816) : k0_pay7 (F := Ideal) g (ix2 r k) = sg (g (ix2 r k)) := by
  refine Eq.trans ?_ (sg_tanh (g (ix2 r k)))
  unfold k0_pay7
  rw [g_at]
  rfl

abbrev aRow : Fin 2816 → EReal := lin (fun j => ct (ix2 r j)) wd
abbrev uRow : Fin 2816 → EReal := fun k => u (ix2 r k)

theorem dg_at (k : Fin 2816) : k0_pay8 (F := Ideal) ct wd g u (ix2 r k) = dGate (aRow ct wd r k) (u (ix2 r k)) (g (ix2 r k)) := by
  unfold k0_pay8
  rw [g_at, shapeCast_self]
  show k0_pay3 (F := Ideal) ct wd (ix2 r k) * u (ix2 r k) * (k0_pay7 (F := Ideal) g (ix2 r k) * (one + g (ix2 r k) * (one - k0_pay7 (F := Ideal) g (ix2 r k)))) = _
  rw [a_at, s_at]
  rfl

theorem du_at (k : Fin 2816) : k0_pay10 (F := Ideal) (k0_pay3 ct wd) (k0_pay9 g) (ix2 r k) = dUp (aRow ct wd r k) (g (ix2 r k)) := by
  unfold k0_pay10 k0_pay9
  rw [g_at]
  show k0_pay3 (F := Ideal) ct wd (ix2 r k) * (g (ix2 r k) * k0_pay7 (F := Ideal) g (ix2 r k)) = _
  rw [a_at, s_at]
  rfl

theorem nn_at (v : FVec Ideal S256x2816 .bf16) (w : FVec Ideal S2816x1024 .bf16) (d : Fin 1024) :
    (matmul dot_S256x2816_S2816x1024_S256x1024_1_0_0_1_n_n none v w (constant S256x1024 .f32 0x00000000#32) : FVec Ideal S256x1024 .f32) (ix2 r d)
      = lin' (fun k => v (ix2 r k)) w d :=
  product_at (φ₁ := .bf16) (φ₂ := .bf16) dot_S256x2816_S2816x1024_S256x1024_1_0_0_1_n_n none 2816 rfl rfl v w (ix2 r d) (fun k => ix2 r k) (fun k => ix2 k d)
    (fun k q h => funext fun a => Fin.ext (by match a with | ⟨0, _⟩ => rfl | ⟨1, _⟩ => exact h))
    (fun k q h => funext fun a => Fin.ext (by match a with | ⟨0, _⟩ => exact h | ⟨1, _⟩ => rfl))

/-- The tile's cotangent of the normalised rows. -/
abbrev dhT : FVec Ideal S256x1024 .f32 := k0_pay11 (F := Ideal) (k0_pay3 ct wd) (k0_pay5 wg) (k0_pay6 wu) (k0_pay8 ct wd g u) (k0_pay9 g)

abbrev dhRow : Fin 1024 → EReal := dHid (aRow ct wd r) (fun k => u (ix2 r k)) (fun k => g (ix2 r k)) wg wu

theorem dh_at (d : Fin 1024) : dhT ct wd wg wu g u (ix2 r d) = dhRow ct wd wg wu g u r d := by
  unfold dhT k0_pay11
  rw [addf_apply]
  refine congrArg₂ (· + ·) ((nn_at r _ _ d).trans ?_) ((nn_at r _ _ d).trans ?_)
  · rw [show k0_pay5 (F := Ideal) wg = wg from shapeCast_self _ _]
    exact congrArg (lin' · wg d) (funext fun k => dg_at ct wd g u r k)
  · rw [show k0_pay6 (F := Ideal) wu = wu from shapeCast_self _ _]
    exact congrArg (lin' · wu d) (funext fun k => du_at ct wd g r k)

abbrev xRow : Fin 1024 → EReal := fun j => x (ix2 r j)

theorem inv_at : k0_pay12 (F := Ideal) x (ix2 r 0) = inv (xRow x r) := by
  unfold k0_pay12
  have e := row_sum (mulf x x) reduces_S256x1024_S256 (.inl rfl) rfl shapeCasts_S256_S256x1 r 0
  exact congrArg (fun s => Ideal.rsqrt (Ideal.div s width + tiny)) e

theorem xn_at (d : Fin 1024) : k0_pay13 (F := Ideal) x (ix2 r d) = x (ix2 r d) * inv (xRow x r) := by
  unfold k0_pay13
  rw [mulf_apply, over_cols, inv_at]

theorem dx_at (d : Fin 1024) :
    k0_pay16 (F := Ideal) (k0_pay3 ct wd) x gn res (k0_pay5 wg) (k0_pay6 wu) (k0_pay8 ct wd g u) (k0_pay9 g) (ix2 r d)
      = dRow (xRow x r) (dhRow ct wd wg wu g u r) (fun j => gn (ix2 0 j)) (fun j => res (ix2 r j)) d := by
  unfold k0_pay16 k0_pay14 dRow
  rw [addf_apply, mulf_apply, over_cols, inv_at, subf_apply, mulf_apply, mulf_apply, over_cols, over_rows, xn_at,
    show k0_pay11 (F := Ideal) (k0_pay3 ct wd) (k0_pay5 wg) (k0_pay6 wu) (k0_pay8 ct wd g u) (k0_pay9 g) (ix2 r d) = _ from dh_at ct wd wg wu g u r d]
  refine congrArg (· + res (ix2 r d)) (congrArg (fun s => inv (xRow x r) * (dhRow ct wd wg wu g u r d * gn (ix2 0 d) - x (ix2 r d) * inv (xRow x r) * s)) ?_)
  have e := row_sum (mulf (mulf (dhT ct wd wg wu g u) (broadcastTo S256x1024 gn broadcasts_S1x1024_S256x1024)) (k0_pay13 (F := Ideal) x)) reduces_S256x1024_S256 (.inl rfl) rfl shapeCasts_S256_S256x1 r 0
  refine (congrArg (fun s => Ideal.div s width) e).trans (congrArg (fun s => Ideal.div s width) (Finset.sum_congr rfl fun j _ => ?_))
  rw [mulf_apply, mulf_apply, over_rows, xn_at, dh_at]

theorem dn_at (d : Fin 1024) :
    k0_pay15 (F := Ideal) (k0_pay3 ct wd) x (k0_pay5 wg) (k0_pay6 wu) (k0_pay8 ct wd g u) (k0_pay9 g) (ix2 0 d)
      = ∑ r : Fin 256, dhRow ct wd wg wu g u r d * (x (ix2 r d) * inv (xRow x r)) := by
  unfold k0_pay15
  refine (col_sum (mulf (dhT ct wd wg wu g u) (k0_pay13 (F := Ideal) x)) reduces_S256x1024_S1024 (.inl rfl) rfl shapeCasts_S1024_S1x1024 0 d).trans ?_
  refine Finset.sum_congr rfl fun r _ => ?_
  rw [mulf_apply, xn_at, dh_at]

end Tile

/-! ## The blocks -/

variable (m : (ℓ : Loc nD τ sig) → Buf (Elt Ideal) ℓ) (c : Dev nD)

/-- The stream's cotangent (as the product takes it), the down weights, the gate, the up projection, the stream, the norm's
scale, the stream's cotangent as it is added, and the two other weights, as the launch finds them. -/
abbrev aC : S8192x1024.Idx → EReal := V m c main_v23
abbrev aD : S2816x1024.Idx → EReal := V m c main_v22
abbrev aG : S8192x2816.Idx → EReal := V m c main_v16
abbrev aU : S8192x2816.Idx → EReal := V m c main_v19
abbrev aX : S8192x1024.Idx → EReal := V m c main_arg0
abbrev aN : S1x1024.Idx → EReal := V m c main_arg1
abbrev aR : S8192x1024.Idx → EReal := V m c main_arg5
abbrev aWg : S2816x1024.Idx → EReal := V m c main_v20
abbrev aWu : S2816x1024.Idx → EReal := V m c main_v21

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])
theorem idx13 : ∀ t : Fin cfg0.N, win0_13.index t = ![0, 0] := (by decide +kernel : ∀ t : Fin grid0.N, win0_13.index t = ![0, 0])
theorem tlt (t : Fin cfg0.N) : t.val < 32 := t.isLt

/-- The batch row that point `t` has at row `r` of its tile. -/
abbrev at_ (t : Fin cfg0.N) (r : Fin 256) : Fin 8192 := ⟨t.val * 256 + r.val, by have := tlt t; omega⟩

theorem rd0 (t : Fin cfg0.N) (r : Fin 256) (k : Fin 1024) : iblk m c 0 t (ix2 r k) = aC m c (ix2 (at_ t r) k) := by
  blk_ext [iblk, idx0 t]
theorem rd1 (t : Fin cfg0.N) : (iblk m c 1 t : S2816x1024.Idx → EReal) = aD m c := by
  funext y
  blk_ext [iblk, idx1 t]
theorem rd2 (t : Fin cfg0.N) (r : Fin 256) (k : Fin 2816) : iblk m c 2 t (ix2 r k) = aG m c (ix2 (at_ t r) k) := by
  blk_ext [iblk, idx2 t]
theorem rd3 (t : Fin cfg0.N) (r : Fin 256) (k : Fin 2816) : iblk m c 3 t (ix2 r k) = aU m c (ix2 (at_ t r) k) := by
  blk_ext [iblk, idx3 t]
theorem rd4 (t : Fin cfg0.N) (r : Fin 256) (k : Fin 1024) : iblk m c 4 t (ix2 r k) = aX m c (ix2 (at_ t r) k) := by
  blk_ext [iblk, idx4 t]
theorem rd5 (t : Fin cfg0.N) : (iblk m c 5 t : S1x1024.Idx → EReal) = aN m c := by
  funext y
  blk_ext [iblk, idx5 t]
theorem rd6 (t : Fin cfg0.N) (r : Fin 256) (k : Fin 1024) : iblk m c 6 t (ix2 r k) = aR m c (ix2 (at_ t r) k) := by
  blk_ext [iblk, idx6 t]
theorem rd7 (t : Fin cfg0.N) : (iblk m c 7 t : S2816x1024.Idx → EReal) = aWg m c := by
  funext y
  blk_ext [iblk, idx7 t]
theorem rd8 (t : Fin cfg0.N) : (iblk m c 8 t : S2816x1024.Idx → EReal) = aWu m c := by
  funext y
  blk_ext [iblk, idx8 t]

/-! ## The arrays after the run -/

/-- Row `n` of each array, and what the kernel makes of it. -/
abbrev nA (n : Fin 8192) : Fin 2816 → EReal := lin (fun j => aC m c (ix2 n j)) (aD m c)
abbrev nG (n : Fin 8192) : Fin 2816 → EReal := fun k => aG m c (ix2 n k)
abbrev nU (n : Fin 8192) : Fin 2816 → EReal := fun k => aU m c (ix2 n k)
abbrev nX (n : Fin 8192) : Fin 1024 → EReal := fun j => aX m c (ix2 n j)
abbrev nR (n : Fin 8192) : Fin 1024 → EReal := fun j => aR m c (ix2 n j)
abbrev nH (n : Fin 8192) : Fin 1024 → EReal := dHid (nA m c n) (nU m c n) (nG m c n) (aWg m c) (aWu m c)

theorem rows0 (t : Fin cfg0.N) (r : Fin 256) : aRow (iblk m c 0 t) (iblk m c 1 t) r = nA m c (at_ t r) := by
  unfold aRow nA
  rw [rd1]
  exact congrArg (lin · (aD m c)) (funext fun j => rd0 m c t r j)
theorem rows4 (t : Fin cfg0.N) (r : Fin 256) : xRow (iblk m c 4 t) r = nX m c (at_ t r) := funext fun j => rd4 m c t r j
theorem rows6 (t : Fin cfg0.N) (r : Fin 256) : (fun j => iblk m c 6 t (ix2 r j)) = nR m c (at_ t r) := funext fun j => rd6 m c t r j
theorem rowsH (t : Fin cfg0.N) (r : Fin 256) : dhRow (iblk m c 0 t) (iblk m c 1 t) (iblk m c 7 t) (iblk m c 8 t) (iblk m c 2 t) (iblk m c 3 t) r = nH m c (at_ t r) := by
  unfold dhRow nH
  rw [rows0, rd7, rd8, show (fun k => iblk m c 3 t (ix2 r k)) = nU m c (at_ t r) from funext fun k => rd3 m c t r k,
    show (fun k => iblk m c 2 t (ix2 r k)) = nG m c (at_ t r) from funext fun k => rd2 m c t r k]

theorem dg_tile (t : Fin cfg0.N) (r : Fin 256) (k : Fin 2816) :
    k0_pay8 (F := Ideal) (iblk m c 0 t) (iblk m c 1 t) (iblk m c 2 t) (iblk m c 3 t) (ix2 r k)
      = dGate (nA m c (at_ t r) k) (nU m c (at_ t r) k) (nG m c (at_ t r) k) := by
  refine (dg_at _ _ _ _ r k).trans ?_
  rw [rows0, rd2, rd3]

theorem du_tile (t : Fin cfg0.N) (r : Fin 256) (k : Fin 2816) :
    k0_pay10 (F := Ideal) (k0_pay3 (iblk m c 0 t) (iblk m c 1 t)) (k0_pay9 (iblk m c 2 t)) (ix2 r k)
      = dUp (nA m c (at_ t r) k) (nG m c (at_ t r) k) := by
  refine (du_at _ _ _ r k).trans ?_
  rw [rows0, rd2]

theorem dx_tile (t : Fin cfg0.N) (r : Fin 256) (k : Fin 1024) :
    k0_pay16 (F := Ideal) (k0_pay3 (iblk m c 0 t) (iblk m c 1 t)) (iblk m c 4 t) (iblk m c 5 t) (iblk m c 6 t) (k0_pay5 (iblk m c 7 t)) (k0_pay6 (iblk m c 8 t)) (k0_pay8 (iblk m c 0 t) (iblk m c 1 t) (iblk m c 2 t) (iblk m c 3 t)) (k0_pay9 (iblk m c 2 t)) (ix2 r k)
      = dRow (nX m c (at_ t r)) (nH m c (at_ t r)) (fun j => aN m c (ix2 0 j)) (nR m c (at_ t r)) k := by
  refine (dx_at _ _ _ _ _ _ _ _ _ r k).trans ?_
  rw [rows4, rowsH, rows6, rd5]

theorem dg_point (t : Fin cfg0.N) (r : Fin 256) (k : Fin 2816) :
    (outsAt0 m c t.val t.isLt).1 (ix2 r k) = dGate (nA m c (at_ t r) k) (nU m c (at_ t r) k) (nG m c (at_ t r) k) := by
  by_cases h0 : t.val % 32 = 0
  · rw [outsAt0_A m c t h0]
    frame_out
    exact dg_tile m c t r k
  · rw [outsAt0_B m c t h0]
    frame_out
    exact dg_tile m c t r k

theorem dg_final : (dats m 0 c).arrAt 9 cfg0.N = fun y : S8192x2816.Idx => dGate (nA m c (y 0) (y 1)) (nU m c (y 0) (y 1)) (nG m c (y 0) (y 1)) := by
  refine (dats m 0 c).arrAt_eq_of_covers 9 _ (by decide +kernel) fun t hf y => ?_
  blk_simp
  rw [after0_9]
  refine (congrArg _ (ValueIdx.eq_ix2 y)).trans ((dg_point m c t (y 0) (y 1)).trans ?_)
  have e0 : (win0_9.blk t).view.emb y 0 = at_ t (y 0) := by
    refine Fin.ext ?_
    blk_simp [idx9 t]
  have e1 : (win0_9.blk t).view.emb y 1 = y 1 := by
    refine Fin.ext ?_
    blk_simp [idx9 t]
  rw [e0, e1]

theorem du_point (t : Fin cfg0.N) (r : Fin 256) (k : Fin 2816) :
    (outsAt0 m c t.val t.isLt).2.1 (ix2 r k) = dUp (nA m c (at_ t r) k) (nG m c (at_ t r) k) := by
  by_cases h0 : t.val % 32 = 0
  · rw [outsAt0_A m c t h0]
    frame_out
    exact du_tile m c t r k
  · rw [outsAt0_B m c t h0]
    frame_out
    exact du_tile m c t r k

theorem du_final : (dats m 0 c).arrAt 10 cfg0.N = fun y : S8192x2816.Idx => dUp (nA m c (y 0) (y 1)) (nG m c (y 0) (y 1)) := by
  refine (dats m 0 c).arrAt_eq_of_covers 10 _ (by decide +kernel) fun t hf y => ?_
  blk_simp
  rw [after0_10]
  refine (congrArg _ (ValueIdx.eq_ix2 y)).trans ((du_point m c t (y 0) (y 1)).trans ?_)
  have e0 : (win0_10.blk t).view.emb y 0 = at_ t (y 0) := by
    refine Fin.ext ?_
    blk_simp [idx10 t]
  have e1 : (win0_10.blk t).view.emb y 1 = y 1 := by
    refine Fin.ext ?_
    blk_simp [idx10 t]
  rw [e0, e1]

theorem dx_point (t : Fin cfg0.N) (r : Fin 256) (k : Fin 1024) :
    (outsAt0 m c t.val t.isLt).2.2.1 (ix2 r k) = dRow (nX m c (at_ t r)) (nH m c (at_ t r)) (fun j => aN m c (ix2 0 j)) (nR m c (at_ t r)) k := by
  by_cases h0 : t.val % 32 = 0
  · rw [outsAt0_A m c t h0]
    frame_out
    exact dx_tile m c t r k
  · rw [outsAt0_B m c t h0]
    frame_out
    exact dx_tile m c t r k

theorem dx_final : (dats m 0 c).arrAt 11 cfg0.N = fun y : S8192x1024.Idx => dRow (nX m c (y 0)) (nH m c (y 0)) (fun j => aN m c (ix2 0 j)) (nR m c (y 0)) (y 1) := by
  refine (dats m 0 c).arrAt_eq_of_covers 11 _ (by decide +kernel) fun t hf y => ?_
  blk_simp
  rw [after0_11]
  refine (congrArg _ (ValueIdx.eq_ix2 y)).trans ((dx_point m c t (y 0) (y 1)).trans ?_)
  have e0 : (win0_11.blk t).view.emb y 0 = at_ t (y 0) := by
    refine Fin.ext ?_
    blk_simp [idx11 t]
  have e1 : (win0_11.blk t).view.emb y 1 = y 1 := by
    refine Fin.ext ?_
    blk_simp [idx11 t]
  rw [e0, e1]

theorem dxb_point (t : Fin cfg0.N) (r : Fin 256) (k : Fin 1024) :
    (outsAt0 m c t.val t.isLt).2.2.2.1 (ix2 r k) = dRow (nX m c (at_ t r)) (nH m c (at_ t r)) (fun j => aN m c (ix2 0 j)) (nR m c (at_ t r)) k := by
  by_cases h0 : t.val % 32 = 0
  · rw [outsAt0_A m c t h0]
    frame_out
    exact dx_tile m c t r k
  · rw [outsAt0_B m c t h0]
    frame_out
    exact dx_tile m c t r k

theorem dxb_final : (dats m 0 c).arrAt 12 cfg0.N = fun y : S8192x1024.Idx => dRow (nX m c (y 0)) (nH m c (y 0)) (fun j => aN m c (ix2 0 j)) (nR m c (y 0)) (y 1) := by
  refine (dats m 0 c).arrAt_eq_of_covers 12 _ (by decide +kernel) fun t hf y => ?_
  blk_simp
  rw [after0_12]
  refine (congrArg _ (ValueIdx.eq_ix2 y)).trans ((dxb_point m c t (y 0) (y 1)).trans ?_)
  have e0 : (win0_12.blk t).view.emb y 0 = at_ t (y 0) := by
    refine Fin.ext ?_
    blk_simp [idx12 t]
  have e1 : (win0_12.blk t).view.emb y 1 = y 1 := by
    refine Fin.ext ?_
    blk_simp [idx12 t]
  rw [e0, e1]

/-! ## The norm's scale gradient -/

/-- What row `n` adds. -/
def dnTerm (n : ℕ) (d : Fin 1024) : EReal :=
  if h : n < 8192 then nH m c ⟨n, h⟩ d * (nX m c ⟨n, h⟩ d * inv (nX m c ⟨n, h⟩)) else 0

/-- What point `t` adds. -/
def dnTile (t : ℕ) (y : S1x1024.Idx) : EReal := ∑ r : Fin 256, dnTerm m c (256 * t + r.val) (y 1)

theorem dn_tile (t : Fin cfg0.N) (acc : Vec Ideal S1x1024 .f32) (y : S1x1024.Idx) :
    k0_pay2 (F := Ideal) (k0_pay15 (k0_pay3 (iblk m c 0 t) (iblk m c 1 t)) (iblk m c 4 t) (k0_pay5 (iblk m c 7 t)) (k0_pay6 (iblk m c 8 t)) (k0_pay8 (iblk m c 0 t) (iblk m c 1 t) (iblk m c 2 t) (iblk m c 3 t)) (k0_pay9 (iblk m c 2 t))) acc y
      = acc y + dnTile m c t.val y := by
  obtain ⟨d, rfl⟩ : ∃ d : Fin 1024, y = ix2 0 d := ⟨y 1, (ValueIdx.eq_ix2 y).trans (congrArg (ix2 · (y 1)) (Subsingleton.elim (α := Fin 1) _ _))⟩
  unfold k0_pay2
  rw [shapeCast_self, addf_apply, dn_at]
  refine congrArg (acc (ix2 0 d) + ·) (Finset.sum_congr rfl fun r _ => ?_)
  have ht := tlt t
  have hr : 256 * t.val + r.val < 8192 := by have := r.isLt; omega
  rw [rowsH, rows4, rd4]
  unfold dnTerm
  rw [dif_pos hr, show at_ t r = ⟨256 * t.val + r.val, hr⟩ from Fin.ext (by show t.val * 256 + r.val = 256 * t.val + r.val; omega)]

theorem dn_first (t : Fin cfg0.N) (h0 : t.val % 32 = 0) (y : S1x1024.Idx) :
    (outsAt0 m c t.val t.isLt).2.2.2.2 y = 0 + dnTile m c t.val y := by
  rw [outsAt0_A m c t h0]
  frame_open
  simp (disch := decide) only [↓ View.readCov_skip, ↓ View.readCov_cons_toLoadRect, ↓ View.readCov_fill]
  frame_out
  refine (dn_tile m c t _ y).trans ?_
  rw [show (k0_pay1 (F := Ideal)) y = 0 from Ideal.ofBits_zero_f32]

theorem dn_next (t : Fin cfg0.N) (h0 : ¬t.val % 32 = 0) (y : S1x1024.Idx) :
    (outsAt0 m c t.val t.isLt).2.2.2.2 y = (outsAt0 m c (t.val - 1) (by have := t.isLt; omega)).2.2.2.2 y + dnTile m c t.val y := by
  rw [outsAt0_B m c t h0]
  frame_out
  exact dn_tile m c t _ y

theorem N0 : cfg0.N = 32 := by decide +kernel

/-- The last point. -/
def tEnd : Fin cfg0.N := ⟨31, by decide +kernel⟩

theorem t31_mod : tEnd.val % 32 = 31 := by decide +kernel

theorem dn_last (t : Fin cfg0.N) (ht : t.val % 32 = 31) (y : S1x1024.Idx) :
    (outsAt0 m c t.val t.isLt).2.2.2.2 y = 0 + ∑ t ∈ Finset.range 32, dnTile m c t y :=
  Pipeline.eq_sum_of_reset_step_apply_single_of_mod (fun n h => (outsAt0 m c n h).2.2.2.2) 32 (fun _ => 0) (dnTile m c)
    (dn_first m c) (dn_next m c) (le_of_eq N0) t ht y

theorem dn_final : (dats m 0 c).arrAt 13 cfg0.N = fun y : S1x1024.Idx => ∑ n : Fin 8192, nH m c n (y 1) * (nX m c n (y 1) * inv (nX m c n)) := by
  refine (dats m 0 c).arrAt_eq_of_after_last 13 tEnd (by decide +kernel) _ fun y => ?_
  blk_simp
  rw [after0_13]
  refine (dn_last m c tEnd t31_mod y).trans ?_
  rw [zero_add]
  refine (sum_tiles 32 256 8192 rfl (fun n => dnTerm m c n (y 1))).symm.trans (Finset.sum_congr rfl fun n _ => ?_)
  unfold dnTerm
  rw [dif_pos n.isLt]

/-! ## The reference -/

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)

theorem G_eq : aG m c = Cert.Reference2Ideal.Read.val_main_v15 (F := Ideal) (x0 m c) (x1 m c) (x2 m c) := by
  show V m c main_v16 = _
  unfold V hostOps0
  after_results
  rfl

theorem U_eq : aU m c = Cert.Reference2Ideal.Read.val_main_v17 (F := Ideal) (x0 m c) (x1 m c) (x3 m c) := by
  show V m c main_v19 = _
  unfold V hostOps0
  after_results
  rfl

theorem Wg_eq : aWg m c = x2 m c := by
  show V m c main_v20 = _
  unfold V hostOps0
  after_results
  rfl

theorem Wu_eq : aWu m c = x3 m c := by
  show V m c main_v21 = _
  unfold V hostOps0
  after_results
  rfl

theorem D_eq : aD m c = x4 m c := by
  show V m c main_v22 = _
  unfold V hostOps0
  after_results
  rfl

theorem C_eq : aC m c = x5 m c := by
  show V m c main_v23 = _
  unfold V hostOps0
  after_results
  rfl

theorem X_eq : aX m c = x0 m c := V_main_arg0 m c
theorem N_eq : aN m c = x1 m c := V_main_arg1 m c
theorem R_eq : aR m c = x5 m c := V_main_arg5 m c

/-- The rows of the two sides are the same. -/
theorem nA_eq (n : Fin 8192) : nA m c n = BackRef.aR (x5 m c) (x4 m c) n := by
  unfold nA BackRef.aR
  rw [C_eq, D_eq]
theorem nG_eq (n : Fin 8192) : nG m c n = BackRef.gR (x0 m c) (x1 m c) (x2 m c) n := by
  unfold nG BackRef.gR
  rw [G_eq]
theorem nU_eq (n : Fin 8192) : nU m c n = BackRef.uR (x0 m c) (x1 m c) (x3 m c) n := by
  unfold nU BackRef.uR
  rw [U_eq]
theorem nX_eq (n : Fin 8192) : nX m c n = BackRef.xR (x0 m c) n := by
  unfold nX BackRef.xR
  rw [X_eq]
theorem nR_eq (n : Fin 8192) : nR m c n = BackRef.cR (x5 m c) n := by
  unfold nR BackRef.cR
  rw [R_eq]
theorem nN_eq : (fun j => aN m c (ix2 0 j)) = BackRef.nR (x1 m c) := by
  unfold BackRef.nR
  rw [N_eq]
theorem nH_eq (n : Fin 8192) : nH m c n = BackRef.dR (x0 m c) (x5 m c) (x1 m c) (x2 m c) (x3 m c) (x4 m c) n := by
  unfold nH BackRef.dR
  rw [nA_eq, nG_eq, nU_eq, Wg_eq, Wu_eq]

open Cert.Reference2Ideal.Read

theorem du_result : (dats m 0 c).arrAt 10 cfg0.N = val_main_v80 (F := Ideal) (x0 m c) (x1 m c) (x2 m c) (x4 m c) (x5 m c) := by
  refine ((du_final m c).trans (funext fun y => ?_))
  obtain ⟨n, k, rfl⟩ : ∃ n k, y = ix2 n k := ⟨y 0, y 1, ValueIdx.eq_ix2 y⟩
  refine Eq.trans ?_ (BackRef.v22_at n k).symm
  show dUp (nA m c n k) (nG m c n k) = _
  rw [nA_eq, nG_eq]

section Finite

variable (hX : ∀ i, IsFin (x0 m c i)) (hg : ∀ i, IsFin (x1 m c i)) (hwg : ∀ i, IsFin (x2 m c i)) (hwu : ∀ i, IsFin (x3 m c i))
  (hwd : ∀ i, IsFin (x4 m c i)) (hC : ∀ i, IsFin (x5 m c i))
include hX hg hwg hwu hwd hC

theorem dg_result : (dats m 0 c).arrAt 9 cfg0.N = val_main_v79 (F := Ideal) (x0 m c) (x1 m c) (x2 m c) (x3 m c) (x4 m c) (x5 m c) := by
  refine ((dg_final m c).trans (funext fun y => ?_))
  obtain ⟨n, k, rfl⟩ : ∃ n k, y = ix2 n k := ⟨y 0, y 1, ValueIdx.eq_ix2 y⟩
  refine Eq.trans ?_ (BackRef.v24_at n hX hC hg hwg hwu hwd k).symm
  show dGate (nA m c n k) (nU m c n k) (nG m c n k) = _
  rw [nA_eq, nU_eq, nG_eq]

theorem dx_result : (dats m 0 c).arrAt 11 cfg0.N = val_main_v78 (F := Ideal) (x0 m c) (x1 m c) (x2 m c) (x3 m c) (x4 m c) (x5 m c) := by
  refine ((dx_final m c).trans (funext fun y => ?_))
  obtain ⟨n, k, rfl⟩ : ∃ n k, y = ix2 n k := ⟨y 0, y 1, ValueIdx.eq_ix2 y⟩
  refine Eq.trans ?_ (BackRef.v78_at n hX hC hg hwg hwu hwd k).symm
  show dRow (nX m c n) (nH m c n) (fun j => aN m c (ix2 0 j)) (nR m c n) k = _
  rw [nX_eq, nH_eq, nN_eq, nR_eq]

theorem dxb_result : (dats m 0 c).arrAt 12 cfg0.N = val_main_v81 (F := Ideal) (x0 m c) (x1 m c) (x2 m c) (x3 m c) (x4 m c) (x5 m c) := by
  refine ((dxb_final m c).trans (funext fun y => ?_))
  obtain ⟨n, k, rfl⟩ : ∃ n k, y = ix2 n k := ⟨y 0, y 1, ValueIdx.eq_ix2 y⟩
  refine Eq.trans ?_ (BackRef.v78_at n hX hC hg hwg hwu hwd k).symm
  show dRow (nX m c n) (nH m c n) (fun j => aN m c (ix2 0 j)) (nR m c n) k = _
  rw [nX_eq, nH_eq, nN_eq, nR_eq]

theorem dn_result : (dats m 0 c).arrAt 13 cfg0.N = val_main_v82 (F := Ideal) (x0 m c) (x1 m c) (x2 m c) (x3 m c) (x4 m c) (x5 m c) := by
  refine ((dn_final m c).trans (funext fun y => ?_))
  obtain ⟨d, rfl⟩ : ∃ d : Fin 1024, y = ix2 0 d := ⟨y 1, (ValueIdx.eq_ix2 y).trans (congrArg (ix2 · (y 1)) (Subsingleton.elim (α := Fin 1) _ _))⟩
  refine Eq.trans ?_ (BackRef.v82_at hX hC hg hwg hwu hwd d).symm
  show ∑ n : Fin 8192, nH m c n d * (nX m c n d * inv (nX m c n)) = _
  exact Finset.sum_congr rfl fun n _ => by rw [nH_eq, nX_eq]

end Finite

end Cert.Ffn.Back

end
-- ==== Proof.Down.lean ====
module

public import proofs.«01_k».proof.Proof.Prod
public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack

/-! The gradient of the down projection: activations against the incoming gradient, summed over sixteen tiles of rows. -/

@[expose] public section

set_option maxRecDepth 16384

noncomputable section

namespace Cert.Ffn.Down

open Cert.Kernel4Ideal Cert.Kernel4Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

/-- One tile's product added to what stands in the buffer. -/
theorem pay_apply (a : Vec Ideal S512x2816 .bf16) (b : Vec Ideal S512x1024 .bf16) (acc : Vec Ideal S2816x1024 .f32) (i : Fin 2816) (j : Fin 1024) :
    k0_pay2 (F := Ideal) a b acc (ix2 i j) = acc (ix2 i j) + ∑ r : Fin 512, a (ix2 r i) * b (ix2 r j) := by
  unfold k0_pay2
  rw [addf_apply, shapeCast_self, shapeCast_self, shapeCast_self]
  refine congrArg (acc (ix2 i j) + ·) ?_
  exact product_at _ _ 512 rfl rfl a b (ix2 i j) (fun r => ix2 r i) (fun r => ix2 r j)
    (fun k q h => funext fun a => Fin.ext (by match a with | ⟨0, _⟩ => exact h | ⟨1, _⟩ => rfl))
    (fun k q h => funext fun a => Fin.ext (by match a with | ⟨0, _⟩ => exact h | ⟨1, _⟩ => rfl))

variable (m : (ℓ : Loc nD τ sig) → Buf (Elt Ideal) ℓ) (c : Dev nD)

/-- The activations and the incoming gradient as the launch finds them. -/
abbrev aA : S8192x2816.Idx → EReal := V m c main_v20
abbrev aB : S8192x1024.Idx → EReal := V m c main_v21

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem tlt (t : Fin cfg0.N) : t.val < 16 := t.isLt
theorem N0 : cfg0.N = 16 := by decide +kernel

/-- Row `n` of an array, and zero from its end on. -/
def row {K : ℕ} (A : (⟨2, ![8192, K]⟩ : Shape).Idx → EReal) (n : ℕ) (k : Fin K) : EReal := if h : n < 8192 then A (ix2 ⟨n, h⟩ k) else 0

theorem row_of {K : ℕ} (A : (⟨2, ![8192, K]⟩ : Shape).Idx → EReal) (n : Fin 8192) (k : Fin K) : row A n.val k = A (ix2 n k) := dif_pos n.isLt

theorem rd0 (t : Fin cfg0.N) (r : Fin 512) (k : Fin 2816) : iblk m c 0 t (ix2 r k) = row (aA m c) (512 * t.val + r.val) k := by
  have := tlt t
  refine Eq.trans ?_ (row_of (aA m c) ⟨512 * t.val + r.val, by omega⟩ k).symm
  blk_ext [iblk, idx0 t]
  show t.val * 512 + r.val = _
  omega

theorem rd1 (t : Fin cfg0.N) (r : Fin 512) (k : Fin 1024) : iblk m c 1 t (ix2 r k) = row (aB m c) (512 * t.val + r.val) k := by
  have := tlt t
  refine Eq.trans ?_ (row_of (aB m c) ⟨512 * t.val + r.val, by omega⟩ k).symm
  blk_ext [iblk, idx1 t]
  show t.val * 512 + r.val = _
  omega

/-- What tile `t` adds. -/
def term (t : ℕ) (y : S2816x1024.Idx) : EReal := ∑ r : Fin 512, row (aA m c) (512 * t + r.val) (y 0) * row (aB m c) (512 * t + r.val) (y 1)

theorem pay_term (t : Fin cfg0.N) (acc : Vec Ideal S2816x1024 .f32) (y : S2816x1024.Idx) :
    k0_pay2 (F := Ideal) (iblk m c 0 t) (iblk m c 1 t) acc y = acc y + term m c t.val y := by
  obtain ⟨i, j, rfl⟩ : ∃ i j, y = ix2 i j := ⟨y 0, y 1, ValueIdx.eq_ix2 y⟩
  refine (pay_apply _ _ _ i j).trans (congrArg (acc (ix2 i j) + ·) (Finset.sum_congr rfl fun r _ => ?_))
  rw [rd0, rd1]

theorem first (t : Fin cfg0.N) (h0 : t.val % 16 = 0) (y : S2816x1024.Idx) :
    outsAt0 m c t.val t.isLt y = 0 + term m c t.val y := by
  rw [outsAt0_A m c t h0, Value.out_A_2_eq]
  refine (pay_term m c t _ y).trans ?_
  rw [show (k0_pay1 (F := Ideal)) y = 0 from Ideal.ofBits_zero_f32]

theorem next (t : Fin cfg0.N) (h0 : ¬t.val % 16 = 0) (y : S2816x1024.Idx) :
    outsAt0 m c t.val t.isLt y = outsAt0 m c (t.val - 1) (by have := t.isLt; omega) y + term m c t.val y := by
  rw [outsAt0_B m c t h0, Value.out_B_2_eq]
  exact pay_term m c t _ y

theorem t15_mod : t0_15.val % 16 = 15 := by decide +kernel

theorem last (t : Fin cfg0.N) (ht : t.val % 16 = 15) (y : S2816x1024.Idx) :
    outsAt0 m c t.val t.isLt y = 0 + ∑ t ∈ Finset.range 16, term m c t y :=
  Pipeline.eq_sum_of_reset_step_apply_single_of_mod (fun n h => outsAt0 m c n h) 16 (fun _ => 0) (term m c)
    (first m c) (next m c) (le_of_eq N0) t ht y

/-- The array that the kernel leaves. -/
theorem final (i : Fin 2816) (j : Fin 1024) :
    (dats m 0 c).arrAt 2 cfg0.N (ix2 i j) = ∑ n : Fin 8192, aA m c (ix2 n i) * aB m c (ix2 n j) := by
  have e : (dats m 0 c).arrAt 2 cfg0.N = fun y : S2816x1024.Idx => 0 + ∑ t ∈ Finset.range 16, term m c t y := by
    refine (dats m 0 c).arrAt_eq_of_after_last 2 t0_15 (by decide +kernel) _ fun j => ?_
    blk_simp
    rw [after0_2]
    exact last m c t0_15 t15_mod j
  rw [e]
  show 0 + ∑ t ∈ Finset.range 16, ∑ r : Fin 512, row (aA m c) (512 * t + r.val) i * row (aB m c) (512 * t + r.val) j = _
  rw [zero_add, ← sum_tiles 16 512 8192 rfl (fun n => row (aA m c) n i * row (aB m c) n j)]
  exact Finset.sum_congr rfl fun n _ => by rw [row_of, row_of]

/-- The activations are the reference's. -/
theorem A_eq : aA m c = Cert.Reference4Ideal.Read.val_main_v19 (F := Ideal) (m ((c : Thread nD τ).loc main_arg0)) (m ((c : Thread nD τ).loc main_arg1))
    (m ((c : Thread nD τ).loc main_arg2)) (m ((c : Thread nD τ).loc main_arg3)) := by
  show V m c main_v20 = _
  unfold V hostOps0 hostOps0_1 hostOps0_2
  after_results
  rfl

theorem B_eq : aB m c = m ((c : Thread nD τ).loc main_arg5) := by
  show V m c main_v21 = _
  unfold V hostOps0 hostOps0_1 hostOps0_2
  after_results
  rfl

/-- The kernel's array is the reference's gradient. -/
theorem result : (dats m 0 c).arrAt 2 cfg0.N = Cert.Reference4Ideal.Read.val_main_v23 (F := Ideal) (m ((c : Thread nD τ).loc main_arg0))
    (m ((c : Thread nD τ).loc main_arg1)) (m ((c : Thread nD τ).loc main_arg2)) (m ((c : Thread nD τ).loc main_arg3)) (m ((c : Thread nD τ).loc main_arg5)) := by
  funext y
  obtain ⟨i, j, rfl⟩ : ∃ i j, y = ix2 i j := ⟨y 0, y 1, ValueIdx.eq_ix2 y⟩
  refine (final m c i j).trans (Eq.symm ?_)
  rw [A_eq, B_eq]
  refine (Cert.Reference4Ideal.Read.val_main_v23_apply _ _ _ _ _ _).trans ((Cert.Reference4Ideal.Read.val_main_v22_apply _ _ _ _ _ _).trans ?_)
  refine Finset.sum_congr rfl fun n _ => ?_
  refine (mul_comm _ _).trans ?_
  rw [show Cert.Reference4Ideal.Read.ridx_main_v22 (Cert.Reference4Ideal.Read.idx_main_v23 (ix2 i j)) n = ix2 n i from ValueIdx.eq_ix2 _,
    show Cert.Reference4Ideal.Read.lidx_main_v22 (Cert.Reference4Ideal.Read.idx_main_v23 (ix2 i j)) n = ix2 n j from ValueIdx.eq_ix2 _]

end Cert.Ffn.Down

end
-- ==== Proof.Gates.lean ====
module

public import proofs.«01_k».proof.Proof.Prod
public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack

/-! The gradients of the gate and up projections: two cotangents against the normalised rows, the gradient's rows cut in
halves and the sum over the batch in eight tiles. -/

@[expose] public section

set_option maxRecDepth 16384

noncomputable section

namespace Cert.Ffn.Gates

open Cert.Kernel3Ideal Cert.Kernel3Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

/-- One tile's product added to what stands in the buffer. -/
theorem pay_apply (a : Vec Ideal S1024x1408 .bf16) (b : Vec Ideal S1024x1024 .bf16) (acc : Vec Ideal S1408x1024 .f32) (i : Fin 1408) (j : Fin 1024) :
    k0_pay4 (F := Ideal) a b acc (ix2 i j) = acc (ix2 i j) + ∑ r : Fin 1024, a (ix2 r i) * b (ix2 r j) := by
  unfold k0_pay4 k0_pay3
  rw [addf_apply, shapeCast_self, shapeCast_self, shapeCast_self]
  refine congrArg (acc (ix2 i j) + ·) ?_
  exact product_at _ _ 1024 rfl rfl a b (ix2 i j) (fun r => ix2 r i) (fun r => ix2 r j)
    (fun k q h => funext fun a => Fin.ext (by match a with | ⟨0, _⟩ => exact h | ⟨1, _⟩ => rfl))
    (fun k q h => funext fun a => Fin.ext (by match a with | ⟨0, _⟩ => exact h | ⟨1, _⟩ => rfl))

/-- The two products are the same function of their tiles. -/
theorem pay_same : @k0_pay5 Ideal = @k0_pay4 Ideal := rfl

variable (m : (ℓ : Loc nD τ sig) → Buf (Elt Ideal) ℓ) (c : Dev nD)

/-- The cotangents of the two projections and the normalised rows, as the launch finds them. -/
abbrev aG : S8192x2816.Idx → EReal := V m c main_v26
abbrev aU : S8192x2816.Idx → EReal := V m c main_v27
abbrev aH : S8192x1024.Idx → EReal := V m c main_v25

theorem idx0 : ∀ t : Fin cfg0.N, win0_0.index t = ![t.val % 8, t.val / 8] := (by decide +kernel : ∀ t : Fin grid0.N, win0_0.index t = ![t.val % 8, t.val / 8])
theorem idx1 : ∀ t : Fin cfg0.N, win0_1.index t = ![t.val % 8, t.val / 8] := (by decide +kernel : ∀ t : Fin grid0.N, win0_1.index t = ![t.val % 8, t.val / 8])
theorem idx2 : ∀ t : Fin cfg0.N, win0_2.index t = ![t.val % 8, 0] := (by decide +kernel : ∀ t : Fin grid0.N, win0_2.index t = ![t.val % 8, 0])
theorem tlt (t : Fin cfg0.N) : t.val < 16 := t.isLt
theorem N0 : cfg0.N = 16 := by decide +kernel

/-- Element `n, k` of an array, and zero outside it. -/
def el {N K : ℕ} (A : (⟨2, ![N, K]⟩ : Shape).Idx → EReal) (n k : ℕ) : EReal := if h : n < N ∧ k < K then A (ix2 ⟨n, h.1⟩ ⟨k, h.2⟩) else 0

theorem el_of {N K : ℕ} (A : (⟨2, ![N, K]⟩ : Shape).Idx → EReal) (n : Fin N) (k : Fin K) : el A n.val k.val = A (ix2 n k) := dif_pos ⟨n.isLt, k.isLt⟩

theorem rd0 (t : Fin cfg0.N) (r : Fin 1024) (k : Fin 1408) : iblk m c 0 t (ix2 r k) = el (aG m c) (1024 * (t.val % 8) + r.val) (1408 * (t.val / 8) + k.val) := by
  have := tlt t
  refine Eq.trans ?_ (el_of (aG m c) ⟨1024 * (t.val % 8) + r.val, by omega⟩ ⟨1408 * (t.val / 8) + k.val, by omega⟩).symm
  blk_ext [iblk, idx0 t]
  · show t.val % 8 * 1024 + r.val = _
    omega
  · show t.val / 8 * 1408 + k.val = _
    omega

theorem rd1 (t : Fin cfg0.N) (r : Fin 1024) (k : Fin 1408) : iblk m c 1 t (ix2 r k) = el (aU m c) (1024 * (t.val % 8) + r.val) (1408 * (t.val / 8) + k.val) := by
  have := tlt t
  refine Eq.trans ?_ (el_of (aU m c) ⟨1024 * (t.val % 8) + r.val, by omega⟩ ⟨1408 * (t.val / 8) + k.val, by omega⟩).symm
  blk_ext [iblk, idx1 t]
  · show t.val % 8 * 1024 + r.val = _
    omega
  · show t.val / 8 * 1408 + k.val = _
    omega

theorem rd2 (t : Fin cfg0.N) (r k : Fin 1024) : iblk m c 2 t (ix2 r k) = el (aH m c) (1024 * (t.val % 8) + r.val) k.val := by
  have := tlt t
  refine Eq.trans ?_ (el_of (aH m c) ⟨1024 * (t.val % 8) + r.val, by omega⟩ k).symm
  blk_ext [iblk, idx2 t]
  show t.val % 8 * 1024 + r.val = _
  omega

/-- What point `t` adds, `D` being the cotangent and `H` the normalised rows. -/
def term (D : S8192x2816.Idx → EReal) (H : S8192x1024.Idx → EReal) (t : ℕ) (y : S1408x1024.Idx) : EReal :=
  ∑ r : Fin 1024, el D (1024 * (t % 8) + r.val) (1408 * (t / 8) + (y 0).val) * el H (1024 * (t % 8) + r.val) (y 1).val

theorem pay_term (D : S8192x2816.Idx → EReal) (H : S8192x1024.Idx → EReal) (t : ℕ) (a : Vec Ideal S1024x1408 .bf16) (b : Vec Ideal S1024x1024 .bf16)
    (ha : ∀ r k, a (ix2 r k) = el D (1024 * (t % 8) + r.val) (1408 * (t / 8) + k.val)) (hb : ∀ r k, b (ix2 r k) = el H (1024 * (t % 8) + r.val) k.val)
    (acc : Vec Ideal S1408x1024 .f32) (y : S1408x1024.Idx) : k0_pay4 (F := Ideal) a b acc y = acc y + term D H t y := by
  obtain ⟨i, j, rfl⟩ : ∃ i j, y = ix2 i j := ⟨y 0, y 1, ValueIdx.eq_ix2 y⟩
  refine (pay_apply _ _ _ i j).trans (congrArg (acc (ix2 i j) + ·) (Finset.sum_congr rfl fun r _ => ?_))
  rw [ha, hb]

/-- The points of one half of the rows, together. -/
theorem half (D : S8192x2816.Idx → EReal) (H : S8192x1024.Idx → EReal) (b : ℕ) (y : S1408x1024.Idx) :
    ∑ s ∈ Finset.range 8, term D H (8 * b + s) y = ∑ n : Fin 8192, el D n.val (1408 * b + (y 0).val) * el H n.val (y 1).val := by
  rw [sum_tiles 8 1024 8192 rfl (fun n => el D n (1408 * b + (y 0).val) * el H n (y 1).val)]
  refine Finset.sum_congr rfl fun s hs => ?_
  have := Finset.mem_range.mp hs
  unfold term
  rw [show (8 * b + s) % 8 = s by omega, show (8 * b + s) / 8 = b by omega]

/-- One array that the kernel leaves, from the fold of its runs. -/
theorem fold (D : S8192x2816.Idx → EReal) (H : S8192x1024.Idx → EReal)
    (a : (n : ℕ) → n < cfg0.N → Vec Ideal S1408x1024 .f32) (g : (n : ℕ) → n < cfg0.N → Vec Ideal S1408x1024 .f32 → Vec Ideal S1408x1024 .f32)
    (ha : ∀ n h y, a n h y = 0 + term D H n y) (hg : ∀ n h acc y, g n h acc y = acc y + term D H n y)
    (i : Fin 2816) (j : Fin 1024) (b : ℕ) (h : 8 * b + 7 < cfg0.N) (l : S1408x1024.Idx) (hb : b = i.val / 1408)
    (h0 : (l 0).val = i.val % 1408) (h1 : (l 1).val = j.val) :
    Pipeline.accAt a g (8 * b) 7 h l = ∑ n : Fin 8192, D (ix2 n i) * H (ix2 n j) := by
  rw [Pipeline.accAt_add_apply a g (fun _ => 0) (fun n => term D H n) (8 * b) 7 (fun h y => ha _ h y) (fun n h acc y _ _ => hg n h acc y) 7 le_rfl h l,
    zero_add, half]
  refine Finset.sum_congr rfl fun n _ => ?_
  rw [show 1408 * b + (l 0).val = i.val by omega, h1, el_of, el_of]

theorem gate_final (i : Fin 2816) (j : Fin 1024) :
    (dats m 0 c).arrAt 3 cfg0.N (ix2 i j) = ∑ n : Fin 8192, aG m c (ix2 n i) * aH m c (ix2 n j) := by
  rw [Value.final3]
  unfold Value.G3
  rw [dif_pos (by rw [N0]; show 8 * (1 * (i.val / 1408 - 0) + 1 * (j.val / 1024 - 0)) + 7 < 16; have := i.isLt; have := j.isLt; omega)]
  have hj := j.isLt
  refine fold (aG m c) (aH m c) _ _ (fun n h y => ?_) (fun n h acc y => ?_) i j _ _ _ ?_ rfl (Nat.mod_eq_of_lt hj)
  · refine (pay_term (aG m c) (aH m c) n _ _ (rd0 m c ⟨n, h⟩) (rd2 m c ⟨n, h⟩) _ y).trans ?_
    rw [show (k0_pay1 (F := Ideal)) y = 0 from Ideal.ofBits_zero_f32]
  · exact pay_term (aG m c) (aH m c) n _ _ (rd0 m c ⟨n, h⟩) (rd2 m c ⟨n, h⟩) acc y
  · show 1 * (i.val / 1408 - 0) + 1 * (j.val / 1024 - 0) = i.val / 1408
    omega

theorem up_final (i : Fin 2816) (j : Fin 1024) :
    (dats m 0 c).arrAt 4 cfg0.N (ix2 i j) = ∑ n : Fin 8192, aU m c (ix2 n i) * aH m c (ix2 n j) := by
  rw [Value.final4]
  unfold Value.G4
  rw [dif_pos (by rw [N0]; show 8 * (1 * (i.val / 1408 - 0) + 1 * (j.val / 1024 - 0)) + 7 < 16; have := i.isLt; have := j.isLt; omega)]
  have hj := j.isLt
  refine fold (aU m c) (aH m c) _ _ (fun n h y => ?_) (fun n h acc y => ?_) i j _ _ _ ?_ rfl (Nat.mod_eq_of_lt hj)
  · refine (pay_term (aU m c) (aH m c) n _ _ (rd1 m c ⟨n, h⟩) (rd2 m c ⟨n, h⟩) _ y).trans ?_
    rw [show (k0_pay2 (F := Ideal)) y = 0 from Ideal.ofBits_zero_f32]
  · exact pay_term (aU m c) (aH m c) n _ _ (rd1 m c ⟨n, h⟩) (rd2 m c ⟨n, h⟩) acc y
  · show 1 * (i.val / 1408 - 0) + 1 * (j.val / 1024 - 0) = i.val / 1408
    omega

/-- The arguments as the launch finds them. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)

theorem G_eq : aG m c = Cert.Reference3Ideal.Read.val_main_v25 (F := Ideal) (x0 m c) (x1 m c) (x2 m c) (x3 m c) (x4 m c) (x5 m c) := by
  show V m c main_v26 = _
  unfold V hostOps0 hostOps0_1 hostOps0_2
  after_results
  rfl

theorem U_eq : aU m c = Cert.Reference3Ideal.Read.val_main_v23 (F := Ideal) (x0 m c) (x1 m c) (x2 m c) (x4 m c) (x5 m c) := by
  show V m c main_v27 = _
  unfold V hostOps0 hostOps0_1 hostOps0_2
  after_results
  rfl

theorem H_eq : aH m c = Cert.Reference3Ideal.Read.val_main_v15 (F := Ideal) (x0 m c) (x1 m c) := by
  show V m c main_v25 = _
  unfold V hostOps0 hostOps0_1 hostOps0_2
  after_results
  rfl

open Cert.Reference3Ideal.Read

theorem gate_result : (dats m 0 c).arrAt 3 cfg0.N = val_main_v30 (F := Ideal) (x0 m c) (x1 m c) (x2 m c) (x3 m c) (x4 m c) (x5 m c) := by
  funext y
  obtain ⟨i, j, rfl⟩ : ∃ i j, y = ix2 i j := ⟨y 0, y 1, ValueIdx.eq_ix2 y⟩
  refine (gate_final m c i j).trans (Eq.symm ?_)
  rw [G_eq, H_eq]
  refine (val_main_v30_apply _ _ _ _ _ _ _).trans ((val_main_v29_apply _ _ _ _ _ _ _).trans ((val_main_v28_apply _ _ _ _ _ _ _).trans ?_))
  refine Finset.sum_congr rfl fun n _ => ?_
  rw [show lidx_main_v28 (idx_main_v29 (idx_main_v30 (ix2 i j))) n = ix2 n i from ValueIdx.eq_ix2 _,
    show ridx_main_v28 (idx_main_v29 (idx_main_v30 (ix2 i j))) n = ix2 n j from ValueIdx.eq_ix2 _]

theorem up_result : (dats m 0 c).arrAt 4 cfg0.N = val_main_v31 (F := Ideal) (x0 m c) (x1 m c) (x2 m c) (x4 m c) (x5 m c) := by
  funext y
  obtain ⟨i, j, rfl⟩ : ∃ i j, y = ix2 i j := ⟨y 0, y 1, ValueIdx.eq_ix2 y⟩
  refine (up_final m c i j).trans (Eq.symm ?_)
  rw [U_eq, H_eq]
  refine (val_main_v31_apply _ _ _ _ _ _).trans ((val_main_v27_apply _ _ _ _ _ _).trans ((val_main_v26_apply _ _ _ _ _ _).trans ?_))
  refine Finset.sum_congr rfl fun n _ => ?_
  rw [show lidx_main_v26 (idx_main_v27 (idx_main_v31 (ix2 i j))) n = ix2 n i from ValueIdx.eq_ix2 _,
    show ridx_main_v26 (idx_main_v27 (idx_main_v31 (ix2 i j))) n = ix2 n j from ValueIdx.eq_ix2 _]

end Cert.Ffn.Gates

end
-- ==== Proof.Fwd.lean ====
module

public import proofs.«01_k».proof.Proof.Rows
public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack

/-! The forward feed-forward kernel: gate, up, activation, the residual stream and its next norm, a tile of 256 rows at a
time. -/

@[expose] public section

set_option maxRecDepth 16384

noncomputable section

namespace Cert.Ffn.Fwd

open Cert.Kernel5Ideal Cert.Kernel5Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

/-! ## One tile -/

section Tile

variable (h : Vec Ideal S256x1024 .bf16) (wg wu wd : Vec Ideal S2816x1024 .bf16) (x : Vec Ideal S256x1024 .f32) (g : Vec Ideal S1x1024 .f32)
variable (r : Fin 256)

theorem gate_at (k : Fin 2816) : k0_pay5 (F := Ideal) h wg (ix2 r k) = lin (fun j => h (ix2 r j)) wg k := by
  unfold k0_pay5 k0_pay4
  rw [shapeCast_self, shapeCast_self]
  exact product_at _ _ 1024 rfl rfl h wg (ix2 r k) (fun j => ix2 r j) (fun j => ix2 k j)
    (fun k q h => funext fun a => Fin.ext (by match a with | ⟨0, _⟩ => rfl | ⟨1, _⟩ => exact h))
    (fun k q h => funext fun a => Fin.ext (by match a with | ⟨0, _⟩ => rfl | ⟨1, _⟩ => exact h))

theorem up_same : @k0_pay6 Ideal = @k0_pay5 Ideal := rfl

theorem act_at (k : Fin 2816) : k0_pay7 (F := Ideal) h wg wu (ix2 r k) = act (lin (fun j => h (ix2 r j)) wg k) (lin (fun j => h (ix2 r j)) wu k) := by
  show k0_pay5 (F := Ideal) h wg (ix2 r k) * (half * Ideal.tanh (half * k0_pay5 (F := Ideal) h wg (ix2 r k)) + half) * k0_pay6 (F := Ideal) h wu (ix2 r k) = _
  rw [sg_tanh, up_same, gate_at, gate_at]
  rfl

/-- A row of the residual stream after the layer. -/
def x2Row (h x : Fin 1024 → EReal) (wg wu wd : S2816x1024.Idx → EReal) (d : Fin 1024) : EReal :=
  x d + lin' (fun k => act (lin h wg k) (lin h wu k)) wd d

theorem x2_at (d : Fin 1024) : k0_pay8 (F := Ideal) h wg wu x wd (ix2 r d) = x2Row (fun j => h (ix2 r j)) (fun j => x (ix2 r j)) wg wu wd d := by
  unfold k0_pay8
  rw [addf_apply, shapeCast_self]
  refine congrArg (x (ix2 r d) + ·) ?_
  have e : matmul dot_S256x2816_S2816x1024_S256x1024_1_0_0_1_n_n none (truncf .bf16 (k0_pay7 (F := Ideal) h wg wu) bitsLt_bf16_f32) wd (constant S256x1024 .f32 0x00000000#32) (ix2 r d)
      = ∑ k : Fin 2816, k0_pay7 (F := Ideal) h wg wu (ix2 r k) * wd (ix2 k d) :=
    product_at (φ₁ := .bf16) (φ₂ := .bf16) dot_S256x2816_S2816x1024_S256x1024_1_0_0_1_n_n none 2816 rfl rfl _ wd (ix2 r d) (fun k => ix2 r k) (fun k => ix2 k d)
      (fun k q h => funext fun a => Fin.ext (by match a with | ⟨0, _⟩ => rfl | ⟨1, _⟩ => exact h))
      (fun k q h => funext fun a => Fin.ext (by match a with | ⟨0, _⟩ => exact h | ⟨1, _⟩ => rfl))
  refine e.trans (Finset.sum_congr rfl fun k _ => congrArg (· * wd (ix2 k d)) ?_)
  exact act_at h wg wu r k

/-- Its normalised row, scaled. -/
def h3Row (h x : Fin 1024 → EReal) (wg wu wd : S2816x1024.Idx → EReal) (g : S1x1024.Idx → EReal) (d : Fin 1024) : EReal :=
  x2Row h x wg wu wd d * inv (x2Row h x wg wu wd) * g (ix2 0 d)

theorem h3_at (d : Fin 1024) : k0_pay9 (F := Ideal) h wg wu x g wd (ix2 r d)
    = h3Row (fun j => h (ix2 r j)) (fun j => x (ix2 r j)) wg wu wd g d := by
  unfold k0_pay9
  rw [mulf_apply, mulf_apply, over_cols, over_rows]
  refine congrArg (· * g (ix2 0 d)) (congrArg₂ (· * ·) (x2_at h wg wu wd x r d) ?_)
  have e := row_sum (mulf (k0_pay8 (F := Ideal) h wg wu x wd) (k0_pay8 (F := Ideal) h wg wu x wd)) reduces_S256x1024_S256 (.inl rfl) rfl shapeCasts_S256_S256x1 r 0
  refine (congrArg (fun s => Ideal.rsqrt (Ideal.div s width + tiny)) e).trans ?_
  unfold inv
  refine congrArg (fun s => Ideal.rsqrt (Ideal.div s width + tiny)) (Finset.sum_congr rfl fun k _ => ?_)
  rw [mulf_apply, x2_at]

end Tile

variable (m : (ℓ : Loc nD τ sig) → Buf (Elt Ideal) ℓ) (c : Dev nD)

/-- The normalised rows, the weights, the residual stream and the next norm's scale, as the launch finds them. -/
abbrev aH : S8192x1024.Idx → EReal := V m c main_v17
abbrev aG : S2816x1024.Idx → EReal := V m c main_v0
abbrev aU : S2816x1024.Idx → EReal := V m c main_v1
abbrev aX : S8192x1024.Idx → EReal := V m c main_arg0
abbrev aN : S1x1024.Idx → EReal := V m c main_arg5
abbrev aD : S2816x1024.Idx → EReal := V m c main_v2

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem tlt (t : Fin cfg0.N) : t.val < 32 := t.isLt

/-- The batch row that point `t` has at row `r` of its tile. -/
abbrev at_ (t : Fin cfg0.N) (r : Fin 256) : Fin 8192 := ⟨t.val * 256 + r.val, by have := tlt t; omega⟩

theorem rd0 (t : Fin cfg0.N) (r : Fin 256) (k : Fin 1024) : iblk m c 0 t (ix2 r k) = aH m c (ix2 (at_ t r) k) := by
  blk_ext [iblk, idx0 t]
theorem rd3 (t : Fin cfg0.N) (r : Fin 256) (k : Fin 1024) : iblk m c 3 t (ix2 r k) = aX m c (ix2 (at_ t r) k) := by
  blk_ext [iblk, idx3 t]
theorem rd1 (t : Fin cfg0.N) : (iblk m c 1 t : S2816x1024.Idx → EReal) = aG m c := by
  funext y
  blk_ext [iblk, idx1 t]
theorem rd2 (t : Fin cfg0.N) : (iblk m c 2 t : S2816x1024.Idx → EReal) = aU m c := by
  funext y
  blk_ext [iblk, idx2 t]
theorem rd4 (t : Fin cfg0.N) : (iblk m c 4 t : S1x1024.Idx → EReal) = aN m c := by
  funext y
  blk_ext [iblk, idx4 t]
theorem rd5 (t : Fin cfg0.N) : (iblk m c 5 t : S2816x1024.Idx → EReal) = aD m c := by
  funext y
  blk_ext [iblk, idx5 t]

/-! ## The arrays after the run -/

abbrev hRow (n : Fin 8192) : Fin 1024 → EReal := fun j => aH m c (ix2 n j)
abbrev xRow (n : Fin 8192) : Fin 1024 → EReal := fun j => aX m c (ix2 n j)

theorem rows0 (t : Fin cfg0.N) (r : Fin 256) : (fun j => iblk m c 0 t (ix2 r j)) = hRow m c (at_ t r) := funext fun j => rd0 m c t r j
theorem rows3 (t : Fin cfg0.N) (r : Fin 256) : (fun j => iblk m c 3 t (ix2 r j)) = xRow m c (at_ t r) := funext fun j => rd3 m c t r j

theorem gate_point (t : Fin cfg0.N) (r : Fin 256) (k : Fin 2816) : out0_6 (F := Ideal) (iblk m c 0 t) (iblk m c 1 t) (iblk m c 2 t) (iblk m c 3 t) (iblk m c 4 t) (iblk m c 5 t) (ix2 r k)
    = lin (hRow m c (at_ t r)) (aG m c) k := by
  frame_out
  rw [rd1]
  refine (gate_at _ _ _ _).trans ?_
  rw [rows0]

theorem gate_final : (dats m 0 c).arrAt 6 cfg0.N = fun y : S8192x2816.Idx => lin (hRow m c (y 0)) (aG m c) (y 1) := by
  refine (dats m 0 c).arrAt_eq_of_covers 6 _ (by decide +kernel) fun t hf y => ?_
  blk_simp
  rw [after0_6]
  refine (congrArg _ (ValueIdx.eq_ix2 y)).trans ((gate_point m c t (y 0) (y 1)).trans ?_)
  have e0 : (win0_6.blk t).view.emb y 0 = at_ t (y 0) := by
    refine Fin.ext ?_
    blk_simp [idx6 t]
  have e1 : (win0_6.blk t).view.emb y 1 = y 1 := by
    refine Fin.ext ?_
    blk_simp [idx6 t]
  rw [e0, e1]

theorem up_point (t : Fin cfg0.N) (r : Fin 256) (k : Fin 2816) : out0_7 (F := Ideal) (iblk m c 0 t) (iblk m c 1 t) (iblk m c 2 t) (iblk m c 3 t) (iblk m c 4 t) (iblk m c 5 t) (ix2 r k)
    = lin (hRow m c (at_ t r)) (aU m c) k := by
  frame_out
  rw [rd2]
  refine (gate_at _ _ _ _).trans ?_
  rw [rows0]

theorem up_final : (dats m 0 c).arrAt 7 cfg0.N = fun y : S8192x2816.Idx => lin (hRow m c (y 0)) (aU m c) (y 1) := by
  refine (dats m 0 c).arrAt_eq_of_covers 7 _ (by decide +kernel) fun t hf y => ?_
  blk_simp
  rw [after0_7]
  refine (congrArg _ (ValueIdx.eq_ix2 y)).trans ((up_point m c t (y 0) (y 1)).trans ?_)
  have e0 : (win0_7.blk t).view.emb y 0 = at_ t (y 0) := by
    refine Fin.ext ?_
    blk_simp [idx7 t]
  have e1 : (win0_7.blk t).view.emb y 1 = y 1 := by
    refine Fin.ext ?_
    blk_simp [idx7 t]
  rw [e0, e1]

theorem act_point (t : Fin cfg0.N) (r : Fin 256) (k : Fin 2816) : out0_8 (F := Ideal) (iblk m c 0 t) (iblk m c 1 t) (iblk m c 2 t) (iblk m c 3 t) (iblk m c 4 t) (iblk m c 5 t) (ix2 r k)
    = act (lin (hRow m c (at_ t r)) (aG m c) k) (lin (hRow m c (at_ t r)) (aU m c) k) := by
  frame_out
  rw [rd1, rd2]
  refine (act_at _ _ _ _ _).trans ?_
  rw [rows0]

theorem act_final : (dats m 0 c).arrAt 8 cfg0.N = fun y : S8192x2816.Idx => act (lin (hRow m c (y 0)) (aG m c) (y 1)) (lin (hRow m c (y 0)) (aU m c) (y 1)) := by
  refine (dats m 0 c).arrAt_eq_of_covers 8 _ (by decide +kernel) fun t hf y => ?_
  blk_simp
  rw [after0_8]
  refine (congrArg _ (ValueIdx.eq_ix2 y)).trans ((act_point m c t (y 0) (y 1)).trans ?_)
  have e0 : (win0_8.blk t).view.emb y 0 = at_ t (y 0) := by
    refine Fin.ext ?_
    blk_simp [idx8 t]
  have e1 : (win0_8.blk t).view.emb y 1 = y 1 := by
    refine Fin.ext ?_
    blk_simp [idx8 t]
  rw [e0, e1]

theorem x2_point (t : Fin cfg0.N) (r : Fin 256) (k : Fin 1024) : out0_9 (F := Ideal) (iblk m c 0 t) (iblk m c 1 t) (iblk m c 2 t) (iblk m c 3 t) (iblk m c 4 t) (iblk m c 5 t) (ix2 r k)
    = x2Row (hRow m c (at_ t r)) (xRow m c (at_ t r)) (aG m c) (aU m c) (aD m c) k := by
  frame_out
  rw [rd1, rd2, rd5]
  refine (x2_at _ _ _ _ _ _ _).trans ?_
  rw [rows0, rows3]

theorem x2_final : (dats m 0 c).arrAt 9 cfg0.N = fun y : S8192x1024.Idx => x2Row (hRow m c (y 0)) (xRow m c (y 0)) (aG m c) (aU m c) (aD m c) (y 1) := by
  refine (dats m 0 c).arrAt_eq_of_covers 9 _ (by decide +kernel) fun t hf y => ?_
  blk_simp
  rw [after0_9]
  refine (congrArg _ (ValueIdx.eq_ix2 y)).trans ((x2_point m c t (y 0) (y 1)).trans ?_)
  have e0 : (win0_9.blk t).view.emb y 0 = at_ t (y 0) := by
    refine Fin.ext ?_
    blk_simp [idx9 t]
  have e1 : (win0_9.blk t).view.emb y 1 = y 1 := by
    refine Fin.ext ?_
    blk_simp [idx9 t]
  rw [e0, e1]

theorem h3_point (t : Fin cfg0.N) (r : Fin 256) (k : Fin 1024) : out0_10 (F := Ideal) (iblk m c 0 t) (iblk m c 1 t) (iblk m c 2 t) (iblk m c 3 t) (iblk m c 4 t) (iblk m c 5 t) (ix2 r k)
    = h3Row (hRow m c (at_ t r)) (xRow m c (at_ t r)) (aG m c) (aU m c) (aD m c) (aN m c) k := by
  frame_out
  rw [rd1, rd2, rd4, rd5]
  refine (h3_at _ _ _ _ _ _ _ _).trans ?_
  rw [rows0, rows3]

theorem h3_final : (dats m 0 c).arrAt 10 cfg0.N = fun y : S8192x1024.Idx => h3Row (hRow m c (y 0)) (xRow m c (y 0)) (aG m c) (aU m c) (aD m c) (aN m c) (y 1) := by
  refine (dats m 0 c).arrAt_eq_of_covers 10 _ (by decide +kernel) fun t hf y => ?_
  blk_simp
  rw [after0_10]
  refine (congrArg _ (ValueIdx.eq_ix2 y)).trans ((h3_point m c t (y 0) (y 1)).trans ?_)
  have e0 : (win0_10.blk t).view.emb y 0 = at_ t (y 0) := by
    refine Fin.ext ?_
    blk_simp [idx10 t]
  have e1 : (win0_10.blk t).view.emb y 1 = y 1 := by
    refine Fin.ext ?_
    blk_simp [idx10 t]
  rw [e0, e1]

/-! ## The reference -/

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)

theorem H_eq : aH m c = Cert.Reference5Ideal.Read.val_main_v13 (F := Ideal) (x0 m c) (x1 m c) := by
  show V m c main_v17 = _
  unfold V hostOps0
  after_results
  rfl

theorem G_eq : aG m c = x2 m c := by
  show V m c main_v0 = _
  unfold V hostOps0
  after_results
  rfl

theorem U_eq : aU m c = x3 m c := by
  show V m c main_v1 = _
  unfold V hostOps0
  after_results
  rfl

theorem D_eq : aD m c = x4 m c := by
  show V m c main_v2 = _
  unfold V hostOps0
  after_results
  rfl

theorem X_eq : aX m c = x0 m c := V_main_arg0 m c
theorem N_eq : aN m c = x5 m c := V_main_arg5 m c

section Reference

open Cert.Reference5Ideal.Read

variable (X : S8192x1024.Idx → EReal) (g1 g2 : S1x1024.Idx → EReal) (wg wu wd : S2816x1024.Idx → EReal) (n : Fin 8192)

/-- The normalised row, as the reference has it. -/
abbrev hR : Fin 1024 → EReal := fun j => val_main_v13 (F := Ideal) X g1 (ix2 n j)
abbrev xR : Fin 1024 → EReal := fun j => X (ix2 n j)

theorem v15_at (k : Fin 2816) : val_main_v15 (F := Ideal) X g1 wg (ix2 n k) = lin (hR X g1 n) wg k := by
  refine (val_main_v15_apply _ _ _ _).trans (Finset.sum_congr rfl fun j _ => ?_)
  rw [val_main_v14_apply, show lidx_main_v15 (ix2 n k) j = ix2 n j from ValueIdx.eq_ix2 _,
    show idx_main_v14 (ridx_main_v15 (ix2 n k) j) = ix2 k j from ValueIdx.eq_ix2 _]

theorem v17_at (k : Fin 2816) : val_main_v17 (F := Ideal) X g1 wu (ix2 n k) = lin (hR X g1 n) wu k := v15_at X g1 wu n k

theorem silu_at (y : S8192x2816.Idx) : val_main_call0_v5 (F := Ideal) X g1 wg y = sg (val_main_v15 (F := Ideal) X g1 wg y) := by
  rw [val_main_call0_v5_apply, val_main_call0_v4_apply, val_main_call0_v3_apply, val_main_call0_v2_apply]
  rfl

theorem v19_at (k : Fin 2816) : val_main_v19 (F := Ideal) X g1 wg wu (ix2 n k) = act (lin (hR X g1 n) wg k) (lin (hR X g1 n) wu k) := by
  rw [val_main_v19_apply, val_main_v18_apply, silu_at, v15_at, v17_at]
  rfl

/-- The reference computes the activation again before the last product; it is the same array. -/
theorem v39_same : val_main_v39 (F := Ideal) X g1 wg wu = val_main_v19 (F := Ideal) X g1 wg wu := rfl

theorem v41_at (d : Fin 1024) : val_main_v41 (F := Ideal) X g1 wg wu wd (ix2 n d) = x2Row (hR X g1 n) (xR X n) wg wu wd d := by
  refine (val_main_v41_apply _ _ _ _ _ _).trans (congrArg (X (ix2 n d) + ·) ?_)
  refine (val_main_v40_apply _ _ _ _ _ _).trans (Finset.sum_congr rfl fun k _ => ?_)
  rw [v39_same, show lidx_main_v40 (ix2 n d) k = ix2 n k from ValueIdx.eq_ix2 _,
    show ridx_main_v40 (ix2 n d) k = ix2 k d from ValueIdx.eq_ix2 _, v19_at]

theorem v53_at (z : Fin 1) : val_main_v53 (F := Ideal) X g1 wg wu wd (ix2 n z) = inv (x2Row (hR X g1 n) (xR X n) wg wu wd) := by
  rw [val_main_v53_apply, val_main_v52_apply, val_main_v50_apply, val_main_v48_apply, val_main_v47_apply, val_main_v49_apply, val_main_v51_apply]
  refine congrArg (fun s => Ideal.rsqrt (Ideal.div s width + tiny)) ?_
  rw [val_main_cst_5_apply]
  refine (congrArg (· + _) Ideal.ofBits_zero_f32).trans ((zero_add _).trans (Finset.sum_congr rfl fun k _ => ?_))
  rw [val_main_v46_apply, show idx_main_v47 (idx_main_v48 (ix2 n z)) k = ix2 n k from ValueIdx.eq_ix2 _, v41_at]
  rfl

theorem v57_at (d : Fin 1024) : val_main_v57 (F := Ideal) g2 (ix2 n d) = g2 (ix2 0 d) := by
  rw [val_main_v57_apply, val_main_v56_apply, val_main_v45_apply]
  exact congrArg g2 (funext fun a => Fin.ext (by match a with | ⟨0, _⟩ => rfl | ⟨1, _⟩ => exact Nat.mod_eq_of_lt d.isLt))

theorem v59_at (d : Fin 1024) : val_main_v59 (F := Ideal) X g1 wg wu wd g2 (ix2 n d) = h3Row (hR X g1 n) (xR X n) wg wu wd g2 d := by
  refine (val_main_v59_apply _ _ _ _ _ _ _).trans ((val_main_v58_apply _ _ _ _ _ _ _).trans ?_)
  rw [val_main_v55_apply, val_main_v54_apply, show idx_main_v54 (ix2 n d) = ix2 n 0 from ValueIdx.eq_ix2 _, v53_at, v41_at, v57_at]
  rfl

end Reference

open Cert.Reference5Ideal.Read

theorem gate_result : (dats m 0 c).arrAt 6 cfg0.N = val_main_v42 (F := Ideal) (x0 m c) (x1 m c) (x2 m c) := by
  refine ((gate_final m c).trans (funext fun y => ?_))
  obtain ⟨n, k, rfl⟩ : ∃ n k, y = ix2 n k := ⟨y 0, y 1, ValueIdx.eq_ix2 y⟩
  refine Eq.trans ?_ (v15_at _ _ _ _ _).symm
  show lin (hRow m c n) (aG m c) k = _
  unfold hR hRow
  rw [H_eq, G_eq]

theorem up_result : (dats m 0 c).arrAt 7 cfg0.N = val_main_v43 (F := Ideal) (x0 m c) (x1 m c) (x3 m c) := by
  refine ((up_final m c).trans (funext fun y => ?_))
  obtain ⟨n, k, rfl⟩ : ∃ n k, y = ix2 n k := ⟨y 0, y 1, ValueIdx.eq_ix2 y⟩
  refine Eq.trans ?_ (v17_at _ _ _ _ _).symm
  show lin (hRow m c n) (aU m c) k = _
  unfold hR hRow
  rw [H_eq, U_eq]

theorem act_result : (dats m 0 c).arrAt 8 cfg0.N = val_main_v44 (F := Ideal) (x0 m c) (x1 m c) (x2 m c) (x3 m c) := by
  refine ((act_final m c).trans (funext fun y => ?_))
  obtain ⟨n, k, rfl⟩ : ∃ n k, y = ix2 n k := ⟨y 0, y 1, ValueIdx.eq_ix2 y⟩
  refine Eq.trans ?_ (v19_at _ _ _ _ _ _).symm
  show act (lin (hRow m c n) (aG m c) k) (lin (hRow m c n) (aU m c) k) = _
  unfold hR hRow
  rw [H_eq, G_eq, U_eq]

theorem x2_result : (dats m 0 c).arrAt 9 cfg0.N = val_main_v41 (F := Ideal) (x0 m c) (x1 m c) (x2 m c) (x3 m c) (x4 m c) := by
  refine ((x2_final m c).trans (funext fun y => ?_))
  obtain ⟨n, k, rfl⟩ : ∃ n k, y = ix2 n k := ⟨y 0, y 1, ValueIdx.eq_ix2 y⟩
  refine Eq.trans ?_ (v41_at _ _ _ _ _ _ _).symm
  show x2Row (hRow m c n) (xRow m c n) (aG m c) (aU m c) (aD m c) k = _
  unfold hR xR hRow xRow
  rw [H_eq, G_eq, U_eq, D_eq, X_eq]

theorem h3_result : (dats m 0 c).arrAt 10 cfg0.N = val_main_v59 (F := Ideal) (x0 m c) (x1 m c) (x2 m c) (x3 m c) (x4 m c) (x5 m c) := by
  refine ((h3_final m c).trans (funext fun y => ?_))
  obtain ⟨n, k, rfl⟩ : ∃ n k, y = ix2 n k := ⟨y 0, y 1, ValueIdx.eq_ix2 y⟩
  refine Eq.trans ?_ (v59_at _ _ _ _ _ _ _ _).symm
  show h3Row (hRow m c n) (xRow m c n) (aG m c) (aU m c) (aD m c) (aN m c) k = _
  unfold hR xR hRow xRow
  rw [H_eq, G_eq, U_eq, D_eq, X_eq, N_eq]

end Cert.Ffn.Fwd

end
-- ==== Proof.Mix.lean ====
module

public import proofs.«01_k».proof.Proof.Rows

/-! Blocks of columns: cut out of a matrix, set side by side, and a long product cut into four. -/

@[expose] public section

set_option maxRecDepth 16384

noncomputable section

namespace Cert.Mix

open Cert.Ffn Idealize.SL.Sem Idealize.ShloMosaic
open Idealize.ShloMosaic.ValueIdx

/-- The `M` columns of a matrix from `o` on. -/
def cols {R E : ℕ} (o M : ℕ) (ho : o + M ≤ E) (W : (⟨2, ![R, E]⟩ : Shape).Idx → EReal) : (⟨2, ![R, M]⟩ : Shape).Idx → EReal :=
  fun y => W (ix2 (y 0) ⟨o + (y 1).val, by have : (y 1).val < M := (y 1).isLt; omega⟩)

theorem slice_cols {R E : ℕ} (o M : ℕ) (ho : o + M ≤ E) (W : (⟨2, ![R, E]⟩ : Shape).Idx → EReal)
    (h : (⟨2, ![R, E]⟩ : Shape).Slices ![0, o] ⟨2, ![R, M]⟩) : extractStridedSlice ⟨2, ![R, M]⟩ ![0, o] W h = cols o M ho W := by
  funext y
  refine extractStridedSlice_apply _ _ _ y _ fun a => ?_
  match a with
  | ⟨0, _⟩ => exact (Nat.zero_add _).symm
  | ⟨1, _⟩ => rfl

/-- A row against a block of columns. -/
theorem cols_at {D E : ℕ} (o M : ℕ) (ho : o + M ≤ E) (h : Fin D → EReal) (W : (⟨2, ![D, E]⟩ : Shape).Idx → EReal) (k : Fin M) :
    lin' h (cols o M ho W) k = lin' h W ⟨o + k.val, by omega⟩ := rfl

/-- The left and the right half of a row. -/
def lo (f : Fin 1024 → EReal) (k : Fin 512) : EReal := f ⟨k.val, by omega⟩
def hi (f : Fin 1024 → EReal) (k : Fin 512) : EReal := f ⟨512 + k.val, by omega⟩

/-- Two half rows side by side. -/
def cat (a b : Fin 512 → EReal) (k : Fin 1024) : EReal := if h : k.val < 512 then a ⟨k.val, h⟩ else b ⟨k.val - 512, by omega⟩

theorem cat_at {m : ℕ} (a b : (⟨2, ![m, 512]⟩ : Shape).Idx → EReal)
    (h : Shape.Concatenates [⟨2, ![m, 512]⟩, ⟨2, ![m, 512]⟩] ⟨2, ![m, 1024]⟩ 1) (r : Fin m) (k : Fin 1024) :
    concatenate ⟨2, ![m, 1024]⟩ 1 [⟨⟨2, ![m, 512]⟩, a⟩, ⟨⟨2, ![m, 512]⟩, b⟩] h (ix2 r k) = cat (fun j => a (ix2 r j)) (fun j => b (ix2 r j)) k := by
  unfold cat
  split
  case isTrue hk =>
    refine concatenate_pair_apply_left 1 a b h (ix2 r k) rfl (ix2 r ⟨k.val, hk⟩) fun x => ?_
    match x with
    | ⟨0, _⟩ => rfl
    | ⟨1, _⟩ => rfl
  case isFalse hk =>
    refine concatenate_pair_apply_right 1 a b h (ix2 r k) rfl rfl (ix2 r ⟨k.val - 512, by omega⟩) (fun x hx => ?_) ?_
    · match x with
      | ⟨0, _⟩ => rfl
      | ⟨1, _⟩ => exact absurd rfl hx
    · show k.val - 512 + 512 = k.val
      omega

/-- Two neighbouring blocks of columns side by side are one block. -/
theorem cat_cols {R E : ℕ} (o : ℕ) (ho : o + 1024 ≤ E) (P : (⟨2, ![R, E]⟩ : Shape).Idx → EReal) (n : Fin R) :
    cat (fun j => cols o 512 (by omega) P (ix2 n j)) (fun j => cols (o + 512) 512 (by omega) P (ix2 n j)) = fun k => cols o 1024 ho P (ix2 n k) := by
  funext k
  unfold cat
  split
  · rfl
  · refine congrArg (fun q => P (ix2 n q)) (Fin.ext ?_)
    show o + 512 + (k.val - 512) = o + k.val
    omega

/-- A sum over four blocks. -/
theorem four_blocks (f : Fin 4096 → EReal) :
    ∑ k : Fin 4096, f k = (∑ k : Fin 1024, f ⟨0 + k.val, by omega⟩) + (∑ k : Fin 1024, f ⟨1024 + k.val, by omega⟩)
      + (∑ k : Fin 1024, f ⟨2048 + k.val, by omega⟩) + ∑ k : Fin 1024, f ⟨3072 + k.val, by omega⟩ := by
  obtain ⟨F, hF⟩ : ∃ F : ℕ → EReal, ∀ k (h : k < 4096), f ⟨k, h⟩ = F k :=
    ⟨fun n => if h : n < 4096 then f ⟨n, h⟩ else 0, fun k h => by simp only [dif_pos h]⟩
  have e : ∑ k : Fin 4096, f k = ∑ k : Fin 4096, F k.val := Finset.sum_congr rfl fun k _ => hF k.val k.isLt
  rw [e, sum_tiles 4 1024 4096 rfl, Finset.sum_range_succ, Finset.sum_range_succ, Finset.sum_range_succ, Finset.sum_range_succ, Finset.sum_range_zero, zero_add]
  simp only [hF, Nat.mul_zero, Nat.mul_one, Nat.reduceMul]

/-- A row against the rows of four blocks of columns. -/
theorem lin_four (h : Fin 4096 → EReal) (W : (⟨2, ![1024, 4096]⟩ : Shape).Idx → EReal) (d : Fin 1024) :
    lin (fun k : Fin 1024 => h ⟨0 + k.val, by omega⟩) (cols 0 1024 (by omega) W) d + lin (fun k : Fin 1024 => h ⟨1024 + k.val, by omega⟩) (cols 1024 1024 (by omega) W) d
      + lin (fun k : Fin 1024 => h ⟨2048 + k.val, by omega⟩) (cols 2048 1024 (by omega) W) d + lin (fun k : Fin 1024 => h ⟨3072 + k.val, by omega⟩) (cols 3072 1024 (by omega) W) d
      = lin h W d := (four_blocks fun k => h k * W (ix2 d k)).symm

end Cert.Mix

end
-- ==== Proof.Proj.lean ====
module

public import proofs.«01_k».proof.Proof.Mix
public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack

/-! The projection into the mixer: the normalised rows against the four column blocks of its weights, a tile of 512 rows at a
time. -/

@[expose] public section

set_option maxRecDepth 16384

noncomputable section

namespace Cert.Mix.Proj

open Cert.Ffn Cert.Kernel6Ideal Cert.Kernel6Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

/-! ## One tile -/

section Tile

variable (h : Vec Ideal S512x1024 .bf16) (w : Vec Ideal S1024x1024 .bf16) (r : Fin 512)

theorem prod_at (k : Fin 1024) : k0_pay2 (F := Ideal) h w (ix2 r k) = lin' (fun j => h (ix2 r j)) w k := by
  unfold k0_pay2 k0_pay1
  rw [shapeCast_self, shapeCast_self]
  exact product_at _ _ 1024 rfl rfl h w (ix2 r k) (fun j => ix2 r j) (fun j => ix2 j k)
    (fun k q h => funext fun a => Fin.ext (by match a with | ⟨0, _⟩ => rfl | ⟨1, _⟩ => exact h))
    (fun k q h => funext fun a => Fin.ext (by match a with | ⟨0, _⟩ => exact h | ⟨1, _⟩ => rfl))

/-- The first block's left half and its right half. -/
theorem left_at (k : Fin 512) : k0_pay3 (F := Ideal) h w (ix2 r k) = lo (lin' (fun j => h (ix2 r j)) w) k := by
  unfold k0_pay3
  refine (extractStridedSlice_apply _ _ _ (ix2 r k) (ix2 r ⟨k.val, by omega⟩) fun a => ?_).trans (prod_at h w r _)
  match a with
  | ⟨0, _⟩ => exact (Nat.zero_add _).symm
  | ⟨1, _⟩ => exact (Nat.zero_add _).symm

theorem right_at (k : Fin 512) : k0_pay4 (F := Ideal) h w (ix2 r k) = hi (lin' (fun j => h (ix2 r j)) w) k := by
  show extractStridedSlice S512x512 ![0, 512] (k0_pay2 (F := Ideal) h w) slices_S512x1024_o0_512_S512x512 (ix2 r k) = _
  refine (extractStridedSlice_apply _ _ _ (ix2 r k) (ix2 r ⟨512 + k.val, by omega⟩) fun a => ?_).trans (prod_at h w r _)
  match a with
  | ⟨0, _⟩ => exact (Nat.zero_add _).symm
  | ⟨1, _⟩ => rfl

theorem full_at (k : Fin 1024) : k0_pay5 (F := Ideal) h w (ix2 r k) = lin' (fun j => h (ix2 r j)) w k := prod_at h w r k

end Tile

variable (m : (ℓ : Loc nD τ sig) → Buf (Elt Ideal) ℓ) (c : Dev nD)

/-- The normalised rows and the four blocks of columns, as the launch finds them. -/
abbrev aH : S8192x1024.Idx → EReal := V m c main_v14
abbrev a1 : S1024x1024.Idx → EReal := V m c main_v16
abbrev a2 : S1024x1024.Idx → EReal := V m c main_v17
abbrev a3 : S1024x1024.Idx → EReal := V m c main_v18
abbrev a4 : S1024x1024.Idx → EReal := V m c main_v19

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem tlt (t : Fin cfg0.N) : t.val < 16 := t.isLt

/-- The batch row that point `t` has at row `r` of its tile. -/
abbrev at_ (t : Fin cfg0.N) (r : Fin 512) : Fin 8192 := ⟨t.val * 512 + r.val, by have := tlt t; omega⟩

abbrev hRow (n : Fin 8192) : Fin 1024 → EReal := fun j => aH m c (ix2 n j)

theorem rd0 (t : Fin cfg0.N) (r : Fin 512) (k : Fin 1024) : iblk m c 0 t (ix2 r k) = aH m c (ix2 (at_ t r) k) := by
  blk_ext [iblk, idx0 t]
theorem rows0 (t : Fin cfg0.N) (r : Fin 512) : (fun j => iblk m c 0 t (ix2 r j)) = hRow m c (at_ t r) := funext fun j => rd0 m c t r j
theorem rd1 (t : Fin cfg0.N) : (iblk m c 1 t : S1024x1024.Idx → EReal) = a1 m c := by
  funext y
  blk_ext [iblk, idx1 t]
theorem rd2 (t : Fin cfg0.N) : (iblk m c 2 t : S1024x1024.Idx → EReal) = a2 m c := by
  funext y
  blk_ext [iblk, idx2 t]
theorem rd3 (t : Fin cfg0.N) : (iblk m c 3 t : S1024x1024.Idx → EReal) = a3 m c := by
  funext y
  blk_ext [iblk, idx3 t]
theorem rd4 (t : Fin cfg0.N) : (iblk m c 4 t : S1024x1024.Idx → EReal) = a4 m c := by
  funext y
  blk_ext [iblk, idx4 t]

/-! ## The arrays after the run -/

theorem u_point (t : Fin cfg0.N) (r : Fin 512) (k : Fin 512) : out0_5 (F := Ideal) (iblk m c 0 t) (iblk m c 1 t) (iblk m c 2 t) (iblk m c 3 t) (iblk m c 4 t) (ix2 r k)
    = lo (lin' (hRow m c (at_ t r)) (a1 m c)) k := by
  frame_out
  rw [rd1]
  refine (left_at _ _ _ _).trans ?_
  rw [rows0]

theorem u_final : (dats m 0 c).arrAt 5 cfg0.N = fun y : S8192x512.Idx => lo (lin' (hRow m c (y 0)) (a1 m c)) (y 1) := by
  refine (dats m 0 c).arrAt_eq_of_covers 5 _ (by decide +kernel) fun t hf y => ?_
  blk_simp
  rw [after0_5]
  refine (congrArg _ (ValueIdx.eq_ix2 y)).trans ((u_point m c t (y 0) (y 1)).trans ?_)
  have e0 : (win0_5.blk t).view.emb y 0 = at_ t (y 0) := by
    refine Fin.ext ?_
    blk_simp [idx5 t]
  have e1 : (win0_5.blk t).view.emb y 1 = y 1 := by
    refine Fin.ext ?_
    blk_simp [idx5 t]
  rw [e0, e1]

theorem q_point (t : Fin cfg0.N) (r : Fin 512) (k : Fin 512) : out0_6 (F := Ideal) (iblk m c 0 t) (iblk m c 1 t) (iblk m c 2 t) (iblk m c 3 t) (iblk m c 4 t) (ix2 r k)
    = hi (lin' (hRow m c (at_ t r)) (a1 m c)) k := by
  frame_out
  rw [rd1]
  refine (right_at _ _ _ _).trans ?_
  rw [rows0]

theorem q_final : (dats m 0 c).arrAt 6 cfg0.N = fun y : S8192x512.Idx => hi (lin' (hRow m c (y 0)) (a1 m c)) (y 1) := by
  refine (dats m 0 c).arrAt_eq_of_covers 6 _ (by decide +kernel) fun t hf y => ?_
  blk_simp
  rw [after0_6]
  refine (congrArg _ (ValueIdx.eq_ix2 y)).trans ((q_point m c t (y 0) (y 1)).trans ?_)
  have e0 : (win0_6.blk t).view.emb y 0 = at_ t (y 0) := by
    refine Fin.ext ?_
    blk_simp [idx6 t]
  have e1 : (win0_6.blk t).view.emb y 1 = y 1 := by
    refine Fin.ext ?_
    blk_simp [idx6 t]
  rw [e0, e1]

theorem kv_point (t : Fin cfg0.N) (r : Fin 512) (k : Fin 1024) : out0_7 (F := Ideal) (iblk m c 0 t) (iblk m c 1 t) (iblk m c 2 t) (iblk m c 3 t) (iblk m c 4 t) (ix2 r k)
    = lin' (hRow m c (at_ t r)) (a2 m c) k := by
  frame_out
  rw [rd2]
  refine (full_at _ _ _ _).trans ?_
  rw [rows0]

theorem kv_final : (dats m 0 c).arrAt 7 cfg0.N = fun y : S8192x1024.Idx => lin' (hRow m c (y 0)) (a2 m c) (y 1) := by
  refine (dats m 0 c).arrAt_eq_of_covers 7 _ (by decide +kernel) fun t hf y => ?_
  blk_simp
  rw [after0_7]
  refine (congrArg _ (ValueIdx.eq_ix2 y)).trans ((kv_point m c t (y 0) (y 1)).trans ?_)
  have e0 : (win0_7.blk t).view.emb y 0 = at_ t (y 0) := by
    refine Fin.ext ?_
    blk_simp [idx7 t]
  have e1 : (win0_7.blk t).view.emb y 1 = y 1 := by
    refine Fin.ext ?_
    blk_simp [idx7 t]
  rw [e0, e1]

theorem ga_point (t : Fin cfg0.N) (r : Fin 512) (k : Fin 1024) : out0_8 (F := Ideal) (iblk m c 0 t) (iblk m c 1 t) (iblk m c 2 t) (iblk m c 3 t) (iblk m c 4 t) (ix2 r k)
    = lin' (hRow m c (at_ t r)) (a3 m c) k := by
  frame_out
  rw [rd3]
  refine (full_at _ _ _ _).trans ?_
  rw [rows0]

theorem ga_final : (dats m 0 c).arrAt 8 cfg0.N = fun y : S8192x1024.Idx => lin' (hRow m c (y 0)) (a3 m c) (y 1) := by
  refine (dats m 0 c).arrAt_eq_of_covers 8 _ (by decide +kernel) fun t hf y => ?_
  blk_simp
  rw [after0_8]
  refine (congrArg _ (ValueIdx.eq_ix2 y)).trans ((ga_point m c t (y 0) (y 1)).trans ?_)
  have e0 : (win0_8.blk t).view.emb y 0 = at_ t (y 0) := by
    refine Fin.ext ?_
    blk_simp [idx8 t]
  have e1 : (win0_8.blk t).view.emb y 1 = y 1 := by
    refine Fin.ext ?_
    blk_simp [idx8 t]
  rw [e0, e1]

theorem gb_point (t : Fin cfg0.N) (r : Fin 512) (k : Fin 1024) : out0_9 (F := Ideal) (iblk m c 0 t) (iblk m c 1 t) (iblk m c 2 t) (iblk m c 3 t) (iblk m c 4 t) (ix2 r k)
    = lin' (hRow m c (at_ t r)) (a4 m c) k := by
  frame_out
  rw [rd4]
  refine (full_at _ _ _ _).trans ?_
  rw [rows0]

theorem gb_final : (dats m 0 c).arrAt 9 cfg0.N = fun y : S8192x1024.Idx => lin' (hRow m c (y 0)) (a4 m c) (y 1) := by
  refine (dats m 0 c).arrAt_eq_of_covers 9 _ (by decide +kernel) fun t hf y => ?_
  blk_simp
  rw [after0_9]
  refine (congrArg _ (ValueIdx.eq_ix2 y)).trans ((gb_point m c t (y 0) (y 1)).trans ?_)
  have e0 : (win0_9.blk t).view.emb y 0 = at_ t (y 0) := by
    refine Fin.ext ?_
    blk_simp [idx9 t]
  have e1 : (win0_9.blk t).view.emb y 1 = y 1 := by
    refine Fin.ext ?_
    blk_simp [idx9 t]
  rw [e0, e1]

/-! ## The reference -/

abbrev x0 := m ((c : Thread nD τ).loc main_arg0)
abbrev x1 := m ((c : Thread nD τ).loc main_arg1)
abbrev x2 := m ((c : Thread nD τ).loc main_arg2)

theorem H_eq : aH m c = Cert.Reference6Ideal.Read.val_main_v13 (F := Ideal) (x0 m c) (x1 m c) := by
  show V m c main_v14 = _
  unfold V hostOps0
  after_results
  rfl

theorem W1_eq : a1 m c = cols 0 1024 (by omega) (x2 m c) := by
  have e : V m c main_v16 = extractStridedSlice S1024x1024 ![0, 0] (x2 m c) slices_S1024x4096_S1024x1024_0_0 := by
    unfold V hostOps0
    after_results
    rfl
  exact e.trans (slice_cols 0 1024 (by omega) (x2 m c) _)

theorem W2_eq : a2 m c = cols 1024 1024 (by omega) (x2 m c) := by
  have e : V m c main_v17 = extractStridedSlice S1024x1024 ![0, 1024] (x2 m c) slices_S1024x4096_S1024x1024_0_1024 := by
    unfold V hostOps0
    after_results
    rfl
  exact e.trans (slice_cols 1024 1024 (by omega) (x2 m c) _)

theorem W3_eq : a3 m c = cols 2048 1024 (by omega) (x2 m c) := by
  have e : V m c main_v18 = extractStridedSlice S1024x1024 ![0, 2048] (x2 m c) slices_S1024x4096_S1024x1024_0_2048 := by
    unfold V hostOps0
    after_results
    rfl
  exact e.trans (slice_cols 2048 1024 (by omega) (x2 m c) _)

theorem W4_eq : a4 m c = cols 3072 1024 (by omega) (x2 m c) := by
  have e : V m c main_v19 = extractStridedSlice S1024x1024 ![0, 3072] (x2 m c) slices_S1024x4096_S1024x1024_0_3072 := by
    unfold V hostOps0
    after_results
    rfl
  exact e.trans (slice_cols 3072 1024 (by omega) (x2 m c) _)

section Reference

open Cert.Reference6Ideal.Read

variable (X : S8192x1024.Idx → EReal) (g : S1x1024.Idx → EReal) (W : S1024x4096.Idx → EReal) (n : Fin 8192)

/-- The normalised row, as the reference has it. -/
abbrev hR : Fin 1024 → EReal := fun j => val_main_v13 (F := Ideal) X g (ix2 n j)

theorem v14_at (k : Fin 4096) : val_main_v14 (F := Ideal) X g W (ix2 n k) = lin' (hR X g n) W k := by
  refine (val_main_v14_apply _ _ _ _).trans (Finset.sum_congr rfl fun j _ => ?_)
  rw [show lidx_main_v14 (ix2 n k) j = ix2 n j from ValueIdx.eq_ix2 _, show ridx_main_v14 (ix2 n k) j = ix2 j k from ValueIdx.eq_ix2 _]

end Reference

open Cert.Reference6Ideal.Read

theorem u_result : (dats m 0 c).arrAt 5 cfg0.N = val_main_v15 (F := Ideal) (x0 m c) (x1 m c) (x2 m c) := by
  refine ((u_final m c).trans (funext fun y => ?_))
  obtain ⟨n, k, rfl⟩ : ∃ n k, y = ix2 n k := ⟨y 0, y 1, ValueIdx.eq_ix2 y⟩
  have e : val_main_v15 (F := Ideal) (x0 m c) (x1 m c) (x2 m c) (ix2 n k) = val_main_v14 (F := Ideal) (x0 m c) (x1 m c) (x2 m c) (ix2 n ⟨0 + k.val, by have := k.isLt; omega⟩) := by
    refine (val_main_v15_apply _ _ _ _).trans (congrArg (val_main_v14 (F := Ideal) _ _ _) ?_)
    exact (ValueIdx.eq_ix2 _).trans (congrArg (ix2 n ·) (Fin.ext (Nat.zero_add _).symm))
  refine Eq.trans ?_ (e.trans (v14_at _ _ _ _ _)).symm
  show lo (lin' (hRow m c n) (a1 m c)) k = _
  unfold hR hRow
  rw [H_eq, W1_eq]
  exact (cols_at 0 _ _ _ _ _).trans (congrArg (lin' _ _) (Fin.ext (by show 0 + k.val = 0 + k.val; omega)))

theorem q_result : (dats m 0 c).arrAt 6 cfg0.N = val_main_v20 (F := Ideal) (x0 m c) (x1 m c) (x2 m c) := by
  refine ((q_final m c).trans (funext fun y => ?_))
  obtain ⟨n, k, rfl⟩ : ∃ n k, y = ix2 n k := ⟨y 0, y 1, ValueIdx.eq_ix2 y⟩
  have e : val_main_v20 (F := Ideal) (x0 m c) (x1 m c) (x2 m c) (ix2 n k) = val_main_v14 (F := Ideal) (x0 m c) (x1 m c) (x2 m c) (ix2 n ⟨512 + k.val, by have := k.isLt; omega⟩) := by
    refine (val_main_v16_apply _ _ _ _).trans (congrArg (val_main_v14 (F := Ideal) _ _ _) ?_)
    exact ValueIdx.eq_ix2 _
  refine Eq.trans ?_ (e.trans (v14_at _ _ _ _ _)).symm
  show hi (lin' (hRow m c n) (a1 m c)) k = _
  unfold hR hRow
  rw [H_eq, W1_eq]
  exact (cols_at 0 _ _ _ _ _).trans (congrArg (lin' _ _) (Fin.ext (by show 0 + (512 + k.val) = 512 + k.val; omega)))

theorem kv_result : (dats m 0 c).arrAt 7 cfg0.N = val_main_v21 (F := Ideal) (x0 m c) (x1 m c) (x2 m c) := by
  refine ((kv_final m c).trans (funext fun y => ?_))
  obtain ⟨n, k, rfl⟩ : ∃ n k, y = ix2 n k := ⟨y 0, y 1, ValueIdx.eq_ix2 y⟩
  have e : val_main_v21 (F := Ideal) (x0 m c) (x1 m c) (x2 m c) (ix2 n k) = val_main_v14 (F := Ideal) (x0 m c) (x1 m c) (x2 m c) (ix2 n ⟨1024 + k.val, by have := k.isLt; omega⟩) := by
    refine (val_main_v17_apply _ _ _ _).trans (congrArg (val_main_v14 (F := Ideal) _ _ _) ?_)
    exact ValueIdx.eq_ix2 _
  refine Eq.trans ?_ (e.trans (v14_at _ _ _ _ _)).symm
  show lin' (hRow m c n) (a2 m c) k = _
  unfold hR hRow
  rw [H_eq, W2_eq]
  rfl

theorem ga_result : (dats m 0 c).arrAt 8 cfg0.N = val_main_v22 (F := Ideal) (x0 m c) (x1 m c) (x2 m c) := by
  refine ((ga_final m c).trans (funext fun y => ?_))
  obtain ⟨n, k, rfl⟩ : ∃ n k, y = ix2 n k := ⟨y 0, y 1, ValueIdx.eq_ix2 y⟩
  have e : val_main_v22 (F := Ideal) (x0 m c) (x1 m c) (x2 m c) (ix2 n k) = val_main_v14 (F := Ideal) (x0 m c) (x1 m c) (x2 m c) (ix2 n ⟨2048 + k.val, by have := k.isLt; omega⟩) := by
    refine (val_main_v18_apply _ _ _ _).trans (congrArg (val_main_v14 (F := Ideal) _ _ _) ?_)
    exact ValueIdx.eq_ix2 _
  refine Eq.trans ?_ (e.trans (v14_at _ _ _ _ _)).symm
  show lin' (hRow m c n) (a3 m c) k = _
  unfold hR hRow
  rw [H_eq, W3_eq]
  rfl

theorem gb_result : (dats m 0 c).arrAt 9 cfg0.N = val_main_v23 (F := Ideal) (x0 m c) (x1 m c) (x2 m c) := by
  refine ((gb_final m c).trans (funext fun y => ?_))
  obtain ⟨n, k, rfl⟩ : ∃ n k, y = ix2 n k := ⟨y 0, y 1, ValueIdx.eq_ix2 y⟩
  have e : val_main_v23 (F := Ideal) (x0 m c) (x1 m c) (x2 m c) (ix2 n k) = val_main_v14 (F := Ideal) (x0 m c) (x1 m c) (x2 m c) (ix2 n ⟨3072 + k.val, by have := k.isLt; omega⟩) := by
    refine (val_main_v19_apply _ _ _ _).trans (congrArg (val_main_v14 (F := Ideal) _ _ _) ?_)
    exact ValueIdx.eq_ix2 _
  refine Eq.trans ?_ (e.trans (v14_at _ _ _ _ _)).symm
  show lin' (hRow m c n) (a4 m c) k = _
  unfold hR hRow
  rw [H_eq, W4_eq]
  rfl

end Cert.Mix.Proj

end
-- ==== Proof.Sums.lean ====
module

public import proofs.«01_k».proof.Proof.Mix
public import Idealize.ShloMosaic.Lib.Pipeline.ValueKit

/-! Products of two arrays of rows that are summed tile by tile. -/

@[expose] public section

set_option maxRecDepth 16384

noncomputable section

namespace Cert.Mix

open Cert.Ffn Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

/-- Row `n` of an array, and zero from its end on. -/
def row {K : ℕ} (A : (⟨2, ![8192, K]⟩ : Shape).Idx → EReal) (n : ℕ) (k : Fin K) : EReal := if h : n < 8192 then A (ix2 ⟨n, h⟩ k) else 0

theorem row_of {K : ℕ} (A : (⟨2, ![8192, K]⟩ : Shape).Idx → EReal) (n : Fin 8192) (k : Fin K) : row A n.val k = A (ix2 n k) := dif_pos n.isLt

/-- What tile `t` of 1024 rows adds to the product of two arrays of rows. -/
def tterm {K J : ℕ} (A : (⟨2, ![8192, K]⟩ : Shape).Idx → EReal) (B : (⟨2, ![8192, J]⟩ : Shape).Idx → EReal) (t : ℕ) (y : (⟨2, ![K, J]⟩ : Shape).Idx) : EReal :=
  ∑ r : Fin 1024, row A (1024 * t + r.val) (y 0) * row B (1024 * t + r.val) (y 1)

/-- Eight tiles, each adding its part, leave the whole product. -/
theorem eight {K J N : ℕ} (A : (⟨2, ![8192, K]⟩ : Shape).Idx → EReal) (B : (⟨2, ![8192, J]⟩ : Shape).Idx → EReal)
    (a : (n : ℕ) → n < N → (⟨2, ![K, J]⟩ : Shape).Idx → EReal) (g : (n : ℕ) → n < N → ((⟨2, ![K, J]⟩ : Shape).Idx → EReal) → (⟨2, ![K, J]⟩ : Shape).Idx → EReal)
    (ha : ∀ n h y, a n h y = 0 + tterm A B n y) (hg : ∀ n h acc y, g n h acc y = acc y + tterm A B n y)
    (b : ℕ) (hb : b = 0) (h : 8 * b + 7 < N) (l : (⟨2, ![K, J]⟩ : Shape).Idx) (i : Fin K) (j : Fin J) (hl : l = ix2 i j) :
    Pipeline.accAt a g (8 * b) 7 h l = ∑ n : Fin 8192, A (ix2 n i) * B (ix2 n j) := by
  subst hb hl
  rw [Pipeline.accAt_add_apply a g (fun _ => 0) (fun n => tterm A B n) (8 * 0) 7 (fun h y => ha _ h y) (fun n h acc y _ _ => hg n h acc y) 7 le_rfl h (ix2 i j), zero_add]
  have e : ∀ n, A (ix2 n i) * B (ix2 n j) = row A n.val i * row B n.val j := fun n => by rw [row_of, row_of]
  simp only [e]
  rw [sum_tiles 8 1024 8192 rfl (fun n => row A n i * row B n j)]
  exact Finset.sum_congr rfl fun s _ => congrArg (fun n => tterm A B n (ix2 i j)) (show 8 * 0 + s = s by omega)

end Cert.Mix

end
-- ==== Proof.InGrad.lean ====
module

public import proofs.«01_k».proof.Proof.Sums
public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack

/-! The gradient of the input projection: the normed rows against the incoming gradient, four square blocks, summed over sixteen tiles of rows. -/

@[expose] public section

set_option maxRecDepth 16384

noncomputable section

namespace Cert.Mix.InGrad

open Cert.Ffn Cert.Kernel7Ideal Cert.Kernel7Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

/-- A block of rows transposed against another block. -/
theorem tn_at (h d : S512x1024.Idx → EReal) (i j : Fin 1024) :
    matmul (F := Ideal) (φ₁ := .bf16) (φ₂ := .bf16) dot_S512x1024_S512x1024_S1024x1024_0_0_1_1_n_n none h d (constant (F := Ideal) S1024x1024 .f32 0x00000000#32) (ix2 i j)
      = ∑ r : Fin 512, h (ix2 r i) * d (ix2 r j) :=
  product_at _ _ 512 rfl rfl h d (ix2 i j) (fun r => ix2 r i) (fun r => ix2 r j)
    (fun k q h => funext fun a => Fin.ext (by match a with | ⟨0, _⟩ => exact h | ⟨1, _⟩ => rfl))
    (fun k q h => funext fun a => Fin.ext (by match a with | ⟨0, _⟩ => exact h | ⟨1, _⟩ => rfl))

theorem up_at (v : S1024x1024.Idx → EReal) (z : Fin 1) (i j : Fin 1024) : shapeCast S1x1024x1024 v shapeCasts_S1024x1024_S1x1024x1024 (ix3 z i j) = v (ix2 i j) := by
  refine shapeCast_apply _ _ _ (ix2 i j) ?_
  rw [Shape.rowMajor_val_two, Shape.rowMajor_val_three]
  show i.val * 1024 + j.val = (z.val * 1024 + i.val) * 1024 + j.val
  omega

theorem down_at (v : S1x1024x1024.Idx → EReal) (i j : Fin 1024) : shapeCast S1024x1024 v shapeCasts_S1x1024x1024_S1024x1024 (ix2 i j) = v (ix3 (0 : Fin 1) i j) := by
  refine shapeCast_apply _ _ _ (ix3 (0 : Fin 1) i j) ?_
  rw [Shape.rowMajor_val_two, Shape.rowMajor_val_three]
  show ((0 : Fin 1).val * 1024 + i.val) * 1024 + j.val = i.val * 1024 + j.val
  simp only [Fin.val_zero]
  omega

variable (h : S512x1024.Idx → EReal) (a b : S512x512.Idx → EReal) (d : S512x1024.Idx → EReal) (v : S1x1024x1024.Idx → EReal) (z : Fin 1) (i j : Fin 1024)

/-- What each of the four stores leaves: its block as loaded, and the product added. -/
theorem pay0 : k0_pay8 (F := Ideal) h a b v (ix3 z i j) = v (ix3 0 i j) + ∑ r : Fin 512, h (ix2 r i) * cat (fun k => a (ix2 r k)) (fun k => b (ix2 r k)) j := by
  unfold k0_pay8 k0_pay5
  refine (up_at _ z i j).trans ?_
  rw [addf_apply, down_at]
  refine congrArg (v (ix3 0 i j) + ·) ((tn_at _ _ i j).trans (Finset.sum_congr rfl fun r _ => congrArg₂ (fun p q : EReal => p * q) (congrFun (shapeCast_self h _) _) ?_))
  refine Eq.trans ?_ (cat_at a b concatenates_S512x512_S512x512_S512x1024_d1 r j)
  exact congrArg₂ (fun a b => concatenate S512x1024 1 [⟨S512x512, a⟩, ⟨S512x512, b⟩] concatenates_S512x512_S512x512_S512x1024_d1 (ix2 r j)) (shapeCast_self a _) (shapeCast_self b _)

theorem pay1 : k0_pay1 (F := Ideal) (k0_pay9 (F := Ideal) h a b) (k0_pay10 (F := Ideal) v) (ix3 z i j)
    = v (ix3 0 i j) + ∑ r : Fin 512, h (ix2 r i) * cat (fun k => a (ix2 r k)) (fun k => b (ix2 r k)) j := by
  unfold k0_pay1 k0_pay9 k0_pay10 k0_pay5
  refine (up_at _ z i j).trans ?_
  rw [addf_apply, down_at]
  refine congrArg (v (ix3 0 i j) + ·) ((tn_at _ _ i j).trans (Finset.sum_congr rfl fun r _ => congrArg₂ (fun p q : EReal => p * q) (congrFun (shapeCast_self h _) _) ?_))
  refine Eq.trans ?_ (cat_at a b concatenates_S512x512_S512x512_S512x1024_d1 r j)
  exact congrArg₂ (fun a b => concatenate S512x1024 1 [⟨S512x512, a⟩, ⟨S512x512, b⟩] concatenates_S512x512_S512x512_S512x1024_d1 (ix2 r j)) (shapeCast_self a _) (shapeCast_self b _)

theorem pay2 : k0_pay2 (F := Ideal) (k0_pay5 (F := Ideal) h) (k0_pay6 (F := Ideal) d) v (ix3 z i j) = v (ix3 0 i j) + ∑ r : Fin 512, h (ix2 r i) * d (ix2 r j) := by
  unfold k0_pay2 k0_pay5 k0_pay6
  refine (up_at _ z i j).trans ?_
  rw [addf_apply, down_at, shapeCast_self, shapeCast_self]
  exact congrArg (v (ix3 0 i j) + ·) (tn_at _ _ i j)

theorem pay3 : k0_pay3 (F := Ideal) (k0_pay5 (F := Ideal) h) (k0_pay7 (F := Ideal) d) v (ix3 z i j) = v (ix3 0 i j) + ∑ r : Fin 512, h (ix2 r i) * d (ix2 r j) := by
  unfold k0_pay3 k0_pay5 k0_pay7
  refine (up_at _ z i j).trans ?_
  rw [addf_apply, down_at, shapeCast_self, shapeCast_self]
  exact congrArg (v (ix3 0 i j) + ·) (tn_at _ _ i j)

variable (m : (ℓ : Loc nD τ sig) → Buf (Elt Ideal) ℓ) (c : Dev nD)

/-- The normed rows and the incoming gradient. -/
abbrev aH : S8192x1024.Idx → EReal := V m c main_v14
abbrev aP : S8192x4096.Idx → EReal := m ((c : Thread nD τ).loc main_arg3)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem tlt (t : Fin cfg0.N) : t.val < 16 := t.isLt
theorem N0 : cfg0.N = 16 := by decide +kernel

theorem rd0 (t : Fin cfg0.N) (r : Fin 512) (k : Fin 1024) : iblk m c 0 t (ix2 r k) = row (aH m c) (512 * t.val + r.val) k := by
  have := tlt t
  refine Eq.trans ?_ (row_of (aH m c) ⟨512 * t.val + r.val, by omega⟩ k).symm
  blk_ext [iblk, idx0 t]
  show t.val * 512 + r.val = _
  omega

theorem c1 : (V m c main_v16 : S8192x512.Idx → EReal) = cols 0 512 (by decide) (aP m c) := by
  unfold V hostOps0
  after_results
  exact slice_cols 0 512 (by decide) _ _

theorem rd1 (t : Fin cfg0.N) (r : Fin 512) (k : Fin 512) : iblk m c 1 t (ix2 r k) = row (aP m c) (512 * t.val + r.val) ⟨0 + k.val, by omega⟩ := by
  have := tlt t
  refine Eq.trans ?_ (row_of (aP m c) ⟨512 * t.val + r.val, by omega⟩ ⟨0 + k.val, by omega⟩).symm
  refine Eq.trans (b := (V m c main_v16 : S8192x512.Idx → EReal) (ix2 ⟨512 * t.val + r.val, by omega⟩ k)) ?_ (congrFun (c1 m c) _)
  blk_ext [iblk, idx1 t]
  show t.val * 512 + r.val = _
  omega

theorem c2 : (V m c main_v17 : S8192x512.Idx → EReal) = cols 512 512 (by decide) (aP m c) := by
  unfold V hostOps0
  after_results
  exact slice_cols 512 512 (by decide) _ _

theorem rd2 (t : Fin cfg0.N) (r : Fin 512) (k : Fin 512) : iblk m c 2 t (ix2 r k) = row (aP m c) (512 * t.val + r.val) ⟨512 + k.val, by omega⟩ := by
  have := tlt t
  refine Eq.trans ?_ (row_of (aP m c) ⟨512 * t.val + r.val, by omega⟩ ⟨512 + k.val, by omega⟩).symm
  refine Eq.trans (b := (V m c main_v17 : S8192x512.Idx → EReal) (ix2 ⟨512 * t.val + r.val, by omega⟩ k)) ?_ (congrFun (c2 m c) _)
  blk_ext [iblk, idx2 t]
  show t.val * 512 + r.val = _
  omega

theorem c3 : (V m c main_v18 : S8192x512.Idx → EReal) = cols 1024 512 (by decide) (aP m c) := by
  unfold V hostOps0
  after_results
  exact slice_cols 1024 512 (by decide) _ _

theorem rd3 (t : Fin cfg0.N) (r : Fin 512) (k : Fin 512) : iblk m c 3 t (ix2 r k) = row (aP m c) (512 * t.val + r.val) ⟨1024 + k.val, by omega⟩ := by
  have := tlt t
  refine Eq.trans ?_ (row_of (aP m c) ⟨512 * t.val + r.val, by omega⟩ ⟨1024 + k.val, by omega⟩).symm
  refine Eq.trans (b := (V m c main_v18 : S8192x512.Idx → EReal) (ix2 ⟨512 * t.val + r.val, by omega⟩ k)) ?_ (congrFun (c3 m c) _)
  blk_ext [iblk, idx3 t]
  show t.val * 512 + r.val = _
  omega

theorem c4 : (V m c main_v19 : S8192x512.Idx → EReal) = cols 1536 512 (by decide) (aP m c) := by
  unfold V hostOps0
  after_results
  exact slice_cols 1536 512 (by decide) _ _

theorem rd4 (t : Fin cfg0.N) (r : Fin 512) (k : Fin 512) : iblk m c 4 t (ix2 r k) = row (aP m c) (512 * t.val + r.val) ⟨1536 + k.val, by omega⟩ := by
  have := tlt t
  refine Eq.trans ?_ (row_of (aP m c) ⟨512 * t.val + r.val, by omega⟩ ⟨1536 + k.val, by omega⟩).symm
  refine Eq.trans (b := (V m c main_v19 : S8192x512.Idx → EReal) (ix2 ⟨512 * t.val + r.val, by omega⟩ k)) ?_ (congrFun (c4 m c) _)
  blk_ext [iblk, idx4 t]
  show t.val * 512 + r.val = _
  omega

theorem c5 : (V m c main_v20 : S8192x1024.Idx → EReal) = cols 2048 1024 (by decide) (aP m c) := by
  unfold V hostOps0
  after_results
  exact slice_cols 2048 1024 (by decide) _ _

theorem rd5 (t : Fin cfg0.N) (r : Fin 512) (k : Fin 1024) : iblk m c 5 t (ix2 r k) = row (aP m c) (512 * t.val + r.val) ⟨2048 + k.val, by omega⟩ := by
  have := tlt t
  refine Eq.trans ?_ (row_of (aP m c) ⟨512 * t.val + r.val, by omega⟩ ⟨2048 + k.val, by omega⟩).symm
  refine Eq.trans (b := (V m c main_v20 : S8192x1024.Idx → EReal) (ix2 ⟨512 * t.val + r.val, by omega⟩ k)) ?_ (congrFun (c5 m c) _)
  blk_ext [iblk, idx5 t]
  show t.val * 512 + r.val = _
  omega

theorem c6 : (V m c main_v21 : S8192x1024.Idx → EReal) = cols 3072 1024 (by decide) (aP m c) := by
  unfold V hostOps0
  after_results
  exact slice_cols 3072 1024 (by decide) _ _

theorem rd6 (t : Fin cfg0.N) (r : Fin 512) (k : Fin 1024) : iblk m c 6 t (ix2 r k) = row (aP m c) (512 * t.val + r.val) ⟨3072 + k.val, by omega⟩ := by
  have := tlt t
  refine Eq.trans ?_ (row_of (aP m c) ⟨512 * t.val + r.val, by omega⟩ ⟨3072 + k.val, by omega⟩).symm
  refine Eq.trans (b := (V m c main_v21 : S8192x1024.Idx → EReal) (ix2 ⟨512 * t.val + r.val, by omega⟩ k)) ?_ (congrFun (c6 m c) _)
  blk_ext [iblk, idx6 t]
  show t.val * 512 + r.val = _
  omega

/-- The two halves of a block of columns, joined. -/
theorem cat0 (t : Fin cfg0.N) (r : Fin 512) (j : Fin 1024) :
    cat (fun k => iblk m c 1 t (ix2 r k)) (fun k => iblk m c 2 t (ix2 r k)) j = row (aP m c) (512 * t.val + r.val) ⟨0 + j.val, by omega⟩ := by
  unfold cat
  split
  · exact rd1 m c t r _
  · refine (rd2 m c t r _).trans (congrArg (row (aP m c) (512 * t.val + r.val)) (Fin.ext ?_))
    show 512 + (j.val - 512) = 0 + j.val
    omega

/-- The two halves of a block of columns, joined. -/
theorem cat1 (t : Fin cfg0.N) (r : Fin 512) (j : Fin 1024) :
    cat (fun k => iblk m c 3 t (ix2 r k)) (fun k => iblk m c 4 t (ix2 r k)) j = row (aP m c) (512 * t.val + r.val) ⟨1024 + j.val, by omega⟩ := by
  unfold cat
  split
  · exact rd3 m c t r _
  · refine (rd4 m c t r _).trans (congrArg (row (aP m c) (512 * t.val + r.val)) (Fin.ext ?_))
    show 1536 + (j.val - 512) = 1024 + j.val
    omega

/-- What tile `t` adds. -/
def term (t : ℕ) (y : S4x1024x1024.Idx) : EReal :=
  ∑ r : Fin 512, row (aH m c) (512 * t + r.val) (y 1) * row (aP m c) (512 * t + r.val) ⟨1024 * (y 0).val + (y 2).val, by
    have h0 : (y 0).val < 4 := (y 0).isLt
    have h2 : (y 2).val < 1024 := (y 2).isLt
    omega⟩

/-- A tile of the normed rows. -/
abbrev hRows (t : Fin cfg0.N) : S512x1024.Idx → EReal := iblk m c 0 t

/-- One block of a stack of four. -/
abbrev slot (b : ℕ) (inb : ∀ a, (![b, 0, 0] : Fin 3 → ℕ) a + (![1, 1024, 1024] : Fin 3 → ℕ) a ≤ S4x1024x1024.size a) : Rect S4x1024x1024 := Rect.unit ![b, 0, 0] ![1, 1024, 1024] inb

/-- A block whose elements are the loaded ones and a sum over the tile's rows is the stack as loaded and `term` added. -/
theorem slot_term (t : Fin cfg0.N) (acc : Vec Ideal S4x1024x1024 .f32) (b : ℕ) (hb : b < 4) (inb) (p : S1x1024x1024.Idx → EReal) (D : Fin 512 → Fin 1024 → EReal)
    (hp : ∀ z i j, p (ix3 z i j) = View.ld acc (slot b inb) (ix3 0 i j) + ∑ r : Fin 512, hRows m c t (ix2 r i) * D r j)
    (hD : ∀ r j, D r j = row (aP m c) (512 * t.val + r.val) ⟨1024 * b + j.val, by omega⟩) (x : (slot b inb).shape.Idx) :
    p x = acc ((slot b inb).emb x) + term m c t.val ((slot b inb).emb x) := by
  obtain ⟨z, i, j, rfl⟩ : ∃ (z : Fin 1) (i j : Fin 1024), x = ix3 z i j := ⟨x 0, x 1, x 2, ValueIdx.eq_ix3 x⟩
  have e : (slot b inb).emb (ix3 z i j) = ix3 (⟨b, hb⟩ : Fin 4) i j := by
    refine funext fun a => Fin.ext ?_
    match a with
    | ⟨0, _⟩ => show b + 1 * z.val = b; omega
    | ⟨1, _⟩ => show 0 + 1 * i.val = i.val; omega
    | ⟨2, _⟩ => show 0 + 1 * j.val = j.val; omega
  have e' : (slot b inb).emb (ix3 (0 : Fin 1) i j) = ix3 (⟨b, hb⟩ : Fin 4) i j := by
    refine funext fun a => Fin.ext ?_
    match a with
    | ⟨0, _⟩ => show b + 1 * 0 = b; omega
    | ⟨1, _⟩ => show 0 + 1 * i.val = i.val; omega
    | ⟨2, _⟩ => show 0 + 1 * j.val = j.val; omega
  rw [e]
  refine (hp z i j).trans (congrArg₂ (· + ·) (congrArg acc e') (Finset.sum_congr rfl fun r _ => ?_))
  exact congrArg₂ (fun p q : EReal => p * q) (rd0 m c t r i) (hD r j)

/-- Four blocks that are stored over whatever lies below them make the stack. -/
theorem stack (G : S4x1024x1024.Idx → EReal) (i0 i1 i2 i3) (p0 p1 p2 p3 : S1x1024x1024.Idx → EReal)
    (h3 : ∀ x, p3 x = G ((slot 3 i3).emb x)) (h2 : ∀ x, p2 x = G ((slot 2 i2).emb x)) (h1 : ∀ x, p1 x = G ((slot 1 i1).emb x)) (h0 : ∀ x, p0 x = G ((slot 0 i0).emb x))
    (L : List (View.Piece (Elt Ideal) S4x1024x1024 .f32)) (y : S4x1024x1024.Idx) :
    View.canon (⟨slot 3 i3, p3⟩ :: ⟨slot 2 i2, p2⟩ :: ⟨slot 1 i1, p1⟩ :: ⟨slot 0 i0, p0⟩ :: L) y = G y := by
  have hp : View.PiecesOf (Val := Elt Ideal) (e := .f32) G [⟨slot 3 i3, p3⟩, ⟨slot 2 i2, p2⟩, ⟨slot 1 i1, p1⟩, ⟨slot 0 i0, p0⟩] := ⟨h3, h2, h1, h0, trivial⟩
  refine View.canon_append_of_piecesOf (Val := Elt Ideal) (e := .f32) G L _ hp y ?_
  have hin : ∀ b (inb), (y 0).val = b → y ∈ (slot b inb).set := fun b inb hb => Rect.mem_set_unit.mpr fun a => by
    match a with
    | ⟨0, _⟩ => exact ⟨le_of_eq hb.symm, by show (y 0).val < b + 1; omega⟩
    | ⟨1, _⟩ => exact ⟨Nat.zero_le _, by have : (y 1).val < 1024 := (y 1).isLt; show (y 1).val < 0 + 1024; omega⟩
    | ⟨2, _⟩ => exact ⟨Nat.zero_le _, by have : (y 2).val < 1024 := (y 2).isLt; show (y 2).val < 0 + 1024; omega⟩
  have h4 : (y 0).val < 4 := (y 0).isLt
  have hc : (y 0).val = 0 ∨ (y 0).val = 1 ∨ (y 0).val = 2 ∨ (y 0).val = 3 := by omega
  rcases hc with h | h | h | h
  · exact ⟨_, List.mem_cons_of_mem _ (List.mem_cons_of_mem _ (List.mem_cons_of_mem _ List.mem_cons_self)), hin 0 i0 h⟩
  · exact ⟨_, List.mem_cons_of_mem _ (List.mem_cons_of_mem _ List.mem_cons_self), hin 1 i1 h⟩
  · exact ⟨_, List.mem_cons_of_mem _ List.mem_cons_self, hin 2 i2 h⟩
  · exact ⟨_, List.mem_cons_self, hin 3 i3 h⟩

theorem tile0 (t : Fin cfg0.N) (acc : Vec Ideal S4x1024x1024 .f32) (i0) (x : S1x1024x1024.Idx) :
    k0_pay8 (F := Ideal) (iblk m c 0 t) (iblk m c 1 t) (iblk m c 2 t) (View.ld acc (slot 0 i0)) x = acc ((slot 0 i0).emb x) + term m c t.val ((slot 0 i0).emb x) :=
  slot_term m c t acc 0 (by decide) i0 (k0_pay8 (F := Ideal) (iblk m c 0 t) (iblk m c 1 t) (iblk m c 2 t) (View.ld acc (slot 0 i0))) (fun r => cat (fun k => iblk m c 1 t (ix2 r k)) (fun k => iblk m c 2 t (ix2 r k))) (fun z i j => pay0 _ _ _ _ z i j) (fun r j => cat0 m c t r j) x

theorem tile1 (t : Fin cfg0.N) (acc : Vec Ideal S4x1024x1024 .f32) (i1) (x : S1x1024x1024.Idx) :
    k0_pay1 (F := Ideal) (k0_pay9 (F := Ideal) (iblk m c 0 t) (iblk m c 3 t) (iblk m c 4 t)) (k0_pay10 (F := Ideal) (View.ld acc (slot 1 i1))) x = acc ((slot 1 i1).emb x) + term m c t.val ((slot 1 i1).emb x) :=
  slot_term m c t acc 1 (by decide) i1 (k0_pay1 (F := Ideal) (k0_pay9 (F := Ideal) (iblk m c 0 t) (iblk m c 3 t) (iblk m c 4 t)) (k0_pay10 (F := Ideal) (View.ld acc (slot 1 i1)))) (fun r => cat (fun k => iblk m c 3 t (ix2 r k)) (fun k => iblk m c 4 t (ix2 r k))) (fun z i j => pay1 _ _ _ _ z i j) (fun r j => cat1 m c t r j) x

theorem tile2 (t : Fin cfg0.N) (acc : Vec Ideal S4x1024x1024 .f32) (i2) (x : S1x1024x1024.Idx) :
    k0_pay2 (F := Ideal) (k0_pay5 (F := Ideal) (iblk m c 0 t)) (k0_pay6 (F := Ideal) (iblk m c 5 t)) (View.ld acc (slot 2 i2)) x = acc ((slot 2 i2).emb x) + term m c t.val ((slot 2 i2).emb x) :=
  slot_term m c t acc 2 (by decide) i2 (k0_pay2 (F := Ideal) (k0_pay5 (F := Ideal) (iblk m c 0 t)) (k0_pay6 (F := Ideal) (iblk m c 5 t)) (View.ld acc (slot 2 i2))) (fun r j => iblk m c 5 t (ix2 r j)) (fun z i j => pay2 _ _ _ z i j) (fun r j => rd5 m c t r j) x

theorem tile3 (t : Fin cfg0.N) (acc : Vec Ideal S4x1024x1024 .f32) (i3) (x : S1x1024x1024.Idx) :
    k0_pay3 (F := Ideal) (k0_pay5 (F := Ideal) (iblk m c 0 t)) (k0_pay7 (F := Ideal) (iblk m c 6 t)) (View.ld acc (slot 3 i3)) x = acc ((slot 3 i3).emb x) + term m c t.val ((slot 3 i3).emb x) :=
  slot_term m c t acc 3 (by decide) i3 (k0_pay3 (F := Ideal) (k0_pay5 (F := Ideal) (iblk m c 0 t)) (k0_pay7 (F := Ideal) (iblk m c 6 t)) (View.ld acc (slot 3 i3))) (fun r j => iblk m c 6 t (ix2 r j)) (fun z i j => pay3 _ _ _ z i j) (fun r j => rd6 m c t r j) x

/-- One tile: every block gets its product added. -/
theorem tile (t : Fin cfg0.N) (acc : Vec Ideal S4x1024x1024 .f32) (i0 i1 i2 i3) (L : List (View.Piece (Elt Ideal) S4x1024x1024 .f32)) (y : S4x1024x1024.Idx) :
    View.canon (⟨slot 3 i3, k0_pay3 (F := Ideal) (k0_pay5 (F := Ideal) (iblk m c 0 t)) (k0_pay7 (F := Ideal) (iblk m c 6 t)) (View.ld acc (slot 3 i3))⟩
      :: ⟨slot 2 i2, k0_pay2 (F := Ideal) (k0_pay5 (F := Ideal) (iblk m c 0 t)) (k0_pay6 (F := Ideal) (iblk m c 5 t)) (View.ld acc (slot 2 i2))⟩
      :: ⟨slot 1 i1, k0_pay1 (F := Ideal) (k0_pay9 (F := Ideal) (iblk m c 0 t) (iblk m c 3 t) (iblk m c 4 t)) (k0_pay10 (F := Ideal) (View.ld acc (slot 1 i1)))⟩
      :: ⟨slot 0 i0, k0_pay8 (F := Ideal) (iblk m c 0 t) (iblk m c 1 t) (iblk m c 2 t) (View.ld acc (slot 0 i0))⟩ :: L) y = acc y + term m c t.val y :=
  stack (fun y => acc y + term m c t.val y) i0 i1 i2 i3 _ _ _ _ (tile3 m c t acc i3) (tile2 m c t acc i2) (tile1 m c t acc i1) (tile0 m c t acc i0) L y

theorem first (t : Fin cfg0.N) (h0 : t.val % 16 = 0) (y : S4x1024x1024.Idx) :
    outsAt0 m c t.val t.isLt y = 0 + term m c t.val y := by
  rw [outsAt0_A m c t h0]
  frame_open
  simp (disch := decide) only [↓ View.readCov_skip, ↓ View.readCov_cons_toLoadRect, ↓ View.readCov_fill]
  frame_out
  refine (tile m c t (k0_pay4 (F := Ideal)) _ _ _ _ _ y).trans ?_
  rw [show (k0_pay4 (F := Ideal)) y = 0 from Ideal.ofBits_zero_f32]

theorem next (t : Fin cfg0.N) (h0 : ¬t.val % 16 = 0) (y : S4x1024x1024.Idx) :
    outsAt0 m c t.val t.isLt y = outsAt0 m c (t.val - 1) (by have := t.isLt; omega) y + term m c t.val y := by
  rw [outsAt0_B m c t h0]
  frame_open
  simp (disch := decide) only [↓ View.readCov_skip, ↓ View.readCov_cons_toLoadRect, ↓ View.readCov_fill]
  frame_out
  exact tile m c t _ _ _ _ _ _ y

theorem t15_mod : t0_15.val % 16 = 15 := by decide +kernel

theorem last (t : Fin cfg0.N) (ht : t.val % 16 = 15) (y : S4x1024x1024.Idx) :
    outsAt0 m c t.val t.isLt y = 0 + ∑ t ∈ Finset.range 16, term m c t y :=
  Pipeline.eq_sum_of_reset_step_apply_single_of_mod (fun n h => outsAt0 m c n h) 16 (fun _ => 0) (term m c)
    (first m c) (next m c) (le_of_eq N0) t ht y

/-- The array that the kernel leaves. -/
theorem final (b : Fin 4) (i j : Fin 1024) :
    (dats m 0 c).arrAt 7 cfg0.N (ix3 b i j) = ∑ n : Fin 8192, aH m c (ix2 n i) * aP m c (ix2 n ⟨1024 * b.val + j.val, by omega⟩) := by
  have e : (dats m 0 c).arrAt 7 cfg0.N = fun y : S4x1024x1024.Idx => 0 + ∑ t ∈ Finset.range 16, term m c t y := by
    refine (dats m 0 c).arrAt_eq_of_after_last 7 t0_15 (by decide +kernel) _ fun j => ?_
    blk_simp
    rw [after0_7]
    exact last m c t0_15 t15_mod j
  rw [e]
  show 0 + ∑ t ∈ Finset.range 16, ∑ r : Fin 512, row (aH m c) (512 * t + r.val) i * row (aP m c) (512 * t + r.val) ⟨1024 * b.val + j.val, by omega⟩ = _
  rw [zero_add, ← sum_tiles 16 512 8192 rfl (fun n => row (aH m c) n i * row (aP m c) n ⟨1024 * b.val + j.val, by omega⟩)]
  exact Finset.sum_congr rfl fun n _ => by rw [row_of, row_of]

/-- The normed rows are the reference's. -/
theorem H_eq : aH m c = Cert.Reference7Ideal.Read.val_main_v13 (F := Ideal) (m ((c : Thread nD τ).loc main_arg0)) (m ((c : Thread nD τ).loc main_arg1)) := by
  show V m c main_v14 = _
  unfold V hostOps0
  after_results
  rfl

/-- The kernel's array is the reference's gradient. -/
theorem result : (dats m 0 c).arrAt 7 cfg0.N = Cert.Reference7Ideal.Read.val_main_v18 (F := Ideal) (m ((c : Thread nD τ).loc main_arg0))
    (m ((c : Thread nD τ).loc main_arg1)) (m ((c : Thread nD τ).loc main_arg3)) := by
  funext y
  obtain ⟨b, i, j, rfl⟩ : ∃ b i j, y = ix3 b i j := ⟨y 0, y 1, y 2, ValueIdx.eq_ix3 y⟩
  refine (final m c b i j).trans (Eq.symm ?_)
  rw [H_eq]
  refine (Cert.Reference7Ideal.Read.val_main_v18_apply _ _ _ _).trans ((Cert.Reference7Ideal.Read.val_main_v17_apply _ _ _ _).trans
    ((Cert.Reference7Ideal.Read.val_main_v16_apply _ _ _ _).trans ((Cert.Reference7Ideal.Read.val_main_v15_apply _ _ _ _).trans ?_)))
  have hJ : Cert.Reference7Ideal.Read.idx_main_v16 (Cert.Reference7Ideal.Read.idx_main_v17 (Cert.Reference7Ideal.Read.idx_main_v18 (ix3 b i j)))
      = ix2 (⟨1024 * b.val + j.val, by omega⟩ : Fin 4096) i := funext fun a => Fin.ext (by
    match a with
    | ⟨0, _⟩ => show ((i.val * 4 + b.val) * 1024 + j.val) % 4096 = 1024 * b.val + j.val; omega
    | ⟨1, _⟩ => show ((i.val * 4 + b.val) * 1024 + j.val) / 4096 = i.val; omega)
  rw [hJ]
  refine Finset.sum_congr rfl fun n _ => (mul_comm _ _).trans ?_
  rw [show Cert.Reference7Ideal.Read.ridx_main_v15 (ix2 (⟨1024 * b.val + j.val, by omega⟩ : Fin 4096) i) n = ix2 n i from ValueIdx.eq_ix2 _,
    show Cert.Reference7Ideal.Read.lidx_main_v15 (ix2 (⟨1024 * b.val + j.val, by omega⟩ : Fin 4096) i) n = ix2 n ⟨1024 * b.val + j.val, by omega⟩ from ValueIdx.eq_ix2 _]

end Cert.Mix.InGrad

end
-- ==== Proof.InRef.lean ====
module

public import proofs.«01_k».proof.Proof.BackRow
public import proofs.«01_k».proof.Proof.Mix
public import proofs.«01_k».proof.Proof.Gen.Reference8Ideal.Read
public import proofs.«01_k».proof.Proof.Gen.Pre_finite8
public import Idealize.ShloMosaic.Lib.ReduceAll
public import Idealize.ShloMosaic.Lib.Pipeline.ValueKit

/-! The backward pass through the projection into the mixer and its norm, as the reference writes it: for finite arguments, the
kernel's row by row. -/

@[expose] public section

set_option maxRecDepth 16384

noncomputable section

namespace Cert.Mix.InRef

open Cert.Ffn Cert.Reference8Ideal Cert.Reference8Ideal.Read Idealize.SL.Sem
open Idealize.ShloMosaic hiding ix0 ix1 ix2 ix3 ix4 ix5
open Idealize.ShloMosaic.TcCoe Idealize.ShloMosaic.ValueIdx Idealize.ShloMosaic.StableHlo

variable (X C : S8192x1024.Idx → EReal) (g : S1x1024.Idx → EReal) (W : S1024x4096.Idx → EReal) (P : S8192x4096.Idx → EReal) (n : Fin 8192)

/-! ## The rows -/

abbrev xR : Fin 1024 → EReal := fun j => X (ix2 n j)
abbrev cR : Fin 1024 → EReal := fun j => C (ix2 n j)
abbrev nR : Fin 1024 → EReal := fun j => g (ix2 0 j)
/-- The cotangent of the normalised row. -/
abbrev dR : Fin 1024 → EReal := lin (fun k => P (ix2 n k)) W

theorem v7_at (z : Fin 1) : val_main_v7 (F := Ideal) X (ix2 n z) = ms (xR X n) := by
  rw [val_main_v7_apply, val_main_v5_apply, val_main_v3_apply, val_main_v2_apply, val_main_v4_apply, val_main_v6_apply]
  refine congrArg (fun s => Ideal.div s width + tiny) ?_
  rw [val_main_cst_apply]
  refine (congrArg (· + _) Ideal.ofBits_zero_f32).trans ((zero_add _).trans (Finset.sum_congr rfl fun k _ => ?_))
  rw [val_main_v1_apply, show idx_main_v2 (idx_main_v3 (ix2 n z)) k = ix2 n k from ValueIdx.eq_ix2 _]
  rfl

theorem v8_at (z : Fin 1) : val_main_v8 (F := Ideal) X (ix2 n z) = inv (xR X n) := by
  rw [val_main_v8_apply, v7_at]
  rfl

theorem v22_at (d : Fin 1024) : val_main_v22 (F := Ideal) g (ix2 n d) = nR g d := by
  rw [val_main_v22_apply, val_main_v14_apply, val_main_v0_apply]
  exact congrArg g (funext fun a => Fin.ext (by match a with | ⟨0, _⟩ => rfl | ⟨1, _⟩ => exact Nat.mod_eq_of_lt d.isLt))

theorem v18_at (d : Fin 1024) : val_main_v18 (F := Ideal) W P (ix2 n d) = dR W P n d := by
  refine (val_main_v18_apply _ _ _).trans (Finset.sum_congr rfl fun k _ => ?_)
  rw [show lidx_main_v18 (ix2 n d) k = ix2 n k from ValueIdx.eq_ix2 _, show ridx_main_v18 (ix2 n d) k = ix2 d k from ValueIdx.eq_ix2 _]

theorem v23_at (d : Fin 1024) : val_main_v23 (F := Ideal) g W P (ix2 n d) = dR W P n d * nR g d := by
  rw [val_main_v23_apply, v18_at, v22_at]
  rfl

theorem v27_at (z : Fin 1) : val_main_v27 (F := Ideal) X g W P (ix2 n z) = ∑ j, xR X n j * (dR W P n j * nR g j) := by
  rw [val_main_v27_apply, val_main_v26_apply, val_main_cst_5_apply]
  refine (congrArg (· + _) Ideal.ofBits_zero_f32).trans ((zero_add _).trans (Finset.sum_congr rfl fun j _ => ?_))
  rw [val_main_v25_apply, show idx_main_v26 (idx_main_v27 (ix2 n z)) j = ix2 n j from
    (ValueIdx.eq_ix2 _).trans (congrArg (ix2 · j) (Fin.ext (by show n.val * 1 + z.val = n.val; omega))), v23_at]
  rfl

theorem v35_at (d : Fin 1024) : val_main_v35 (F := Ideal) X g W P (ix2 n d) = tw (xR X n) (dR W P n) (nR g) := by
  rw [val_main_v35_apply, val_main_v34_apply, val_main_cst_7_apply]
  refine (congrArg (· + _) Ideal.ofBits_zero_f32).trans ((zero_add _).trans ((Fin.sum_univ_one _).trans ?_))
  rw [show idx_main_v34 (idx_main_v35 (ix2 n d)) 0 = ix2 n 0 from ValueIdx.eq_ix2 _, val_main_v33_apply, val_main_v31_apply, v27_at,
    val_main_v11_apply, val_main_v9_apply, v8_at, v7_at, val_main_v32_apply, val_main_v10_apply]
  rfl

variable {X C g W P}

theorem dR_fin (hW : ∀ i, IsFin (W i)) (hP : ∀ i, IsFin (P i)) (d : Fin 1024) : IsFin (dR W P n d) :=
  IsFin.sum Finset.univ (fun k : Fin 4096 => P (ix2 n k) * W (ix2 d k)) fun k _ => (hP _).mul (hW _)

/-- The residual stream's cotangent. -/
theorem v39_at (hX : ∀ i, IsFin (X i)) (hg : ∀ i, IsFin (g i)) (hW : ∀ i, IsFin (W i)) (hP : ∀ i, IsFin (P i)) (hC : ∀ i, IsFin (C i)) (d : Fin 1024) :
    val_main_v39 (F := Ideal) X g W P C (ix2 n d) = dRow (xR X n) (dR W P n) (nR g) (cR C n) d := by
  rw [val_main_v39_apply, val_main_v37_apply, val_main_v38_apply, val_main_v36_apply, val_main_v30_apply, val_main_v29_apply, v23_at,
    val_main_v28_apply, show idx_main_v28 (ix2 n d) = ix2 n 0 from ValueIdx.eq_ix2 _, v8_at, v35_at]
  exact dRow_eq (x := xR X n) (dh := dR W P n) (g := nR g) (ct := cR C n) (fun j => hX _) (dR_fin n hW hP) (fun j => hg _) (fun j => hC _) d

/-- The norm's scale's. -/
theorem v40_at (d : Fin 1024) : val_main_v40 (F := Ideal) X W P (ix2 0 d) = ∑ n : Fin 8192, dR W P n d * (xR X n d * inv (xR X n)) := by
  rw [val_main_v40_apply, val_main_v24_apply, val_main_cst_4_apply]
  refine (congrArg (· + _) Ideal.ofBits_zero_f32).trans ((zero_add _).trans ((Fin.sum_univ_one _).trans ?_))
  rw [val_main_v21_apply, val_main_v20_apply, val_main_cst_3_apply]
  refine (congrArg (· + _) Ideal.ofBits_zero_f32).trans ((zero_add _).trans (Finset.sum_congr rfl fun k _ => ?_))
  rw [show idx_main_v20 (idx_main_v21 (idx_main_v24 (idx_main_v40 (ix2 0 d)) 0)) k = ix2 k d from
    (ValueIdx.eq_ix2 _).trans (congrArg (ix2 k ·) (Fin.ext (by show 0 * 1024 + d.val = d.val; omega)))]
  rw [val_main_v19_apply, v18_at, val_main_v13_apply, val_main_v12_apply, show idx_main_v12 (ix2 k d) = ix2 k 0 from ValueIdx.eq_ix2 _, v8_at]
  exact mul_comm _ _

/-! ## The precondition -/

theorem pre_fin (h : Cert.Pre_finite8.fn (F := Ideal) X g W P C = fun _ => 1#1) :
    (∀ i, IsFin (X i)) ∧ (∀ i, IsFin (g i)) ∧ (∀ i, IsFin (W i)) ∧ (∀ i, IsFin (P i)) ∧ ∀ i, IsFin (C i) := by
  have h0 := congrFun h ix0
  unfold Cert.Pre_finite8.fn Cert.Pre_finite8.fn_part1 at h0
  dsimp only at h0
  obtain ⟨h0, h4⟩ := IntOp.andi_eq_one.mp h0
  obtain ⟨h0, h3⟩ := IntOp.andi_eq_one.mp h0
  obtain ⟨h0, h2⟩ := IntOp.andi_eq_one.mp h0
  obtain ⟨h0, h1⟩ := IntOp.andi_eq_one.mp h0
  haveI : Subsingleton Cert.Pre_finite8.S_.Idx := ⟨fun a b => (ValueIdx.eq_ix0 a).trans (ValueIdx.eq_ix0 b).symm⟩
  exact ⟨fun i => fin_of_lt _ (Host.reduce_andi_all _ _ _ _ _ h0 i), fun i => fin_of_lt _ (Host.reduce_andi_all _ _ _ _ _ h1 i),
    fun i => fin_of_lt _ (Host.reduce_andi_all _ _ _ _ _ h2 i), fun i => fin_of_lt _ (Host.reduce_andi_all _ _ _ _ _ h3 i),
    fun i => fin_of_lt _ (Host.reduce_andi_all _ _ _ _ _ h4 i)⟩

end Cert.Mix.InRef

end
-- ==== Proof.InBack.lean ====
module

public import proofs.«01_k».proof.Proof.InRef
public import proofs.«01_k».proof.Proof.Gen.Kernel8Ideal.Value
public import Idealize.ShloMosaic.Lib.Pipeline.ValueKit
public import Idealize.ShloMosaic.Lib.Pipeline.ReadBack

/-! The backward kernel of the projection into the mixer and its norm: what it leaves, a tile of 512 rows at a time, the
norm's scale gradient summed over the tiles. -/

@[expose] public section

set_option maxRecDepth 16384

noncomputable section

namespace Cert.Mix.InBack

open Cert.Ffn Cert.Kernel8Ideal Cert.Kernel8Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

/-! ## One tile -/

section Tile

variable (p0 p1 p2 p3 : Vec Ideal S512x512 .bf16) (p4 p5 : Vec Ideal S512x1024 .bf16) (w0 w1 w2 w3 : Vec Ideal S1024x1024 .bf16)
variable (x res : Vec Ideal S512x1024 .f32) (gn : Vec Ideal S1x1024 .f32) (r : Fin 512)

theorem nt_at (v : FVec Ideal S512x1024 .bf16) (w : FVec Ideal S1024x1024 .bf16) (d : Fin 1024) :
    (matmul dot_S512x1024_S1024x1024_S512x1024_1_1_0_0_n_n none v w (constant S512x1024 .f32 0x00000000#32) : FVec Ideal S512x1024 .f32) (ix2 r d)
      = lin (fun k => v (ix2 r k)) w d :=
  product_at (φ₁ := .bf16) (φ₂ := .bf16) dot_S512x1024_S1024x1024_S512x1024_1_1_0_0_n_n none 1024 rfl rfl v w (ix2 r d) (fun k => ix2 r k) (fun k => ix2 d k)
    (fun k q h => funext fun a => Fin.ext (by match a with | ⟨0, _⟩ => rfl | ⟨1, _⟩ => exact h))
    (fun k q h => funext fun a => Fin.ext (by match a with | ⟨0, _⟩ => rfl | ⟨1, _⟩ => exact h))

/-- The tile's cotangent of the normalised rows. -/
abbrev dhT : FVec Ideal S512x1024 .f32 := k0_pay6 (F := Ideal) p0 p1 p2 p3 p4 p5 w0 w1 w2 w3

def dhRow (d : Fin 1024) : EReal :=
  lin (cat (fun j => p0 (ix2 r j)) (fun j => p1 (ix2 r j))) w0 d + lin (cat (fun j => p2 (ix2 r j)) (fun j => p3 (ix2 r j))) w1 d
    + lin (fun j => p4 (ix2 r j)) w2 d + lin (fun j => p5 (ix2 r j)) w3 d

theorem dh_at (d : Fin 1024) : dhT p0 p1 p2 p3 p4 p5 w0 w1 w2 w3 (ix2 r d) = dhRow p0 p1 p2 p3 p4 p5 w0 w1 w2 w3 r d := by
  unfold dhT k0_pay6 dhRow
  simp only [shapeCast_self]
  rw [addf_apply, addf_apply, addf_apply]
  refine congrArg₂ (· + ·) (congrArg₂ (· + ·) (congrArg₂ (· + ·) ((nt_at r _ _ d).trans ?_) ((nt_at r _ _ d).trans ?_)) (nt_at r _ _ d)) (nt_at r _ _ d)
  · refine congrArg (lin · w0 d) (funext fun k => ?_)
    exact (congrArg₂ (fun a b => concatenate S512x1024 1 [⟨S512x512, a⟩, ⟨S512x512, b⟩] concatenates_S512x512_S512x512_S512x1024_d1 (ix2 r k))
      (shapeCast_self p0 _) (shapeCast_self p1 _)).trans (cat_at p0 p1 _ r k)
  · refine congrArg (lin · w1 d) (funext fun k => ?_)
    exact (congrArg₂ (fun a b => concatenate S512x1024 1 [⟨S512x512, a⟩, ⟨S512x512, b⟩] concatenates_S512x512_S512x512_S512x1024_d1 (ix2 r k))
      (shapeCast_self p2 _) (shapeCast_self p3 _)).trans (cat_at p2 p3 _ r k)

abbrev xRow : Fin 1024 → EReal := fun j => x (ix2 r j)

theorem inv_at : k0_pay1 (F := Ideal) x (ix2 r 0) = inv (xRow x r) := by
  unfold k0_pay1
  have e := row_sum (mulf x x) reduces_S512x1024_S512 (.inl rfl) rfl shapeCasts_S512_S512x1 r 0
  exact congrArg (fun s => Ideal.rsqrt (Ideal.div s width + tiny)) e

theorem xn_at (d : Fin 1024) : k0_pay2 (F := Ideal) x (ix2 r d) = x (ix2 r d) * inv (xRow x r) := by
  unfold k0_pay2
  rw [mulf_apply, over_cols, inv_at]

theorem dx_at (h : FVec Ideal S512x1024 .f32) (d : Fin 1024) :
    k0_pay3 (F := Ideal) h x gn res (ix2 r d) = dRow (xRow x r) (fun j => h (ix2 r j)) (fun j => gn (ix2 0 j)) (fun j => res (ix2 r j)) d := by
  unfold k0_pay3 dRow
  rw [addf_apply, mulf_apply, over_cols, inv_at, subf_apply, mulf_apply, mulf_apply, over_cols, over_rows, xn_at]
  refine congrArg (· + res (ix2 r d)) (congrArg (fun s => inv (xRow x r) * (h (ix2 r d) * gn (ix2 0 d) - x (ix2 r d) * inv (xRow x r) * s)) ?_)
  have e := row_sum (mulf (mulf h (broadcastTo S512x1024 gn broadcasts_S1x1024_S512x1024)) (k0_pay2 (F := Ideal) x)) reduces_S512x1024_S512 (.inl rfl) rfl shapeCasts_S512_S512x1 r 0
  refine (congrArg (fun s => Ideal.div s width) e).trans (congrArg (fun s => Ideal.div s width) (Finset.sum_congr rfl fun j _ => ?_))
  rw [mulf_apply, mulf_apply, over_rows, xn_at]

theorem dn_at (h : FVec Ideal S512x1024 .f32) (acc : Vec Ideal S1x1024 .f32) (d : Fin 1024) :
    k0_pay5 (F := Ideal) h x acc (ix2 0 d) = acc (ix2 0 d) + ∑ r : Fin 512, h (ix2 r d) * (x (ix2 r d) * inv (xRow x r)) := by
  unfold k0_pay5
  rw [addf_apply, shapeCast_self]
  refine congrArg (acc (ix2 0 d) + ·) ((col_sum (mulf h (k0_pay2 (F := Ideal) x)) reduces_S512x1024_S1024 (.inl rfl) rfl shapeCasts_S1024_S1x1024 0 d).trans ?_)
  exact Finset.sum_congr rfl fun r _ => by rw [mulf_apply, xn_at]

end Tile

/-! ## The blocks -/

variable (m : (ℓ : Loc nD τ sig) → Buf (Elt Ideal) ℓ) (c : Dev nD)

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)

/-- The launch's arguments: the cotangent's blocks of columns, the weights', the stream, the norm's scale and the stream's
cotangent. -/
abbrev a0 : S8192x512.Idx → EReal := V m c main_v6
abbrev a1 : S8192x512.Idx → EReal := V m c main_v7
abbrev a2 : S8192x512.Idx → EReal := V m c main_v8
abbrev a3 : S8192x512.Idx → EReal := V m c main_v9
abbrev a4 : S8192x1024.Idx → EReal := V m c main_v10
abbrev a5 : S8192x1024.Idx → EReal := V m c main_v11
abbrev a6 : S1024x1024.Idx → EReal := V m c main_v1
abbrev a7 : S1024x1024.Idx → EReal := V m c main_v2
abbrev a8 : S1024x1024.Idx → EReal := V m c main_v3
abbrev a9 : S1024x1024.Idx → EReal := V m c main_v4
abbrev a10 : S8192x1024.Idx → EReal := V m c main_arg0
abbrev a11 : S1x1024.Idx → EReal := V m c main_arg1
abbrev a12 : S8192x1024.Idx → EReal := V m c main_arg4

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![t.val, 0] := (by decide +kernel : ∀ t : Fin grid0.N, win0_10.index t = ![t.val, 0])
theorem idx11 : ∀ t : Fin cfg0.N, win0_11.index t = ![0, 0] := (by decide +kernel : ∀ t : Fin grid0.N, win0_11.index t = ![0, 0])
theorem idx12 : ∀ t : Fin cfg0.N, win0_12.index t = ![t.val, 0] := (by decide +kernel : ∀ t : Fin grid0.N, win0_12.index t = ![t.val, 0])
theorem idx13 : ∀ t : Fin cfg0.N, win0_13.index t = ![t.val, 0] := (by decide +kernel : ∀ t : Fin grid0.N, win0_13.index t = ![t.val, 0])
theorem idx14 : ∀ t : Fin cfg0.N, win0_14.index t = ![0, 0] := (by decide +kernel : ∀ t : Fin grid0.N, win0_14.index t = ![0, 0])
theorem tlt (t : Fin cfg0.N) : t.val < 16 := t.isLt

/-- The batch row that point `t` has at row `r` of its tile. -/
abbrev at_ (t : Fin cfg0.N) (r : Fin 512) : Fin 8192 := ⟨t.val * 512 + r.val, by have := tlt t; omega⟩

theorem rd0 (t : Fin cfg0.N) (r : Fin 512) (k : Fin 512) : iblk m c 0 t (ix2 r k) = a0 m c (ix2 (at_ t r) k) := by
  blk_ext [iblk, idx0 t]
theorem rd1 (t : Fin cfg0.N) (r : Fin 512) (k : Fin 512) : iblk m c 1 t (ix2 r k) = a1 m c (ix2 (at_ t r) k) := by
  blk_ext [iblk, idx1 t]
theorem rd2 (t : Fin cfg0.N) (r : Fin 512) (k : Fin 512) : iblk m c 2 t (ix2 r k) = a2 m c (ix2 (at_ t r) k) := by
  blk_ext [iblk, idx2 t]
theorem rd3 (t : Fin cfg0.N) (r : Fin 512) (k : Fin 512) : iblk m c 3 t (ix2 r k) = a3 m c (ix2 (at_ t r) k) := by
  blk_ext [iblk, idx3 t]
theorem rd4 (t : Fin cfg0.N) (r : Fin 512) (k : Fin 1024) : iblk m c 4 t (ix2 r k) = a4 m c (ix2 (at_ t r) k) := by
  blk_ext [iblk, idx4 t]
theorem rd5 (t : Fin cfg0.N) (r : Fin 512) (k : Fin 1024) : iblk m c 5 t (ix2 r k) = a5 m c (ix2 (at_ t r) k) := by
  blk_ext [iblk, idx5 t]
theorem rd6 (t : Fin cfg0.N) : (iblk m c 6 t : S1024x1024.Idx → EReal) = a6 m c := by
  funext y
  blk_ext [iblk, idx6 t]
theorem rd7 (t : Fin cfg0.N) : (iblk m c 7 t : S1024x1024.Idx → EReal) = a7 m c := by
  funext y
  blk_ext [iblk, idx7 t]
theorem rd8 (t : Fin cfg0.N) : (iblk m c 8 t : S1024x1024.Idx → EReal) = a8 m c := by
  funext y
  blk_ext [iblk, idx8 t]
theorem rd9 (t : Fin cfg0.N) : (iblk m c 9 t : S1024x1024.Idx → EReal) = a9 m c := by
  funext y
  blk_ext [iblk, idx9 t]
theorem rd10 (t : Fin cfg0.N) (r : Fin 512) (k : Fin 1024) : iblk m c 10 t (ix2 r k) = a10 m c (ix2 (at_ t r) k) := by
  blk_ext [iblk, idx10 t]
theorem rd11 (t : Fin cfg0.N) : (iblk m c 11 t : S1x1024.Idx → EReal) = a11 m c := by
  funext y
  blk_ext [iblk, idx11 t]
theorem rd12 (t : Fin cfg0.N) (r : Fin 512) (k : Fin 1024) : iblk m c 12 t (ix2 r k) = a12 m c (ix2 (at_ t r) k) := by
  blk_ext [iblk, idx12 t]

theorem a0_eq : a0 m c = cols 0 512 (by omega) (x3 m c) := by
  have e : V m c main_v6 = extractStridedSlice S8192x512 ![0, 0] (x3 m c) slices_S8192x4096_S8192x512_0_0 := by
    unfold V hostOps0
    after_results
    rfl
  exact e.trans (slice_cols 0 512 (by omega) (x3 m c) _)

theorem a1_eq : a1 m c = cols 512 512 (by omega) (x3 m c) := by
  have e : V m c main_v7 = extractStridedSlice S8192x512 ![0, 512] (x3 m c) slices_S8192x4096_S8192x512_0_512 := by
    unfold V hostOps0
    after_results
    rfl
  exact e.trans (slice_cols 512 512 (by omega) (x3 m c) _)

theorem a2_eq : a2 m c = cols 1024 512 (by omega) (x3 m c) := by
  have e : V m c main_v8 = extractStridedSlice S8192x512 ![0, 1024] (x3 m c) slices_S8192x4096_S8192x512_0_1024 := by
    unfold V hostOps0
    after_results
    rfl
  exact e.trans (slice_cols 1024 512 (by omega) (x3 m c) _)

theorem a3_eq : a3 m c = cols 1536 512 (by omega) (x3 m c) := by
  have e : V m c main_v9 = extractStridedSlice S8192x512 ![0, 1536] (x3 m c) slices_S8192x4096_S8192x512_0_1536 := by
    unfold V hostOps0
    after_results
    rfl
  exact e.trans (slice_cols 1536 512 (by omega) (x3 m c) _)

theorem a4_eq : a4 m c = cols 2048 1024 (by omega) (x3 m c) := by
  have e : V m c main_v10 = extractStridedSlice S8192x1024 ![0, 2048] (x3 m c) slices_S8192x4096_S8192x1024_0_2048 := by
    unfold V hostOps0
    after_results
    rfl
  exact e.trans (slice_cols 2048 1024 (by omega) (x3 m c) _)

theorem a5_eq : a5 m c = cols 3072 1024 (by omega) (x3 m c) := by
  have e : V m c main_v11 = extractStridedSlice S8192x1024 ![0, 3072] (x3 m c) slices_S8192x4096_S8192x1024_0_3072 := by
    unfold V hostOps0
    after_results
    rfl
  exact e.trans (slice_cols 3072 1024 (by omega) (x3 m c) _)

theorem a6_eq : a6 m c = cols 0 1024 (by omega) (x2 m c) := by
  have e : V m c main_v1 = extractStridedSlice S1024x1024 ![0, 0] (x2 m c) slices_S1024x4096_S1024x1024_0_0 := by
    unfold V hostOps0
    after_results
    rfl
  exact e.trans (slice_cols 0 1024 (by omega) (x2 m c) _)

theorem a7_eq : a7 m c = cols 1024 1024 (by omega) (x2 m c) := by
  have e : V m c main_v2 = extractStridedSlice S1024x1024 ![0, 1024] (x2 m c) slices_S1024x4096_S1024x1024_0_1024 := by
    unfold V hostOps0
    after_results
    rfl
  exact e.trans (slice_cols 1024 1024 (by omega) (x2 m c) _)

theorem a8_eq : a8 m c = cols 2048 1024 (by omega) (x2 m c) := by
  have e : V m c main_v3 = extractStridedSlice S1024x1024 ![0, 2048] (x2 m c) slices_S1024x4096_S1024x1024_0_2048 := by
    unfold V hostOps0
    after_results
    rfl
  exact e.trans (slice_cols 2048 1024 (by omega) (x2 m c) _)

theorem a9_eq : a9 m c = cols 3072 1024 (by omega) (x2 m c) := by
  have e : V m c main_v4 = extractStridedSlice S1024x1024 ![0, 3072] (x2 m c) slices_S1024x4096_S1024x1024_0_3072 := by
    unfold V hostOps0
    after_results
    rfl
  exact e.trans (slice_cols 3072 1024 (by omega) (x2 m c) _)

theorem a10_eq : a10 m c = x0 m c := V_main_arg0 m c
theorem a11_eq : a11 m c = x1 m c := V_main_arg1 m c
theorem a12_eq : a12 m c = x4 m c := V_main_arg4 m c

/-! ## The arrays after the run -/

/-- The rows of the reference. -/
abbrev nX (n : Fin 8192) : Fin 1024 → EReal := InRef.xR (x0 m c) n
abbrev nH (n : Fin 8192) : Fin 1024 → EReal := InRef.dR (x2 m c) (x3 m c) n

abbrev tH (t : Fin cfg0.N) : FVec Ideal S512x1024 .f32 := dhT (iblk m c 0 t) (iblk m c 1 t) (iblk m c 2 t) (iblk m c 3 t) (iblk m c 4 t) (iblk m c 5 t) (iblk m c 6 t) (iblk m c 7 t) (iblk m c 8 t) (iblk m c 9 t)

theorem rowsH (t : Fin cfg0.N) (r : Fin 512) (d : Fin 1024) : tH m c t (ix2 r d) = nH m c (at_ t r) d := by
  refine (dh_at _ _ _ _ _ _ _ _ _ _ r d).trans ?_
  unfold dhRow
  rw [rd6, rd7, rd8, rd9, a6_eq, a7_eq, a8_eq, a9_eq]
  simp only [rd0, rd1, rd2, rd3, rd4, rd5]
  rw [a0_eq, a1_eq, a2_eq, a3_eq, a4_eq, a5_eq]
  refine Eq.trans ?_ (lin_four (fun k => x3 m c (ix2 (at_ t r) k)) (x2 m c) d)
  have e0 := cat_cols 0 (by omega) (x3 m c) (at_ t r)
  have e1 := cat_cols 1024 (by omega) (x3 m c) (at_ t r)
  exact congrArg₂ (· + ·) (congrArg₂ (· + ·) (congrArg₂ (· + ·) (congrArg (lin · _ d) e0) (congrArg (lin · _ d) e1)) rfl) rfl

theorem rows10 (t : Fin cfg0.N) (r : Fin 512) : xRow (iblk m c 10 t) r = nX m c (at_ t r) :=
  funext fun j => (rd10 m c t r j).trans (congrFun (a10_eq m c) _)
theorem rows12 (t : Fin cfg0.N) (r : Fin 512) : (fun j => iblk m c 12 t (ix2 r j)) = InRef.cR (x4 m c) (at_ t r) :=
  funext fun j => (rd12 m c t r j).trans (congrFun (a12_eq m c) _)

theorem dx_tile (t : Fin cfg0.N) (r : Fin 512) (k : Fin 1024) :
    k0_pay3 (F := Ideal) (tH m c t) (iblk m c 10 t) (iblk m c 11 t) (iblk m c 12 t) (ix2 r k)
      = dRow (nX m c (at_ t r)) (nH m c (at_ t r)) (InRef.nR (x1 m c)) (InRef.cR (x4 m c) (at_ t r)) k := by
  refine (dx_at _ _ _ r _ k).trans ?_
  rw [rows10, rows12, rd11, a11_eq, show (fun j => tH m c t (ix2 r j)) = nH m c (at_ t r) from funext fun j => rowsH m c t r j]

theorem dx_point (t : Fin cfg0.N) (r : Fin 512) (k : Fin 1024) :
    (outsAt0 m c t.val t.isLt).1 (ix2 r k) = dRow (nX m c (at_ t r)) (nH m c (at_ t r)) (InRef.nR (x1 m c)) (InRef.cR (x4 m c) (at_ t r)) k := by
  by_cases h0 : t.val % 16 = 0
  · rw [outsAt0_A m c t h0]
    frame_out
    exact dx_tile m c t r k
  · rw [outsAt0_B m c t h0]
    frame_out
    exact dx_tile m c t r k

theorem dx_final : (dats m 0 c).arrAt 13 cfg0.N = fun y : S8192x1024.Idx => dRow (nX m c (y 0)) (nH m c (y 0)) (InRef.nR (x1 m c)) (InRef.cR (x4 m c) (y 0)) (y 1) := by
  refine (dats m 0 c).arrAt_eq_of_covers 13 _ (by decide +kernel) fun t hf y => ?_
  blk_simp
  rw [after0_13]
  refine (congrArg _ (ValueIdx.eq_ix2 y)).trans ((dx_point m c t (y 0) (y 1)).trans ?_)
  have e0 : (win0_13.blk t).view.emb y 0 = at_ t (y 0) := by
    refine Fin.ext ?_
    blk_simp [idx13 t]
  have e1 : (win0_13.blk t).view.emb y 1 = y 1 := by
    refine Fin.ext ?_
    blk_simp [idx13 t]
  rw [e0, e1]

/-- What row `n` adds to the norm's scale gradient. -/
def dnTerm (n : ℕ) (d : Fin 1024) : EReal :=
  if h : n < 8192 then nH m c ⟨n, h⟩ d * (nX m c ⟨n, h⟩ d * inv (nX m c ⟨n, h⟩)) else 0

/-- What point `t` adds. -/
def dnTile (t : ℕ) (y : S1x1024.Idx) : EReal := ∑ r : Fin 512, dnTerm m c (512 * t + r.val) (y 1)

theorem dn_tile (t : Fin cfg0.N) (acc : Vec Ideal S1x1024 .f32) (y : S1x1024.Idx) :
    k0_pay5 (F := Ideal) (tH m c t) (iblk m c 10 t) acc y = acc y + dnTile m c t.val y := by
  obtain ⟨d, rfl⟩ : ∃ d : Fin 1024, y = ix2 0 d := ⟨y 1, (ValueIdx.eq_ix2 y).trans (congrArg (ix2 · (y 1)) (Subsingleton.elim (α := Fin 1) _ _))⟩
  rw [dn_at]
  refine congrArg (acc (ix2 0 d) + ·) (Finset.sum_congr rfl fun r _ => ?_)
  have ht := tlt t
  have hr : 512 * t.val + r.val < 8192 := by have := r.isLt; omega
  rw [rowsH, rows10, rd10, a10_eq]
  unfold dnTerm
  rw [dif_pos hr, show at_ t r = ⟨512 * t.val + r.val, hr⟩ from Fin.ext (by show t.val * 512 + r.val = 512 * t.val + r.val; omega)]

theorem dn_first (t : Fin cfg0.N) (h0 : t.val % 16 = 0) (y : S1x1024.Idx) : (outsAt0 m c t.val t.isLt).2 y = 0 + dnTile m c t.val y := by
  rw [outsAt0_A m c t h0]
  frame_open
  simp (disch := decide) only [↓ View.readCov_skip, ↓ View.readCov_cons_toLoadRect, ↓ View.readCov_fill]
  frame_out
  refine (dn_tile m c t _ y).trans ?_
  rw [show (k0_pay4 (F := Ideal)) y = 0 from Ideal.ofBits_zero_f32]

theorem dn_next (t : Fin cfg0.N) (h0 : ¬t.val % 16 = 0) (y : S1x1024.Idx) :
    (outsAt0 m c t.val t.isLt).2 y = (outsAt0 m c (t.val - 1) (by have := t.isLt; omega)).2 y + dnTile m c t.val y := by
  rw [outsAt0_B m c t h0]
  frame_out
  exact dn_tile m c t _ y

theorem N0 : cfg0.N = 16 := by decide +kernel

/-- The last point. -/
def tEnd : Fin cfg0.N := ⟨15, by decide +kernel⟩

theorem tEnd_mod : tEnd.val % 16 = 15 := by decide +kernel

theorem dn_last (t : Fin cfg0.N) (ht : t.val % 16 = 15) (y : S1x1024.Idx) :
    (outsAt0 m c t.val t.isLt).2 y = 0 + ∑ t ∈ Finset.range 16, dnTile m c t y :=
  Pipeline.eq_sum_of_reset_step_apply_single_of_mod (fun n h => (outsAt0 m c n h).2) 16 (fun _ => 0) (dnTile m c)
    (dn_first m c) (dn_next m c) (le_of_eq N0) t ht y

theorem dn_final : (dats m 0 c).arrAt 14 cfg0.N = fun y : S1x1024.Idx => ∑ n : Fin 8192, nH m c n (y 1) * (nX m c n (y 1) * inv (nX m c n)) := by
  refine (dats m 0 c).arrAt_eq_of_after_last 14 tEnd (by decide +kernel) _ fun y => ?_
  blk_simp
  rw [after0_14]
  refine (dn_last m c tEnd tEnd_mod y).trans ?_
  rw [zero_add]
  refine (sum_tiles 16 512 8192 rfl (fun n => dnTerm m c n (y 1))).symm.trans (Finset.sum_congr rfl fun n _ => ?_)
  unfold dnTerm
  rw [dif_pos n.isLt]

open Cert.Reference8Ideal.Read

theorem dn_result : (dats m 0 c).arrAt 14 cfg0.N = val_main_v40 (F := Ideal) (x0 m c) (x2 m c) (x3 m c) := by
  refine ((dn_final m c).trans (funext fun y => ?_))
  obtain ⟨d, rfl⟩ : ∃ d : Fin 1024, y = ix2 0 d := ⟨y 1, (ValueIdx.eq_ix2 y).trans (congrArg (ix2 · (y 1)) (Subsingleton.elim (α := Fin 1) _ _))⟩
  exact (InRef.v40_at d).symm

theorem dx_result (hX : ∀ i, IsFin (x0 m c i)) (hg : ∀ i, IsFin (x1 m c i)) (hW : ∀ i, IsFin (x2 m c i)) (hP : ∀ i, IsFin (x3 m c i)) (hC : ∀ i, IsFin (x4 m c i)) :
    (dats m 0 c).arrAt 13 cfg0.N = val_main_v39 (F := Ideal) (x0 m c) (x1 m c) (x2 m c) (x3 m c) (x4 m c) := by
  refine ((dx_final m c).trans (funext fun y => ?_))
  obtain ⟨n, k, rfl⟩ : ∃ n k, y = ix2 n k := ⟨y 0, y 1, ValueIdx.eq_ix2 y⟩
  exact (InRef.v39_at n hX hg hW hP hC k).symm

end Cert.Mix.InBack

end
-- ==== Proof.MixOut.lean ====
module

public import proofs.«01_k».proof.Proof.Mix
public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.ReadBack

/-! The mixer's tail forwards: the two branches projected, their gated merge, the residual stream after it and its
normalised rows, a tile of 512 rows at a time. -/

@[expose] public section

set_option maxRecDepth 16384

noncomputable section

namespace Cert.Mix.MixOut

open Cert.Ffn Cert.Kernel9Ideal Cert.Kernel9Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

/-- The gated merge of two rows, the residual stream after it, and a row normalised and scaled. -/
def mg (a b ga gb : Fin 1024 → EReal) (k : Fin 1024) : EReal := sg (ga k) * a k + sg (gb k) * b k
def after (f x : Fin 1024 → EReal) (wo : S1024x1024.Idx → EReal) (d : Fin 1024) : EReal := x d + lin' f wo d
def nrm (v g : Fin 1024 → EReal) (d : Fin 1024) : EReal := v d * inv v * g d

/-! ## One tile -/

section Tile

variable (p q : Vec Ideal S512x512 .bf16) (wa wb : Vec Ideal S512x1024 .bf16) (ga gb : Vec Ideal S512x1024 .bf16) (x : Vec Ideal S512x1024 .f32)
variable (g : Vec Ideal S1x1024 .f32) (wo : Vec Ideal S1024x1024 .bf16) (r : Fin 512) (k d : Fin 1024)

theorem a_at : k0_pay7 (F := Ideal) p wa (ix2 r k) = lin' (fun j => p (ix2 r j)) wa k := by
  unfold k0_pay7
  rw [shapeCast_self, shapeCast_self]
  exact product_at (φ₁ := .bf16) (φ₂ := .bf16) dot_S512x512_S512x1024_S512x1024_1_0_0_1_n_n none 512 rfl rfl p wa (ix2 r k) (fun j => ix2 r j) (fun j => ix2 j k)
    (fun k q h => funext fun a => Fin.ext (by match a with | ⟨0, _⟩ => rfl | ⟨1, _⟩ => exact h))
    (fun k q h => funext fun a => Fin.ext (by match a with | ⟨0, _⟩ => exact h | ⟨1, _⟩ => rfl))

theorem b_at : k0_pay8 (F := Ideal) q wb (ix2 r k) = lin' (fun j => q (ix2 r j)) wb k := a_at q wb r k

theorem ga_at : k0_pay10 (F := Ideal) p wa ga (ix2 r k) = sg (ga (ix2 r k)) * lin' (fun j => p (ix2 r j)) wa k := by
  unfold k0_pay10
  rw [shapeCast_self]
  exact congrArg₂ (· * ·) (sg_tanh (ga (ix2 r k))) (a_at p wa r k)

/-- The tile's merge. -/
abbrev mT : FVec Ideal S512x1024 .f32 := k0_pay1 (F := Ideal) (k0_pay8 (F := Ideal) q wb) (k0_pay10 (F := Ideal) p wa ga) (k0_pay11 (F := Ideal) gb)

def mRow : Fin 1024 → EReal := mg (lin' (fun j => p (ix2 r j)) wa) (lin' (fun j => q (ix2 r j)) wb) (fun j => ga (ix2 r j)) (fun j => gb (ix2 r j))

theorem m_at : mT p q wa wb ga gb (ix2 r k) = mRow p q wa wb ga gb r k := by
  unfold mT k0_pay1 k0_pay11
  rw [addf_apply, ga_at, shapeCast_self]
  exact congrArg (sg (ga (ix2 r k)) * lin' (fun j => p (ix2 r j)) wa k + ·) (congrArg₂ (· * ·) (sg_tanh (gb (ix2 r k))) (b_at q wb r k))

/-- The tile's residual stream. -/
abbrev sT : FVec Ideal S512x1024 .f32 :=
  k0_pay2 (F := Ideal) (k0_pay8 (F := Ideal) q wb) x (k0_pay9 (F := Ideal) wo) (k0_pay10 (F := Ideal) p wa ga) (k0_pay11 (F := Ideal) gb)

def sRow : Fin 1024 → EReal := after (mRow p q wa wb ga gb r) (fun j => x (ix2 r j)) wo

theorem s_at : sT p q wa wb ga gb x wo (ix2 r d) = sRow p q wa wb ga gb x wo r d := by
  unfold sT k0_pay2 k0_pay9
  rw [addf_apply, shapeCast_self]
  refine congrArg (x (ix2 r d) + ·) ?_
  refine (product_at (φ₁ := .bf16) (φ₂ := .bf16) dot_S512x1024_S1024x1024_S512x1024_1_0_0_1_n_n none 1024 rfl rfl _ wo (ix2 r d) (fun j => ix2 r j) (fun j => ix2 j d)
    (fun k q h => funext fun a => Fin.ext (by match a with | ⟨0, _⟩ => rfl | ⟨1, _⟩ => exact h))
    (fun k q h => funext fun a => Fin.ext (by match a with | ⟨0, _⟩ => exact h | ⟨1, _⟩ => rfl))).trans ?_
  exact Finset.sum_congr rfl fun j _ => congrArg (· * wo (ix2 j d)) (m_at p q wa wb ga gb r j)

theorem n_at : k0_pay6 (F := Ideal) (k0_pay8 (F := Ideal) q wb) x g (k0_pay9 (F := Ideal) wo) (k0_pay10 (F := Ideal) p wa ga) (k0_pay11 (F := Ideal) gb) (ix2 r d)
    = nrm (sRow p q wa wb ga gb x wo r) (fun j => g (ix2 0 j)) d := by
  unfold k0_pay6
  show mulf (mulf (sT p q wa wb ga gb x wo) (broadcastTo S512x1024 _ broadcasts_S512x1_S512x1024)) (broadcastTo S512x1024 g broadcasts_S1x1024_S512x1024) (ix2 r d) = _
  rw [mulf_apply, mulf_apply, over_cols, over_rows]
  refine congrArg (· * g (ix2 0 d)) (congrArg₂ (· * ·) (s_at p q wa wb ga gb x wo r d) ?_)
  have e := row_sum (mulf (sT p q wa wb ga gb x wo) (sT p q wa wb ga gb x wo)) reduces_S512x1024_S512 (.inl rfl) rfl shapeCasts_S512_S512x1 r 0
  refine (congrArg (fun s => Ideal.rsqrt (Ideal.div s width + tiny)) e).trans ?_
  unfold Cert.Ffn.inv
  refine congrArg (fun s => Ideal.rsqrt (Ideal.div s width + tiny)) (Finset.sum_congr rfl fun k _ => ?_)
  rw [mulf_apply, s_at]

end Tile

variable (m : (ℓ : Loc nD τ sig) → Buf (Elt Ideal) ℓ) (c : Dev nD)

abbrev a0 : S8192x512.Idx → EReal := V m c main_v0
abbrev a1 : S8192x512.Idx → EReal := V m c main_v1
abbrev a2 : S512x1024.Idx → EReal := V m c main_v4
abbrev a3 : S512x1024.Idx → EReal := V m c main_v5
abbrev a4 : S8192x1024.Idx → EReal := V m c main_v2
abbrev a5 : S8192x1024.Idx → EReal := V m c main_v3
abbrev a6 : S8192x1024.Idx → EReal := V m c main_arg7
abbrev a7 : S1x1024.Idx → EReal := V m c main_arg8
abbrev a8 : S1024x1024.Idx → EReal := V m c main_v6

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])
theorem idx13 : ∀ t : Fin cfg0.N, win0_13.index t = ![t.val, 0] := (by decide +kernel : ∀ t : Fin grid0.N, win0_13.index t = ![t.val, 0])
theorem tlt (t : Fin cfg0.N) : t.val < 16 := t.isLt

/-- The batch row that point `t` has at row `r` of its tile. -/
abbrev at_ (t : Fin cfg0.N) (r : Fin 512) : Fin 8192 := ⟨t.val * 512 + r.val, by have := tlt t; omega⟩

theorem rd0 (t : Fin cfg0.N) (r : Fin 512) (k : Fin 512) : iblk m c 0 t (ix2 r k) = a0 m c (ix2 (at_ t r) k) := by
  blk_ext [iblk, idx0 t]
theorem rows0 (t : Fin cfg0.N) (r : Fin 512) : (fun j => iblk m c 0 t (ix2 r j)) = fun j => a0 m c (ix2 (at_ t r) j) := funext fun j => rd0 m c t r j
theorem rd1 (t : Fin cfg0.N) (r : Fin 512) (k : Fin 512) : iblk m c 1 t (ix2 r k) = a1 m c (ix2 (at_ t r) k) := by
  blk_ext [iblk, idx1 t]
theorem rows1 (t : Fin cfg0.N) (r : Fin 512) : (fun j => iblk m c 1 t (ix2 r j)) = fun j => a1 m c (ix2 (at_ t r) j) := funext fun j => rd1 m c t r j
theorem rd2 (t : Fin cfg0.N) : (iblk m c 2 t : S512x1024.Idx → EReal) = a2 m c := by
  funext y
  blk_ext [iblk, idx2 t]
theorem rd3 (t : Fin cfg0.N) : (iblk m c 3 t : S512x1024.Idx → EReal) = a3 m c := by
  funext y
  blk_ext [iblk, idx3 t]
theorem rd4 (t : Fin cfg0.N) (r : Fin 512) (k : Fin 1024) : iblk m c 4 t (ix2 r k) = a4 m c (ix2 (at_ t r) k) := by
  blk_ext [iblk, idx4 t]
theorem rows4 (t : Fin cfg0.N) (r : Fin 512) : (fun j => iblk m c 4 t (ix2 r j)) = fun j => a4 m c (ix2 (at_ t r) j) := funext fun j => rd4 m c t r j
theorem rd5 (t : Fin cfg0.N) (r : Fin 512) (k : Fin 1024) : iblk m c 5 t (ix2 r k) = a5 m c (ix2 (at_ t r) k) := by
  blk_ext [iblk, idx5 t]
theorem rows5 (t : Fin cfg0.N) (r : Fin 512) : (fun j => iblk m c 5 t (ix2 r j)) = fun j => a5 m c (ix2 (at_ t r) j) := funext fun j => rd5 m c t r j
theorem rd6 (t : Fin cfg0.N) (r : Fin 512) (k : Fin 1024) : iblk m c 6 t (ix2 r k) = a6 m c (ix2 (at_ t r) k) := by
  blk_ext [iblk, idx6 t]
theorem rows6 (t : Fin cfg0.N) (r : Fin 512) : (fun j => iblk m c 6 t (ix2 r j)) = fun j => a6 m c (ix2 (at_ t r) j) := funext fun j => rd6 m c t r j
theorem rd7 (t : Fin cfg0.N) : (iblk m c 7 t : S1x1024.Idx → EReal) = a7 m c := by
  funext y
  blk_ext [iblk, idx7 t]
theorem rd8 (t : Fin cfg0.N) : (iblk m c 8 t : S1024x1024.Idx → EReal) = a8 m c := by
  funext y
  blk_ext [iblk, idx8 t]

/-- A load of a whole block is the block. -/
theorem sq (v : Vec Ideal S512x512 .bf16) : View.ld v r0_0 = v := View.ld_unit_lit _ v (by decide)
theorem wide (v : Vec Ideal S512x1024 .bf16) : View.ld v r0_1 = v := View.ld_unit_lit _ v (by decide)
theorem full (v : Vec Ideal S1024x1024 .bf16) : View.ld v r0_3 = v := View.ld_unit_lit _ v (by decide)

/-- The rows as the blocks have them. -/
abbrev mR (n : Fin 8192) : Fin 1024 → EReal :=
  mg (lin' (fun j => a0 m c (ix2 n j)) (a2 m c)) (lin' (fun j => a1 m c (ix2 n j)) (a3 m c)) (fun j => a4 m c (ix2 n j)) (fun j => a5 m c (ix2 n j))
abbrev sR (n : Fin 8192) : Fin 1024 → EReal := after (mR m c n) (fun j => a6 m c (ix2 n j)) (a8 m c)

theorem mRow_eq (t : Fin cfg0.N) (r : Fin 512) : mRow (iblk m c 0 t) (iblk m c 1 t) (iblk m c 2 t) (iblk m c 3 t) (iblk m c 4 t) (iblk m c 5 t) r = mR m c (at_ t r) := by
  unfold mRow
  rw [rd2, rd3, rows0, rows1, rows4, rows5]

theorem sRow_eq (t : Fin cfg0.N) (r : Fin 512) :
    sRow (iblk m c 0 t) (iblk m c 1 t) (iblk m c 2 t) (iblk m c 3 t) (iblk m c 4 t) (iblk m c 5 t) (iblk m c 6 t) (iblk m c 8 t) r = sR m c (at_ t r) := by
  unfold sRow
  rw [mRow_eq, rows6, rd8]

theorem ta_point (t : Fin cfg0.N) (r : Fin 512) (k : Fin 1024) : out0_9 (F := Ideal) (iblk m c 0 t) (iblk m c 1 t) (iblk m c 2 t) (iblk m c 3 t) (iblk m c 4 t) (iblk m c 5 t) (iblk m c 6 t) (iblk m c 7 t) (iblk m c 8 t) (ix2 r k)
    = lin' (fun j => a0 m c (ix2 (at_ t r) j)) (a2 m c) k := by
  frame_out
  rw [rd2]
  refine (a_at _ _ _ _).trans ?_
  rw [rows0]

theorem ta_final : (dats m 0 c).arrAt 9 cfg0.N = fun y : S8192x1024.Idx => lin' (fun j => a0 m c (ix2 (y 0) j)) (a2 m c) (y 1) := by
  refine (dats m 0 c).arrAt_eq_of_covers 9 _ (by decide +kernel) fun t hf y => ?_
  blk_simp
  rw [after0_9]
  refine (congrArg _ (ValueIdx.eq_ix2 y)).trans ((ta_point m c t (y 0) (y 1)).trans ?_)
  have e0 : (win0_9.blk t).view.emb y 0 = at_ t (y 0) := by
    refine Fin.ext ?_
    blk_simp [idx9 t]
  have e1 : (win0_9.blk t).view.emb y 1 = y 1 := by
    refine Fin.ext ?_
    blk_simp [idx9 t]
  rw [e0, e1]

theorem tb_point (t : Fin cfg0.N) (r : Fin 512) (k : Fin 1024) : out0_10 (F := Ideal) (iblk m c 0 t) (iblk m c 1 t) (iblk m c 2 t) (iblk m c 3 t) (iblk m c 4 t) (iblk m c 5 t) (iblk m c 6 t) (iblk m c 7 t) (iblk m c 8 t) (ix2 r k)
    = lin' (fun j => a1 m c (ix2 (at_ t r) j)) (a3 m c) k := by
  frame_out
  refine (b_at _ _ _ _).trans ?_
  rw [sq, wide, rows1, rd3]

theorem tb_final : (dats m 0 c).arrAt 10 cfg0.N = fun y : S8192x1024.Idx => lin' (fun j => a1 m c (ix2 (y 0) j)) (a3 m c) (y 1) := by
  refine (dats m 0 c).arrAt_eq_of_covers 10 _ (by decide +kernel) fun t hf y => ?_
  blk_simp
  rw [after0_10]
  refine (congrArg _ (ValueIdx.eq_ix2 y)).trans ((tb_point m c t (y 0) (y 1)).trans ?_)
  have e0 : (win0_10.blk t).view.emb y 0 = at_ t (y 0) := by
    refine Fin.ext ?_
    blk_simp [idx10 t]
  have e1 : (win0_10.blk t).view.emb y 1 = y 1 := by
    refine Fin.ext ?_
    blk_simp [idx10 t]
  rw [e0, e1]

theorem merged_point (t : Fin cfg0.N) (r : Fin 512) (k : Fin 1024) : out0_11 (F := Ideal) (iblk m c 0 t) (iblk m c 1 t) (iblk m c 2 t) (iblk m c 3 t) (iblk m c 4 t) (iblk m c 5 t) (iblk m c 6 t) (iblk m c 7 t) (iblk m c 8 t) (ix2 r k)
    = mR m c (at_ t r) k := by
  frame_out
  refine (m_at _ _ _ _ _ _ r k).trans ?_
  rw [sq, sq, wide, wide, wide, wide, mRow_eq]

theorem merged_final : (dats m 0 c).arrAt 11 cfg0.N = fun y : S8192x1024.Idx => mR m c (y 0) (y 1) := by
  refine (dats m 0 c).arrAt_eq_of_covers 11 _ (by decide +kernel) fun t hf y => ?_
  blk_simp
  rw [after0_11]
  refine (congrArg _ (ValueIdx.eq_ix2 y)).trans ((merged_point m c t (y 0) (y 1)).trans ?_)
  have e0 : (win0_11.blk t).view.emb y 0 = at_ t (y 0) := by
    refine Fin.ext ?_
    blk_simp [idx11 t]
  have e1 : (win0_11.blk t).view.emb y 1 = y 1 := by
    refine Fin.ext ?_
    blk_simp [idx11 t]
  rw [e0, e1]

theorem x1_point (t : Fin cfg0.N) (r : Fin 512) (k : Fin 1024) : out0_12 (F := Ideal) (iblk m c 0 t) (iblk m c 1 t) (iblk m c 2 t) (iblk m c 3 t) (iblk m c 4 t) (iblk m c 5 t) (iblk m c 6 t) (iblk m c 7 t) (iblk m c 8 t) (ix2 r k)
    = sR m c (at_ t r) k := by
  frame_out
  refine (s_at _ _ _ _ _ _ _ _ r k).trans ?_
  rw [sq, sq, wide, wide, wide, wide, full, sRow_eq]

theorem x1_final : (dats m 0 c).arrAt 12 cfg0.N = fun y : S8192x1024.Idx => sR m c (y 0) (y 1) := by
  refine (dats m 0 c).arrAt_eq_of_covers 12 _ (by decide +kernel) fun t hf y => ?_
  blk_simp
  rw [after0_12]
  refine (congrArg _ (ValueIdx.eq_ix2 y)).trans ((x1_point m c t (y 0) (y 1)).trans ?_)
  have e0 : (win0_12.blk t).view.emb y 0 = at_ t (y 0) := by
    refine Fin.ext ?_
    blk_simp [idx12 t]
  have e1 : (win0_12.blk t).view.emb y 1 = y 1 := by
    refine Fin.ext ?_
    blk_simp [idx12 t]
  rw [e0, e1]

theorem h2_point (t : Fin cfg0.N) (r : Fin 512) (k : Fin 1024) : out0_13 (F := Ideal) (iblk m c 0 t) (iblk m c 1 t) (iblk m c 2 t) (iblk m c 3 t) (iblk m c 4 t) (iblk m c 5 t) (iblk m c 6 t) (iblk m c 7 t) (iblk m c 8 t) (ix2 r k)
    = nrm (sR m c (at_ t r)) (fun j => a7 m c (ix2 0 j)) k := by
  frame_out
  refine (n_at _ _ _ _ _ _ _ _ _ r k).trans ?_
  rw [sq, sq, wide, wide, wide, wide, full, sRow_eq, rd7]

theorem h2_final : (dats m 0 c).arrAt 13 cfg0.N = fun y : S8192x1024.Idx => nrm (sR m c (y 0)) (fun j => a7 m c (ix2 0 j)) (y 1) := by
  refine (dats m 0 c).arrAt_eq_of_covers 13 _ (by decide +kernel) fun t hf y => ?_
  blk_simp
  rw [after0_13]
  refine (congrArg _ (ValueIdx.eq_ix2 y)).trans ((h2_point m c t (y 0) (y 1)).trans ?_)
  have e0 : (win0_13.blk t).view.emb y 0 = at_ t (y 0) := by
    refine Fin.ext ?_
    blk_simp [idx13 t]
  have e1 : (win0_13.blk t).view.emb y 1 = y 1 := by
    refine Fin.ext ?_
    blk_simp [idx13 t]
  rw [e0, e1]

/-- The arguments as the launch finds them. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)

theorem a0_eq : a0 m c = x0 m c := by
  show V m c main_v0 = _
  unfold V hostOps0
  after_results
  rfl

theorem a1_eq : a1 m c = x1 m c := by
  show V m c main_v1 = _
  unfold V hostOps0
  after_results
  rfl

theorem a2_eq : a2 m c = x4 m c := by
  show V m c main_v4 = _
  unfold V hostOps0
  after_results
  rfl

theorem a3_eq : a3 m c = x5 m c := by
  show V m c main_v5 = _
  unfold V hostOps0
  after_results
  rfl

theorem a4_eq : a4 m c = x2 m c := by
  show V m c main_v2 = _
  unfold V hostOps0
  after_results
  rfl

theorem a5_eq : a5 m c = x3 m c := by
  show V m c main_v3 = _
  unfold V hostOps0
  after_results
  rfl

theorem a8_eq : a8 m c = x6 m c := by
  show V m c main_v6 = _
  unfold V hostOps0
  after_results
  rfl

theorem a6_eq : a6 m c = x7 m c := V_main_arg7 m c
theorem a7_eq : a7 m c = x8 m c := V_main_arg8 m c

/-! ## The reference -/

section Ref

open Cert.Reference9Ideal.Read

variable (ya yb : S8192x512.Idx → EReal) (ga gb x : S8192x1024.Idx → EReal) (wa wb : S512x1024.Idx → EReal) (wo : S1024x1024.Idx → EReal) (g : S1x1024.Idx → EReal)
variable (n : Fin 8192) (k d : Fin 1024)

theorem v0_at : val_main_v0 (F := Ideal) ya wa (ix2 n k) = lin' (fun j => ya (ix2 n j)) wa k := by
  refine (val_main_v0_apply _ _ _).trans (Finset.sum_congr rfl fun j _ => ?_)
  rw [show lidx_main_v0 (ix2 n k) j = ix2 n j from ValueIdx.eq_ix2 _, show ridx_main_v0 (ix2 n k) j = ix2 j k from ValueIdx.eq_ix2 _]

theorem v1_at : val_main_v1 (F := Ideal) yb wb (ix2 n k) = lin' (fun j => yb (ix2 n j)) wb k := v0_at yb wb n k

/-- The reference's merged row, and its residual stream. -/
abbrev rM : Fin 1024 → EReal := mg (lin' (fun j => ya (ix2 n j)) wa) (lin' (fun j => yb (ix2 n j)) wb) (fun j => ga (ix2 n j)) (fun j => gb (ix2 n j))
abbrev rS : Fin 1024 → EReal := after (rM ya yb ga gb wa wb n) (fun j => x (ix2 n j)) wo

theorem v16_at : val_main_v16 (F := Ideal) ya yb ga gb wa wb (ix2 n k) = rM ya yb ga gb wa wb n k := by
  refine Eq.trans (b := sg (ga (ix2 n k)) * val_main_v0 (F := Ideal) ya wa (ix2 n k) + sg (gb (ix2 n k)) * val_main_v1 (F := Ideal) yb wb (ix2 n k)) rfl ?_
  rw [v0_at, v1_at]
  rfl

/-- The reference computes the merge again before the last product; it is the same array. -/
theorem v33_same : val_main_v33 (F := Ideal) ya yb ga gb wa wb = val_main_v16 (F := Ideal) ya yb ga gb wa wb := rfl

theorem v35_at : val_main_v35 (F := Ideal) ya yb ga gb wa wb wo x (ix2 n d) = rS ya yb ga gb x wa wb wo n d := by
  refine (val_main_v35_apply _ _ _ _ _ _ _ _ _).trans (congrArg (x (ix2 n d) + ·) ?_)
  refine (val_main_v34_apply _ _ _ _ _ _ _ _).trans (Finset.sum_congr rfl fun k _ => ?_)
  rw [v33_same, show lidx_main_v34 (ix2 n d) k = ix2 n k from ValueIdx.eq_ix2 _, show ridx_main_v34 (ix2 n d) k = ix2 k d from ValueIdx.eq_ix2 _, v16_at]

theorem v47_at (z : Fin 1) : val_main_v47 (F := Ideal) ya yb ga gb wa wb wo x (ix2 n z) = inv (rS ya yb ga gb x wa wb wo n) := by
  rw [val_main_v47_apply, val_main_v46_apply, val_main_v44_apply, val_main_v42_apply, val_main_v41_apply, val_main_v43_apply, val_main_v45_apply]
  refine congrArg (fun s => Ideal.rsqrt (Ideal.div s width + tiny)) ?_
  rw [val_main_cst_7_apply]
  refine (congrArg (· + _) Ideal.ofBits_zero_f32).trans ((zero_add _).trans (Finset.sum_congr rfl fun k _ => ?_))
  rw [val_main_v40_apply, show idx_main_v41 (idx_main_v42 (ix2 n z)) k = ix2 n k from ValueIdx.eq_ix2 _, v35_at]
  rfl

theorem v51_at : val_main_v51 (F := Ideal) g (ix2 n d) = g (ix2 0 d) := by
  rw [val_main_v51_apply, val_main_v50_apply, val_main_v39_apply]
  exact congrArg g (funext fun a => Fin.ext (by match a with | ⟨0, _⟩ => rfl | ⟨1, _⟩ => exact Nat.mod_eq_of_lt d.isLt))

theorem v53_at : val_main_v53 (F := Ideal) ya yb ga gb wa wb wo x g (ix2 n d) = nrm (rS ya yb ga gb x wa wb wo n) (fun j => g (ix2 0 j)) d := by
  refine (val_main_v53_apply _ _ _ _ _ _ _ _ _ _).trans ((val_main_v52_apply _ _ _ _ _ _ _ _ _ _).trans ?_)
  rw [val_main_v49_apply, val_main_v48_apply, show idx_main_v48 (ix2 n d) = ix2 n 0 from ValueIdx.eq_ix2 _, v47_at, v35_at, v51_at]
  rfl

end Ref

/-! ## The results -/

open Cert.Reference9Ideal.Read

theorem ta_result : (dats m 0 c).arrAt 9 cfg0.N = val_main_v36 (F := Ideal) (x0 m c) (x4 m c) := by
  rw [ta_final]
  funext y
  obtain ⟨i, k, rfl⟩ : ∃ i k, y = ix2 i k := ⟨y 0, y 1, ValueIdx.eq_ix2 y⟩
  show lin' (fun j => a0 m c (ix2 i j)) (a2 m c) k = _
  rw [a0_eq, a2_eq]
  exact (v0_at _ _ i k).symm

theorem tb_result : (dats m 0 c).arrAt 10 cfg0.N = val_main_v37 (F := Ideal) (x1 m c) (x5 m c) := by
  rw [tb_final]
  funext y
  obtain ⟨i, k, rfl⟩ : ∃ i k, y = ix2 i k := ⟨y 0, y 1, ValueIdx.eq_ix2 y⟩
  show lin' (fun j => a1 m c (ix2 i j)) (a3 m c) k = _
  rw [a1_eq, a3_eq]
  exact (v1_at _ _ i k).symm

theorem merged_result : (dats m 0 c).arrAt 11 cfg0.N = val_main_v38 (F := Ideal) (x0 m c) (x1 m c) (x2 m c) (x3 m c) (x4 m c) (x5 m c) := by
  rw [merged_final]
  funext y
  obtain ⟨i, k, rfl⟩ : ∃ i k, y = ix2 i k := ⟨y 0, y 1, ValueIdx.eq_ix2 y⟩
  show mg (lin' (fun j => a0 m c (ix2 i j)) (a2 m c)) (lin' (fun j => a1 m c (ix2 i j)) (a3 m c)) (fun j => a4 m c (ix2 i j)) (fun j => a5 m c (ix2 i j)) k = _
  rw [a0_eq, a1_eq, a2_eq, a3_eq, a4_eq, a5_eq]
  exact (v16_at _ _ _ _ _ _ i k).symm

theorem x1_result : (dats m 0 c).arrAt 12 cfg0.N = val_main_v35 (F := Ideal) (x0 m c) (x1 m c) (x2 m c) (x3 m c) (x4 m c) (x5 m c) (x6 m c) (x7 m c) := by
  rw [x1_final]
  funext y
  obtain ⟨i, k, rfl⟩ : ∃ i k, y = ix2 i k := ⟨y 0, y 1, ValueIdx.eq_ix2 y⟩
  show after (mg (lin' (fun j => a0 m c (ix2 i j)) (a2 m c)) (lin' (fun j => a1 m c (ix2 i j)) (a3 m c)) (fun j => a4 m c (ix2 i j)) (fun j => a5 m c (ix2 i j))) (fun j => a6 m c (ix2 i j)) (a8 m c) k = _
  rw [a0_eq, a1_eq, a2_eq, a3_eq, a4_eq, a5_eq, a6_eq, a8_eq]
  exact (v35_at _ _ _ _ _ _ _ _ i k).symm

theorem h2_result : (dats m 0 c).arrAt 13 cfg0.N = val_main_v53 (F := Ideal) (x0 m c) (x1 m c) (x2 m c) (x3 m c) (x4 m c) (x5 m c) (x6 m c) (x7 m c) (x8 m c) := by
  rw [h2_final]
  funext y
  obtain ⟨i, k, rfl⟩ : ∃ i k, y = ix2 i k := ⟨y 0, y 1, ValueIdx.eq_ix2 y⟩
  show nrm (after (mg (lin' (fun j => a0 m c (ix2 i j)) (a2 m c)) (lin' (fun j => a1 m c (ix2 i j)) (a3 m c)) (fun j => a4 m c (ix2 i j)) (fun j => a5 m c (ix2 i j))) (fun j => a6 m c (ix2 i j)) (a8 m c)) (fun j => a7 m c (ix2 0 j)) k = _
  rw [a0_eq, a1_eq, a2_eq, a3_eq, a4_eq, a5_eq, a6_eq, a7_eq, a8_eq]
  exact (v53_at _ _ _ _ _ _ _ _ _ i k).symm

end Cert.Mix.MixOut

end
-- ==== Proof.Merge.lean ====
module

public import proofs.«01_k».proof.Proof.Mix
public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack

/-! The gated merge backwards: the cotangents of the two branches and of their gates, a tile of 512 rows at a time. -/

@[expose] public section

set_option maxRecDepth 16384

noncomputable section

namespace Cert.Mix.Merge

open Cert.Ffn Cert.Kernel10Ideal Cert.Kernel10Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

section Tile

variable (v : Vec Ideal S512x1024 .bf16) (w : Vec Ideal S1024x1024 .bf16) (b g : Vec Ideal S512x1024 .bf16) (r : Fin 512) (k : Fin 1024)

theorem dm_at : k0_pay5 (F := Ideal) v w (ix2 r k) = lin (fun j => v (ix2 r j)) w k := by
  unfold k0_pay5
  rw [shapeCast_self, shapeCast_self]
  exact product_at _ _ 1024 rfl rfl v w (ix2 r k) (fun j => ix2 r j) (fun j => ix2 k j)
    (fun k q h => funext fun a => Fin.ext (by match a with | ⟨0, _⟩ => rfl | ⟨1, _⟩ => exact h))
    (fun k q h => funext fun a => Fin.ext (by match a with | ⟨0, _⟩ => rfl | ⟨1, _⟩ => exact h))

theorem sa_at : k0_pay7 (F := Ideal) g (ix2 r k) = sg (g (ix2 r k)) := by
  unfold k0_pay7
  rw [shapeCast_self]
  exact sg_tanh (g (ix2 r k))

theorem sb_at : k0_pay8 (F := Ideal) g (ix2 r k) = sg (g (ix2 r k)) := by
  unfold k0_pay8
  rw [shapeCast_self]
  exact sg_tanh (g (ix2 r k))

/-- The cotangent of a branch and of its gate. -/
def dBranch (dm g : EReal) : EReal := dm * sg g
def dSwitch (dm b g : EReal) : EReal := dm * b * sg g * (one - sg g)

theorem ta_at : k0_pay1 (F := Ideal) (k0_pay9 (F := Ideal) v w g) (ix2 r k) = dBranch (lin (fun j => v (ix2 r j)) w k) (g (ix2 r k)) := by
  show k0_pay5 (F := Ideal) v w (ix2 r k) * k0_pay7 (F := Ideal) g (ix2 r k) = _
  rw [dm_at, sa_at]
  rfl

theorem tb_at : k0_pay2 (F := Ideal) (k0_pay10 (F := Ideal) v w g) (ix2 r k) = dBranch (lin (fun j => v (ix2 r j)) w k) (g (ix2 r k)) := by
  show k0_pay5 (F := Ideal) v w (ix2 r k) * k0_pay8 (F := Ideal) g (ix2 r k) = _
  rw [dm_at, sb_at]
  rfl

theorem ga_at : k0_pay3 (F := Ideal) (k0_pay11 (F := Ideal) v w b g) (ix2 r k) = dSwitch (lin (fun j => v (ix2 r j)) w k) (b (ix2 r k)) (g (ix2 r k)) := by
  show k0_pay5 (F := Ideal) v w (ix2 r k) * shapeCast S512x1024 b shapeCasts_S512x1024_S512x1024 (ix2 r k) * k0_pay7 (F := Ideal) g (ix2 r k) * (one - k0_pay7 (F := Ideal) g (ix2 r k)) = _
  rw [dm_at, sa_at, shapeCast_self]
  rfl

theorem gb_at : k0_pay4 (F := Ideal) (k0_pay5 (F := Ideal) v w) (k0_pay6 (F := Ideal) b) (k0_pay8 (F := Ideal) g) (ix2 r k)
    = dSwitch (lin (fun j => v (ix2 r j)) w k) (b (ix2 r k)) (g (ix2 r k)) := by
  show k0_pay5 (F := Ideal) v w (ix2 r k) * shapeCast S512x1024 b shapeCasts_S512x1024_S512x1024 (ix2 r k) * k0_pay8 (F := Ideal) g (ix2 r k) * (one - k0_pay8 (F := Ideal) g (ix2 r k)) = _
  rw [dm_at, sb_at, shapeCast_self]
  rfl

end Tile

variable (m : (ℓ : Loc nD τ sig) → Buf (Elt Ideal) ℓ) (c : Dev nD)

abbrev a0 : S8192x1024.Idx → EReal := V m c main_v7
abbrev a1 : S1024x1024.Idx → EReal := V m c main_v6
abbrev a2 : S8192x1024.Idx → EReal := V m c main_v1
abbrev a3 : S8192x1024.Idx → EReal := V m c main_v3
abbrev a4 : S8192x1024.Idx → EReal := V m c main_v4
abbrev a5 : S8192x1024.Idx → EReal := V m c main_v5

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem tlt (t : Fin cfg0.N) : t.val < 16 := t.isLt

/-- The batch row that point `t` has at row `r` of its tile. -/
abbrev at_ (t : Fin cfg0.N) (r : Fin 512) : Fin 8192 := ⟨t.val * 512 + r.val, by have := tlt t; omega⟩

theorem rd0 (t : Fin cfg0.N) (r : Fin 512) (k : Fin 1024) : iblk m c 0 t (ix2 r k) = a0 m c (ix2 (at_ t r) k) := by
  blk_ext [iblk, idx0 t]
theorem rows0 (t : Fin cfg0.N) (r : Fin 512) : (fun j => iblk m c 0 t (ix2 r j)) = fun j => a0 m c (ix2 (at_ t r) j) := funext fun j => rd0 m c t r j
theorem rd1 (t : Fin cfg0.N) : (iblk m c 1 t : S1024x1024.Idx → EReal) = a1 m c := by
  funext y
  blk_ext [iblk, idx1 t]
theorem rd2 (t : Fin cfg0.N) (r : Fin 512) (k : Fin 1024) : iblk m c 2 t (ix2 r k) = a2 m c (ix2 (at_ t r) k) := by
  blk_ext [iblk, idx2 t]
theorem rows2 (t : Fin cfg0.N) (r : Fin 512) : (fun j => iblk m c 2 t (ix2 r j)) = fun j => a2 m c (ix2 (at_ t r) j) := funext fun j => rd2 m c t r j
theorem rd3 (t : Fin cfg0.N) (r : Fin 512) (k : Fin 1024) : iblk m c 3 t (ix2 r k) = a3 m c (ix2 (at_ t r) k) := by
  blk_ext [iblk, idx3 t]
theorem rows3 (t : Fin cfg0.N) (r : Fin 512) : (fun j => iblk m c 3 t (ix2 r j)) = fun j => a3 m c (ix2 (at_ t r) j) := funext fun j => rd3 m c t r j
theorem rd4 (t : Fin cfg0.N) (r : Fin 512) (k : Fin 1024) : iblk m c 4 t (ix2 r k) = a4 m c (ix2 (at_ t r) k) := by
  blk_ext [iblk, idx4 t]
theorem rows4 (t : Fin cfg0.N) (r : Fin 512) : (fun j => iblk m c 4 t (ix2 r j)) = fun j => a4 m c (ix2 (at_ t r) j) := funext fun j => rd4 m c t r j
theorem rd5 (t : Fin cfg0.N) (r : Fin 512) (k : Fin 1024) : iblk m c 5 t (ix2 r k) = a5 m c (ix2 (at_ t r) k) := by
  blk_ext [iblk, idx5 t]
theorem rows5 (t : Fin cfg0.N) (r : Fin 512) : (fun j => iblk m c 5 t (ix2 r j)) = fun j => a5 m c (ix2 (at_ t r) j) := funext fun j => rd5 m c t r j

theorem ta_point (t : Fin cfg0.N) (r : Fin 512) (k : Fin 1024) : out0_6 (F := Ideal) (iblk m c 0 t) (iblk m c 1 t) (iblk m c 2 t) (iblk m c 3 t) (iblk m c 4 t) (iblk m c 5 t) (ix2 r k)
    = dBranch (lin (fun j => a0 m c (ix2 (at_ t r) j)) (a1 m c) k) (a4 m c (ix2 (at_ t r) k)) := by
  frame_out
  rw [rd1]
  refine (ta_at _ _ _ _ _).trans ?_
  rw [rows0, rd4]

theorem ta_final : (dats m 0 c).arrAt 6 cfg0.N = fun y : S8192x1024.Idx => dBranch (lin (fun j => a0 m c (ix2 (y 0) j)) (a1 m c) (y 1)) (a4 m c (ix2 (y 0) (y 1))) := by
  refine (dats m 0 c).arrAt_eq_of_covers 6 _ (by decide +kernel) fun t hf y => ?_
  blk_simp
  rw [after0_6]
  refine (congrArg _ (ValueIdx.eq_ix2 y)).trans ((ta_point m c t (y 0) (y 1)).trans ?_)
  have e0 : (win0_6.blk t).view.emb y 0 = at_ t (y 0) := by
    refine Fin.ext ?_
    blk_simp [idx6 t]
  have e1 : (win0_6.blk t).view.emb y 1 = y 1 := by
    refine Fin.ext ?_
    blk_simp [idx6 t]
  rw [e0, e1]

theorem tb_point (t : Fin cfg0.N) (r : Fin 512) (k : Fin 1024) : out0_7 (F := Ideal) (iblk m c 0 t) (iblk m c 1 t) (iblk m c 2 t) (iblk m c 3 t) (iblk m c 4 t) (iblk m c 5 t) (ix2 r k)
    = dBranch (lin (fun j => a0 m c (ix2 (at_ t r) j)) (a1 m c) k) (a5 m c (ix2 (at_ t r) k)) := by
  frame_out
  rw [rd1]
  refine (tb_at _ _ _ _ _).trans ?_
  rw [rows0, rd5]

theorem tb_final : (dats m 0 c).arrAt 7 cfg0.N = fun y : S8192x1024.Idx => dBranch (lin (fun j => a0 m c (ix2 (y 0) j)) (a1 m c) (y 1)) (a5 m c (ix2 (y 0) (y 1))) := by
  refine (dats m 0 c).arrAt_eq_of_covers 7 _ (by decide +kernel) fun t hf y => ?_
  blk_simp
  rw [after0_7]
  refine (congrArg _ (ValueIdx.eq_ix2 y)).trans ((tb_point m c t (y 0) (y 1)).trans ?_)
  have e0 : (win0_7.blk t).view.emb y 0 = at_ t (y 0) := by
    refine Fin.ext ?_
    blk_simp [idx7 t]
  have e1 : (win0_7.blk t).view.emb y 1 = y 1 := by
    refine Fin.ext ?_
    blk_simp [idx7 t]
  rw [e0, e1]

theorem ga_point (t : Fin cfg0.N) (r : Fin 512) (k : Fin 1024) : out0_8 (F := Ideal) (iblk m c 0 t) (iblk m c 1 t) (iblk m c 2 t) (iblk m c 3 t) (iblk m c 4 t) (iblk m c 5 t) (ix2 r k)
    = dSwitch (lin (fun j => a0 m c (ix2 (at_ t r) j)) (a1 m c) k) (a2 m c (ix2 (at_ t r) k)) (a4 m c (ix2 (at_ t r) k)) := by
  frame_out
  rw [rd1]
  refine (ga_at _ _ _ _ _ _).trans ?_
  rw [rows0, rd2, rd4]

theorem ga_final : (dats m 0 c).arrAt 8 cfg0.N = fun y : S8192x1024.Idx => dSwitch (lin (fun j => a0 m c (ix2 (y 0) j)) (a1 m c) (y 1)) (a2 m c (ix2 (y 0) (y 1))) (a4 m c (ix2 (y 0) (y 1))) := by
  refine (dats m 0 c).arrAt_eq_of_covers 8 _ (by decide +kernel) fun t hf y => ?_
  blk_simp
  rw [after0_8]
  refine (congrArg _ (ValueIdx.eq_ix2 y)).trans ((ga_point m c t (y 0) (y 1)).trans ?_)
  have e0 : (win0_8.blk t).view.emb y 0 = at_ t (y 0) := by
    refine Fin.ext ?_
    blk_simp [idx8 t]
  have e1 : (win0_8.blk t).view.emb y 1 = y 1 := by
    refine Fin.ext ?_
    blk_simp [idx8 t]
  rw [e0, e1]

theorem gb_point (t : Fin cfg0.N) (r : Fin 512) (k : Fin 1024) : out0_9 (F := Ideal) (iblk m c 0 t) (iblk m c 1 t) (iblk m c 2 t) (iblk m c 3 t) (iblk m c 4 t) (iblk m c 5 t) (ix2 r k)
    = dSwitch (lin (fun j => a0 m c (ix2 (at_ t r) j)) (a1 m c) k) (a3 m c (ix2 (at_ t r) k)) (a5 m c (ix2 (at_ t r) k)) := by
  frame_out
  rw [rd1]
  refine (gb_at _ _ _ _ _ _).trans ?_
  rw [rows0, rd3, rd5]

theorem gb_final : (dats m 0 c).arrAt 9 cfg0.N = fun y : S8192x1024.Idx => dSwitch (lin (fun j => a0 m c (ix2 (y 0) j)) (a1 m c) (y 1)) (a3 m c (ix2 (y 0) (y 1))) (a5 m c (ix2 (y 0) (y 1))) := by
  refine (dats m 0 c).arrAt_eq_of_covers 9 _ (by decide +kernel) fun t hf y => ?_
  blk_simp
  rw [after0_9]
  refine (congrArg _ (ValueIdx.eq_ix2 y)).trans ((gb_point m c t (y 0) (y 1)).trans ?_)
  have e0 : (win0_9.blk t).view.emb y 0 = at_ t (y 0) := by
    refine Fin.ext ?_
    blk_simp [idx9 t]
  have e1 : (win0_9.blk t).view.emb y 1 = y 1 := by
    refine Fin.ext ?_
    blk_simp [idx9 t]
  rw [e0, e1]

/-- The arguments as the launch finds them. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)

theorem a0_eq : a0 m c = x7 m c := by
  show V m c main_v7 = _
  unfold V hostOps0
  after_results
  rfl

theorem a1_eq : a1 m c = x6 m c := by
  show V m c main_v6 = _
  unfold V hostOps0
  after_results
  rfl

theorem a2_eq : a2 m c = Cert.Reference10Ideal.Read.val_main_v0 (F := Ideal) (x0 m c) (x4 m c) := by
  show V m c main_v1 = _
  unfold V hostOps0
  after_results
  rfl

theorem a3_eq : a3 m c = Cert.Reference10Ideal.Read.val_main_v1 (F := Ideal) (x1 m c) (x5 m c) := by
  show V m c main_v3 = _
  unfold V hostOps0
  after_results
  rfl

theorem a4_eq : a4 m c = x2 m c := by
  show V m c main_v4 = _
  unfold V hostOps0
  after_results
  rfl

theorem a5_eq : a5 m c = x3 m c := by
  show V m c main_v5 = _
  unfold V hostOps0
  after_results
  rfl

open Cert.Reference10Ideal.Read

theorem v24_at (i : Fin 8192) (k : Fin 1024) : val_main_v24 (F := Ideal) (x6 m c) (x7 m c) (ix2 i k) = lin (fun j => x7 m c (ix2 i j)) (x6 m c) k := by
  refine (val_main_v24_apply _ _ _).trans (Finset.sum_congr rfl fun j _ => ?_)
  rw [show lidx_main_v24 (ix2 i k) j = ix2 i j from ValueIdx.eq_ix2 _, show ridx_main_v24 (ix2 i k) j = ix2 k j from ValueIdx.eq_ix2 _]

theorem ta_result : (dats m 0 c).arrAt 6 cfg0.N = val_main_v31 (F := Ideal) (x2 m c) (x6 m c) (x7 m c) := by
  rw [ta_final, a0_eq, a1_eq, a4_eq]
  funext y
  obtain ⟨i, k, rfl⟩ : ∃ i k, y = ix2 i k := ⟨y 0, y 1, ValueIdx.eq_ix2 y⟩
  refine Eq.symm (Eq.trans (b := sg (x2 m c (ix2 i k)) * val_main_v24 (F := Ideal) (x6 m c) (x7 m c) (ix2 i k)) rfl ?_)
  rw [v24_at]
  exact mul_comm _ _

theorem tb_result : (dats m 0 c).arrAt 7 cfg0.N = val_main_v32 (F := Ideal) (x3 m c) (x6 m c) (x7 m c) := by
  rw [tb_final, a0_eq, a1_eq, a5_eq]
  funext y
  obtain ⟨i, k, rfl⟩ : ∃ i k, y = ix2 i k := ⟨y 0, y 1, ValueIdx.eq_ix2 y⟩
  refine Eq.symm (Eq.trans (b := sg (x3 m c (ix2 i k)) * val_main_v24 (F := Ideal) (x6 m c) (x7 m c) (ix2 i k)) rfl ?_)
  rw [v24_at]
  exact mul_comm _ _

theorem ga_result : (dats m 0 c).arrAt 8 cfg0.N = val_main_v33 (F := Ideal) (x0 m c) (x2 m c) (x4 m c) (x6 m c) (x7 m c) := by
  rw [ga_final, a0_eq, a1_eq, a2_eq, a4_eq]
  funext y
  obtain ⟨i, k, rfl⟩ : ∃ i k, y = ix2 i k := ⟨y 0, y 1, ValueIdx.eq_ix2 y⟩
  refine Eq.symm (Eq.trans (b := val_main_v24 (F := Ideal) (x6 m c) (x7 m c) (ix2 i k) * val_main_v0 (F := Ideal) (x0 m c) (x4 m c) (ix2 i k) * (sg (x2 m c (ix2 i k)) * (one - sg (x2 m c (ix2 i k))))) rfl ?_)
  rw [v24_at]
  exact (mul_assoc _ _ _).symm

theorem gb_result : (dats m 0 c).arrAt 9 cfg0.N = val_main_v34 (F := Ideal) (x1 m c) (x3 m c) (x5 m c) (x6 m c) (x7 m c) := by
  rw [gb_final, a0_eq, a1_eq, a3_eq, a5_eq]
  funext y
  obtain ⟨i, k, rfl⟩ : ∃ i k, y = ix2 i k := ⟨y 0, y 1, ValueIdx.eq_ix2 y⟩
  refine Eq.symm (Eq.trans (b := val_main_v24 (F := Ideal) (x6 m c) (x7 m c) (ix2 i k) * val_main_v1 (F := Ideal) (x1 m c) (x5 m c) (ix2 i k) * (sg (x3 m c (ix2 i k)) * (one - sg (x3 m c (ix2 i k))))) rfl ?_)
  rw [v24_at]
  exact (mul_assoc _ _ _).symm

end Cert.Mix.Merge

end
-- ==== Proof.Branch.lean ====
module

public import proofs.«01_k».proof.Proof.Mix
public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ReadBack

/-! The cotangents of the two branches: two products, a tile of 1024 rows at a time. -/

@[expose] public section

set_option maxRecDepth 16384

noncomputable section

namespace Cert.Mix.Branch

open Cert.Ffn Cert.Kernel11Ideal Cert.Kernel11Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

theorem pay1 (v : Vec Ideal S1024x1024 .bf16) (w : Vec Ideal S512x1024 .bf16) (r : Fin 1024) (k : Fin 512) :
    k0_pay1 (F := Ideal) v w (ix2 r k) = lin (fun j => v (ix2 r j)) w k := by
  unfold k0_pay1
  rw [shapeCast_self, shapeCast_self]
  exact product_at (φ₁ := .bf16) (φ₂ := .bf16) dot_S1024x1024_S512x1024_S1024x512_1_1_0_0_n_n none 1024 rfl rfl v w (ix2 r k) (fun j => ix2 r j) (fun j => ix2 k j)
    (fun k q h => funext fun a => Fin.ext (by match a with | ⟨0, _⟩ => rfl | ⟨1, _⟩ => exact h))
    (fun k q h => funext fun a => Fin.ext (by match a with | ⟨0, _⟩ => rfl | ⟨1, _⟩ => exact h))

theorem pay2 (v : Vec Ideal S1024x1024 .bf16) (w : Vec Ideal S512x1024 .bf16) (r : Fin 1024) (k : Fin 512) :
    k0_pay2 (F := Ideal) v w (ix2 r k) = lin (fun j => v (ix2 r j)) w k := by
  unfold k0_pay2
  rw [shapeCast_self, shapeCast_self]
  exact product_at (φ₁ := .bf16) (φ₂ := .bf16) dot_S1024x1024_S512x1024_S1024x512_1_1_0_0_n_n none 1024 rfl rfl v w (ix2 r k) (fun j => ix2 r j) (fun j => ix2 k j)
    (fun k q h => funext fun a => Fin.ext (by match a with | ⟨0, _⟩ => rfl | ⟨1, _⟩ => exact h))
    (fun k q h => funext fun a => Fin.ext (by match a with | ⟨0, _⟩ => rfl | ⟨1, _⟩ => exact h))

variable (m : (ℓ : Loc nD τ sig) → Buf (Elt Ideal) ℓ) (c : Dev nD)

abbrev a0 : S8192x1024.Idx → EReal := V m c main_v21
abbrev a1 : S8192x1024.Idx → EReal := V m c main_v22
abbrev a2 : S512x1024.Idx → EReal := V m c main_v23
abbrev a3 : S512x1024.Idx → EReal := V m c main_v24

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem tlt (t : Fin cfg0.N) : t.val < 8 := t.isLt

/-- The batch row that point `t` has at row `r` of its tile. -/
abbrev at_ (t : Fin cfg0.N) (r : Fin 1024) : Fin 8192 := ⟨t.val * 1024 + r.val, by have := tlt t; omega⟩

theorem rd0 (t : Fin cfg0.N) (r : Fin 1024) (k : Fin 1024) : iblk m c 0 t (ix2 r k) = a0 m c (ix2 (at_ t r) k) := by
  blk_ext [iblk, idx0 t]
theorem rows0 (t : Fin cfg0.N) (r : Fin 1024) : (fun j => iblk m c 0 t (ix2 r j)) = fun j => a0 m c (ix2 (at_ t r) j) := funext fun j => rd0 m c t r j
theorem rd1 (t : Fin cfg0.N) (r : Fin 1024) (k : Fin 1024) : iblk m c 1 t (ix2 r k) = a1 m c (ix2 (at_ t r) k) := by
  blk_ext [iblk, idx1 t]
theorem rows1 (t : Fin cfg0.N) (r : Fin 1024) : (fun j => iblk m c 1 t (ix2 r j)) = fun j => a1 m c (ix2 (at_ t r) j) := funext fun j => rd1 m c t r j
theorem rd2 (t : Fin cfg0.N) : (iblk m c 2 t : S512x1024.Idx → EReal) = a2 m c := by
  funext y
  blk_ext [iblk, idx2 t]
theorem rd3 (t : Fin cfg0.N) : (iblk m c 3 t : S512x1024.Idx → EReal) = a3 m c := by
  funext y
  blk_ext [iblk, idx3 t]

theorem ya_point (t : Fin cfg0.N) (r : Fin 1024) (k : Fin 512) : out0_4 (F := Ideal) (iblk m c 0 t) (iblk m c 1 t) (iblk m c 2 t) (iblk m c 3 t) (ix2 r k)
    = lin (fun j => a0 m c (ix2 (at_ t r) j)) (a2 m c) k := by
  frame_out
  rw [rd2]
  refine (pay1 _ _ _ _).trans ?_
  rw [rows0]

theorem ya_final : (dats m 0 c).arrAt 4 cfg0.N = fun y : S8192x512.Idx => lin (fun j => a0 m c (ix2 (y 0) j)) (a2 m c) (y 1) := by
  refine (dats m 0 c).arrAt_eq_of_covers 4 _ (by decide +kernel) fun t hf y => ?_
  blk_simp
  rw [after0_4]
  refine (congrArg _ (ValueIdx.eq_ix2 y)).trans ((ya_point m c t (y 0) (y 1)).trans ?_)
  have e0 : (win0_4.blk t).view.emb y 0 = at_ t (y 0) := by
    refine Fin.ext ?_
    blk_simp [idx4 t]
  have e1 : (win0_4.blk t).view.emb y 1 = y 1 := by
    refine Fin.ext ?_
    blk_simp [idx4 t]
  rw [e0, e1]

theorem yb_point (t : Fin cfg0.N) (r : Fin 1024) (k : Fin 512) : out0_5 (F := Ideal) (iblk m c 0 t) (iblk m c 1 t) (iblk m c 2 t) (iblk m c 3 t) (ix2 r k)
    = lin (fun j => a1 m c (ix2 (at_ t r) j)) (a3 m c) k := by
  frame_out
  rw [rd3]
  refine (pay2 _ _ _ _).trans ?_
  rw [rows1]

theorem yb_final : (dats m 0 c).arrAt 5 cfg0.N = fun y : S8192x512.Idx => lin (fun j => a1 m c (ix2 (y 0) j)) (a3 m c) (y 1) := by
  refine (dats m 0 c).arrAt_eq_of_covers 5 _ (by decide +kernel) fun t hf y => ?_
  blk_simp
  rw [after0_5]
  refine (congrArg _ (ValueIdx.eq_ix2 y)).trans ((yb_point m c t (y 0) (y 1)).trans ?_)
  have e0 : (win0_5.blk t).view.emb y 0 = at_ t (y 0) := by
    refine Fin.ext ?_
    blk_simp [idx5 t]
  have e1 : (win0_5.blk t).view.emb y 1 = y 1 := by
    refine Fin.ext ?_
    blk_simp [idx5 t]
  rw [e0, e1]

/-- The arguments as the launch finds them. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)

theorem a0_eq : a0 m c = Cert.Reference11Ideal.Read.val_main_v20 (F := Ideal) (x2 m c) (x6 m c) (x7 m c) := by
  show V m c main_v21 = _
  unfold V hostOps0
  after_results
  rfl

theorem a1_eq : a1 m c = Cert.Reference11Ideal.Read.val_main_v19 (F := Ideal) (x3 m c) (x6 m c) (x7 m c) := by
  show V m c main_v22 = _
  unfold V hostOps0
  after_results
  rfl

theorem a2_eq : a2 m c = x4 m c := by
  show V m c main_v23 = _
  unfold V hostOps0
  after_results
  rfl

theorem a3_eq : a3 m c = x5 m c := by
  show V m c main_v24 = _
  unfold V hostOps0
  after_results
  rfl

open Cert.Reference11Ideal.Read

theorem ya_result : (dats m 0 c).arrAt 4 cfg0.N = val_main_v22 (F := Ideal) (x2 m c) (x4 m c) (x6 m c) (x7 m c) := by
  rw [ya_final, a0_eq, a2_eq]
  funext y
  obtain ⟨i, k, rfl⟩ : ∃ i k, y = ix2 i k := ⟨y 0, y 1, ValueIdx.eq_ix2 y⟩
  refine Eq.symm ((val_main_v22_apply _ _ _ _ _).trans (Finset.sum_congr rfl fun j _ => ?_))
  rw [show lidx_main_v22 (ix2 i k) j = ix2 i j from ValueIdx.eq_ix2 _, show ridx_main_v22 (ix2 i k) j = ix2 k j from ValueIdx.eq_ix2 _]

theorem yb_result : (dats m 0 c).arrAt 5 cfg0.N = val_main_v23 (F := Ideal) (x3 m c) (x5 m c) (x6 m c) (x7 m c) := by
  rw [yb_final, a1_eq, a3_eq]
  funext y
  obtain ⟨i, k, rfl⟩ : ∃ i k, y = ix2 i k := ⟨y 0, y 1, ValueIdx.eq_ix2 y⟩
  refine Eq.symm ((val_main_v23_apply _ _ _ _ _).trans ((val_main_v21_apply _ _ _ _ _).trans (Finset.sum_congr rfl fun j _ => ?_)))
  rw [show lidx_main_v21 (ix2 i k) j = ix2 i j from ValueIdx.eq_ix2 _, show ridx_main_v21 (ix2 i k) j = ix2 k j from ValueIdx.eq_ix2 _]

end Cert.Mix.Branch

end
-- ==== Proof.MixGrad.lean ====
module

public import proofs.«01_k».proof.Proof.Sums
public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack

/-! The gradients of the three weights behind the branches: rows against incoming gradients, summed over eight tiles of rows. -/

@[expose] public section

set_option maxRecDepth 16384

noncomputable section

namespace Cert.Mix.MixGrad

open Cert.Ffn Cert.Kernel12Ideal Cert.Kernel12Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

theorem out_pay (a : Vec Ideal S1024x1024 .bf16) (b : Vec Ideal S1024x1024 .bf16) (acc : Vec Ideal S1024x1024 .f32) (i : Fin 1024) (j : Fin 1024) :
    k0_pay5 (F := Ideal) a b acc (ix2 i j) = acc (ix2 i j) + ∑ r : Fin 1024, a (ix2 r i) * b (ix2 r j) := by
  unfold k0_pay5
  rw [addf_apply, shapeCast_self, shapeCast_self, shapeCast_self]
  refine congrArg (acc (ix2 i j) + ·) ?_
  exact product_at _ _ 1024 rfl rfl a b (ix2 i j) (fun r => ix2 r i) (fun r => ix2 r j)
    (fun k q h => funext fun a => Fin.ext (by match a with | ⟨0, _⟩ => exact h | ⟨1, _⟩ => rfl))
    (fun k q h => funext fun a => Fin.ext (by match a with | ⟨0, _⟩ => exact h | ⟨1, _⟩ => rfl))

theorem wa_pay (a : Vec Ideal S1024x512 .bf16) (b : Vec Ideal S1024x1024 .bf16) (acc : Vec Ideal S512x1024 .f32) (i : Fin 512) (j : Fin 1024) :
    k0_pay6 (F := Ideal) a b acc (ix2 i j) = acc (ix2 i j) + ∑ r : Fin 1024, a (ix2 r i) * b (ix2 r j) := by
  unfold k0_pay6
  rw [addf_apply, shapeCast_self, shapeCast_self, shapeCast_self]
  refine congrArg (acc (ix2 i j) + ·) ?_
  exact product_at _ _ 1024 rfl rfl a b (ix2 i j) (fun r => ix2 r i) (fun r => ix2 r j)
    (fun k q h => funext fun a => Fin.ext (by match a with | ⟨0, _⟩ => exact h | ⟨1, _⟩ => rfl))
    (fun k q h => funext fun a => Fin.ext (by match a with | ⟨0, _⟩ => exact h | ⟨1, _⟩ => rfl))

theorem wb_pay (a : Vec Ideal S1024x512 .bf16) (b : Vec Ideal S1024x1024 .bf16) (acc : Vec Ideal S512x1024 .f32) (i : Fin 512) (j : Fin 1024) :
    k0_pay1 (F := Ideal) (k0_pay7 (F := Ideal) a b) (k0_pay8 (F := Ideal) acc) (ix2 i j) = acc (ix2 i j) + ∑ r : Fin 1024, a (ix2 r i) * b (ix2 r j) := by
  unfold k0_pay1 k0_pay7 k0_pay8
  rw [addf_apply, shapeCast_self, shapeCast_self, shapeCast_self]
  refine congrArg (acc (ix2 i j) + ·) ?_
  exact product_at _ _ 1024 rfl rfl a b (ix2 i j) (fun r => ix2 r i) (fun r => ix2 r j)
    (fun k q h => funext fun a => Fin.ext (by match a with | ⟨0, _⟩ => exact h | ⟨1, _⟩ => rfl))
    (fun k q h => funext fun a => Fin.ext (by match a with | ⟨0, _⟩ => exact h | ⟨1, _⟩ => rfl))

variable (m : (ℓ : Loc nD τ sig) → Buf (Elt Ideal) ℓ) (c : Dev nD)

abbrev a0 : S8192x1024.Idx → EReal := V m c main_v38
abbrev a1 : S8192x512.Idx → EReal := V m c main_v39
abbrev a2 : S8192x512.Idx → EReal := V m c main_v40
abbrev a3 : S8192x1024.Idx → EReal := V m c main_v41
abbrev a4 : S8192x1024.Idx → EReal := V m c main_v42
abbrev a5 : S8192x1024.Idx → EReal := V m c main_v43

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem tlt (t : Fin cfg0.N) : t.val < 8 := t.isLt
theorem N0 : cfg0.N = 8 := by decide +kernel

theorem rd0 (t : Fin cfg0.N) (r : Fin 1024) (k : Fin 1024) : iblk m c 0 t (ix2 r k) = row (a0 m c) (1024 * t.val + r.val) k := by
  have := tlt t
  refine Eq.trans ?_ (row_of (a0 m c) ⟨1024 * t.val + r.val, by omega⟩ k).symm
  blk_ext [iblk, idx0 t]
  show t.val * 1024 + r.val = _
  omega

theorem rd1 (t : Fin cfg0.N) (r : Fin 1024) (k : Fin 512) : iblk m c 1 t (ix2 r k) = row (a1 m c) (1024 * t.val + r.val) k := by
  have := tlt t
  refine Eq.trans ?_ (row_of (a1 m c) ⟨1024 * t.val + r.val, by omega⟩ k).symm
  blk_ext [iblk, idx1 t]
  show t.val * 1024 + r.val = _
  omega

theorem rd2 (t : Fin cfg0.N) (r : Fin 1024) (k : Fin 512) : iblk m c 2 t (ix2 r k) = row (a2 m c) (1024 * t.val + r.val) k := by
  have := tlt t
  refine Eq.trans ?_ (row_of (a2 m c) ⟨1024 * t.val + r.val, by omega⟩ k).symm
  blk_ext [iblk, idx2 t]
  show t.val * 1024 + r.val = _
  omega

theorem rd3 (t : Fin cfg0.N) (r : Fin 1024) (k : Fin 1024) : iblk m c 3 t (ix2 r k) = row (a3 m c) (1024 * t.val + r.val) k := by
  have := tlt t
  refine Eq.trans ?_ (row_of (a3 m c) ⟨1024 * t.val + r.val, by omega⟩ k).symm
  blk_ext [iblk, idx3 t]
  show t.val * 1024 + r.val = _
  omega

theorem rd4 (t : Fin cfg0.N) (r : Fin 1024) (k : Fin 1024) : iblk m c 4 t (ix2 r k) = row (a4 m c) (1024 * t.val + r.val) k := by
  have := tlt t
  refine Eq.trans ?_ (row_of (a4 m c) ⟨1024 * t.val + r.val, by omega⟩ k).symm
  blk_ext [iblk, idx4 t]
  show t.val * 1024 + r.val = _
  omega

theorem rd5 (t : Fin cfg0.N) (r : Fin 1024) (k : Fin 1024) : iblk m c 5 t (ix2 r k) = row (a5 m c) (1024 * t.val + r.val) k := by
  have := tlt t
  refine Eq.trans ?_ (row_of (a5 m c) ⟨1024 * t.val + r.val, by omega⟩ k).symm
  blk_ext [iblk, idx5 t]
  show t.val * 1024 + r.val = _
  omega

theorem out_term (t : Fin cfg0.N) (acc : Vec Ideal S1024x1024 .f32) (y : S1024x1024.Idx) :
    k0_pay5 (F := Ideal) (iblk m c 0 t) (iblk m c 3 t) acc y = acc y + tterm (a0 m c) (a3 m c) t.val y := by
  obtain ⟨i, j, rfl⟩ : ∃ i j, y = ix2 i j := ⟨y 0, y 1, ValueIdx.eq_ix2 y⟩
  refine (out_pay _ _ _ i j).trans (congrArg (acc (ix2 i j) + ·) (Finset.sum_congr rfl fun r _ => ?_))
  exact congrArg₂ (fun p q : EReal => p * q) (rd0 m c t r i) (rd3 m c t r j)

/-- The array that the kernel leaves in output 6. -/
theorem out_final (i : Fin 1024) (j : Fin 1024) :
    (dats m 0 c).arrAt 6 cfg0.N (ix2 i j) = ∑ n : Fin 8192, a0 m c (ix2 n i) * a3 m c (ix2 n j) := by
  have hi := i.isLt
  have hj := j.isLt
  have hr : Value.run6Of (ix2 i j) = 0 := by
    show 1 * (i.val / 1024 - 0) + 1 * (j.val / 1024 - 0) = 0
    omega
  rw [Value.final6]
  unfold Value.G6
  rw [dif_pos (by rw [N0, hr]; decide)]
  refine eight (a0 m c) (a3 m c) _ _ (fun n h y => ?_) (fun n h acc y => out_term m c ⟨n, h⟩ acc y) _ hr _ _ i j ?_
  · refine (out_term m c ⟨n, h⟩ _ y).trans ?_
    rw [show (k0_pay2 (F := Ideal)) y = 0 from Ideal.ofBits_zero_f32]
  · refine funext fun a => Fin.ext ?_
    match a with
    | ⟨0, _⟩ => exact Nat.mod_eq_of_lt hi
    | ⟨1, _⟩ => exact Nat.mod_eq_of_lt hj

theorem wa_term (t : Fin cfg0.N) (acc : Vec Ideal S512x1024 .f32) (y : S512x1024.Idx) :
    k0_pay6 (F := Ideal) (iblk m c 1 t) (iblk m c 4 t) acc y = acc y + tterm (a1 m c) (a4 m c) t.val y := by
  obtain ⟨i, j, rfl⟩ : ∃ i j, y = ix2 i j := ⟨y 0, y 1, ValueIdx.eq_ix2 y⟩
  refine (wa_pay _ _ _ i j).trans (congrArg (acc (ix2 i j) + ·) (Finset.sum_congr rfl fun r _ => ?_))
  exact congrArg₂ (fun p q : EReal => p * q) (rd1 m c t r i) (rd4 m c t r j)

/-- The array that the kernel leaves in output 7. -/
theorem wa_final (i : Fin 512) (j : Fin 1024) :
    (dats m 0 c).arrAt 7 cfg0.N (ix2 i j) = ∑ n : Fin 8192, a1 m c (ix2 n i) * a4 m c (ix2 n j) := by
  have hi := i.isLt
  have hj := j.isLt
  have hr : Value.run7Of (ix2 i j) = 0 := by
    show 1 * (i.val / 512 - 0) + 1 * (j.val / 1024 - 0) = 0
    omega
  rw [Value.final7]
  unfold Value.G7
  rw [dif_pos (by rw [N0, hr]; decide)]
  refine eight (a1 m c) (a4 m c) _ _ (fun n h y => ?_) (fun n h acc y => wa_term m c ⟨n, h⟩ acc y) _ hr _ _ i j ?_
  · refine (wa_term m c ⟨n, h⟩ _ y).trans ?_
    rw [show (k0_pay3 (F := Ideal)) y = 0 from Ideal.ofBits_zero_f32]
  · refine funext fun a => Fin.ext ?_
    match a with
    | ⟨0, _⟩ => exact Nat.mod_eq_of_lt hi
    | ⟨1, _⟩ => exact Nat.mod_eq_of_lt hj

theorem wb_term (t : Fin cfg0.N) (acc : Vec Ideal S512x1024 .f32) (y : S512x1024.Idx) :
    k0_pay1 (F := Ideal) (k0_pay7 (F := Ideal) (iblk m c 2 t) (iblk m c 5 t)) (k0_pay8 (F := Ideal) acc) y = acc y + tterm (a2 m c) (a5 m c) t.val y := by
  obtain ⟨i, j, rfl⟩ : ∃ i j, y = ix2 i j := ⟨y 0, y 1, ValueIdx.eq_ix2 y⟩
  refine (wb_pay _ _ _ i j).trans (congrArg (acc (ix2 i j) + ·) (Finset.sum_congr rfl fun r _ => ?_))
  exact congrArg₂ (fun p q : EReal => p * q) (rd2 m c t r i) (rd5 m c t r j)

/-- The array that the kernel leaves in output 8. -/
theorem wb_final (i : Fin 512) (j : Fin 1024) :
    (dats m 0 c).arrAt 8 cfg0.N (ix2 i j) = ∑ n : Fin 8192, a2 m c (ix2 n i) * a5 m c (ix2 n j) := by
  have hi := i.isLt
  have hj := j.isLt
  have hr : Value.run8Of (ix2 i j) = 0 := by
    show 1 * (i.val / 512 - 0) + 1 * (j.val / 1024 - 0) = 0
    omega
  rw [Value.final8]
  unfold Value.G8
  rw [dif_pos (by rw [N0, hr]; decide)]
  refine eight (a2 m c) (a5 m c) _ _ (fun n h y => ?_) (fun n h acc y => wb_term m c ⟨n, h⟩ acc y) _ hr _ _ i j ?_
  · refine (wb_term m c ⟨n, h⟩ _ y).trans ?_
    rw [show (k0_pay4 (F := Ideal)) y = 0 from Ideal.ofBits_zero_f32]
  · refine funext fun a => Fin.ext ?_
    match a with
    | ⟨0, _⟩ => exact Nat.mod_eq_of_lt hi
    | ⟨1, _⟩ => exact Nat.mod_eq_of_lt hj

/-- The arguments as the launch finds them. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)

theorem a0_eq : a0 m c = Cert.Reference12Ideal.Read.val_main_v16 (F := Ideal) (x0 m c) (x1 m c) (x2 m c) (x3 m c) (x4 m c) (x5 m c) := by
  show V m c main_v38 = _
  unfold V hostOps0
  after_results
  rfl

theorem a1_eq : a1 m c = x0 m c := by
  show V m c main_v39 = _
  unfold V hostOps0
  after_results
  rfl

theorem a2_eq : a2 m c = x1 m c := by
  show V m c main_v40 = _
  unfold V hostOps0
  after_results
  rfl

theorem a3_eq : a3 m c = x7 m c := by
  show V m c main_v41 = _
  unfold V hostOps0
  after_results
  rfl

theorem a4_eq : a4 m c = Cert.Reference12Ideal.Read.val_main_v22 (F := Ideal) (x2 m c) (x6 m c) (x7 m c) := by
  show V m c main_v42 = _
  unfold V hostOps0
  after_results
  rfl

theorem a5_eq : a5 m c = Cert.Reference12Ideal.Read.val_main_v21 (F := Ideal) (x3 m c) (x6 m c) (x7 m c) := by
  show V m c main_v43 = _
  unfold V hostOps0
  after_results
  rfl

open Cert.Reference12Ideal.Read

theorem out_result : (dats m 0 c).arrAt 6 cfg0.N = val_main_v19 (F := Ideal) (x0 m c) (x1 m c) (x2 m c) (x3 m c) (x4 m c) (x5 m c) (x7 m c) := by
  funext y
  obtain ⟨i, j, rfl⟩ : ∃ i j, y = ix2 i j := ⟨y 0, y 1, ValueIdx.eq_ix2 y⟩
  refine (out_final m c i j).trans (Eq.symm ?_)
  rw [a0_eq, a3_eq]
  refine (val_main_v19_apply _ _ _ _ _ _ _ _).trans ((val_main_v18_apply _ _ _ _ _ _ _ _).trans (Finset.sum_congr rfl fun n _ => (mul_comm _ _).trans ?_))
  rw [show ridx_main_v18 (idx_main_v19 (ix2 i j)) n = ix2 n i from ValueIdx.eq_ix2 _,
    show lidx_main_v18 (idx_main_v19 (ix2 i j)) n = ix2 n j from ValueIdx.eq_ix2 _]

theorem wa_result : (dats m 0 c).arrAt 7 cfg0.N = val_main_v26 (F := Ideal) (x0 m c) (x2 m c) (x6 m c) (x7 m c) := by
  funext y
  obtain ⟨i, j, rfl⟩ : ∃ i j, y = ix2 i j := ⟨y 0, y 1, ValueIdx.eq_ix2 y⟩
  refine (wa_final m c i j).trans (Eq.symm ?_)
  rw [a1_eq, a4_eq]
  refine (val_main_v26_apply _ _ _ _ _).trans ((val_main_v25_apply _ _ _ _ _).trans (Finset.sum_congr rfl fun n _ => (mul_comm _ _).trans ?_))
  rw [show ridx_main_v25 (idx_main_v26 (ix2 i j)) n = ix2 n i from ValueIdx.eq_ix2 _,
    show lidx_main_v25 (idx_main_v26 (ix2 i j)) n = ix2 n j from ValueIdx.eq_ix2 _]

theorem wb_result : (dats m 0 c).arrAt 8 cfg0.N = val_main_v24 (F := Ideal) (x1 m c) (x3 m c) (x6 m c) (x7 m c) := by
  funext y
  obtain ⟨i, j, rfl⟩ : ∃ i j, y = ix2 i j := ⟨y 0, y 1, ValueIdx.eq_ix2 y⟩
  refine (wb_final m c i j).trans (Eq.symm ?_)
  rw [a2_eq, a5_eq]
  refine (val_main_v24_apply _ _ _ _ _).trans ((val_main_v23_apply _ _ _ _ _).trans (Finset.sum_congr rfl fun n _ => (mul_comm _ _).trans ?_))
  rw [show ridx_main_v23 (idx_main_v24 (ix2 i j)) n = ix2 n i from ValueIdx.eq_ix2 _,
    show lidx_main_v23 (idx_main_v24 (ix2 i j)) n = ix2 n j from ValueIdx.eq_ix2 _]

end Cert.Mix.MixGrad

end
-- ==== Proof.PleGrad.lean ====
module

public import proofs.«01_k».proof.Proof.Sums
public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ReadBack

/-! The gradients of the two weights of the gated embedding: rows against incoming gradients, summed over eight tiles of rows. -/

@[expose] public section

set_option maxRecDepth 16384

noncomputable section

namespace Cert.Mix.PleGrad

open Cert.Ffn Cert.Kernel13Ideal Cert.Kernel13Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

theorem pp_pay (a : Vec Ideal S1024x256 .f32) (b : Vec Ideal S1024x1024 .bf16) (acc : Vec Ideal S256x1024 .f32) (i : Fin 256) (j : Fin 1024) :
    k0_pay3 (F := Ideal) a b acc (ix2 i j) = acc (ix2 i j) + ∑ r : Fin 1024, a (ix2 r i) * b (ix2 r j) := by
  unfold k0_pay3
  rw [addf_apply, shapeCast_self, shapeCast_self]
  refine congrArg (acc (ix2 i j) + ·) ?_
  exact product_at (φ₁ := .bf16) (φ₂ := .bf16) _ none 1024 rfl rfl a b (ix2 i j) (fun r => ix2 r i) (fun r => ix2 r j)
    (fun k q h => funext fun a => Fin.ext (by match a with | ⟨0, _⟩ => exact h | ⟨1, _⟩ => rfl))
    (fun k q h => funext fun a => Fin.ext (by match a with | ⟨0, _⟩ => exact h | ⟨1, _⟩ => rfl))

theorem pg_pay (a : Vec Ideal S1024x1024 .bf16) (b : Vec Ideal S1024x1024 .bf16) (acc : Vec Ideal S1024x1024 .f32) (i : Fin 1024) (j : Fin 1024) :
    k0_pay4 (F := Ideal) a b acc (ix2 i j) = acc (ix2 i j) + ∑ r : Fin 1024, a (ix2 r i) * b (ix2 r j) := by
  unfold k0_pay4
  rw [addf_apply, shapeCast_self, shapeCast_self, shapeCast_self]
  refine congrArg (acc (ix2 i j) + ·) ?_
  exact product_at _ _ 1024 rfl rfl a b (ix2 i j) (fun r => ix2 r i) (fun r => ix2 r j)
    (fun k q h => funext fun a => Fin.ext (by match a with | ⟨0, _⟩ => exact h | ⟨1, _⟩ => rfl))
    (fun k q h => funext fun a => Fin.ext (by match a with | ⟨0, _⟩ => exact h | ⟨1, _⟩ => rfl))

variable (m : (ℓ : Loc nD τ sig) → Buf (Elt Ideal) ℓ) (c : Dev nD)

abbrev a0 : S8192x256.Idx → EReal := V m c main_arg1
abbrev a1 : S8192x1024.Idx → EReal := V m c main_v29
abbrev a2 : S8192x1024.Idx → EReal := V m c main_v30
abbrev a3 : S8192x1024.Idx → EReal := V m c main_v31

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem tlt (t : Fin cfg0.N) : t.val < 8 := t.isLt
theorem N0 : cfg0.N = 8 := by decide +kernel

theorem rd0 (t : Fin cfg0.N) (r : Fin 1024) (k : Fin 256) : iblk m c 0 t (ix2 r k) = row (a0 m c) (1024 * t.val + r.val) k := by
  have := tlt t
  refine Eq.trans ?_ (row_of (a0 m c) ⟨1024 * t.val + r.val, by omega⟩ k).symm
  blk_ext [iblk, idx0 t]
  show t.val * 1024 + r.val = _
  omega

theorem rd1 (t : Fin cfg0.N) (r : Fin 1024) (k : Fin 1024) : iblk m c 1 t (ix2 r k) = row (a1 m c) (1024 * t.val + r.val) k := by
  have := tlt t
  refine Eq.trans ?_ (row_of (a1 m c) ⟨1024 * t.val + r.val, by omega⟩ k).symm
  blk_ext [iblk, idx1 t]
  show t.val * 1024 + r.val = _
  omega

theorem rd2 (t : Fin cfg0.N) (r : Fin 1024) (k : Fin 1024) : iblk m c 2 t (ix2 r k) = row (a2 m c) (1024 * t.val + r.val) k := by
  have := tlt t
  refine Eq.trans ?_ (row_of (a2 m c) ⟨1024 * t.val + r.val, by omega⟩ k).symm
  blk_ext [iblk, idx2 t]
  show t.val * 1024 + r.val = _
  omega

theorem rd3 (t : Fin cfg0.N) (r : Fin 1024) (k : Fin 1024) : iblk m c 3 t (ix2 r k) = row (a3 m c) (1024 * t.val + r.val) k := by
  have := tlt t
  refine Eq.trans ?_ (row_of (a3 m c) ⟨1024 * t.val + r.val, by omega⟩ k).symm
  blk_ext [iblk, idx3 t]
  show t.val * 1024 + r.val = _
  omega

theorem pp_term (t : Fin cfg0.N) (acc : Vec Ideal S256x1024 .f32) (y : S256x1024.Idx) :
    k0_pay3 (F := Ideal) (iblk m c 0 t) (iblk m c 2 t) acc y = acc y + tterm (a0 m c) (a2 m c) t.val y := by
  obtain ⟨i, j, rfl⟩ : ∃ i j, y = ix2 i j := ⟨y 0, y 1, ValueIdx.eq_ix2 y⟩
  refine (pp_pay _ _ _ i j).trans (congrArg (acc (ix2 i j) + ·) (Finset.sum_congr rfl fun r _ => ?_))
  exact congrArg₂ (fun p q : EReal => p * q) (rd0 m c t r i) (rd2 m c t r j)

/-- The array that the kernel leaves in output 4. -/
theorem pp_final (i : Fin 256) (j : Fin 1024) :
    (dats m 0 c).arrAt 4 cfg0.N (ix2 i j) = ∑ n : Fin 8192, a0 m c (ix2 n i) * a2 m c (ix2 n j) := by
  have hi := i.isLt
  have hj := j.isLt
  have hr : Value.run4Of (ix2 i j) = 0 := by
    show 1 * (i.val / 256 - 0) + 1 * (j.val / 1024 - 0) = 0
    omega
  rw [Value.final4]
  unfold Value.G4
  rw [dif_pos (by rw [N0, hr]; decide)]
  refine eight (a0 m c) (a2 m c) _ _ (fun n h y => ?_) (fun n h acc y => pp_term m c ⟨n, h⟩ acc y) _ hr _ _ i j ?_
  · refine (pp_term m c ⟨n, h⟩ _ y).trans ?_
    rw [show (k0_pay1 (F := Ideal)) y = 0 from Ideal.ofBits_zero_f32]
  · refine funext fun a => Fin.ext ?_
    match a with
    | ⟨0, _⟩ => exact Nat.mod_eq_of_lt hi
    | ⟨1, _⟩ => exact Nat.mod_eq_of_lt hj

theorem pg_term (t : Fin cfg0.N) (acc : Vec Ideal S1024x1024 .f32) (y : S1024x1024.Idx) :
    k0_pay4 (F := Ideal) (iblk m c 1 t) (iblk m c 3 t) acc y = acc y + tterm (a1 m c) (a3 m c) t.val y := by
  obtain ⟨i, j, rfl⟩ : ∃ i j, y = ix2 i j := ⟨y 0, y 1, ValueIdx.eq_ix2 y⟩
  refine (pg_pay _ _ _ i j).trans (congrArg (acc (ix2 i j) + ·) (Finset.sum_congr rfl fun r _ => ?_))
  exact congrArg₂ (fun p q : EReal => p * q) (rd1 m c t r i) (rd3 m c t r j)

/-- The array that the kernel leaves in output 5. -/
theorem pg_final (i : Fin 1024) (j : Fin 1024) :
    (dats m 0 c).arrAt 5 cfg0.N (ix2 i j) = ∑ n : Fin 8192, a1 m c (ix2 n i) * a3 m c (ix2 n j) := by
  have hi := i.isLt
  have hj := j.isLt
  have hr : Value.run5Of (ix2 i j) = 0 := by
    show 1 * (i.val / 1024 - 0) + 1 * (j.val / 1024 - 0) = 0
    omega
  rw [Value.final5]
  unfold Value.G5
  rw [dif_pos (by rw [N0, hr]; decide)]
  refine eight (a1 m c) (a3 m c) _ _ (fun n h y => ?_) (fun n h acc y => pg_term m c ⟨n, h⟩ acc y) _ hr _ _ i j ?_
  · refine (pg_term m c ⟨n, h⟩ _ y).trans ?_
    rw [show (k0_pay2 (F := Ideal)) y = 0 from Ideal.ofBits_zero_f32]
  · refine funext fun a => Fin.ext ?_
    match a with
    | ⟨0, _⟩ => exact Nat.mod_eq_of_lt hi
    | ⟨1, _⟩ => exact Nat.mod_eq_of_lt hj

/-- The arguments as the launch finds them. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)

theorem a0_eq : a0 m c = x1 m c := V_main_arg1 m c

theorem a1_eq : a1 m c = Cert.Reference13Ideal.Read.val_main_v13 (F := Ideal) (x0 m c) (x2 m c) := by
  show V m c main_v29 = _
  unfold V hostOps0
  after_results
  rfl

theorem a2_eq : a2 m c = Cert.Reference13Ideal.Read.val_main_v26 (F := Ideal) (x0 m c) (x2 m c) (x3 m c) (x5 m c) := by
  show V m c main_v30 = _
  unfold V hostOps0
  after_results
  rfl

theorem a3_eq : a3 m c = Cert.Reference13Ideal.Read.val_main_v30 (F := Ideal) (x0 m c) (x1 m c) (x2 m c) (x3 m c) (x4 m c) (x5 m c) := by
  show V m c main_v31 = _
  unfold V hostOps0
  after_results
  rfl

open Cert.Reference13Ideal.Read

theorem pp_result : (dats m 0 c).arrAt 4 cfg0.N = val_main_v29 (F := Ideal) (x0 m c) (x1 m c) (x2 m c) (x3 m c) (x5 m c) := by
  funext y
  obtain ⟨i, j, rfl⟩ : ∃ i j, y = ix2 i j := ⟨y 0, y 1, ValueIdx.eq_ix2 y⟩
  refine (pp_final m c i j).trans (Eq.symm ?_)
  rw [a0_eq, a2_eq]
  refine (val_main_v29_apply _ _ _ _ _ _).trans ((val_main_v28_apply _ _ _ _ _ _).trans (Finset.sum_congr rfl fun n _ => (mul_comm _ _).trans ?_))
  rw [show ridx_main_v28 (idx_main_v29 (ix2 i j)) n = ix2 n i from ValueIdx.eq_ix2 _,
    show lidx_main_v28 (idx_main_v29 (ix2 i j)) n = ix2 n j from ValueIdx.eq_ix2 _]

theorem pg_result : (dats m 0 c).arrAt 5 cfg0.N = val_main_v32 (F := Ideal) (x0 m c) (x1 m c) (x2 m c) (x3 m c) (x4 m c) (x5 m c) := by
  funext y
  obtain ⟨i, j, rfl⟩ : ∃ i j, y = ix2 i j := ⟨y 0, y 1, ValueIdx.eq_ix2 y⟩
  refine (pg_final m c i j).trans (Eq.symm ?_)
  rw [a1_eq, a3_eq]
  refine (val_main_v32_apply _ _ _ _ _ _ _).trans ((val_main_v31_apply _ _ _ _ _ _ _).trans (Finset.sum_congr rfl fun n _ => (mul_comm _ _).trans ?_))
  rw [show ridx_main_v31 (idx_main_v32 (ix2 i j)) n = ix2 n i from ValueIdx.eq_ix2 _,
    show lidx_main_v31 (idx_main_v32 (ix2 i j)) n = ix2 n j from ValueIdx.eq_ix2 _]

end Cert.Mix.PleGrad

end
-- ==== Proof.LossRow.lean ====
module

public import proofs.«01_k».proof.Proof.BackRow

/-! One row of the batch through the per-layer embedding, the last norm and the squared error, and back: the row the layer
leaves, its error, and the cotangents of the layer's two products, of the layer's row and of its normalised row. -/

@[expose] public section

set_option maxRecDepth 16384

noncomputable section

namespace Cert.Mix.Loss

open Cert.Ffn Idealize.SL.Sem Idealize.ShloMosaic
open Idealize.ShloMosaic.ValueIdx

/-- The derivative's factor: one over the width. -/
def small : EReal := Ideal.ofBits .f32 0x3A800000#32

theorem small_eq : small = ((1 / 1024 : ℝ) : EReal) := by
  show Ideal.ofBits .f32 0x3A800000#32 = _
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

/-- Half of one over the width, times two. -/
theorem small_two (e : EReal) : Ideal.div (half * one) width * (Ideal.ofBits .f32 0x40000000#32 * e) = e * small := by
  have h : Ideal.div (half * one) width * Ideal.ofBits .f32 0x40000000#32 = small := by
    rw [half_eq, one_eq, mul_one, div_width, two_eq, small_eq, ← EReal.coe_mul]
    exact congrArg _ (by norm_num)
  rw [← mul_assoc, h, mul_comm]

theorem small_fin : IsFin small := ⟨_, small_eq⟩

/-- The row `x` after the layer: `gt` the gate's product, `pp` the embedding's. -/
def str (x gt pp : Fin 1024 → EReal) (k : Fin 1024) : EReal := x k + sg (gt k) * pp k

/-- The error of the row `y`, normalised and scaled by `f`, against `t`. -/
def err (y f t : Fin 1024 → EReal) (d : Fin 1024) : EReal := y d * inv y * f d - t d

/-- The cotangent of the scaled row. -/
def ctE (y f t : Fin 1024 → EReal) (d : Fin 1024) : EReal := err y f t d * small

/-- The cotangent of the layer's row. -/
def dStr (y f t : Fin 1024 → EReal) : Fin 1024 → EReal := dRow y (ctE y f t) f fun _ => 0

/-- The cotangent of the embedding's product. -/
def dPP (x gt pp f t : Fin 1024 → EReal) (k : Fin 1024) : EReal := dStr (str x gt pp) f t k * sg (gt k)

/-- The cotangent of the gate's. -/
def dGP (x gt pp f t : Fin 1024 → EReal) (k : Fin 1024) : EReal := dStr (str x gt pp) f t k * pp k * sg (gt k) * (one - sg (gt k))

/-- The cotangent of the normalised row, through the gate's weight. -/
def dNrm (x gt pp f t : Fin 1024 → EReal) (W : (⟨2, ![1024, 1024]⟩ : Shape).Idx → EReal) : Fin 1024 → EReal := lin (dGP x gt pp f t) W

/-- The cotangent of the row before the layer, `g` the layer's norm's scale. -/
def dIn (x gt pp f t g : Fin 1024 → EReal) (W : (⟨2, ![1024, 1024]⟩ : Shape).Idx → EReal) : Fin 1024 → EReal :=
  dRow x (dNrm x gt pp f t W) g (dStr (str x gt pp) f t)

variable {x gt pp f t g : Fin 1024 → EReal} {W : (⟨2, ![1024, 1024]⟩ : Shape).Idx → EReal}

theorem str_fin (hx : ∀ d, IsFin (x d)) (hg : ∀ d, IsFin (gt d)) (hp : ∀ d, IsFin (pp d)) (d : Fin 1024) : IsFin (str x gt pp d) :=
  (hx d).add ((sg_fin (hg d)).mul (hp d))

theorem ctE_fin (hx : ∀ d, IsFin (x d)) (hf : ∀ d, IsFin (f d)) (ht : ∀ d, IsFin (t d)) (d : Fin 1024) : IsFin (ctE x f t d) :=
  ((((hx d).mul (inv_fin hx)).mul (hf d)).sub (ht d)).mul small_fin

theorem div_fin {a : EReal} (ha : IsFin a) : IsFin (Ideal.div a width) := by
  obtain ⟨r, rfl⟩ := ha
  exact ⟨_, div_width r⟩

theorem dRow_fin {x dh g ct : Fin 1024 → EReal} (hx : ∀ d, IsFin (x d)) (hd : ∀ d, IsFin (dh d)) (hg : ∀ d, IsFin (g d)) (hc : ∀ d, IsFin (ct d)) (d : Fin 1024) :
    IsFin (dRow x dh g ct d) :=
  ((inv_fin hx).mul (((hd d).mul (hg d)).sub (((hx d).mul (inv_fin hx)).mul
    (div_fin (IsFin.sum Finset.univ (fun j => dh j * g j * (x j * inv x)) fun j _ => ((hd j).mul (hg j)).mul ((hx j).mul (inv_fin hx))))))).add (hc d)

theorem dStr_fin (hx : ∀ d, IsFin (x d)) (hf : ∀ d, IsFin (f d)) (ht : ∀ d, IsFin (t d)) (d : Fin 1024) : IsFin (dStr x f t d) :=
  dRow_fin hx (ctE_fin hx hf ht) hf (fun _ => IsFin.zero) d

theorem dGP_fin (hx : ∀ d, IsFin (x d)) (hg : ∀ d, IsFin (gt d)) (hp : ∀ d, IsFin (pp d)) (hf : ∀ d, IsFin (f d)) (ht : ∀ d, IsFin (t d)) (d : Fin 1024) :
    IsFin (dGP x gt pp f t d) :=
  (((dStr_fin (str_fin hx hg hp) hf ht d).mul (hp d)).mul (sg_fin (hg d))).mul (one_fin.sub (sg_fin (hg d)))

theorem dNrm_fin (hx : ∀ d, IsFin (x d)) (hg : ∀ d, IsFin (gt d)) (hp : ∀ d, IsFin (pp d)) (hf : ∀ d, IsFin (f d)) (ht : ∀ d, IsFin (t d)) (hW : ∀ i, IsFin (W i))
    (d : Fin 1024) : IsFin (dNrm x gt pp f t W d) :=
  IsFin.sum Finset.univ (fun k => dGP x gt pp f t k * W (ix2 d k)) fun k _ => (dGP_fin hx hg hp hf ht k).mul (hW _)

/-- The layer's row's cotangent as the reference writes it. -/
theorem dStr_eq (hx : ∀ d, IsFin (x d)) (hf : ∀ d, IsFin (f d)) (ht : ∀ d, IsFin (t d)) (d : Fin 1024) :
    ctE x f t d * f d * inv x + x d * tw x (ctE x f t) f + tw x (ctE x f t) f * x d = dStr x f t d := by
  refine Eq.trans ?_ (dRow_eq (ct := fun _ => 0) hx (ctE_fin hx hf ht) hf (fun _ => IsFin.zero) d)
  rw [zero_add]

/-- The row before the layer's. -/
theorem dIn_eq (hx : ∀ d, IsFin (x d)) (hg : ∀ d, IsFin (gt d)) (hp : ∀ d, IsFin (pp d)) (hf : ∀ d, IsFin (f d)) (ht : ∀ d, IsFin (t d)) (hn : ∀ d, IsFin (g d))
    (hW : ∀ i, IsFin (W i)) (d : Fin 1024) :
    dStr (str x gt pp) f t d + dNrm x gt pp f t W d * g d * inv x + x d * tw x (dNrm x gt pp f t W) g + tw x (dNrm x gt pp f t W) g * x d = dIn x gt pp f t g W d :=
  dRow_eq hx (dNrm_fin hx hg hp hf ht hW) hn (dStr_fin (str_fin hx hg hp) hf ht) d

end Cert.Mix.Loss

end
-- ==== Proof.LossRef.lean ====
module

public import proofs.«01_k».proof.Proof.LossRow
public import proofs.«01_k».proof.Proof.Mix
public import proofs.«01_k».proof.Proof.Gen.Reference14Ideal.Read
public import proofs.«01_k».proof.Proof.Gen.Pre_finite14
public import Idealize.ShloMosaic.Lib.ReduceAll
public import Idealize.ShloMosaic.Lib.Pipeline.ValueKit

/-! The per-layer embedding, the last norm and the loss, forward and back, as the reference writes them: for finite arguments, row
by row. -/

@[expose] public section

set_option maxRecDepth 16384

noncomputable section

namespace Cert.Mix.LossRef

open Cert.Ffn Cert.Mix.Loss Cert.Reference14Ideal Cert.Reference14Ideal.Read Idealize.SL.Sem
open Idealize.ShloMosaic hiding ix0 ix1 ix2 ix3 ix4 ix5
open Idealize.ShloMosaic.TcCoe Idealize.ShloMosaic.ValueIdx Idealize.ShloMosaic.StableHlo

variable (x0 : S8192x1024.Idx → EReal) (x1 : S8192x256.Idx → EReal) (x2 : S1x1024.Idx → EReal) (x3 : S1024x1024.Idx → EReal) (x4 : S256x1024.Idx → EReal)
variable (x5 : S1024.Idx → EReal) (x6 : S8192x1024.Idx → EReal) (n : Fin 8192)

/-! ## The rows -/

abbrev xR : Fin 1024 → EReal := fun j => x0 (ix2 n j)
abbrev pR : Fin 256 → EReal := fun j => x1 (ix2 n j)
abbrev nR : Fin 1024 → EReal := fun j => x2 (ix2 0 j)
abbrev fR : Fin 1024 → EReal := fun j => x5 (ix1 j)
abbrev tR : Fin 1024 → EReal := fun j => x6 (ix2 n j)
/-- The normalised and scaled row. -/
abbrev hR : Fin 1024 → EReal := fun j => val_main_v13 (F := Ideal) x0 x2 (ix2 n j)
/-- The layer's two products. -/
abbrev gR : Fin 1024 → EReal := lin' (hR x0 x2 n) x3
abbrev eR : Fin 1024 → EReal := lin' (pR x1 n) x4
/-- The row the layer leaves. -/
abbrev yR : Fin 1024 → EReal := str (xR x0 n) (gR x0 x2 x3 n) (eR x1 x4 n)

theorem v7_at (z : Fin 1) : val_main_v7 (F := Ideal) x0 (ix2 n z) = ms (xR x0 n) := by
  rw [val_main_v7_apply, val_main_v5_apply, val_main_v3_apply, val_main_v2_apply, val_main_v4_apply, val_main_v6_apply]
  refine congrArg (fun s => Ideal.div s width + tiny) ?_
  rw [val_main_cst_apply]
  refine (congrArg (· + _) Ideal.ofBits_zero_f32).trans ((zero_add _).trans (Finset.sum_congr rfl fun k _ => ?_))
  rw [val_main_v1_apply, show idx_main_v2 (idx_main_v3 (ix2 n z)) k = ix2 n k from ValueIdx.eq_ix2 _]
  rfl

theorem v8_at (z : Fin 1) : val_main_v8 (F := Ideal) x0 (ix2 n z) = inv (xR x0 n) := by
  rw [val_main_v8_apply, v7_at]
  rfl

theorem v12_at (d : Fin 1024) : val_main_v12 (F := Ideal) x2 (ix2 n d) = nR x2 d := by
  rw [val_main_v12_apply, val_main_v11_apply, val_main_v0_apply]
  exact congrArg x2 (funext fun a => Fin.ext (by match a with | ⟨0, _⟩ => rfl | ⟨1, _⟩ => exact Nat.mod_eq_of_lt d.isLt))

theorem v10_at (d : Fin 1024) : val_main_v10 (F := Ideal) x0 (ix2 n d) = xR x0 n d * inv (xR x0 n) := by
  rw [val_main_v10_apply, val_main_v9_apply, show idx_main_v9 (ix2 n d) = ix2 n 0 from ValueIdx.eq_ix2 _, v8_at]
  rfl

theorem v13_at (d : Fin 1024) : hR x0 x2 n d = xR x0 n d * inv (xR x0 n) * nR x2 d := by
  refine (val_main_v13_apply _ _ _).trans ?_
  rw [v10_at, v12_at]
  rfl

theorem v14_at (d : Fin 1024) : val_main_v14 (F := Ideal) x0 x2 x3 (ix2 n d) = gR x0 x2 x3 n d := by
  refine (val_main_v14_apply _ _ _ _).trans (Finset.sum_congr rfl fun k _ => ?_)
  rw [show lidx_main_v14 (ix2 n d) k = ix2 n k from ValueIdx.eq_ix2 _, show ridx_main_v14 (ix2 n d) k = ix2 k d from ValueIdx.eq_ix2 _]

theorem v15_at (d : Fin 1024) : val_main_v15 (F := Ideal) x1 x4 (ix2 n d) = eR x1 x4 n d := by
  refine (val_main_v15_apply _ _ _).trans (Finset.sum_congr rfl fun k _ => ?_)
  rw [show lidx_main_v15 (ix2 n d) k = ix2 n k from ValueIdx.eq_ix2 _, show ridx_main_v15 (ix2 n d) k = ix2 k d from ValueIdx.eq_ix2 _]

theorem v21_at (d : Fin 1024) : val_main_v21 (F := Ideal) x0 x2 x3 (ix2 n d) = sg (gR x0 x2 x3 n d) := by
  rw [val_main_v21_apply, val_main_v20_apply, val_main_v19_apply, val_main_v18_apply, val_main_v17_apply, val_main_v16_apply, v14_at]
  rfl

theorem v26_at (d : Fin 1024) : val_main_v26 (F := Ideal) x0 x1 x2 x3 x4 (ix2 n d) = yR x0 x1 x2 x3 x4 n d := by
  rw [val_main_v26_apply, val_main_v25_apply, v21_at, v15_at]
  rfl

theorem v33_at (z : Fin 1) : val_main_v33 (F := Ideal) x0 x1 x2 x3 x4 (ix2 n z) = ms (yR x0 x1 x2 x3 x4 n) := by
  rw [val_main_v33_apply, val_main_v31_apply, val_main_v29_apply, val_main_v28_apply, val_main_v30_apply, val_main_v32_apply]
  refine congrArg (fun s => Ideal.div s width + tiny) ?_
  rw [val_main_cst_5_apply]
  refine (congrArg (· + _) Ideal.ofBits_zero_f32).trans ((zero_add _).trans (Finset.sum_congr rfl fun k _ => ?_))
  rw [val_main_v27_apply, show idx_main_v28 (idx_main_v29 (ix2 n z)) k = ix2 n k from ValueIdx.eq_ix2 _, v26_at]
  rfl

theorem v34_at (z : Fin 1) : val_main_v34 (F := Ideal) x0 x1 x2 x3 x4 (ix2 n z) = inv (yR x0 x1 x2 x3 x4 n) := by
  rw [val_main_v34_apply, v33_at]
  rfl

theorem v39_at (d : Fin 1024) : val_main_v39 (F := Ideal) x0 x1 x2 x3 x4 (ix2 n d) = yR x0 x1 x2 x3 x4 n d * inv (yR x0 x1 x2 x3 x4 n) := by
  rw [val_main_v39_apply, val_main_v38_apply, show idx_main_v38 (ix2 n d) = ix2 n 0 from ValueIdx.eq_ix2 _, v34_at, v26_at]
  rfl

theorem v41_at (d : Fin 1024) : val_main_v41 (F := Ideal) x5 (ix2 n d) = fR x5 d := by
  rw [val_main_v41_apply, val_main_v40_apply]
  exact congrArg x5 (ValueIdx.eq_ix1 _)

theorem v58_at (d : Fin 1024) : val_main_v58 (F := Ideal) x5 (ix2 n d) = fR x5 d := by
  rw [val_main_v58_apply, val_main_v40_apply]
  exact congrArg x5 (ValueIdx.eq_ix1 _)

theorem v43_at (d : Fin 1024) : val_main_v43 (F := Ideal) x0 x1 x2 x3 x4 x5 x6 (ix2 n d) = err (yR x0 x1 x2 x3 x4 n) (fR x5) (tR x6 n) d := by
  rw [val_main_v43_apply, val_main_v42_apply, v39_at, v41_at]
  rfl

theorem v57_at (d : Fin 1024) : val_main_v57 (F := Ideal) x0 x1 x2 x3 x4 x5 x6 (ix2 n d) = ctE (yR x0 x1 x2 x3 x4 n) (fR x5) (tR x6 n) d := by
  rw [val_main_v57_apply, val_main_v46_apply, val_main_v45_apply, val_main_v56_apply, val_main_v55_apply, val_main_v53_apply, val_main_v52_apply, val_main_v54_apply, v43_at]
  exact small_two _

theorem v59_at (d : Fin 1024) : val_main_v59 (F := Ideal) x0 x1 x2 x3 x4 x5 x6 (ix2 n d) = ctE (yR x0 x1 x2 x3 x4 n) (fR x5) (tR x6 n) d * fR x5 d := by
  rw [val_main_v59_apply, v57_at, v58_at]
  rfl

theorem v62_at (z : Fin 1) : val_main_v62 (F := Ideal) x0 x1 x2 x3 x4 x5 x6 (ix2 n z) = ∑ j, yR x0 x1 x2 x3 x4 n j * (ctE (yR x0 x1 x2 x3 x4 n) (fR x5) (tR x6 n) j * fR x5 j) := by
  rw [val_main_v62_apply, val_main_v61_apply, val_main_cst_17_apply]
  refine (congrArg (· + _) Ideal.ofBits_zero_f32).trans ((zero_add _).trans (Finset.sum_congr rfl fun j _ => ?_))
  rw [val_main_v60_apply, show idx_main_v61 (idx_main_v62 (ix2 n z)) j = ix2 n j from
    (ValueIdx.eq_ix2 _).trans (congrArg (ix2 · j) (Fin.ext (by show n.val * 1 + z.val = n.val; omega))), v59_at, v26_at]
  rfl

theorem v69_at (d : Fin 1024) : val_main_v69 (F := Ideal) x0 x1 x2 x3 x4 x5 x6 (ix2 n d) = tw (yR x0 x1 x2 x3 x4 n) (ctE (yR x0 x1 x2 x3 x4 n) (fR x5) (tR x6 n)) (fR x5) := by
  rw [val_main_v69_apply, val_main_v68_apply, val_main_cst_19_apply]
  refine (congrArg (· + _) Ideal.ofBits_zero_f32).trans ((zero_add _).trans ((Fin.sum_univ_one _).trans ?_))
  rw [show idx_main_v68 (idx_main_v69 (ix2 n d)) 0 = ix2 n 0 from ValueIdx.eq_ix2 _, val_main_v67_apply, val_main_v65_apply, v62_at, val_main_v37_apply, val_main_v35_apply, v34_at, v33_at, val_main_v66_apply, val_main_v36_apply]
  rfl

variable {x0 x1 x2 x3 x4 x5 x6}

/-! ## Finite values -/

theorem hR_fin (h0 : ∀ i, IsFin (x0 i)) (h2 : ∀ i, IsFin (x2 i)) (d : Fin 1024) : IsFin (hR x0 x2 n d) := by
  rw [v13_at]
  exact ((h0 _).mul (inv_fin fun j => h0 _)).mul (h2 _)

theorem gR_fin (h0 : ∀ i, IsFin (x0 i)) (h2 : ∀ i, IsFin (x2 i)) (h3 : ∀ i, IsFin (x3 i)) (d : Fin 1024) : IsFin (gR x0 x2 x3 n d) :=
  IsFin.sum Finset.univ (fun k => hR x0 x2 n k * x3 (ix2 k d)) fun k _ => (hR_fin n h0 h2 k).mul (h3 _)

theorem eR_fin (h1 : ∀ i, IsFin (x1 i)) (h4 : ∀ i, IsFin (x4 i)) (d : Fin 1024) : IsFin (eR x1 x4 n d) :=
  IsFin.sum Finset.univ (fun k => pR x1 n k * x4 (ix2 k d)) fun k _ => (h1 _).mul (h4 _)

variable (h0 : ∀ i, IsFin (x0 i)) (h1 : ∀ i, IsFin (x1 i)) (h2 : ∀ i, IsFin (x2 i)) (h3 : ∀ i, IsFin (x3 i)) (h4 : ∀ i, IsFin (x4 i)) (h5 : ∀ i, IsFin (x5 i)) (h6 : ∀ i, IsFin (x6 i))

include h0 h1 h2 h3 h4 h5 h6

theorem v73_at (d : Fin 1024) : val_main_v73 (F := Ideal) x0 x1 x2 x3 x4 x5 x6 (ix2 n d) = dStr (yR x0 x1 x2 x3 x4 n) (fR x5) (tR x6 n) d := by
  rw [val_main_v73_apply, val_main_v71_apply, val_main_v72_apply, val_main_v70_apply, val_main_v64_apply, val_main_v63_apply, show idx_main_v63 (ix2 n d) = ix2 n 0 from ValueIdx.eq_ix2 _, v34_at, v59_at, v69_at, v26_at]
  exact dStr_eq (str_fin (fun j => h0 _) (gR_fin n h0 h2 h3) (eR_fin n h1 h4)) (fun j => h5 _) (fun j => h6 _) d

/-- The embedding's product's cotangent. -/
theorem v74_at (d : Fin 1024) : val_main_v74 (F := Ideal) x0 x1 x2 x3 x4 x5 x6 (ix2 n d) = dPP (xR x0 n) (gR x0 x2 x3 n) (eR x1 x4 n) (fR x5) (tR x6 n) d := by
  rw [val_main_v74_apply, v21_at, v73_at n h0 h1 h2 h3 h4 h5 h6]
  exact mul_comm _ _

/-- The gate's. -/
theorem v76_at (d : Fin 1024) : val_main_v76 (F := Ideal) x0 x1 x2 x3 x4 x5 x6 (ix2 n d) = dGP (xR x0 n) (gR x0 x2 x3 n) (eR x1 x4 n) (fR x5) (tR x6 n) d := by
  rw [val_main_v76_apply, val_main_v75_apply, val_main_v24_apply, val_main_v23_apply, val_main_v22_apply, v21_at, v15_at, v73_at n h0 h1 h2 h3 h4 h5 h6]
  exact (mul_assoc _ _ _).symm

omit h0 h1 h2 h3 h4 h5 h6

theorem v85_same : val_main_v85 (F := Ideal) x0 = val_main_v8 (F := Ideal) x0 := rfl

theorem v84_same : val_main_v84 (F := Ideal) x0 = val_main_v7 (F := Ideal) x0 := rfl

theorem v90_same : val_main_v90 (F := Ideal) x0 = val_main_v10 (F := Ideal) x0 := rfl

theorem v119_same : val_main_v119 (F := Ideal) x0 x1 x2 x3 x4 = val_main_v39 (F := Ideal) x0 x1 x2 x3 x4 := rfl

theorem v137_same : val_main_v137 (F := Ideal) x0 x1 x2 x3 x4 x5 x6 = val_main_v57 (F := Ideal) x0 x1 x2 x3 x4 x5 x6 := rfl

theorem v157_same : val_main_v157 (F := Ideal) x0 x1 x2 x3 x4 x5 x6 = val_main_v73 (F := Ideal) x0 x1 x2 x3 x4 x5 x6 := rfl

theorem v159_same : val_main_v159 (F := Ideal) x0 x1 x2 x3 x4 x5 x6 = val_main_v76 (F := Ideal) x0 x1 x2 x3 x4 x5 x6 := by
  funext y
  rw [val_main_v159_apply, val_main_v158_apply, val_main_v103_apply, val_main_v102_apply, val_main_v101_apply, val_main_v76_apply, val_main_v75_apply, val_main_v24_apply, val_main_v23_apply, val_main_v22_apply, v157_same]
  rfl

theorem v219_same : val_main_v219 (F := Ideal) x0 x1 x2 x3 x4 x5 x6 = val_main_v43 (F := Ideal) x0 x1 x2 x3 x4 x5 x6 := rfl

variable (x0 x1 x2 x3 x4 x5 x6)

/-- The last norm's scale's cotangent. -/
theorem v227_at (d : Fin 1024) : val_main_v227 (F := Ideal) x0 x1 x2 x3 x4 x5 x6 (ix2 0 d) = ∑ n : Fin 8192, ctE (yR x0 x1 x2 x3 x4 n) (fR x5) (tR x6 n) d * (yR x0 x1 x2 x3 x4 n d * inv (yR x0 x1 x2 x3 x4 n)) := by
  rw [val_main_v227_apply, val_main_v143_apply, val_main_cst_40_apply]
  refine (congrArg (· + _) Ideal.ofBits_zero_f32).trans ((zero_add _).trans ((Fin.sum_univ_one _).trans ?_))
  rw [val_main_v140_apply, val_main_v139_apply, val_main_cst_39_apply]
  refine (congrArg (· + _) Ideal.ofBits_zero_f32).trans ((zero_add _).trans (Finset.sum_congr rfl fun k _ => ?_))
  rw [show idx_main_v139 (idx_main_v140 (idx_main_v143 (idx_main_v227 (ix2 0 d)) 0)) k = ix2 k d from
    (ValueIdx.eq_ix2 _).trans (congrArg (ix2 k ·) (Fin.ext (by show 0 * 1024 + d.val = d.val; omega)))]
  rw [val_main_v138_apply, v119_same, v137_same, v39_at, v57_at]
  exact mul_comm _ _

/-- The squared errors, summed over the rows. -/
theorem v228_at (d : Fin 1024) : val_main_v228 (F := Ideal) x0 x1 x2 x3 x4 x5 x6 (ix2 0 d) = Ideal.ofBits .f32 0x3A000000#32 * ∑ n : Fin 8192, err (yR x0 x1 x2 x3 x4 n) (fR x5) (tR x6 n) d * err (yR x0 x1 x2 x3 x4 n) (fR x5) (tR x6 n) d := by
  rw [val_main_v228_apply, val_main_v223_apply, val_main_v222_apply, val_main_v221_apply, val_main_cst_57_apply]
  refine congrArg (_ * ·) ?_
  refine (congrArg (· + _) Ideal.ofBits_zero_f32).trans ((zero_add _).trans (Finset.sum_congr rfl fun k _ => ?_))
  rw [show idx_main_v221 (idx_main_v228 (ix2 0 d)) k = ix2 k d from ValueIdx.eq_ix2 _, val_main_v220_apply, v219_same, v43_at]
  rfl

variable {x0 x1 x2 x3 x4 x5 x6}

include h0 h1 h2 h3 h4 h5 h6

theorem v160_at (d : Fin 1024) : val_main_v160 (F := Ideal) x0 x1 x2 x3 x4 x5 x6 (ix2 n d) = dNrm (xR x0 n) (gR x0 x2 x3 n) (eR x1 x4 n) (fR x5) (tR x6 n) x3 d := by
  unfold dNrm lin
  refine (val_main_v160_apply _ _ _ _ _ _ _ _).trans (Finset.sum_congr rfl fun k _ => ?_)
  rw [show lidx_main_v160 (ix2 n d) k = ix2 n k from ValueIdx.eq_ix2 _, show ridx_main_v160 (ix2 n d) k = ix2 d k from ValueIdx.eq_ix2 _, v159_same, v76_at n h0 h1 h2 h3 h4 h5 h6]

/-- The layer's norm's scale's cotangent. -/
theorem v229_at (d : Fin 1024) : val_main_v229 (F := Ideal) x0 x1 x2 x3 x4 x5 x6 (ix2 0 d) = ∑ n : Fin 8192, dNrm (xR x0 n) (gR x0 x2 x3 n) (eR x1 x4 n) (fR x5) (tR x6 n) x3 d * (xR x0 n d * inv (xR x0 n)) := by
  rw [val_main_v229_apply, val_main_v166_apply, val_main_cst_45_apply]
  refine (congrArg (· + _) Ideal.ofBits_zero_f32).trans ((zero_add _).trans ((Fin.sum_univ_one _).trans ?_))
  rw [val_main_v163_apply, val_main_v162_apply, val_main_cst_44_apply]
  refine (congrArg (· + _) Ideal.ofBits_zero_f32).trans ((zero_add _).trans (Finset.sum_congr rfl fun k _ => ?_))
  rw [show idx_main_v162 (idx_main_v163 (idx_main_v166 (idx_main_v229 (ix2 0 d)) 0)) k = ix2 k d from
    (ValueIdx.eq_ix2 _).trans (congrArg (ix2 k ·) (Fin.ext (by show 0 * 1024 + d.val = d.val; omega)))]
  rw [val_main_v161_apply, v90_same, v10_at, v160_at k h0 h1 h2 h3 h4 h5 h6]
  exact mul_comm _ _

theorem v165_at (d : Fin 1024) : val_main_v165 (F := Ideal) x0 x1 x2 x3 x4 x5 x6 (ix2 n d) = dNrm (xR x0 n) (gR x0 x2 x3 n) (eR x1 x4 n) (fR x5) (tR x6 n) x3 d * nR x2 d := by
  rw [val_main_v165_apply, v160_at n h0 h1 h2 h3 h4 h5 h6, show val_main_v164 (F := Ideal) x2 (ix2 n d) = nR x2 d from v12_at x2 n d]
  rfl

theorem v169_at (z : Fin 1) : val_main_v169 (F := Ideal) x0 x1 x2 x3 x4 x5 x6 (ix2 n z) = ∑ j, xR x0 n j * (dNrm (xR x0 n) (gR x0 x2 x3 n) (eR x1 x4 n) (fR x5) (tR x6 n) x3 j * nR x2 j) := by
  rw [val_main_v169_apply, val_main_v168_apply, val_main_cst_46_apply]
  refine (congrArg (· + _) Ideal.ofBits_zero_f32).trans ((zero_add _).trans (Finset.sum_congr rfl fun j _ => ?_))
  rw [val_main_v167_apply, show idx_main_v168 (idx_main_v169 (ix2 n z)) j = ix2 n j from
    (ValueIdx.eq_ix2 _).trans (congrArg (ix2 · j) (Fin.ext (by show n.val * 1 + z.val = n.val; omega))), v165_at n h0 h1 h2 h3 h4 h5 h6]
  rfl

theorem v177_at (d : Fin 1024) : val_main_v177 (F := Ideal) x0 x1 x2 x3 x4 x5 x6 (ix2 n d) = tw (xR x0 n) (dNrm (xR x0 n) (gR x0 x2 x3 n) (eR x1 x4 n) (fR x5) (tR x6 n) x3) (nR x2) := by
  rw [val_main_v177_apply, val_main_v176_apply, val_main_cst_48_apply]
  refine (congrArg (· + _) Ideal.ofBits_zero_f32).trans ((zero_add _).trans ((Fin.sum_univ_one _).trans ?_))
  rw [show idx_main_v176 (idx_main_v177 (ix2 n d)) 0 = ix2 n 0 from ValueIdx.eq_ix2 _, val_main_v175_apply, val_main_v173_apply, v169_at n h0 h1 h2 h3 h4 h5 h6, val_main_v88_apply, val_main_v86_apply, v85_same, v84_same, v8_at, v7_at, val_main_v174_apply, val_main_v87_apply]
  rfl

/-- The stream's cotangent. -/
theorem v181_at (d : Fin 1024) : val_main_v181 (F := Ideal) x0 x1 x2 x3 x4 x5 x6 (ix2 n d) = dIn (xR x0 n) (gR x0 x2 x3 n) (eR x1 x4 n) (fR x5) (tR x6 n) (nR x2) x3 d := by
  rw [val_main_v181_apply, val_main_v179_apply, val_main_v172_apply, val_main_v171_apply, val_main_v170_apply, val_main_v178_apply, val_main_v180_apply, show idx_main_v170 (ix2 n d) = ix2 n 0 from ValueIdx.eq_ix2 _, v157_same, v85_same, v8_at, v165_at n h0 h1 h2 h3 h4 h5 h6, v177_at n h0 h1 h2 h3 h4 h5 h6, v73_at n h0 h1 h2 h3 h4 h5 h6]
  exact dIn_eq (fun j => h0 _) (gR_fin n h0 h2 h3) (eR_fin n h1 h4) (fun j => h5 _) (fun j => h6 _) (fun j => h2 _) h3 d

omit h0 h1 h2 h3 h4 h5 h6

/-! ## The precondition -/

theorem pre_fin (h : Cert.Pre_finite14.fn (F := Ideal) x0 x1 x2 x3 x4 x5 x6 = fun _ => 1#1) :
    (∀ i, IsFin (x0 i)) ∧ (∀ i, IsFin (x1 i)) ∧ (∀ i, IsFin (x2 i)) ∧ (∀ i, IsFin (x3 i)) ∧ (∀ i, IsFin (x4 i)) ∧ (∀ i, IsFin (x5 i)) ∧ ∀ i, IsFin (x6 i) := by
  have h0 := congrFun h ix0
  unfold Cert.Pre_finite14.fn at h0
  dsimp only at h0
  obtain ⟨h0, h6⟩ := IntOp.andi_eq_one.mp h0
  obtain ⟨h0, h5⟩ := IntOp.andi_eq_one.mp h0
  obtain ⟨h0, h4⟩ := IntOp.andi_eq_one.mp h0
  obtain ⟨h0, h3⟩ := IntOp.andi_eq_one.mp h0
  obtain ⟨h0, h2⟩ := IntOp.andi_eq_one.mp h0
  obtain ⟨h0, h1⟩ := IntOp.andi_eq_one.mp h0
  haveI : Subsingleton Cert.Pre_finite14.S_.Idx := ⟨fun a b => (ValueIdx.eq_ix0 a).trans (ValueIdx.eq_ix0 b).symm⟩
  exact ⟨fun i => fin_of_lt _ (Host.reduce_andi_all _ _ _ _ _ h0 i),
    fun i => fin_of_lt _ (Host.reduce_andi_all _ _ _ _ _ h1 i),
    fun i => fin_of_lt _ (Host.reduce_andi_all _ _ _ _ _ h2 i),
    fun i => fin_of_lt _ (Host.reduce_andi_all _ _ _ _ _ h3 i),
    fun i => fin_of_lt _ (Host.reduce_andi_all _ _ _ _ _ h4 i),
    fun i => fin_of_lt _ (Host.reduce_andi_all _ _ _ _ _ h5 i),
    fun i => fin_of_lt _ (Host.reduce_andi_all _ _ _ _ _ h6 i)⟩

end Cert.Mix.LossRef

end
-- ==== Proof.LossRun.lean ====
module

public import proofs.«01_k».proof.Proof.Gen.Reference14Ideal.Run
public import proofs.«01_k».proof.Proof.Gen.Reference14Ideal.Read
public import Idealize.ShloMosaic.Lib.Claim

/-! The fourteenth reference: its results, named as its stages at the arguments. -/

@[expose] public section

set_option maxRecDepth 16384

noncomputable section

namespace Cert.Mix.LossRun

open Cert.Reference14Ideal Idealize.ShloMosaic Idealize.SL.Sem Idealize.ShloMosaic.TcCoe Idealize.ShloMosaic.StableHlo
open Cert.Reference14Ideal.Read Cert.Reference14Ideal.Value

variable (m : (ℓ : Loc nD τ sig) → Buf (Elt Ideal) ℓ) (ρ : Dev nD → PrngReg)

theorem run_values : θ_run defs (onTc (τ := τ) (main (F := Ideal))) ⟨m, fun _ => 0, ρ⟩ fun r => ∀ c : Dev nD,
      r.2.mem ((c.tc : Thread nD τ).loc main_v181) = val_main_v181 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v224) = val_main_v224 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v225) = val_main_v225 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v226) = val_main_v226 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v227) = val_main_v227 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v228) = val_main_v228 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v229) = val_main_v229 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => ⟨(h c).1.trans (val_main_v181_eq (launchContents m c)),
    (h c).2.1.trans (val_main_v224_eq (launchContents m c)),
    (h c).2.2.1.trans (val_main_v225_eq (launchContents m c)),
    (h c).2.2.2.1.trans (val_main_v226_eq (launchContents m c)),
    (h c).2.2.2.2.1.trans (val_main_v227_eq (launchContents m c)),
    (h c).2.2.2.2.2.1.trans (val_main_v228_eq (launchContents m c)),
    (h c).2.2.2.2.2.2.1.trans (val_main_v229_eq (launchContents m c)),
    (h c).2.2.2.2.2.2.2⟩) (run (F := Ideal) m ρ)

end Cert.Mix.LossRun
-- ==== Proof.LossTile.lean ====
module

public import proofs.«01_k».proof.Proof.LossRow
public import proofs.«01_k».proof.Proof.Gen.Kernel14Ideal.Value
public import Idealize.ShloMosaic.Lib.Pipeline.ValueKit

/-! The kernel of the per-layer embedding and the loss, one tile of 512 rows: each value it stores is the row's. -/

@[expose] public section

set_option maxRecDepth 16384

noncomputable section

namespace Cert.Mix.LossTile

open Cert.Ffn Cert.Mix.Loss Cert.Kernel14Ideal Cert.Kernel14Ideal.Gen Idealize.SL.Sem
open Idealize.ShloMosaic hiding ix0 ix1 ix2 ix3 ix4 ix5
open Idealize.ShloMosaic.TcCoe Idealize.ShloMosaic.ValueIdx Idealize.ShloMosaic.StableHlo

variable (h : Vec Ideal S512x1024 .bf16) (p : Vec Ideal S512x256 .f32) (wg : Vec Ideal S1024x1024 .bf16) (wp : Vec Ideal S256x1024 .bf16)
variable (x t : Vec Ideal S512x1024 .f32) (f g : Vec Ideal S1x1024 .f32) (wt : Vec Ideal S1024x1024 .bf16) (r : Fin 512)

/-! ## The rows -/

abbrev xR : Fin 1024 → EReal := fun j => x (ix2 r j)
abbrev fR : Fin 1024 → EReal := fun j => f (ix2 0 j)
abbrev gR : Fin 1024 → EReal := lin' (fun j => h (ix2 r j)) wg
abbrev eR : Fin 1024 → EReal := lin' (fun j => p (ix2 r j)) wp
abbrev yR : Fin 1024 → EReal := str (xR x r) (gR h wg r) (eR p wp r)

theorem pp_at (k : Fin 1024) : k0_pay3 (F := Ideal) p wp (ix2 r k) = eR p wp r k := by
  unfold k0_pay3
  simp only [shapeCast_self]
  exact product_at (φ₁ := .bf16) (φ₂ := .bf16) dot_S512x256_S256x1024_S512x1024_1_0_0_1_n_n none 256 rfl rfl p wp (ix2 r k) (fun j => ix2 r j) (fun j => ix2 j k)
    (fun j q h => funext fun a => Fin.ext (by match a with | ⟨0, _⟩ => rfl | ⟨1, _⟩ => exact h))
    (fun j q h => funext fun a => Fin.ext (by match a with | ⟨0, _⟩ => exact h | ⟨1, _⟩ => rfl))

theorem sg_at (k : Fin 1024) : k0_pay6 (F := Ideal) h wg (ix2 r k) = sg (gR h wg r k) := by
  unfold k0_pay6
  simp only [shapeCast_self]
  have e := product_at (φ₁ := .bf16) (φ₂ := .bf16) dot_S512x1024_S1024x1024_S512x1024_1_0_0_1_n_n none 1024 rfl rfl h wg (ix2 r k) (fun j => ix2 r j) (fun j => ix2 j k)
    (fun j q h => funext fun a => Fin.ext (by match a with | ⟨0, _⟩ => rfl | ⟨1, _⟩ => exact h))
    (fun j q h => funext fun a => Fin.ext (by match a with | ⟨0, _⟩ => exact h | ⟨1, _⟩ => rfl))
  exact (congrArg (fun z => half * Ideal.tanh (half * z) + half) e).trans (sg_tanh _)

abbrev yT : FVec Ideal S512x1024 .f32 := k0_pay7 h p wg wp x

theorem y_at (k : Fin 1024) : yT h p wg wp x (ix2 r k) = yR h p wg wp x r k := by
  unfold yT k0_pay7
  rw [addf_apply, mulf_apply, sg_at, pp_at]
  rfl

theorem y_row : xR (yT h p wg wp x) r = yR h p wg wp x r := funext fun k => y_at h p wg wp x r k

/-- The reciprocal root of the mean square of a row of `y`. -/
theorem q_at : Ideal.rsqrt (k0_pay8 (F := Ideal) h p wg wp x (ix2 r 0) + k0_pay9 (F := Ideal) (ix2 r 0)) = Cert.Ffn.inv (xR (yT h p wg wp x) r) := by
  unfold k0_pay8 k0_pay9
  have e := row_sum (mulf (k0_pay7 (F := Ideal) h p wg wp x) (k0_pay7 (F := Ideal) h p wg wp x)) reduces_S512x1024_S512 (.inl rfl) rfl shapeCasts_S512_S512x1 r 0
  exact congrArg (fun s => Ideal.rsqrt (Ideal.div s width + tiny)) e

theorem iy_at (y : FVec Ideal S512x1024 .f32) : k0_pay12 (F := Ideal) y (ix2 r 0) = Cert.Ffn.inv (xR y r) := by
  unfold k0_pay12
  have e := row_sum (mulf y y) reduces_S512x1024_S512 (.inl rfl) rfl shapeCasts_S512_S512x1 r 0
  exact congrArg (fun s => Ideal.rsqrt (Ideal.div s width + tiny)) e

theorem yn_at (y : FVec Ideal S512x1024 .f32) (d : Fin 1024) : k0_pay13 (F := Ideal) y (ix2 r d) = y (ix2 r d) * Cert.Ffn.inv (xR y r) := by
  unfold k0_pay13
  rw [mulf_apply, over_cols, iy_at]

section Norm

variable (y : FVec Ideal S512x1024 .f32) (q e : FVec Ideal S512x1 .f32) (hq : ∀ r : Fin 512, Ideal.rsqrt (q (ix2 r 0) + e (ix2 r 0)) = Cert.Ffn.inv (xR y r))

include hq

theorem err_at (d : Fin 1024) : k0_pay10 (F := Ideal) t f y q e (ix2 r d) = err (xR y r) (fR f) (xR t r) d := by
  unfold k0_pay10
  rw [subf_apply, mulf_apply, mulf_apply, over_cols, over_rows]
  exact congrArg (fun s => y (ix2 r d) * s * f (ix2 0 d) - t (ix2 r d)) (hq r)

theorem ct_at (d : Fin 1024) : k0_pay11 (F := Ideal) t f y q e (ix2 r d) = ctE (xR y r) (fR f) (xR t r) d := by
  unfold k0_pay11
  rw [mulf_apply, err_at t f r y q e hq]
  rfl

theorem dy_at (d : Fin 1024) : k0_pay14 (F := Ideal) t f y q e (ix2 r d) = dStr (xR y r) (fR f) (xR t r) d := by
  unfold k0_pay14 dStr dRow
  rw [add_zero, mulf_apply, over_cols, iy_at, subf_apply, mulf_apply, mulf_apply, over_cols, over_rows, yn_at, ct_at t f r y q e hq]
  refine congrArg (fun s => Cert.Ffn.inv (xR y r) * (ctE (xR y r) (fR f) (xR t r) d * f (ix2 0 d) - y (ix2 r d) * Cert.Ffn.inv (xR y r) * s)) ?_
  have e' := row_sum (mulf (mulf (k0_pay11 (F := Ideal) t f y q e) (broadcastTo S512x1024 f broadcasts_S1x1024_S512x1024)) (k0_pay13 (F := Ideal) y)) reduces_S512x1024_S512 (.inl rfl) rfl shapeCasts_S512_S512x1 r 0
  refine (congrArg (fun s => Ideal.div s width) e').trans (congrArg (fun s => Ideal.div s width) (Finset.sum_congr rfl fun j _ => ?_))
  rw [mulf_apply, mulf_apply, over_rows, yn_at, ct_at t f r y q e hq]

theorem df_at (d : Fin 1024) : k0_pay15 (F := Ideal) t f y q e (ix2 0 d)
    = ∑ r : Fin 512, ctE (xR y r) (fR f) (xR t r) d * (y (ix2 r d) * Cert.Ffn.inv (xR y r)) := by
  unfold k0_pay15
  refine (col_sum (mulf (k0_pay11 (F := Ideal) t f y q e) (k0_pay13 (F := Ideal) y)) reduces_S512x1024_S1024 (.inl rfl) rfl shapeCasts_S1024_S1x1024 0 d).trans ?_
  exact Finset.sum_congr rfl fun r _ => by rw [mulf_apply, yn_at, ct_at t f r y q e hq]

theorem loss_at (d : Fin 1024) : k0_pay25 (F := Ideal) (k0_pay10 t f y q e) (ix2 0 d)
    = Ideal.ofBits .f32 0x3A000000#32 * ∑ r : Fin 512, err (xR y r) (fR f) (xR t r) d * err (xR y r) (fR f) (xR t r) d := by
  unfold k0_pay25
  have e' := col_sum (mulf (k0_pay10 (F := Ideal) t f y q e) (k0_pay10 (F := Ideal) t f y q e)) reduces_S512x1024_S1024 (.inl rfl) rfl shapeCasts_S1024_S1x1024 0 d
  refine (congrArg (Ideal.ofBits .f32 0x3A000000#32 * ·) e').trans (congrArg (Ideal.ofBits .f32 0x3A000000#32 * ·) (Finset.sum_congr rfl fun r _ => ?_))
  rw [mulf_apply, err_at t f r y q e hq]

end Norm

/-! ## The tile's values -/

abbrev dyT : FVec Ideal S512x1024 .f32 := k0_pay14 t (k0_pay4 f) (yT h p wg wp x) (k0_pay8 h p wg wp x) (k0_pay9 (F := Ideal))
abbrev dgT : FVec Ideal S512x1024 .f32 := k0_pay17 (k0_pay3 p wp) t (k0_pay4 f) (k0_pay6 h wg) (yT h p wg wp x) (k0_pay8 h p wg wp x) (k0_pay9 (F := Ideal))
abbrev dhT : FVec Ideal S512x1024 .f32 := k0_pay18 (k0_pay3 p wp) t (k0_pay4 f) (k0_pay5 wt) (k0_pay6 h wg) (yT h p wg wp x) (k0_pay8 h p wg wp x) (k0_pay9 (F := Ideal))

theorem pay4_eq : k0_pay4 (F := Ideal) f = f := by
  unfold k0_pay4
  exact shapeCast_self _ _
theorem pay5_eq : k0_pay5 (F := Ideal) wt = wt := by
  unfold k0_pay5
  exact shapeCast_self _ _

abbrev dP : Fin 1024 → EReal := dPP (xR x r) (gR h wg r) (eR p wp r) (fR f) (xR t r)
abbrev dG : Fin 1024 → EReal := dGP (xR x r) (gR h wg r) (eR p wp r) (fR f) (xR t r)
abbrev dN : Fin 1024 → EReal := dNrm (xR x r) (gR h wg r) (eR p wp r) (fR f) (xR t r) wt

theorem dyT_at (d : Fin 1024) : dyT h p wg wp x t f (ix2 r d) = dStr (yR h p wg wp x r) (fR f) (xR t r) d := by
  unfold dyT
  rw [pay4_eq, dy_at t f r _ _ _ (q_at h p wg wp x), y_row]

theorem dpT_at (d : Fin 1024) :
    k0_pay16 (F := Ideal) t (k0_pay4 f) (k0_pay6 h wg) (yT h p wg wp x) (k0_pay8 h p wg wp x) (k0_pay9 (F := Ideal)) (ix2 r d) = dP h p wg wp x t f r d := by
  unfold k0_pay16
  rw [mulf_apply, sg_at]
  exact congrArg (· * _) (dyT_at h p wg wp x t f r d)

theorem dgT_at (d : Fin 1024) : dgT h p wg wp x t f (ix2 r d) = dG h p wg wp x t f r d := by
  unfold dgT k0_pay17
  rw [mulf_apply, mulf_apply, mulf_apply, subf_apply, sg_at, pp_at]
  exact congrArg (fun s => s * eR p wp r d * sg (gR h wg r d) * (one - sg (gR h wg r d))) (dyT_at h p wg wp x t f r d)

theorem dhT_at (d : Fin 1024) : dhT h p wg wp x t f wt (ix2 r d) = dN h p wg wp x t f wt r d := by
  unfold dhT k0_pay18
  rw [pay5_eq]
  refine (product_at (φ₁ := .bf16) (φ₂ := .bf16) dot_S512x1024_S1024x1024_S512x1024_1_1_0_0_n_n none 1024 rfl rfl
    (truncf .bf16 (dgT h p wg wp x t f) bitsLt_bf16_f32) wt (ix2 r d) (fun k => ix2 r k) (fun k => ix2 d k)
    (fun k q h => funext fun a => Fin.ext (by match a with | ⟨0, _⟩ => rfl | ⟨1, _⟩ => exact h))
    (fun k q h => funext fun a => Fin.ext (by match a with | ⟨0, _⟩ => rfl | ⟨1, _⟩ => exact h))).trans ?_
  exact Finset.sum_congr rfl fun k _ => congrArg (· * _) (dgT_at h p wg wp x t f r k)

/-! ## Back through the layer's norm -/

theorem ix_at : k0_pay21 (F := Ideal) (k0_pay19 x) (k0_pay20 (F := Ideal)) (ix2 r 0) = Cert.Ffn.inv (xR x r) := by
  unfold k0_pay21 k0_pay19 k0_pay20
  have e := row_sum (mulf x x) reduces_S512x1024_S512 (.inl rfl) rfl shapeCasts_S512_S512x1 r 0
  exact congrArg (fun s => Ideal.rsqrt (Ideal.div s width + tiny)) e

theorem xn_at (d : Fin 1024) : k0_pay22 (F := Ideal) x (k0_pay19 x) (k0_pay20 (F := Ideal)) (ix2 r d) = x (ix2 r d) * Cert.Ffn.inv (xR x r) := by
  unfold k0_pay22
  rw [mulf_apply, over_cols, ix_at]

theorem dn_at (v : FVec Ideal S512x1024 .f32) (d : Fin 1024) :
    k0_pay23 (F := Ideal) x v (k0_pay19 x) (k0_pay20 (F := Ideal)) (ix2 0 d) = ∑ r : Fin 512, v (ix2 r d) * (x (ix2 r d) * Cert.Ffn.inv (xR x r)) := by
  unfold k0_pay23
  refine (col_sum (mulf v (k0_pay22 (F := Ideal) x (k0_pay19 x) (k0_pay20 (F := Ideal)))) reduces_S512x1024_S1024 (.inl rfl) rfl shapeCasts_S1024_S1x1024 0 d).trans ?_
  exact Finset.sum_congr rfl fun r _ => by rw [mulf_apply, xn_at]

theorem dx_at (v u : FVec Ideal S512x1024 .f32) (d : Fin 1024) :
    k0_pay24 (F := Ideal) x g u v (k0_pay19 x) (k0_pay20 (F := Ideal)) (ix2 r d) = dRow (xR x r) (xR v r) (fR g) (xR u r) d := by
  unfold k0_pay24 dRow
  rw [addf_apply, mulf_apply, over_cols, ix_at, subf_apply, mulf_apply, mulf_apply, over_cols, over_rows, xn_at]
  refine congrArg (· + u (ix2 r d)) (congrArg (fun s => Cert.Ffn.inv (xR x r) * (v (ix2 r d) * g (ix2 0 d) - x (ix2 r d) * Cert.Ffn.inv (xR x r) * s)) ?_)
  have e := row_sum (mulf (mulf v (broadcastTo S512x1024 g broadcasts_S1x1024_S512x1024)) (k0_pay22 (F := Ideal) x (k0_pay19 x) (k0_pay20 (F := Ideal)))) reduces_S512x1024_S512 (.inl rfl) rfl shapeCasts_S512_S512x1 r 0
  refine (congrArg (fun s => Ideal.div s width) e).trans (congrArg (fun s => Ideal.div s width) (Finset.sum_congr rfl fun j _ => ?_))
  rw [mulf_apply, mulf_apply, over_rows, xn_at]

/-- The stream's cotangent. -/
theorem dxT_at (d : Fin 1024) : k0_pay24 (F := Ideal) x g (dyT h p wg wp x t f) (dhT h p wg wp x t f wt) (k0_pay19 x) (k0_pay20 (F := Ideal)) (ix2 r d)
    = dIn (xR x r) (gR h wg r) (eR p wp r) (fR f) (xR t r) (fR g) wt d := by
  rw [dx_at, show xR (dhT h p wg wp x t f wt) r = dN h p wg wp x t f wt r from funext fun j => dhT_at h p wg wp x t f wt r j,
    show xR (dyT h p wg wp x t f) r = dStr (yR h p wg wp x r) (fR f) (xR t r) from funext fun j => dyT_at h p wg wp x t f r j]
  rfl

end Cert.Mix.LossTile

end
-- ==== Proof.LossBack.lean ====
module

public import proofs.«01_k».proof.Proof.LossTile
public import proofs.«01_k».proof.Proof.LossRef
public import proofs.«01_k».proof.Proof.Sums
public import proofs.«01_k».proof.Proof.Gen.Kernel14Ideal.Value
public import Idealize.ShloMosaic.Lib.Pipeline.ValueKit
public import Idealize.ShloMosaic.Lib.Pipeline.ReadBack

/-! The kernel of the per-layer embedding and the loss: what it leaves, a tile of 512 rows at a time, its three sums over rows added
up over the tiles. -/

@[expose] public section

set_option maxRecDepth 16384

noncomputable section

namespace Cert.Mix.LossBack

open Cert.Ffn Cert.Mix.Loss Cert.Kernel14Ideal Cert.Kernel14Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

variable (m : (ℓ : Loc nD τ sig) → Buf (Elt Ideal) ℓ) (c : Dev nD)

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)

/-- The launch's arguments. -/
abbrev a0 : S8192x1024.Idx → EReal := V m c main_v14
abbrev a1 : S8192x256.Idx → EReal := V m c main_arg1
abbrev a2 : S1024x1024.Idx → EReal := V m c main_v15
abbrev a3 : S256x1024.Idx → EReal := V m c main_v16
abbrev a4 : S8192x1024.Idx → EReal := V m c main_arg0
abbrev a5 : S8192x1024.Idx → EReal := V m c main_arg6
abbrev a6 : S1x1024.Idx → EReal := V m c main_v17
abbrev a7 : S1x1024.Idx → EReal := V m c main_arg2
abbrev a8 : S1024x1024.Idx → EReal := V m c main_v15

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])
theorem tlt (t : Fin cfg0.N) : t.val < 16 := t.isLt

/-- The batch row that point `t` has at row `r` of its tile. -/
abbrev at_ (t : Fin cfg0.N) (r : Fin 512) : Fin 8192 := ⟨t.val * 512 + r.val, by have := tlt t; omega⟩

theorem rd0 (t : Fin cfg0.N) (r : Fin 512) (k : Fin 1024) : iblk m c 0 t (ix2 r k) = a0 m c (ix2 (at_ t r) k) := by
  blk_ext [iblk, idx0 t]
theorem rd1 (t : Fin cfg0.N) (r : Fin 512) (k : Fin 256) : iblk m c 1 t (ix2 r k) = a1 m c (ix2 (at_ t r) k) := by
  blk_ext [iblk, idx1 t]
theorem rd2 (t : Fin cfg0.N) : (iblk m c 2 t : S1024x1024.Idx → EReal) = a2 m c := by
  funext y
  blk_ext [iblk, idx2 t]
theorem rd3 (t : Fin cfg0.N) : (iblk m c 3 t : S256x1024.Idx → EReal) = a3 m c := by
  funext y
  blk_ext [iblk, idx3 t]
theorem rd4 (t : Fin cfg0.N) (r : Fin 512) (k : Fin 1024) : iblk m c 4 t (ix2 r k) = a4 m c (ix2 (at_ t r) k) := by
  blk_ext [iblk, idx4 t]
theorem rd5 (t : Fin cfg0.N) (r : Fin 512) (k : Fin 1024) : iblk m c 5 t (ix2 r k) = a5 m c (ix2 (at_ t r) k) := by
  blk_ext [iblk, idx5 t]
theorem rd6 (t : Fin cfg0.N) : (iblk m c 6 t : S1x1024.Idx → EReal) = a6 m c := by
  funext y
  blk_ext [iblk, idx6 t]
theorem rd7 (t : Fin cfg0.N) : (iblk m c 7 t : S1x1024.Idx → EReal) = a7 m c := by
  funext y
  blk_ext [iblk, idx7 t]
theorem rd8 (t : Fin cfg0.N) : (iblk m c 8 t : S1024x1024.Idx → EReal) = a8 m c := by
  funext y
  blk_ext [iblk, idx8 t]

theorem a0_eq : a0 m c = Cert.Reference14Ideal.Read.val_main_v13 (F := Ideal) (x0 m c) (x2 m c) := by
  show V m c main_v14 = _
  unfold V hostOps0
  after_results
  rfl

theorem a2_eq : a2 m c = x3 m c := by
  show V m c main_v15 = _
  unfold V hostOps0
  after_results
  rfl

theorem a3_eq : a3 m c = x4 m c := by
  show V m c main_v16 = _
  unfold V hostOps0
  after_results
  rfl

theorem a6_at (d : Fin 1024) : a6 m c (ix2 0 d) = x5 m c (ix1 d) := by
  have e : V m c main_v17 = shapeCast S1x1024 (x5 m c) shapeCasts_S1024_S1x1024 := by
    unfold V hostOps0
    after_results
    rfl
  refine (congrFun e _).trans ?_
  refine shapeCast_apply _ shapeCasts_S1024_S1x1024 (ix2 0 d) (ix1 d) ?_
  rw [Shape.rowMajor_val_one, Shape.rowMajor_val_two]
  show d.val = 0 * 1024 + d.val
  omega

theorem a8_eq : a8 m c = x3 m c := a2_eq m c
theorem a1_eq : a1 m c = x1 m c := V_main_arg1 m c
theorem a4_eq : a4 m c = x0 m c := V_main_arg0 m c
theorem a5_eq : a5 m c = x6 m c := V_main_arg6 m c
theorem a7_eq : a7 m c = x2 m c := V_main_arg2 m c

/-! ## The rows -/

abbrev nX (n : Fin 8192) : Fin 1024 → EReal := LossRef.xR (x0 m c) n
abbrev nG (n : Fin 8192) : Fin 1024 → EReal := LossRef.gR (x0 m c) (x2 m c) (x3 m c) n
abbrev nE (n : Fin 8192) : Fin 1024 → EReal := LossRef.eR (x1 m c) (x4 m c) n
abbrev nF : Fin 1024 → EReal := LossRef.fR (x5 m c)
abbrev nT (n : Fin 8192) : Fin 1024 → EReal := LossRef.tR (x6 m c) n
abbrev nN : Fin 1024 → EReal := LossRef.nR (x2 m c)
abbrev nY (n : Fin 8192) : Fin 1024 → EReal := str (nX m c n) (nG m c n) (nE m c n)

section

variable (t : Fin cfg0.N) (r : Fin 512)

theorem rowX : LossTile.xR (iblk m c 4 t) r = nX m c (at_ t r) := funext fun j => (rd4 m c t r j).trans (congrFun (a4_eq m c) _)
theorem rowT : LossTile.xR (iblk m c 5 t) r = nT m c (at_ t r) := funext fun j => (rd5 m c t r j).trans (congrFun (a5_eq m c) _)
theorem rowF : LossTile.fR (iblk m c 6 t) = nF m c := funext fun j => (congrFun (rd6 m c t) _).trans (a6_at m c j)
theorem rowN : LossTile.fR (iblk m c 7 t) = nN m c := funext fun j => (congrFun (rd7 m c t) _).trans (congrFun (a7_eq m c) _)
theorem rowG : LossTile.gR (iblk m c 0 t) (iblk m c 2 t) r = nG m c (at_ t r) := by
  unfold LossTile.gR nG LossRef.gR
  rw [rd2, a2_eq]
  exact congrArg (lin' · _) (funext fun j => (rd0 m c t r j).trans (congrFun (a0_eq m c) _))
theorem rowE : LossTile.eR (iblk m c 1 t) (iblk m c 3 t) r = nE m c (at_ t r) := by
  unfold LossTile.eR nE LossRef.eR
  rw [rd3, a3_eq]
  exact congrArg (lin' · _) (funext fun j => (rd1 m c t r j).trans (congrFun (a1_eq m c) _))
theorem rowY : LossTile.yR (iblk m c 0 t) (iblk m c 1 t) (iblk m c 2 t) (iblk m c 3 t) (iblk m c 4 t) r = nY m c (at_ t r) := by
  unfold LossTile.yR nY
  rw [rowX, rowG, rowE]

end

/-! ## The tiles -/

section

variable (t : Fin cfg0.N)

abbrev tY : FVec Ideal S512x1024 .f32 := LossTile.yT (iblk m c 0 t) (iblk m c 1 t) (iblk m c 2 t) (iblk m c 3 t) (iblk m c 4 t)
abbrev tQ : FVec Ideal S512x1 .f32 := k0_pay8 (iblk m c 0 t) (iblk m c 1 t) (iblk m c 2 t) (iblk m c 3 t) (iblk m c 4 t)
abbrev tD : FVec Ideal S512x1024 .f32 := LossTile.dyT (iblk m c 0 t) (iblk m c 1 t) (iblk m c 2 t) (iblk m c 3 t) (iblk m c 4 t) (iblk m c 5 t) (iblk m c 6 t)
abbrev tG : FVec Ideal S512x1024 .f32 := LossTile.dgT (iblk m c 0 t) (iblk m c 1 t) (iblk m c 2 t) (iblk m c 3 t) (iblk m c 4 t) (iblk m c 5 t) (iblk m c 6 t)
abbrev tH : FVec Ideal S512x1024 .f32 := LossTile.dhT (iblk m c 0 t) (iblk m c 1 t) (iblk m c 2 t) (iblk m c 3 t) (iblk m c 4 t) (iblk m c 5 t) (iblk m c 6 t) (iblk m c 8 t)
abbrev tX : FVec Ideal S512x1024 .f32 := k0_pay24 (iblk m c 4 t) (iblk m c 7 t) (tD m c t) (tH m c t) (k0_pay19 (iblk m c 4 t)) (k0_pay20 (F := Ideal))
abbrev tP : FVec Ideal S512x1024 .f32 := k0_pay16 (iblk m c 5 t) (k0_pay4 (iblk m c 6 t)) (k0_pay6 (iblk m c 0 t) (iblk m c 2 t)) (tY m c t) (tQ m c t) (k0_pay9 (F := Ideal))

abbrev vX (n : Fin 8192) : Fin 1024 → EReal := dIn (nX m c n) (nG m c n) (nE m c n) (nF m c) (nT m c n) (nN m c) (x3 m c)
abbrev vP (n : Fin 8192) : Fin 1024 → EReal := dPP (nX m c n) (nG m c n) (nE m c n) (nF m c) (nT m c n)
abbrev vG (n : Fin 8192) : Fin 1024 → EReal := dGP (nX m c n) (nG m c n) (nE m c n) (nF m c) (nT m c n)
abbrev vH (n : Fin 8192) : Fin 1024 → EReal := dNrm (nX m c n) (nG m c n) (nE m c n) (nF m c) (nT m c n) (x3 m c)

theorem tX_at (r : Fin 512) (k : Fin 1024) : tX m c t (ix2 r k) = vX m c (at_ t r) k := by
  refine (LossTile.dxT_at _ _ _ _ _ _ _ _ _ r k).trans ?_
  rw [rowX, rowG, rowE, rowF, rowT, rowN, rd8, a8_eq]
theorem tP_at (r : Fin 512) (k : Fin 1024) : tP m c t (ix2 r k) = vP m c (at_ t r) k := by
  refine (LossTile.dpT_at _ _ _ _ _ _ _ r k).trans ?_
  unfold LossTile.dP
  rw [rowX, rowG, rowE, rowF, rowT]
theorem tG_at (r : Fin 512) (k : Fin 1024) : tG m c t (ix2 r k) = vG m c (at_ t r) k := by
  refine (LossTile.dgT_at _ _ _ _ _ _ _ r k).trans ?_
  unfold LossTile.dG
  rw [rowX, rowG, rowE, rowF, rowT]
theorem tH_at (r : Fin 512) (k : Fin 1024) : tH m c t (ix2 r k) = vH m c (at_ t r) k := by
  refine (LossTile.dhT_at _ _ _ _ _ _ _ _ r k).trans ?_
  unfold LossTile.dN
  rw [rowX, rowG, rowE, rowF, rowT, rd8, a8_eq]

end

/-! ## The arrays after the run -/

theorem dx_point (t : Fin cfg0.N) (r : Fin 512) (k : Fin 1024) : (outsAt0 m c t.val t.isLt).1 (ix2 r k) = vX m c (at_ t r) k := by
  by_cases h0 : t.val % 16 = 0
  · rw [outsAt0_A m c t h0]
    frame_out
    exact tX_at m c t r k
  · rw [outsAt0_B m c t h0]
    frame_out
    exact tX_at m c t r k

theorem dx_final : (dats m 0 c).arrAt 9 cfg0.N = fun y : S8192x1024.Idx => vX m c (y 0) (y 1) := by
  refine (dats m 0 c).arrAt_eq_of_covers 9 _ (by decide +kernel) fun t hf y => ?_
  blk_simp
  rw [after0_9]
  refine (congrArg _ (ValueIdx.eq_ix2 y)).trans ((dx_point m c t (y 0) (y 1)).trans ?_)
  have e0 : (win0_9.blk t).view.emb y 0 = at_ t (y 0) := by
    refine Fin.ext ?_
    blk_simp [idx9 t]
  have e1 : (win0_9.blk t).view.emb y 1 = y 1 := by
    refine Fin.ext ?_
    blk_simp [idx9 t]
  rw [e0, e1]

theorem dxb_point (t : Fin cfg0.N) (r : Fin 512) (k : Fin 1024) : (outsAt0 m c t.val t.isLt).2.1 (ix2 r k) = vX m c (at_ t r) k := by
  by_cases h0 : t.val % 16 = 0
  · rw [outsAt0_A m c t h0]
    frame_out
    exact tX_at m c t r k
  · rw [outsAt0_B m c t h0]
    frame_out
    exact tX_at m c t r k

theorem dxb_final : (dats m 0 c).arrAt 10 cfg0.N = fun y : S8192x1024.Idx => vX m c (y 0) (y 1) := by
  refine (dats m 0 c).arrAt_eq_of_covers 10 _ (by decide +kernel) fun t hf y => ?_
  blk_simp
  rw [after0_10]
  refine (congrArg _ (ValueIdx.eq_ix2 y)).trans ((dxb_point m c t (y 0) (y 1)).trans ?_)
  have e0 : (win0_10.blk t).view.emb y 0 = at_ t (y 0) := by
    refine Fin.ext ?_
    blk_simp [idx10 t]
  have e1 : (win0_10.blk t).view.emb y 1 = y 1 := by
    refine Fin.ext ?_
    blk_simp [idx10 t]
  rw [e0, e1]

theorem dp_point (t : Fin cfg0.N) (r : Fin 512) (k : Fin 1024) : (outsAt0 m c t.val t.isLt).2.2.1 (ix2 r k) = vP m c (at_ t r) k := by
  by_cases h0 : t.val % 16 = 0
  · rw [outsAt0_A m c t h0]
    frame_out
    exact tP_at m c t r k
  · rw [outsAt0_B m c t h0]
    frame_out
    exact tP_at m c t r k

theorem dp_final : (dats m 0 c).arrAt 11 cfg0.N = fun y : S8192x1024.Idx => vP m c (y 0) (y 1) := by
  refine (dats m 0 c).arrAt_eq_of_covers 11 _ (by decide +kernel) fun t hf y => ?_
  blk_simp
  rw [after0_11]
  refine (congrArg _ (ValueIdx.eq_ix2 y)).trans ((dp_point m c t (y 0) (y 1)).trans ?_)
  have e0 : (win0_11.blk t).view.emb y 0 = at_ t (y 0) := by
    refine Fin.ext ?_
    blk_simp [idx11 t]
  have e1 : (win0_11.blk t).view.emb y 1 = y 1 := by
    refine Fin.ext ?_
    blk_simp [idx11 t]
  rw [e0, e1]

theorem dg_point (t : Fin cfg0.N) (r : Fin 512) (k : Fin 1024) : (outsAt0 m c t.val t.isLt).2.2.2.1 (ix2 r k) = vG m c (at_ t r) k := by
  by_cases h0 : t.val % 16 = 0
  · rw [outsAt0_A m c t h0]
    frame_out
    exact tG_at m c t r k
  · rw [outsAt0_B m c t h0]
    frame_out
    exact tG_at m c t r k

theorem dg_final : (dats m 0 c).arrAt 12 cfg0.N = fun y : S8192x1024.Idx => vG m c (y 0) (y 1) := by
  refine (dats m 0 c).arrAt_eq_of_covers 12 _ (by decide +kernel) fun t hf y => ?_
  blk_simp
  rw [after0_12]
  refine (congrArg _ (ValueIdx.eq_ix2 y)).trans ((dg_point m c t (y 0) (y 1)).trans ?_)
  have e0 : (win0_12.blk t).view.emb y 0 = at_ t (y 0) := by
    refine Fin.ext ?_
    blk_simp [idx12 t]
  have e1 : (win0_12.blk t).view.emb y 1 = y 1 := by
    refine Fin.ext ?_
    blk_simp [idx12 t]
  rw [e0, e1]

theorem N0 : cfg0.N = 16 := by decide +kernel

/-- The last point. -/
def tEnd : Fin cfg0.N := ⟨15, by decide +kernel⟩

theorem tEnd_mod : tEnd.val % 16 = 15 := by decide +kernel

theorem one_row (y : S1x1024.Idx) : ∃ d : Fin 1024, y = ix2 0 d :=
  ⟨y 1, (ValueIdx.eq_ix2 y).trans (congrArg (ix2 · (y 1)) (Subsingleton.elim (α := Fin 1) _ _))⟩

/-- The last norm's scale's gradient: what row `n` adds. -/
def dfTerm (n : ℕ) (d : Fin 1024) : EReal :=
  if h : n < 8192 then ctE (nY m c ⟨n, h⟩) (nF m c) (nT m c ⟨n, h⟩) d * (nY m c ⟨n, h⟩ d * Cert.Ffn.inv (nY m c ⟨n, h⟩)) else 0

/-- What point `t` adds. -/
def dfTile (t : ℕ) (y : S1x1024.Idx) : EReal := ∑ r : Fin 512, dfTerm m c (512 * t + r.val) (y 1)

theorem df_term (t : Fin cfg0.N) (r : Fin 512) (d : Fin 1024) : ctE (nY m c (at_ t r)) (nF m c) (nT m c (at_ t r)) d * (nY m c (at_ t r) d * Cert.Ffn.inv (nY m c (at_ t r))) = dfTerm m c (512 * t.val + r.val) d := by
  have ht := tlt t
  have hr : 512 * t.val + r.val < 8192 := by have := r.isLt; omega
  unfold dfTerm
  rw [dif_pos hr, show at_ t r = ⟨512 * t.val + r.val, hr⟩ from Fin.ext (by show t.val * 512 + r.val = 512 * t.val + r.val; omega)]

theorem df_tile (t : Fin cfg0.N) (acc : Vec Ideal S1x1024 .f32) (y : S1x1024.Idx) : k0_pay32 (F := Ideal) (k0_pay15 (iblk m c 5 t) (k0_pay4 (iblk m c 6 t)) (tY m c t) (tQ m c t) (k0_pay9 (F := Ideal))) acc y = acc y + dfTile m c t.val y := by
  obtain ⟨d, rfl⟩ := one_row y
  unfold k0_pay32
  rw [addf_apply, shapeCast_self]
  refine congrArg (acc (ix2 0 d) + ·) ?_
  rw [LossTile.pay4_eq]
  refine (LossTile.df_at _ _ _ _ _ (LossTile.q_at _ _ _ _ _) d).trans (Finset.sum_congr rfl fun r _ => ?_)
  rw [LossTile.y_row, LossTile.y_at, rowY, rowT, rowF]
  exact df_term m c t r d

theorem df_first (t : Fin cfg0.N) (h0 : t.val % 16 = 0) (y : S1x1024.Idx) : (outsAt0 m c t.val t.isLt).2.2.2.2.1 y = 0 + dfTile m c t.val y := by
  rw [outsAt0_A m c t h0]
  frame_open
  simp (disch := decide) only [↓ View.readCov_skip, ↓ View.readCov_cons_toLoadRect, ↓ View.readCov_fill]
  frame_out
  refine (df_tile m c t _ y).trans ?_
  rw [show (k0_pay29 (F := Ideal)) y = 0 from Ideal.ofBits_zero_f32]

theorem df_next (t : Fin cfg0.N) (h0 : ¬t.val % 16 = 0) (y : S1x1024.Idx) :
    (outsAt0 m c t.val t.isLt).2.2.2.2.1 y = (outsAt0 m c (t.val - 1) (by have := t.isLt; omega)).2.2.2.2.1 y + dfTile m c t.val y := by
  rw [outsAt0_B m c t h0]
  frame_out
  exact df_tile m c t _ y

theorem df_last (t : Fin cfg0.N) (ht : t.val % 16 = 15) (y : S1x1024.Idx) :
    (outsAt0 m c t.val t.isLt).2.2.2.2.1 y = 0 + ∑ t ∈ Finset.range 16, dfTile m c t y :=
  Pipeline.eq_sum_of_reset_step_apply_single_of_mod (fun n h => (outsAt0 m c n h).2.2.2.2.1) 16 (fun _ => 0) (dfTile m c)
    (df_first m c) (df_next m c) (le_of_eq N0) t ht y

theorem df_rows (y : S1x1024.Idx) : ∑ t ∈ Finset.range 16, ∑ r : Fin 512, dfTerm m c (512 * t + r.val) (y 1) = ∑ n : Fin 8192, ctE (nY m c n) (nF m c) (nT m c n) (y 1) * (nY m c n (y 1) * Cert.Ffn.inv (nY m c n)) := by
  refine (sum_tiles 16 512 8192 rfl (fun n => dfTerm m c n (y 1))).symm.trans (Finset.sum_congr rfl fun n _ => ?_)
  unfold dfTerm
  rw [dif_pos n.isLt]

theorem df_final : (dats m 0 c).arrAt 13 cfg0.N = fun y : S1x1024.Idx => ∑ n : Fin 8192, ctE (nY m c n) (nF m c) (nT m c n) (y 1) * (nY m c n (y 1) * Cert.Ffn.inv (nY m c n)) := by
  refine (dats m 0 c).arrAt_eq_of_after_last 13 tEnd (by decide +kernel) _ fun y => ?_
  blk_simp
  rw [after0_13]
  refine (df_last m c tEnd tEnd_mod y).trans ?_
  rw [zero_add]
  exact df_rows m c y

/-- A real factor goes out of a sum. -/
theorem scaled_sum (s : Finset ℕ) (f : ℕ → EReal) : Ideal.ofBits .f32 0x3A000000#32 * ∑ t ∈ s, f t = ∑ t ∈ s, Ideal.ofBits .f32 0x3A000000#32 * f t := by
  have h : Ideal.ofBits .f32 0x3A000000#32 = ((1 / 2048 : ℝ) : EReal) := by
    simp [Ideal.ofBits, Ideal.ieee]
    rw [← EReal.coe_mul]
    norm_num
  rw [h]
  induction s using Finset.induction_on with
  | empty => rw [Finset.sum_empty, Finset.sum_empty, mul_zero]
  | insert a s ha ih => rw [Finset.sum_insert ha, Finset.sum_insert ha, EReal.left_distrib_of_nonneg_of_ne_top (by exact_mod_cast (by norm_num : (0 : ℝ) ≤ 1 / 2048)) (EReal.coe_ne_top _), ih]

/-- The loss: what row `n` adds. -/
def lsTerm (n : ℕ) (d : Fin 1024) : EReal :=
  if h : n < 8192 then err (nY m c ⟨n, h⟩) (nF m c) (nT m c ⟨n, h⟩) d * err (nY m c ⟨n, h⟩) (nF m c) (nT m c ⟨n, h⟩) d else 0

/-- What point `t` adds. -/
def lsTile (t : ℕ) (y : S1x1024.Idx) : EReal := Ideal.ofBits .f32 0x3A000000#32 * ∑ r : Fin 512, lsTerm m c (512 * t + r.val) (y 1)

theorem ls_term (t : Fin cfg0.N) (r : Fin 512) (d : Fin 1024) : err (nY m c (at_ t r)) (nF m c) (nT m c (at_ t r)) d * err (nY m c (at_ t r)) (nF m c) (nT m c (at_ t r)) d = lsTerm m c (512 * t.val + r.val) d := by
  have ht := tlt t
  have hr : 512 * t.val + r.val < 8192 := by have := r.isLt; omega
  unfold lsTerm
  rw [dif_pos hr, show at_ t r = ⟨512 * t.val + r.val, hr⟩ from Fin.ext (by show t.val * 512 + r.val = 512 * t.val + r.val; omega)]

theorem ls_tile (t : Fin cfg0.N) (acc : Vec Ideal S1x1024 .f32) (y : S1x1024.Idx) : k0_pay1 (F := Ideal) (k0_pay25 (k0_pay10 (iblk m c 5 t) (k0_pay4 (iblk m c 6 t)) (tY m c t) (tQ m c t) (k0_pay9 (F := Ideal)))) acc y = acc y + lsTile m c t.val y := by
  obtain ⟨d, rfl⟩ := one_row y
  unfold k0_pay1
  rw [addf_apply, shapeCast_self]
  refine congrArg (acc (ix2 0 d) + ·) ?_
  rw [LossTile.pay4_eq]
  refine (LossTile.loss_at _ _ _ _ _ (LossTile.q_at _ _ _ _ _) d).trans (congrArg (Ideal.ofBits .f32 0x3A000000#32 * ·) (Finset.sum_congr rfl fun r _ => ?_))
  rw [LossTile.y_row, rowY, rowT, rowF]
  exact ls_term m c t r d

theorem ls_first (t : Fin cfg0.N) (h0 : t.val % 16 = 0) (y : S1x1024.Idx) : (outsAt0 m c t.val t.isLt).2.2.2.2.2.1 y = 0 + lsTile m c t.val y := by
  rw [outsAt0_A m c t h0]
  frame_open
  simp (disch := decide) only [↓ View.readCov_skip, ↓ View.readCov_cons_toLoadRect, ↓ View.readCov_fill]
  frame_out
  refine (ls_tile m c t _ y).trans ?_
  rw [show (k0_pay30 (F := Ideal)) y = 0 from Ideal.ofBits_zero_f32]

theorem ls_next (t : Fin cfg0.N) (h0 : ¬t.val % 16 = 0) (y : S1x1024.Idx) :
    (outsAt0 m c t.val t.isLt).2.2.2.2.2.1 y = (outsAt0 m c (t.val - 1) (by have := t.isLt; omega)).2.2.2.2.2.1 y + lsTile m c t.val y := by
  rw [outsAt0_B m c t h0]
  frame_out
  exact ls_tile m c t _ y

theorem ls_last (t : Fin cfg0.N) (ht : t.val % 16 = 15) (y : S1x1024.Idx) :
    (outsAt0 m c t.val t.isLt).2.2.2.2.2.1 y = 0 + ∑ t ∈ Finset.range 16, lsTile m c t y :=
  Pipeline.eq_sum_of_reset_step_apply_single_of_mod (fun n h => (outsAt0 m c n h).2.2.2.2.2.1) 16 (fun _ => 0) (lsTile m c)
    (ls_first m c) (ls_next m c) (le_of_eq N0) t ht y

theorem ls_rows (y : S1x1024.Idx) : ∑ t ∈ Finset.range 16, ∑ r : Fin 512, lsTerm m c (512 * t + r.val) (y 1) = ∑ n : Fin 8192, err (nY m c n) (nF m c) (nT m c n) (y 1) * err (nY m c n) (nF m c) (nT m c n) (y 1) := by
  refine (sum_tiles 16 512 8192 rfl (fun n => lsTerm m c n (y 1))).symm.trans (Finset.sum_congr rfl fun n _ => ?_)
  unfold lsTerm
  rw [dif_pos n.isLt]

theorem ls_final : (dats m 0 c).arrAt 14 cfg0.N = fun y : S1x1024.Idx => Ideal.ofBits .f32 0x3A000000#32 * ∑ n : Fin 8192, err (nY m c n) (nF m c) (nT m c n) (y 1) * err (nY m c n) (nF m c) (nT m c n) (y 1) := by
  refine (dats m 0 c).arrAt_eq_of_after_last 14 tEnd (by decide +kernel) _ fun y => ?_
  blk_simp
  rw [after0_14]
  refine (ls_last m c tEnd tEnd_mod y).trans ?_
  rw [zero_add]
  unfold lsTile
  rw [← scaled_sum]
  exact congrArg (Ideal.ofBits .f32 0x3A000000#32 * ·) (ls_rows m c y)

/-- The layer's norm's scale's gradient: what row `n` adds. -/
def dnTerm (n : ℕ) (d : Fin 1024) : EReal :=
  if h : n < 8192 then vH m c ⟨n, h⟩ d * (nX m c ⟨n, h⟩ d * Cert.Ffn.inv (nX m c ⟨n, h⟩)) else 0

/-- What point `t` adds. -/
def dnTile (t : ℕ) (y : S1x1024.Idx) : EReal := ∑ r : Fin 512, dnTerm m c (512 * t + r.val) (y 1)

theorem dn_term (t : Fin cfg0.N) (r : Fin 512) (d : Fin 1024) : vH m c (at_ t r) d * (nX m c (at_ t r) d * Cert.Ffn.inv (nX m c (at_ t r))) = dnTerm m c (512 * t.val + r.val) d := by
  have ht := tlt t
  have hr : 512 * t.val + r.val < 8192 := by have := r.isLt; omega
  unfold dnTerm
  rw [dif_pos hr, show at_ t r = ⟨512 * t.val + r.val, hr⟩ from Fin.ext (by show t.val * 512 + r.val = 512 * t.val + r.val; omega)]

theorem dn_tile (t : Fin cfg0.N) (acc : Vec Ideal S1x1024 .f32) (y : S1x1024.Idx) : k0_pay2 (F := Ideal) (k0_pay23 (iblk m c 4 t) (tH m c t) (k0_pay19 (iblk m c 4 t)) (k0_pay20 (F := Ideal))) acc y = acc y + dnTile m c t.val y := by
  obtain ⟨d, rfl⟩ := one_row y
  unfold k0_pay2
  rw [addf_apply, shapeCast_self]
  refine congrArg (acc (ix2 0 d) + ·) ?_
  refine (LossTile.dn_at _ _ d).trans (Finset.sum_congr rfl fun r _ => ?_)
  rw [tH_at, rowX, rd4, a4_eq]
  exact dn_term m c t r d

theorem dn_first (t : Fin cfg0.N) (h0 : t.val % 16 = 0) (y : S1x1024.Idx) : (outsAt0 m c t.val t.isLt).2.2.2.2.2.2 y = 0 + dnTile m c t.val y := by
  rw [outsAt0_A m c t h0]
  frame_open
  simp (disch := decide) only [↓ View.readCov_skip, ↓ View.readCov_cons_toLoadRect, ↓ View.readCov_fill]
  frame_out
  refine (dn_tile m c t _ y).trans ?_
  rw [show (k0_pay31 (F := Ideal)) y = 0 from Ideal.ofBits_zero_f32]

theorem dn_next (t : Fin cfg0.N) (h0 : ¬t.val % 16 = 0) (y : S1x1024.Idx) :
    (outsAt0 m c t.val t.isLt).2.2.2.2.2.2 y = (outsAt0 m c (t.val - 1) (by have := t.isLt; omega)).2.2.2.2.2.2 y + dnTile m c t.val y := by
  rw [outsAt0_B m c t h0]
  frame_out
  exact dn_tile m c t _ y

theorem dn_last (t : Fin cfg0.N) (ht : t.val % 16 = 15) (y : S1x1024.Idx) :
    (outsAt0 m c t.val t.isLt).2.2.2.2.2.2 y = 0 + ∑ t ∈ Finset.range 16, dnTile m c t y :=
  Pipeline.eq_sum_of_reset_step_apply_single_of_mod (fun n h => (outsAt0 m c n h).2.2.2.2.2.2) 16 (fun _ => 0) (dnTile m c)
    (dn_first m c) (dn_next m c) (le_of_eq N0) t ht y

theorem dn_rows (y : S1x1024.Idx) : ∑ t ∈ Finset.range 16, ∑ r : Fin 512, dnTerm m c (512 * t + r.val) (y 1) = ∑ n : Fin 8192, vH m c n (y 1) * (nX m c n (y 1) * Cert.Ffn.inv (nX m c n)) := by
  refine (sum_tiles 16 512 8192 rfl (fun n => dnTerm m c n (y 1))).symm.trans (Finset.sum_congr rfl fun n _ => ?_)
  unfold dnTerm
  rw [dif_pos n.isLt]

theorem dn_final : (dats m 0 c).arrAt 15 cfg0.N = fun y : S1x1024.Idx => ∑ n : Fin 8192, vH m c n (y 1) * (nX m c n (y 1) * Cert.Ffn.inv (nX m c n)) := by
  refine (dats m 0 c).arrAt_eq_of_after_last 15 tEnd (by decide +kernel) _ fun y => ?_
  blk_simp
  rw [after0_15]
  refine (dn_last m c tEnd tEnd_mod y).trans ?_
  rw [zero_add]
  exact dn_rows m c y

open Cert.Reference14Ideal.Read

section

variable (h0 : ∀ i, IsFin (x0 m c i)) (h1 : ∀ i, IsFin (x1 m c i)) (h2 : ∀ i, IsFin (x2 m c i)) (h3 : ∀ i, IsFin (x3 m c i)) (h4 : ∀ i, IsFin (x4 m c i)) (h5 : ∀ i, IsFin (x5 m c i)) (h6 : ∀ i, IsFin (x6 m c i))

include h0 h1 h2 h3 h4 h5 h6

theorem dx_result : (dats m 0 c).arrAt 9 cfg0.N = val_main_v181 (F := Ideal) (x0 m c) (x1 m c) (x2 m c) (x3 m c) (x4 m c) (x5 m c) (x6 m c) := by
  refine (dx_final m c).trans (funext fun y => ?_)
  obtain ⟨n, k, rfl⟩ : ∃ n k, y = ix2 n k := ⟨y 0, y 1, ValueIdx.eq_ix2 y⟩
  exact (LossRef.v181_at n h0 h1 h2 h3 h4 h5 h6 k).symm

theorem dxb_result : (dats m 0 c).arrAt 10 cfg0.N = val_main_v224 (F := Ideal) (x0 m c) (x1 m c) (x2 m c) (x3 m c) (x4 m c) (x5 m c) (x6 m c) := by
  refine (dxb_final m c).trans (funext fun y => ?_)
  obtain ⟨n, k, rfl⟩ : ∃ n k, y = ix2 n k := ⟨y 0, y 1, ValueIdx.eq_ix2 y⟩
  exact (LossRef.v181_at n h0 h1 h2 h3 h4 h5 h6 k).symm

theorem dp_result : (dats m 0 c).arrAt 11 cfg0.N = val_main_v225 (F := Ideal) (x0 m c) (x1 m c) (x2 m c) (x3 m c) (x4 m c) (x5 m c) (x6 m c) := by
  refine (dp_final m c).trans (funext fun y => ?_)
  obtain ⟨n, k, rfl⟩ : ∃ n k, y = ix2 n k := ⟨y 0, y 1, ValueIdx.eq_ix2 y⟩
  exact (LossRef.v74_at n h0 h1 h2 h3 h4 h5 h6 k).symm

theorem dg_result : (dats m 0 c).arrAt 12 cfg0.N = val_main_v226 (F := Ideal) (x0 m c) (x1 m c) (x2 m c) (x3 m c) (x4 m c) (x5 m c) (x6 m c) := by
  refine (dg_final m c).trans (funext fun y => ?_)
  obtain ⟨n, k, rfl⟩ : ∃ n k, y = ix2 n k := ⟨y 0, y 1, ValueIdx.eq_ix2 y⟩
  exact (LossRef.v76_at n h0 h1 h2 h3 h4 h5 h6 k).symm

theorem dn_result : (dats m 0 c).arrAt 15 cfg0.N = val_main_v229 (F := Ideal) (x0 m c) (x1 m c) (x2 m c) (x3 m c) (x4 m c) (x5 m c) (x6 m c) := by
  refine (dn_final m c).trans (funext fun y => ?_)
  obtain ⟨d, rfl⟩ := one_row y
  exact (LossRef.v229_at h0 h1 h2 h3 h4 h5 h6 d).symm

end

theorem df_result : (dats m 0 c).arrAt 13 cfg0.N = val_main_v227 (F := Ideal) (x0 m c) (x1 m c) (x2 m c) (x3 m c) (x4 m c) (x5 m c) (x6 m c) := by
  refine (df_final m c).trans (funext fun y => ?_)
  obtain ⟨d, rfl⟩ := one_row y
  exact (LossRef.v227_at (x0 m c) (x1 m c) (x2 m c) (x3 m c) (x4 m c) (x5 m c) (x6 m c) d).symm

theorem ls_result : (dats m 0 c).arrAt 14 cfg0.N = val_main_v228 (F := Ideal) (x0 m c) (x1 m c) (x2 m c) (x3 m c) (x4 m c) (x5 m c) (x6 m c) := by
  refine (ls_final m c).trans (funext fun y => ?_)
  obtain ⟨d, rfl⟩ := one_row y
  exact (LossRef.v228_at (x0 m c) (x1 m c) (x2 m c) (x3 m c) (x4 m c) (x5 m c) (x6 m c) d).symm

end Cert.Mix.LossBack

end
-- ==== Proof.AdamNorm.lean ====
module

public import proofs.«01_k».proof.Proof.Gen.Kernel15Ideal.Value
public import proofs.«01_k».proof.Proof.Gen.Reference15Ideal.Read
public import Idealize.ShloMosaic.Lib.Pipeline.ValueKit
public import Idealize.ShloMosaic.Lib.Pipeline.ReadBack

/-! The optimiser's step for a norm's scale: one row, element by element. -/

@[expose] public section

set_option maxRecDepth 16384

noncomputable section

namespace Cert.Mix.AdamNorm

open Cert.Kernel15Ideal Cert.Kernel15Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

open Cert.Reference15Ideal.Read

variable (m : (ℓ : Loc nD τ sig) → Buf (Elt Ideal) ℓ) (c : Dev nD)

abbrev x0 := m ((c : Thread nD τ).loc main_arg0)
abbrev x1 := m ((c : Thread nD τ).loc main_arg1)
abbrev x2 := m ((c : Thread nD τ).loc main_arg2)
abbrev x3 := m ((c : Thread nD τ).loc main_arg3)

theorem delta_result : (dats m 0 c).arrAt 4 cfg0.N = val_main_v23 (F := Ideal) (x0 m c) (x1 m c) (x2 m c) (x3 m c) :=
  (Cert.Kernel15Ideal.Value.final4 m c).trans (funext fun _ => rfl)

theorem m_result : (dats m 0 c).arrAt 5 cfg0.N = val_main_v4 (F := Ideal) (x1 m c) (x2 m c) :=
  (Cert.Kernel15Ideal.Value.final5 m c).trans (funext fun _ => rfl)

theorem v_result : (dats m 0 c).arrAt 6 cfg0.N = val_main_v10 (F := Ideal) (x1 m c) (x3 m c) :=
  (Cert.Kernel15Ideal.Value.final6 m c).trans (funext fun _ => rfl)

end Cert.Mix.AdamNorm

end
-- ==== Proof.AdamScale.lean ====
module

public import proofs.«01_k».proof.Proof.Gen.Kernel16Ideal.Value
public import proofs.«01_k».proof.Proof.Gen.Reference16Ideal.Read
public import Idealize.ShloMosaic.Lib.Pipeline.ValueKit
public import Idealize.ShloMosaic.Lib.Pipeline.ReadBack

/-! The optimiser's step for the pooling mixer's scale: one row, element by element. -/

@[expose] public section

set_option maxRecDepth 16384

noncomputable section

namespace Cert.Mix.AdamScale

open Cert.Kernel16Ideal Cert.Kernel16Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

open Cert.Reference16Ideal.Read

variable (m : (ℓ : Loc nD τ sig) → Buf (Elt Ideal) ℓ) (c : Dev nD)

abbrev x0 := m ((c : Thread nD τ).loc main_arg0)
abbrev x1 := m ((c : Thread nD τ).loc main_arg1)
abbrev x2 := m ((c : Thread nD τ).loc main_arg2)
abbrev x3 := m ((c : Thread nD τ).loc main_arg3)

theorem delta_result : (dats m 0 c).arrAt 4 cfg0.N = val_main_v23 (F := Ideal) (x0 m c) (x1 m c) (x2 m c) (x3 m c) :=
  (Cert.Kernel16Ideal.Value.final4 m c).trans (funext fun _ => rfl)

theorem m_result : (dats m 0 c).arrAt 5 cfg0.N = val_main_v4 (F := Ideal) (x1 m c) (x2 m c) :=
  (Cert.Kernel16Ideal.Value.final5 m c).trans (funext fun _ => rfl)

theorem v_result : (dats m 0 c).arrAt 6 cfg0.N = val_main_v10 (F := Ideal) (x1 m c) (x3 m c) :=
  (Cert.Kernel16Ideal.Value.final6 m c).trans (funext fun _ => rfl)

end Cert.Mix.AdamScale

end
-- ==== Proof.AdamPool.lean ====
module

public import proofs.«01_k».proof.Proof.Gen.Kernel17Ideal.Value
public import proofs.«01_k».proof.Proof.Gen.Reference17Ideal.Read
public import Idealize.ShloMosaic.Lib.Pipeline.ValueKit
public import Idealize.ShloMosaic.Lib.Pipeline.ReadBack

/-! The optimiser's step for the pooling weights: one block of 512 rows, element by element. -/

@[expose] public section

set_option maxRecDepth 16384

noncomputable section

namespace Cert.Mix.AdamPool

open Cert.Kernel17Ideal Cert.Kernel17Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

/-- The step at one element: the two moments and the change of the weight. -/
def mom (g m : Ideal .f32) : Ideal .f32 :=
  FloatOps.addf (FloatOps.mulf (Scalar.ofBits .f32 0x3F666666#32) m) (FloatOps.mulf (Scalar.ofBits .f32 0x3DCCCCCD#32) g)
def sqr (g v : Ideal .f32) : Ideal .f32 :=
  FloatOps.addf (FloatOps.mulf (Scalar.ofBits .f32 0x3F7FBE77#32) v) (FloatOps.mulf (Scalar.ofBits .f32 0x3A83126F#32) (FloatOps.mulf g g))
def del (w g m v : Ideal .f32) : Ideal .f32 :=
  FloatOps.mulf (Scalar.ofBits .f32 0xBA83126F#32) (FloatOps.addf (FloatOps.divf (FloatOps.divf (mom g m) (Scalar.ofBits .f32 0x3F26BD02#32))
    (FloatOps.addf (FloatOps.sqrt (FloatOps.divf (sqr g v) (Scalar.ofBits .f32 0x3C231ACC#32))) (Scalar.ofBits .f32 0x322BCC77#32)))
    (FloatOps.mulf (Scalar.ofBits .f32 0x3C23D70A#32) w))

section Tile

variable (w g m v : Vec Ideal S512x128 .f32) (y : S512x128.Idx)

theorem mom_at : k0_pay2 (F := Ideal) g m y = mom (g y) (m y) := by
  unfold k0_pay2 k0_pay1
  simp only [shapeCast_self]
  rfl

theorem sqr_at : k0_pay3 (F := Ideal) g v y = sqr (g y) (v y) := by
  unfold k0_pay3 k0_pay1
  simp only [shapeCast_self]
  rfl

theorem del_at : k0_pay4 (F := Ideal) w g m v y = del (w y) (g y) (m y) (v y) := by
  unfold del
  rw [← mom_at, ← sqr_at]
  unfold k0_pay4
  simp only [shapeCast_self]
  rfl

end Tile

variable (m : (ℓ : Loc nD τ sig) → Buf (Elt Ideal) ℓ) (c : Dev nD)

abbrev a0 : S512x128.Idx → EReal := V m c main_v0
abbrev a1 : S512x128.Idx → EReal := V m c main_v1
abbrev a2 : S512x128.Idx → EReal := V m c main_v2
abbrev a3 : S512x128.Idx → EReal := V m c main_v3

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem rd0 (t : Fin cfg0.N) : (iblk m c 0 t : S512x128.Idx → EReal) = a0 m c := by
  funext y
  blk_ext [iblk, idx0 t]
theorem rd1 (t : Fin cfg0.N) : (iblk m c 1 t : S512x128.Idx → EReal) = a1 m c := by
  funext y
  blk_ext [iblk, idx1 t]
theorem rd2 (t : Fin cfg0.N) : (iblk m c 2 t : S512x128.Idx → EReal) = a2 m c := by
  funext y
  blk_ext [iblk, idx2 t]
theorem rd3 (t : Fin cfg0.N) : (iblk m c 3 t : S512x128.Idx → EReal) = a3 m c := by
  funext y
  blk_ext [iblk, idx3 t]

theorem delta_point (t : Fin cfg0.N) (y : S512x128.Idx) : out0_4 (F := Ideal) (iblk m c 0 t) (iblk m c 1 t) (iblk m c 2 t) (iblk m c 3 t) y = del (a0 m c y) (a1 m c y) (a2 m c y) (a3 m c y) := by
  frame_out
  rw [rd0, rd1, rd2, rd3]
  exact del_at _ _ _ _ y

theorem delta_final : (dats m 0 c).arrAt 4 cfg0.N = fun y : S512x128.Idx => del (a0 m c y) (a1 m c y) (a2 m c y) (a3 m c y) := by
  refine (dats m 0 c).arrAt_eq_of_covers 4 _ (by decide +kernel) fun t hf y => ?_
  blk_simp
  rw [after0_4]
  refine (delta_point m c t y).trans ?_
  have e : (win0_4.blk t).view.emb y = y := by
    funext a
    refine Fin.ext ?_
    match a with
    | ⟨0, _⟩ => blk_simp [idx4 t]
    | ⟨1, _⟩ => blk_simp [idx4 t]
  rw [e]

theorem m_point (t : Fin cfg0.N) (y : S512x128.Idx) : out0_5 (F := Ideal) (iblk m c 0 t) (iblk m c 1 t) (iblk m c 2 t) (iblk m c 3 t) y = mom (a1 m c y) (a2 m c y) := by
  frame_out
  rw [rd1, rd2]
  exact mom_at _ _ y

theorem m_final : (dats m 0 c).arrAt 5 cfg0.N = fun y : S512x128.Idx => mom (a1 m c y) (a2 m c y) := by
  refine (dats m 0 c).arrAt_eq_of_covers 5 _ (by decide +kernel) fun t hf y => ?_
  blk_simp
  rw [after0_5]
  refine (m_point m c t y).trans ?_
  have e : (win0_5.blk t).view.emb y = y := by
    funext a
    refine Fin.ext ?_
    match a with
    | ⟨0, _⟩ => blk_simp [idx5 t]
    | ⟨1, _⟩ => blk_simp [idx5 t]
  rw [e]

theorem v_point (t : Fin cfg0.N) (y : S512x128.Idx) : out0_6 (F := Ideal) (iblk m c 0 t) (iblk m c 1 t) (iblk m c 2 t) (iblk m c 3 t) y = sqr (a1 m c y) (a3 m c y) := by
  frame_out
  rw [rd1, rd3]
  exact sqr_at _ _ y

theorem v_final : (dats m 0 c).arrAt 6 cfg0.N = fun y : S512x128.Idx => sqr (a1 m c y) (a3 m c y) := by
  refine (dats m 0 c).arrAt_eq_of_covers 6 _ (by decide +kernel) fun t hf y => ?_
  blk_simp
  rw [after0_6]
  refine (v_point m c t y).trans ?_
  have e : (win0_6.blk t).view.emb y = y := by
    funext a
    refine Fin.ext ?_
    match a with
    | ⟨0, _⟩ => blk_simp [idx6 t]
    | ⟨1, _⟩ => blk_simp [idx6 t]
  rw [e]

/-- The arguments as the launch finds them. -/
abbrev x0 := m ((c : Thread nD τ).loc main_arg0)
abbrev x1 := m ((c : Thread nD τ).loc main_arg1)
abbrev x2 := m ((c : Thread nD τ).loc main_arg2)
abbrev x3 := m ((c : Thread nD τ).loc main_arg3)

theorem a0_eq : a0 m c = shapeCast S512x128 (x0 m c) shapeCasts_S4x128x128_S512x128 := by
  show V m c main_v0 = _
  unfold V hostOps0
  after_results
  rfl

theorem a1_eq : a1 m c = shapeCast S512x128 (x1 m c) shapeCasts_S4x128x128_S512x128 := by
  show V m c main_v1 = _
  unfold V hostOps0
  after_results
  rfl

theorem a2_eq : a2 m c = shapeCast S512x128 (x2 m c) shapeCasts_S4x128x128_S512x128 := by
  show V m c main_v2 = _
  unfold V hostOps0
  after_results
  rfl

theorem a3_eq : a3 m c = shapeCast S512x128 (x3 m c) shapeCasts_S4x128x128_S512x128 := by
  show V m c main_v3 = _
  unfold V hostOps0
  after_results
  rfl

open Cert.Reference17Ideal.Read

theorem delta_result : (dats m 0 c).arrAt 4 cfg0.N = val_main_v24 (F := Ideal) (x0 m c) (x1 m c) (x2 m c) (x3 m c) := by
  rw [delta_final, a0_eq, a1_eq, a2_eq, a3_eq]
  rfl

theorem m_result : (dats m 0 c).arrAt 5 cfg0.N = val_main_v25 (F := Ideal) (x1 m c) (x2 m c) := by
  rw [m_final, a1_eq, a2_eq]
  rfl

theorem v_result : (dats m 0 c).arrAt 6 cfg0.N = val_main_v26 (F := Ideal) (x1 m c) (x3 m c) := by
  rw [v_final, a1_eq, a3_eq]
  rfl

end Cert.Mix.AdamPool

end
-- ==== Proof.NormIn.lean ====
module

public import proofs.«01_k».proof.Proof.Mix
public import proofs.«01_k».proof.Proof.Gen.Kernel18Ideal.Value
public import proofs.«01_k».proof.Proof.Gen.Reference18Ideal.Read
public import Idealize.ShloMosaic.Lib.Pipeline.ValueKit
public import Idealize.ShloMosaic.Lib.Pipeline.ReadBack

/-! The first norm: 512 rows at a time. -/

@[expose] public section

set_option maxRecDepth 16384

noncomputable section

namespace Cert.Mix.NormIn

open Cert.Ffn Cert.Kernel18Ideal Cert.Kernel18Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

/-- A row normalised and scaled. -/
def nrm (v g : Fin 1024 → EReal) (d : Fin 1024) : EReal := v d * Cert.Ffn.inv v * g d

theorem n_at (x : Vec Ideal S512x1024 .f32) (g : Vec Ideal S1x1024 .f32) (r : Fin 512) (d : Fin 1024) :
    k0_pay1 (F := Ideal) x g (ix2 r d) = nrm (fun j => x (ix2 r j)) (fun j => g (ix2 0 j)) d := by
  unfold k0_pay1
  simp only [shapeCast_self]
  show (mulf (mulf x (broadcastTo S512x1024 _ broadcasts_S512x1_S512x1024)) (broadcastTo S512x1024 g broadcasts_S1x1024_S512x1024) : FVec Ideal S512x1024 .f32) (ix2 r d) = _
  rw [mulf_apply, mulf_apply, over_cols, over_rows]
  refine congrArg (· * g (ix2 0 d)) (congrArg (x (ix2 r d) * ·) ?_)
  exact congrArg (fun s => Ideal.rsqrt (Ideal.div s width + tiny)) (row_sum (mulf x x) reduces_S512x1024_S512 (.inl rfl) rfl shapeCasts_S512_S512x1 r 0)

variable (m : (ℓ : Loc nD τ sig) → Buf (Elt Ideal) ℓ) (c : Dev nD)

abbrev a0 : S8192x1024.Idx → EReal := V m c main_arg0
abbrev a1 : S1x1024.Idx → EReal := V m c main_arg1

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem tlt (t : Fin cfg0.N) : t.val < 16 := t.isLt

/-- The batch row that point `t` has at row `r` of its tile. -/
abbrev at_ (t : Fin cfg0.N) (r : Fin 512) : Fin 8192 := ⟨t.val * 512 + r.val, by have := tlt t; omega⟩

theorem rd0 (t : Fin cfg0.N) (r : Fin 512) (k : Fin 1024) : iblk m c 0 t (ix2 r k) = a0 m c (ix2 (at_ t r) k) := by
  blk_ext [iblk, idx0 t]
theorem rows0 (t : Fin cfg0.N) (r : Fin 512) : (fun j => iblk m c 0 t (ix2 r j)) = fun j => a0 m c (ix2 (at_ t r) j) := funext fun j => rd0 m c t r j
theorem rd1 (t : Fin cfg0.N) : (iblk m c 1 t : S1x1024.Idx → EReal) = a1 m c := by
  funext y
  blk_ext [iblk, idx1 t]

theorem h_point (t : Fin cfg0.N) (r : Fin 512) (k : Fin 1024) : out0_2 (F := Ideal) (iblk m c 0 t) (iblk m c 1 t) (ix2 r k)
    = nrm (fun j => a0 m c (ix2 (at_ t r) j)) (fun j => a1 m c (ix2 0 j)) k := by
  frame_out
  refine (n_at _ _ r k).trans ?_
  rw [rows0, rd1]

theorem h_final : (dats m 0 c).arrAt 2 cfg0.N = fun y : S8192x1024.Idx => nrm (fun j => a0 m c (ix2 (y 0) j)) (fun j => a1 m c (ix2 0 j)) (y 1) := by
  refine (dats m 0 c).arrAt_eq_of_covers 2 _ (by decide +kernel) fun t hf y => ?_
  blk_simp
  rw [after0_2]
  refine (congrArg _ (ValueIdx.eq_ix2 y)).trans ((h_point m c t (y 0) (y 1)).trans ?_)
  have e0 : (win0_2.blk t).view.emb y 0 = at_ t (y 0) := by
    refine Fin.ext ?_
    blk_simp [idx2 t]
  have e1 : (win0_2.blk t).view.emb y 1 = y 1 := by
    refine Fin.ext ?_
    blk_simp [idx2 t]
  rw [e0, e1]

/-- The arguments as the launch finds them. -/
abbrev x0 := m ((c : Thread nD τ).loc main_arg0)
abbrev x1 := m ((c : Thread nD τ).loc main_arg1)

theorem a0_eq : a0 m c = x0 m c := V_main_arg0 m c
theorem a1_eq : a1 m c = x1 m c := V_main_arg1 m c

open Cert.Reference18Ideal.Read

section Ref

variable (x : S8192x1024.Idx → EReal) (g : S1x1024.Idx → EReal) (n : Fin 8192) (d : Fin 1024)

theorem v8_at (z : Fin 1) : val_main_v8 (F := Ideal) x (ix2 n z) = Cert.Ffn.inv fun j => x (ix2 n j) := by
  rw [val_main_v8_apply, val_main_v7_apply, val_main_v5_apply, val_main_v3_apply, val_main_v2_apply, val_main_v4_apply, val_main_v6_apply]
  refine congrArg (fun s => Ideal.rsqrt (Ideal.div s width + tiny)) ?_
  rw [val_main_cst_apply]
  refine (congrArg (· + _) Ideal.ofBits_zero_f32).trans ((zero_add _).trans (Finset.sum_congr rfl fun k _ => ?_))
  rw [val_main_v1_apply, show idx_main_v2 (idx_main_v3 (ix2 n z)) k = ix2 n k from ValueIdx.eq_ix2 _]
  rfl

theorem v12_at : val_main_v12 (F := Ideal) g (ix2 n d) = g (ix2 0 d) := by
  rw [val_main_v12_apply, val_main_v11_apply, val_main_v0_apply]
  exact congrArg g (funext fun a => Fin.ext (by match a with | ⟨0, _⟩ => rfl | ⟨1, _⟩ => exact Nat.mod_eq_of_lt d.isLt))

theorem v14_at : val_main_v14 (F := Ideal) x g (ix2 n d) = nrm (fun j => x (ix2 n j)) (fun j => g (ix2 0 j)) d := by
  refine (val_main_v14_apply _ _ _).trans ((val_main_v13_apply _ _ _).trans ?_)
  rw [val_main_v10_apply, val_main_v9_apply, show idx_main_v9 (ix2 n d) = ix2 n 0 from ValueIdx.eq_ix2 _, v8_at, v12_at]
  rfl

end Ref

theorem h_result : (dats m 0 c).arrAt 2 cfg0.N = val_main_v14 (F := Ideal) (x0 m c) (x1 m c) := by
  rw [h_final, a0_eq, a1_eq]
  funext y
  obtain ⟨i, k, rfl⟩ : ∃ i k, y = ix2 i k := ⟨y 0, y 1, ValueIdx.eq_ix2 y⟩
  exact (v14_at _ _ i k).symm

end Cert.Mix.NormIn

end
-- ==== Proof.PoolTile.lean ====
module

public import proofs.«01_k».proof.Proof.Blocks
public import proofs.«01_k».proof.Proof.Gen.Kernel19Ideal.Value

/-! What one tile of the pooling mixer's forward pass computes, read at an index.

`P r` is row `r` of a group's column of the tile with the sixteen rows before it in front, so the tile's own row `r` is
`P (16 + r)`; each lemma reads one stage of the body. -/

@[expose] public section

set_option maxRecDepth 16384

noncomputable section

namespace Cert.Pool.Fwd

open Cert.Kernel19Ideal Cert.Kernel19Ideal.Gen
open Idealize.ShloMosaic hiding ix0 ix1 ix2 ix3 ix4 ix5
open Idealize.ShloMosaic.TcCoe Idealize.ShloMosaic.ValueIdx

theorem cat_apply {off : Nat} (v3 : FVec Ideal S16x512 .f32) (d : FVec Ideal S512x128 .f32)
    (hs : S16x512.Slices ![0, off] S16x128) (hoff : off + 128 ≤ 512) (P : ℕ → Fin 128 → EReal)
    (hh : ∀ (r : Fin 16) (c : Fin 128) (k : Fin 512), k.val = off + c.val → v3 (ix2 r k) = P r.val c)
    (hd : ∀ (r : Fin 512) (c : Fin 128), d (ix2 r c) = P (16 + r.val) c) (c : Fin 128) (r : Fin 528) :
    (concatenate S528x128 0 [⟨S16x128, extractStridedSlice S16x128 ![0, off] v3 hs⟩, ⟨S512x128, d⟩]
      concatenates_S16x128_S512x128_S528x128_d0 : FVec Ideal S528x128 .f32) (ix2 r c) = P r.val c := by
  have hc := c.isLt
  have hr := r.isLt
  by_cases h : r.val < 16
  · rw [concatenate_pair_apply_left (s₁ := S16x128) (0 : Fin S528x128.rank) (extractStridedSlice S16x128 ![0, off] v3 hs) d _ (ix2 r c) rfl (ix2 ⟨r.val, h⟩ c)
        (fun b => match b with | ⟨0, _⟩ => rfl | ⟨1, _⟩ => rfl)]
    have hk : off + c.val < 512 := by omega
    rw [extractStridedSlice_apply ![0, off] v3 hs _ (ix2 ⟨r.val, h⟩ ⟨off + c.val, hk⟩)
      (fun a => match a with | ⟨0, _⟩ => (Nat.zero_add _).symm | ⟨1, _⟩ => rfl)]
    exact hh _ c _ rfl
  · have hr' : r.val - 16 < 512 := by omega
    rw [concatenate_pair_apply_right (s₁ := S16x128) (s₂ := S512x128) (0 : Fin S528x128.rank) (extractStridedSlice S16x128 ![0, off] v3 hs) d _ (ix2 r c) rfl rfl (ix2 ⟨r.val - 16, hr'⟩ c)
      (fun b hb => match b with | ⟨0, _⟩ => absurd rfl hb | ⟨1, _⟩ => rfl) (by show r.val - 16 + 16 = r.val; omega), hd]
    show P (16 + (r.val - 16)) c = _
    rw [show 16 + (r.val - 16) = r.val by omega]

/-- Rows added to the rows `k` above them: a window sum of `k` rows becomes one of `2k`, away from the first rows. -/
theorem rot_apply (v : FVec Ideal S528x128 .f32) (k L : ℕ) (hk : k < 528) (f : ℕ → EReal) (c : Fin 128)
    (hv : ∀ r : Fin 528, L ≤ r.val → v (ix2 r c) = ∑ j ∈ Finset.range k, f (r.val - j))
    (r : Fin 528) (hr : L + k ≤ r.val) :
    (addf v (dynamicRotate 0 (BitVec.ofNat 32 k) none v rotates_S528x128_d0) : FVec Ideal S528x128 .f32) (ix2 r c)
      = ∑ j ∈ Finset.range (k + k), f (r.val - j) := by
  have h := r.isLt
  rw [addf_apply, Finset.sum_range_add, hv r (by omega)]
  congr 1
  have hrk : r.val - k < 528 := by omega
  have e : dynamicRotate 0 (BitVec.ofNat 32 k) none v rotates_S528x128_d0 (ix2 r c) = v (ix2 ⟨r.val - k, hrk⟩ c) := by
    unfold dynamicRotate
    refine congrArg v (funext fun a => Fin.ext ?_)
    match a with
    | ⟨0, _⟩ =>
      show (r.val + 528 - (BitVec.ofNat 32 k).toNat % 528) % 528 = r.val - k
      rw [BitVec.toNat_ofNat, Nat.mod_eq_of_lt (show k < 2 ^ 32 by omega), Nat.mod_eq_of_lt hk]
      omega
    | ⟨1, _⟩ => rfl
  rw [e, hv ⟨r.val - k, hrk⟩ (by show L ≤ r.val - k; omega)]
  refine Finset.sum_congr rfl fun j _ => ?_
  show f (r.val - k - j) = f (r.val - (k + j))
  rw [Nat.sub_sub]

/-- The tile's rows of a window sum. -/
theorem own_apply (v : FVec Ideal S528x128 .f32) (r : Fin 512) (c : Fin 128) :
    (extractStridedSlice S512x128 ![16, 0] v slices_S528x128_o16_0_S512x128 : FVec Ideal S512x128 .f32) (ix2 r c)
      = v (ix2 ⟨16 + r.val, by have := r.isLt; omega⟩ c) :=
  extractStridedSlice_apply ![16, 0] v _ (ix2 r c) _
    (fun a => match a with | ⟨0, _⟩ => rfl | ⟨1, _⟩ => (Nat.zero_add _).symm)

/-- The window sum over the row count, less the row itself. -/
theorem mean_apply (i : grid0.Coords) (v d : FVec Ideal S512x128 .f32) (w : ℕ) (hw0 : 0 < w) (hw : w ≤ 16) (r : Fin 512) (c : Fin 128) :
    (subf (mulf v (broadcastTo S512x128 (divf (broadcast S512x1 (Scalar.ofBits .f32 0x3F800000#32))
      (sitofp .f32 (minsi (addi (k0_pay4 i) (broadcast S512x1 1#32)) (broadcast S512x1 (BitVec.ofNat 32 w)))))
      broadcasts_S512x1_S512x128)) d : FVec Ideal S512x128 .f32) (ix2 r c)
      = v (ix2 r c) * rcp w (512 * (i 0).val + r.val) - d (ix2 r c) := by
  rw [subf_apply, mulf_apply]
  refine congrArg (v (ix2 r c) * · - d (ix2 r c)) ?_
  refine (broadcastTo_apply (s := S512x1) (t := S512x128) _ _ (ix2 r c) (ix2 r 0) (fun a => match a with | ⟨0, _⟩ => rfl | ⟨1, _⟩ => rfl)).trans ?_
  show Ideal.div (Ideal.ofBits .f32 0x3F800000#32) (((BitVec.toInt ((minsi (addi (k0_pay4 i) (broadcast S512x1 1#32)) (broadcast S512x1 (BitVec.ofNat 32 w)) : IVec S512x1 32) (ix2 r 0)) : ℤ) : ℝ) : EReal) = _
  have e : (minsi (addi (k0_pay4 i) (broadcast S512x1 1#32)) (broadcast S512x1 (BitVec.ofNat 32 w)) : IVec S512x1 32) (ix2 r 0)
      = IntOp.minsi (IntOp.addi (IntOp.addi (IntOp.muli (BitVec.ofNat 32 (i 0).val) 512#32) (BitVec.ofNat 32 r.val)) 1#32) (BitVec.ofNat 32 w) := by
    unfold k0_pay4
    show IntOp.minsi (IntOp.addi (IntOp.addi _ (iota .tc S512x1 32 [0] iota_S512x1_d0_w32 (ix2 r 0))) _) _ = _
    rw [iota_single_apply]
    rfl
  rw [e]
  have hc : (cnt w (512 * (i 0).val + r.val) : ℝ) ≠ 0 := by
    have : 0 < cnt w (512 * (i 0).val + r.val) := by unfold cnt; omega
    exact_mod_cast this.ne'
  rw [cnt_word (i 0).val r.val w (i 0).isLt (by have := r.isLt; omega) hw, one_f32]
  rw [Int.cast_natCast, Ideal.div_coe hc, ← EReal.coe_mul, one_mul]
  rfl

/-- A group's product with its weights, scaled. -/
theorem mixed_apply (x : FVec Ideal S512x128 .bf16) (w : FVec Ideal S1x128x128 .bf16) (s : FVec Ideal S1x128 .f32)
    (W : Fin 128 → Fin 128 → EReal) (S : Fin 128 → EReal)
    (hw : ∀ a b : Fin 128, w (ix3 0 a b) = W a b) (hS : ∀ c : Fin 128, s (ix2 0 c) = S c) (r : Fin 512) (c : Fin 128) :
    (truncf .bf16 (mulf (matmul dot_S512x128_S128x128_S512x128_1_0_0_1_n_n none x
      (shapeCast S128x128 w shapeCasts_S1x128x128_S128x128) (constant S512x128 .f32 0x00000000#32))
      (broadcastTo S512x128 s broadcasts_S1x128_S512x128)) bitsLt_bf16_f32 : FVec Ideal S512x128 .bf16) (ix2 r c)
      = (∑ k : Fin 128, x (ix2 r k) * W k c) * S c := by
  rw [truncf_apply, mulf_apply]
  congr 1
  · rw [matmul]
    rw [Ideal.matmul_constant_zero_apply,
      ← Equiv.sum_comp (contrEquiv1 dot_S512x128_S128x128_S512x128_1_0_0_1_n_n 128 rfl rfl).symm]
    refine Finset.sum_congr rfl fun k _ => ?_
    have hk := contrEquiv1_symm_val dot_S512x128_S128x128_S512x128_1_0_0_1_n_n 128 rfl rfl k
    have el : dot_S512x128_S128x128_S512x128_1_0_0_1_n_n.lhsIdx (ix2 r c)
        ((contrEquiv1 dot_S512x128_S128x128_S512x128_1_0_0_1_n_n 128 rfl rfl).symm k) = ix2 r k :=
      funext fun a => Fin.ext (by match a with | ⟨0, _⟩ => rfl | ⟨1, _⟩ => exact hk)
    have er : dot_S512x128_S128x128_S512x128_1_0_0_1_n_n.rhsIdx (ix2 r c)
        ((contrEquiv1 dot_S512x128_S128x128_S512x128_1_0_0_1_n_n 128 rfl rfl).symm k) = ix2 k c :=
      funext fun a => Fin.ext (by match a with | ⟨0, _⟩ => exact hk | ⟨1, _⟩ => rfl)
    rw [el, er, ← hw]
    refine congrArg (_ * ·) (shapeCast_apply w _ (ix2 k c) (ix3 0 k c) ?_)
    rw [Shape.rowMajor_val_three, Shape.rowMajor_val_two]
    show (0 * 128 + k.val) * 128 + c.val = k.val * 128 + c.val
    omega
  · rw [broadcastTo_apply s _ (ix2 r c) (ix2 0 c) (fun a => match a with | ⟨0, _⟩ => rfl | ⟨1, _⟩ => rfl)]
    exact hS c

/-! ## The four groups -/

/-- A tile's pooled row: the window of `w` rows ending at the row, over its count, less the row. -/
def row (P : ℕ → Fin 128 → EReal) (w n r : ℕ) (c : Fin 128) : EReal :=
  (∑ j ∈ Finset.range w, P (16 + r - j) c) * rcp w n - P (16 + r) c

section Groups

variable (i : grid0.Coords) (v3 : FVec Ideal S16x512 .f32) (d : FVec Ideal S512x128 .f32) (P : ℕ → Fin 128 → EReal)
theorem win0 (hh : ∀ (r : Fin 16) (c : Fin 128) (k : Fin 512), k.val = 0 + c.val → v3 (ix2 r k) = P r.val c)
    (hd : ∀ (r : Fin 512) (c : Fin 128), d (ix2 r c) = P (16 + r.val) c) (hs : S16x512.Slices ![0, 0] S16x128) (c : Fin 128) (r : Fin 528) (hr : 1 ≤ r.val) :
    (let v := concatenate S528x128 0 [⟨S16x128, extractStridedSlice S16x128 ![0, 0] v3 hs⟩, ⟨S512x128, d⟩]
        concatenates_S16x128_S512x128_S528x128_d0
      let v2 : FVec Ideal S528x128 .f32 := addf v (dynamicRotate 0 1#32 none v rotates_S528x128_d0)
      v2 : FVec Ideal S528x128 .f32) (ix2 r c) = ∑ j ∈ Finset.range 2, P (r.val - j) c := by
  have h1 := fun (r : Fin 528) (_ : 0 ≤ r.val) =>
    (cat_apply v3 d hs (by omega) P hh hd c r).trans (Finset.sum_range_one (fun j => P (r.val - j) c)).symm
  exact rot_apply _ 1 0 (by omega) (fun n => P n c) c h1 r hr

theorem win1 (hh : ∀ (r : Fin 16) (c : Fin 128) (k : Fin 512), k.val = 128 + c.val → v3 (ix2 r k) = P r.val c)
    (hd : ∀ (r : Fin 512) (c : Fin 128), d (ix2 r c) = P (16 + r.val) c) (hs : S16x512.Slices ![0, 128] S16x128) (c : Fin 128) (r : Fin 528) (hr : 3 ≤ r.val) :
    (let v := concatenate S528x128 0 [⟨S16x128, extractStridedSlice S16x128 ![0, 128] v3 hs⟩, ⟨S512x128, d⟩]
        concatenates_S16x128_S512x128_S528x128_d0
      let v2 : FVec Ideal S528x128 .f32 := addf v (dynamicRotate 0 1#32 none v rotates_S528x128_d0)
      let v4 : FVec Ideal S528x128 .f32 := addf v2 (dynamicRotate 0 2#32 none v2 rotates_S528x128_d0)
      v4 : FVec Ideal S528x128 .f32) (ix2 r c) = ∑ j ∈ Finset.range 4, P (r.val - j) c := by
  have h1 := fun (r : Fin 528) (_ : 0 ≤ r.val) =>
    (cat_apply v3 d hs (by omega) P hh hd c r).trans (Finset.sum_range_one (fun j => P (r.val - j) c)).symm
  have h2 := rot_apply _ 1 0 (by omega) (fun n => P n c) c h1
  exact rot_apply _ 2 1 (by omega) (fun n => P n c) c h2 r hr

theorem win2 (hh : ∀ (r : Fin 16) (c : Fin 128) (k : Fin 512), k.val = 256 + c.val → v3 (ix2 r k) = P r.val c)
    (hd : ∀ (r : Fin 512) (c : Fin 128), d (ix2 r c) = P (16 + r.val) c) (hs : S16x512.Slices ![0, 256] S16x128) (c : Fin 128) (r : Fin 528) (hr : 7 ≤ r.val) :
    (let v := concatenate S528x128 0 [⟨S16x128, extractStridedSlice S16x128 ![0, 256] v3 hs⟩, ⟨S512x128, d⟩]
        concatenates_S16x128_S512x128_S528x128_d0
      let v2 : FVec Ideal S528x128 .f32 := addf v (dynamicRotate 0 1#32 none v rotates_S528x128_d0)
      let v4 : FVec Ideal S528x128 .f32 := addf v2 (dynamicRotate 0 2#32 none v2 rotates_S528x128_d0)
      let v8 : FVec Ideal S528x128 .f32 := addf v4 (dynamicRotate 0 4#32 none v4 rotates_S528x128_d0)
      v8 : FVec Ideal S528x128 .f32) (ix2 r c) = ∑ j ∈ Finset.range 8, P (r.val - j) c := by
  have h1 := fun (r : Fin 528) (_ : 0 ≤ r.val) =>
    (cat_apply v3 d hs (by omega) P hh hd c r).trans (Finset.sum_range_one (fun j => P (r.val - j) c)).symm
  have h2 := rot_apply _ 1 0 (by omega) (fun n => P n c) c h1
  have h4 := rot_apply _ 2 1 (by omega) (fun n => P n c) c h2
  exact rot_apply _ 4 3 (by omega) (fun n => P n c) c h4 r hr

theorem win3 (hh : ∀ (r : Fin 16) (c : Fin 128) (k : Fin 512), k.val = 384 + c.val → v3 (ix2 r k) = P r.val c)
    (hd : ∀ (r : Fin 512) (c : Fin 128), d (ix2 r c) = P (16 + r.val) c) (hs : S16x512.Slices ![0, 384] S16x128) (c : Fin 128) (r : Fin 528) (hr : 15 ≤ r.val) :
    (let v := concatenate S528x128 0 [⟨S16x128, extractStridedSlice S16x128 ![0, 384] v3 hs⟩, ⟨S512x128, d⟩]
        concatenates_S16x128_S512x128_S528x128_d0
      let v2 : FVec Ideal S528x128 .f32 := addf v (dynamicRotate 0 1#32 none v rotates_S528x128_d0)
      let v4 : FVec Ideal S528x128 .f32 := addf v2 (dynamicRotate 0 2#32 none v2 rotates_S528x128_d0)
      let v8 : FVec Ideal S528x128 .f32 := addf v4 (dynamicRotate 0 4#32 none v4 rotates_S528x128_d0)
      let v16 : FVec Ideal S528x128 .f32 := addf v8 (dynamicRotate 0 8#32 none v8 rotates_S528x128_d0)
      v16 : FVec Ideal S528x128 .f32) (ix2 r c) = ∑ j ∈ Finset.range 16, P (r.val - j) c := by
  have h1 := fun (r : Fin 528) (_ : 0 ≤ r.val) =>
    (cat_apply v3 d hs (by omega) P hh hd c r).trans (Finset.sum_range_one (fun j => P (r.val - j) c)).symm
  have h2 := rot_apply _ 1 0 (by omega) (fun n => P n c) c h1
  have h4 := rot_apply _ 2 1 (by omega) (fun n => P n c) c h2
  have h8 := rot_apply _ 4 3 (by omega) (fun n => P n c) c h4
  exact rot_apply _ 8 7 (by omega) (fun n => P n c) c h8 r hr

theorem pool0 (v1 : FVec Ideal S16x512 .f32) (hh : ∀ (r : Fin 16) (c : Fin 128) (k : Fin 512), k.val = 0 + c.val → (k0_pay3 (F := Ideal) i v1) (ix2 r k) = P r.val c)
    (hd : ∀ (r : Fin 512) (c : Fin 128), d (ix2 r c) = P (16 + r.val) c) (r : Fin 512) (c : Fin 128) :
    k0_pay5 (F := Ideal) i v1 d (ix2 r c) = row P 2 (512 * (i 0).val + r.val) r.val c := by
  unfold k0_pay5
  dsimp only
  refine (mean_apply i _ d 2 (by omega) (by omega) r c).trans ?_
  unfold row
  rw [own_apply, hd]
  refine congrArg (· * _ - _) ?_
  exact win0 (k0_pay3 (F := Ideal) i v1) d P hh hd _ c ⟨16 + r.val, by have := r.isLt; omega⟩ (by show 1 ≤ 16 + r.val; omega)

theorem mix0 (v1 : FVec Ideal S16x512 .f32) (hh : ∀ (r : Fin 16) (c : Fin 128) (k : Fin 512), k.val = 0 + c.val → (k0_pay3 (F := Ideal) i v1) (ix2 r k) = P r.val c)
    (hd : ∀ (r : Fin 512) (c : Fin 128), d (ix2 r c) = P (16 + r.val) c)
    (w : FVec Ideal S1x128x128 .bf16) (s : FVec Ideal S1x128 .f32) (W : Fin 128 → Fin 128 → EReal) (S : Fin 128 → EReal)
    (hw : ∀ a b : Fin 128, w (ix3 0 a b) = W a b) (hS : ∀ c : Fin 128, s (ix2 0 c) = S c) (r : Fin 512) (c : Fin 128) :
    k0_pay6 (F := Ideal) i v1 d w s (ix2 r c) = (∑ k : Fin 128, row P 2 (512 * (i 0).val + r.val) r.val k * W k c) * S c := by
  unfold k0_pay6
  refine (mixed_apply _ w s W S hw hS r c).trans ?_
  refine congrArg (· * _) (Finset.sum_congr rfl fun k _ => congrArg (· * _) ?_)
  exact pool0 i d P v1 hh hd r k

theorem pool1 (hh : ∀ (r : Fin 16) (c : Fin 128) (k : Fin 512), k.val = 128 + c.val → v3 (ix2 r k) = P r.val c)
    (hd : ∀ (r : Fin 512) (c : Fin 128), d (ix2 r c) = P (16 + r.val) c) (r : Fin 512) (c : Fin 128) :
    k0_pay7 (F := Ideal) v3 (k0_pay4 i) d (ix2 r c) = row P 4 (512 * (i 0).val + r.val) r.val c := by
  unfold k0_pay7
  dsimp only
  refine (mean_apply i _ d 4 (by omega) (by omega) r c).trans ?_
  unfold row
  rw [own_apply, hd]
  refine congrArg (· * _ - _) ?_
  exact win1 v3 d P hh hd _ c ⟨16 + r.val, by have := r.isLt; omega⟩ (by show 3 ≤ 16 + r.val; omega)

theorem mix1 (hh : ∀ (r : Fin 16) (c : Fin 128) (k : Fin 512), k.val = 128 + c.val → v3 (ix2 r k) = P r.val c)
    (hd : ∀ (r : Fin 512) (c : Fin 128), d (ix2 r c) = P (16 + r.val) c)
    (w : FVec Ideal S1x128x128 .bf16) (s : FVec Ideal S1x128 .f32) (W : Fin 128 → Fin 128 → EReal) (S : Fin 128 → EReal)
    (hw : ∀ a b : Fin 128, w (ix3 0 a b) = W a b) (hS : ∀ c : Fin 128, s (ix2 0 c) = S c) (r : Fin 512) (c : Fin 128) :
    k0_pay8 (F := Ideal) v3 (k0_pay4 i) d w s (ix2 r c) = (∑ k : Fin 128, row P 4 (512 * (i 0).val + r.val) r.val k * W k c) * S c := by
  unfold k0_pay8
  refine (mixed_apply _ w s W S hw hS r c).trans ?_
  refine congrArg (· * _) (Finset.sum_congr rfl fun k _ => congrArg (· * _) ?_)
  exact pool1 i v3 d P hh hd r k

theorem pool2 (hh : ∀ (r : Fin 16) (c : Fin 128) (k : Fin 512), k.val = 256 + c.val → v3 (ix2 r k) = P r.val c)
    (hd : ∀ (r : Fin 512) (c : Fin 128), d (ix2 r c) = P (16 + r.val) c) (r : Fin 512) (c : Fin 128) :
    k0_pay10 (F := Ideal) (k0_pay4 i) d (k0_pay9 v3 d) (ix2 r c) = row P 8 (512 * (i 0).val + r.val) r.val c := by
  unfold k0_pay10 k0_pay9
  dsimp only
  refine (mean_apply i _ d 8 (by omega) (by omega) r c).trans ?_
  unfold row
  rw [own_apply, hd]
  refine congrArg (· * _ - _) ?_
  exact win2 v3 d P hh hd _ c ⟨16 + r.val, by have := r.isLt; omega⟩ (by show 7 ≤ 16 + r.val; omega)

theorem mix2 (hh : ∀ (r : Fin 16) (c : Fin 128) (k : Fin 512), k.val = 256 + c.val → v3 (ix2 r k) = P r.val c)
    (hd : ∀ (r : Fin 512) (c : Fin 128), d (ix2 r c) = P (16 + r.val) c)
    (w : FVec Ideal S1x128x128 .bf16) (s : FVec Ideal S1x128 .f32) (W : Fin 128 → Fin 128 → EReal) (S : Fin 128 → EReal)
    (hw : ∀ a b : Fin 128, w (ix3 0 a b) = W a b) (hS : ∀ c : Fin 128, s (ix2 0 c) = S c) (r : Fin 512) (c : Fin 128) :
    k0_pay11 (F := Ideal) (k0_pay4 i) d (k0_pay9 v3 d) w s (ix2 r c) = (∑ k : Fin 128, row P 8 (512 * (i 0).val + r.val) r.val k * W k c) * S c := by
  unfold k0_pay11
  refine (mixed_apply _ w s W S hw hS r c).trans ?_
  refine congrArg (· * _) (Finset.sum_congr rfl fun k _ => congrArg (· * _) ?_)
  exact pool2 i v3 d P hh hd r k

theorem pool3 (hh : ∀ (r : Fin 16) (c : Fin 128) (k : Fin 512), k.val = 384 + c.val → v3 (ix2 r k) = P r.val c)
    (hd : ∀ (r : Fin 512) (c : Fin 128), d (ix2 r c) = P (16 + r.val) c) (r : Fin 512) (c : Fin 128) :
    k0_pay1 (F := Ideal) d (k0_pay12 v3 d) (k0_pay13 (F := Ideal) (k0_pay4 i)) (ix2 r c) = row P 16 (512 * (i 0).val + r.val) r.val c := by
  unfold k0_pay1 k0_pay12 k0_pay13
  dsimp only
  refine (mean_apply i _ d 16 (by omega) (by omega) r c).trans ?_
  unfold row
  rw [own_apply, hd]
  refine congrArg (· * _ - _) ?_
  exact win3 v3 d P hh hd _ c ⟨16 + r.val, by have := r.isLt; omega⟩ (by show 15 ≤ 16 + r.val; omega)

theorem mix3 (hh : ∀ (r : Fin 16) (c : Fin 128) (k : Fin 512), k.val = 384 + c.val → v3 (ix2 r k) = P r.val c)
    (hd : ∀ (r : Fin 512) (c : Fin 128), d (ix2 r c) = P (16 + r.val) c)
    (w : FVec Ideal S1x128x128 .bf16) (s : FVec Ideal S1x128 .f32) (W : Fin 128 → Fin 128 → EReal) (S : Fin 128 → EReal)
    (hw : ∀ a b : Fin 128, w (ix3 0 a b) = W a b) (hS : ∀ c : Fin 128, s (ix2 0 c) = S c) (r : Fin 512) (c : Fin 128) :
    k0_pay2 (F := Ideal) d (k0_pay12 v3 d) (k0_pay13 (F := Ideal) (k0_pay4 i)) w s (ix2 r c) = (∑ k : Fin 128, row P 16 (512 * (i 0).val + r.val) r.val k * W k c) * S c := by
  unfold k0_pay2
  refine (mixed_apply _ w s W S hw hS r c).trans ?_
  refine congrArg (· * _) (Finset.sum_congr rfl fun k _ => congrArg (· * _) ?_)
  exact pool3 i v3 d P hh hd r k

end Groups

end Cert.Pool.Fwd

end
-- ==== Proof.PoolBlocks.lean ====
module

public import proofs.«01_k».proof.Proof.PoolTile
public import Idealize.ShloMosaic.Lib.Pipeline.ValueKit
public import Idealize.ShloMosaic.Lib.Pipeline.ReadBack

/-! The forward pooling kernel's two result arrays, the pooled rows and the mixed rows, as functions of the arrays it is
launched on. -/

@[expose] public section

set_option maxRecDepth 16384

noncomputable section

namespace Cert.Pool.Fwd

open Cert.Kernel19Ideal Cert.Kernel19Ideal.Gen Idealize.SL.Sem Idealize.ShloMosaic.Tactic
open Idealize.ShloMosaic hiding ix0 ix1 ix2 ix3 ix4 ix5
open Idealize.ShloMosaic.TcCoe Idealize.ShloMosaic.ValueIdx
open Idealize.ShloMosaic.Pipeline (Dat)

/-- The rows with sixteen rows of zeros in front. -/
def pre (X : S8192x512.Idx → EReal) (n : ℕ) (k : Fin 512) : EReal := if n < 16 then 0 else ext X (n - 16) k

theorem pre_own (X : S8192x512.Idx → EReal) (n : ℕ) (k : Fin 512) : pre X (16 + n) k = ext X n k := by
  unfold pre
  rw [if_neg (by omega), Nat.add_sub_cancel_left]

/-- The pooled value at row `n` and column `k`. -/
def plOf (X : S8192x512.Idx → EReal) (n : ℕ) (k : Fin 512) : EReal :=
  row (fun r c => pre X r (gcol (grp k) c)) (2 ^ ((grp k).val + 1)) n n (lan k)

/-- The mixed value at row `n` and column `k`. -/
def yaOf (X : S8192x512.Idx → EReal) (W : S4x128x128.Idx → EReal) (s : S1x512.Idx → EReal) (n : ℕ) (k : Fin 512) : EReal :=
  (∑ d : Fin 128, plOf X n (gcol (grp k) d) * gW W (grp k) d (lan k)) * gS s (grp k) (lan k)

theorem row_shift (P : ℕ → Fin 128 → EReal) (w n n0 r : ℕ) (hw : w ≤ 16) (c : Fin 128) :
    row (fun r c => P (n0 + r) c) w n r c = row P w n (n0 + r) c := by
  unfold row
  dsimp only
  rw [show n0 + (16 + r) = 16 + (n0 + r) by omega]
  refine congrArg (· * _ - _) (Finset.sum_congr rfl fun j hj => ?_)
  have := Finset.mem_range.mp hj
  rw [show n0 + (16 + r - j) = 16 + (n0 + r) - j by omega]

variable (m : (ℓ : Loc nD τ sig) → Buf (Elt Ideal) ℓ) (c : Dev nD)

/-- The arrays that the launch finds: activations, mixing weights, scale. -/
abbrev aX : S8192x512.Idx → EReal := V m c main_arg0
abbrev aW : S4x128x128.Idx → EReal := V m c main_v0
abbrev aS : S1x512.Idx → EReal := V m c main_arg2

theorem idx0 : ∀ t : Fin cfg0.N, win0_0.index t = ![t.val, 0] := (by decide +kernel : ∀ t : Fin grid0.N, win0_0.index t = ![t.val, 0])
theorem idx1 : ∀ t : Fin cfg0.N, win0_1.index t = ![32 * t.val - 1, 0] := (by decide +kernel : ∀ t : Fin grid0.N, win0_1.index t = ![32 * t.val - 1, 0])
theorem idx2 : ∀ t : Fin cfg0.N, win0_2.index t = ![0, 0, 0] := (by decide +kernel : ∀ t : Fin grid0.N, win0_2.index t = ![0, 0, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem coord : ∀ t : Fin cfg0.N, (grid0.coords t 0).val = t.val := (by decide +kernel : ∀ t : Fin grid0.N, (grid0.coords t 0).val = t.val)
theorem tlt (t : Fin cfg0.N) : t.val < 16 := t.isLt

theorem rd0 (t : Fin cfg0.N) (r k : Fin 512) : iblk m c 0 t (ix2 r k) = ext (aX m c) (512 * t.val + r.val) k := by
  have := tlt t
  refine Eq.trans ?_ (ext_of _ _ k ⟨512 * t.val + r.val, by omega⟩ rfl)
  blk_ext [iblk, idx0 t]
  show t.val * 512 + r.val = _
  omega

theorem rd1 (t : Fin cfg0.N) (ht : 0 < t.val) (r : Fin 16) (k : Fin 512) : iblk m c 1 t (ix2 r k) = ext (aX m c) (512 * t.val + r.val - 16) k := by
  have := tlt t
  refine Eq.trans ?_ (ext_of _ _ k ⟨512 * t.val + r.val - 16, by omega⟩ rfl)
  blk_ext [iblk, idx1 t]
  show (32 * t.val - 1) * 16 + r.val = _
  omega

theorem rd2 (t : Fin cfg0.N) (g : Fin 4) (a b : Fin 128) : iblk m c 2 t (ix3 g a b) = aW m c (ix3 g a b) := by
  blk_ext [iblk, idx2 t]

theorem rd3 (t : Fin cfg0.N) (z : Fin 1) (k : Fin 512) : iblk m c 3 t (ix2 z k) = aS m c (ix2 z k) := by
  blk_ext [iblk, idx3 t]

theorem cmp0 : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

theorem halo (t : Fin cfg0.N) (r : Fin 16) (k : Fin 512) :
    k0_pay3 (F := Ideal) (grid0.coords t) (iblk m c 1 t) (ix2 r k) = pre (aX m c) (512 * t.val + r.val) k := by
  unfold k0_pay3 pre
  dsimp only
  rw [cmp0 t]
  by_cases h : t.val = 0
  · rw [if_pos h, if_pos (by omega)]
    show (Scalar.ofBits FTy.f32 0x00000000#32 : Ideal .f32) = 0
    exact Ideal.ofBits_zero_f32
  · rw [if_neg (show ¬(512 * t.val + r.val < 16) by omega), ← rd1 m c t (by omega), if_neg h]
    rfl

/-- One group's columns of a tile with the sixteen rows before it in front. -/
def P (t : ℕ) (X : S8192x512.Idx → EReal) (g : Fin 4) : ℕ → Fin 128 → EReal := fun r q => pre X (512 * t + r) (gcol g q)

theorem haloOf (t : Fin cfg0.N) (g : Fin 4) (off : ℕ) (ho : off = 128 * g.val) (r : Fin 16) (q : Fin 128) (k : Fin 512)
    (hk : k.val = off + q.val) :
    k0_pay3 (F := Ideal) (grid0.coords t) (iblk m c 1 t) (ix2 r k) = P t.val (aX m c) g r.val q := by
  rw [halo, gcol_of k g q (by omega)]; rfl

theorem ld0 (t : Fin cfg0.N) (g : Fin 4) (off : ℕ) (ho : off = 128 * g.val) (inb) (r : Fin 512) (k : Fin 128) :
    View.ld (S := S512x512) (iblk m c 0 t) (Rect.unit ![0, off] ![512, 128] inb) (ix2 r k) = P t.val (aX m c) g (16 + r.val) k := by
  unfold P
  rw [show 512 * t.val + (16 + r.val) = 16 + (512 * t.val + r.val) by omega, pre_own]
  exact (ldTile (e := .f32) (iblk m c 0 t) g off ho inb r k).trans (rd0 m c t r _)

theorem ld2 (t : Fin cfg0.N) (g : Fin 4) (off : ℕ) (ho : off = g.val) (inb) (a b : Fin 128) :
    View.ld (S := S4x128x128) (iblk m c 2 t) (Rect.unit ![off, 0, 0] ![1, 128, 128] inb) (ix3 0 a b) = gW (aW m c) g a b :=
  (ldMat (e := .bf16) (iblk m c 2 t) g off ho inb 0 a b).trans (rd2 m c t g a b)

theorem ld3 (t : Fin cfg0.N) (g : Fin 4) (off : ℕ) (ho : off = 128 * g.val) (inb) (k : Fin 128) :
    View.ld (S := S1x512) (iblk m c 3 t) (Rect.unit ![0, off] ![1, 128] inb) (ix2 0 k) = gS (aS m c) g k :=
  (ldRow (e := .f32) (iblk m c 3 t) g off ho inb 0 k).trans (rd3 m c t 0 _)

theorem plOf_eq (X : S8192x512.Idx → EReal) (t : Fin cfg0.N) (g : Fin 4) (w : ℕ) (hw : w = 2 ^ (g.val + 1)) (r : ℕ) (q : Fin 128) (k : Fin 512)
    (hk : k.val = 128 * g.val + q.val) (n : ℕ) (hn : n = 512 * t.val + r) :
    row (P t.val X g) w (512 * (grid0.coords t 0).val + r) r q = plOf X n k := by
  subst hn hw
  have h16 : 2 ^ (g.val + 1) ≤ 16 := le_trans (Nat.pow_le_pow_right (by omega) (by have := g.isLt; omega : g.val + 1 ≤ 4)) (by norm_num)
  rw [coord]
  unfold plOf
  rw [grp_of k g q hk, lan_of k g q hk]
  exact row_shift (fun r c => pre X r (gcol g c)) _ _ _ _ h16 _

theorem yaOf_eq (X : S8192x512.Idx → EReal) (Wt : S4x128x128.Idx → EReal) (s : S1x512.Idx → EReal) (t : Fin cfg0.N) (g : Fin 4) (w : ℕ)
    (hw : w = 2 ^ (g.val + 1)) (r : ℕ) (q : Fin 128) (k : Fin 512) (hk : k.val = 128 * g.val + q.val) (n : ℕ) (hn : n = 512 * t.val + r) :
    (∑ d : Fin 128, row (P t.val X g) w (512 * (grid0.coords t 0).val + r) r d * gW Wt g d q) * gS s g q = yaOf X Wt s n k := by
  unfold yaOf
  rw [grp_of k g q hk, lan_of k g q hk]
  exact congrArg (· * _) (Finset.sum_congr rfl fun d _ => congrArg (· * _) (plOf_eq X t g w hw r d (gcol g d) rfl n hn))

/-! ## The two results of a tile -/

theorem pl_piece3 (t : Fin cfg0.N) (y : S512x512.Idx) (x : S512x128.Idx) (h0 : (y 0).val = (x 0).val) (h1 : (y 1).val = 384 + (x 1).val) :
    k0_pay1 (F := Ideal) (View.ld (S := S512x512) (iblk m c 0 t) (Rect.unit ![0, 384] ![512, 128] inb_S512x512_S512x128_0_384)) (k0_pay12 (k0_pay3 (grid0.coords t) (iblk m c 1 t)) (View.ld (S := S512x512) (iblk m c 0 t) (Rect.unit ![0, 384] ![512, 128] inb_S512x512_S512x128_0_384))) (k0_pay13 (k0_pay4 (grid0.coords t))) x
      = plOf (aX m c) (512 * t.val + (y 0).val) (y 1) := by
  rw [ValueIdx.eq_ix2 x]
  exact (pool3 (grid0.coords t) _ _ (P t.val (aX m c) 3) (haloOf m c t 3 384 rfl) (ld0 m c t 3 384 rfl _) (x 0) (x 1)).trans
    (plOf_eq (aX m c) t 3 16 rfl _ _ _ h1 _ (by omega))

theorem ya_piece3 (t : Fin cfg0.N) (y : S512x512.Idx) (x : S512x128.Idx) (h0 : (y 0).val = (x 0).val) (h1 : (y 1).val = 384 + (x 1).val) :
    k0_pay2 (F := Ideal) (View.ld (S := S512x512) (iblk m c 0 t) (Rect.unit ![0, 384] ![512, 128] inb_S512x512_S512x128_0_384)) (k0_pay12 (k0_pay3 (grid0.coords t) (iblk m c 1 t)) (View.ld (S := S512x512) (iblk m c 0 t) (Rect.unit ![0, 384] ![512, 128] inb_S512x512_S512x128_0_384))) (k0_pay13 (k0_pay4 (grid0.coords t))) (View.ld (S := S4x128x128) (iblk m c 2 t) (Rect.unit ![3, 0, 0] ![1, 128, 128] inb_S4x128x128_S1x128x128_3_0_0)) (View.ld (S := S1x512) (iblk m c 3 t) (Rect.unit ![0, 384] ![1, 128] inb_S1x512_S1x128_0_384)) x
      = yaOf (aX m c) (aW m c) (aS m c) (512 * t.val + (y 0).val) (y 1) := by
  rw [ValueIdx.eq_ix2 x]
  exact (mix3 (grid0.coords t) _ _ (P t.val (aX m c) 3) (haloOf m c t 3 384 rfl) (ld0 m c t 3 384 rfl _) _ _ (gW (aW m c) 3) (gS (aS m c) 3)
    (ld2 m c t 3 3 rfl _) (ld3 m c t 3 384 rfl _) (x 0) (x 1)).trans
    (yaOf_eq (aX m c) (aW m c) (aS m c) t 3 16 rfl _ _ _ h1 _ (by omega))

theorem pl_piece2 (t : Fin cfg0.N) (y : S512x512.Idx) (x : S512x128.Idx) (h0 : (y 0).val = (x 0).val) (h1 : (y 1).val = 256 + (x 1).val) :
    k0_pay10 (F := Ideal) (k0_pay4 (grid0.coords t)) (View.ld (S := S512x512) (iblk m c 0 t) (Rect.unit ![0, 256] ![512, 128] inb_S512x512_S512x128_0_256)) (k0_pay9 (k0_pay3 (grid0.coords t) (iblk m c 1 t)) (View.ld (S := S512x512) (iblk m c 0 t) (Rect.unit ![0, 256] ![512, 128] inb_S512x512_S512x128_0_256))) x
      = plOf (aX m c) (512 * t.val + (y 0).val) (y 1) := by
  rw [ValueIdx.eq_ix2 x]
  exact (pool2 (grid0.coords t) _ _ (P t.val (aX m c) 2) (haloOf m c t 2 256 rfl) (ld0 m c t 2 256 rfl _) (x 0) (x 1)).trans
    (plOf_eq (aX m c) t 2 8 rfl _ _ _ h1 _ (by omega))

theorem ya_piece2 (t : Fin cfg0.N) (y : S512x512.Idx) (x : S512x128.Idx) (h0 : (y 0).val = (x 0).val) (h1 : (y 1).val = 256 + (x 1).val) :
    k0_pay11 (F := Ideal) (k0_pay4 (grid0.coords t)) (View.ld (S := S512x512) (iblk m c 0 t) (Rect.unit ![0, 256] ![512, 128] inb_S512x512_S512x128_0_256)) (k0_pay9 (k0_pay3 (grid0.coords t) (iblk m c 1 t)) (View.ld (S := S512x512) (iblk m c 0 t) (Rect.unit ![0, 256] ![512, 128] inb_S512x512_S512x128_0_256))) (View.ld (S := S4x128x128) (iblk m c 2 t) (Rect.unit ![2, 0, 0] ![1, 128, 128] inb_S4x128x128_S1x128x128_2_0_0)) (View.ld (S := S1x512) (iblk m c 3 t) (Rect.unit ![0, 256] ![1, 128] inb_S1x512_S1x128_0_256)) x
      = yaOf (aX m c) (aW m c) (aS m c) (512 * t.val + (y 0).val) (y 1) := by
  rw [ValueIdx.eq_ix2 x]
  exact (mix2 (grid0.coords t) _ _ (P t.val (aX m c) 2) (haloOf m c t 2 256 rfl) (ld0 m c t 2 256 rfl _) _ _ (gW (aW m c) 2) (gS (aS m c) 2)
    (ld2 m c t 2 2 rfl _) (ld3 m c t 2 256 rfl _) (x 0) (x 1)).trans
    (yaOf_eq (aX m c) (aW m c) (aS m c) t 2 8 rfl _ _ _ h1 _ (by omega))

theorem pl_piece1 (t : Fin cfg0.N) (y : S512x512.Idx) (x : S512x128.Idx) (h0 : (y 0).val = (x 0).val) (h1 : (y 1).val = 128 + (x 1).val) :
    k0_pay7 (F := Ideal) (k0_pay3 (grid0.coords t) (iblk m c 1 t)) (k0_pay4 (grid0.coords t)) (View.ld (S := S512x512) (iblk m c 0 t) (Rect.unit ![0, 128] ![512, 128] inb_S512x512_S512x128_0_128)) x
      = plOf (aX m c) (512 * t.val + (y 0).val) (y 1) := by
  rw [ValueIdx.eq_ix2 x]
  exact (pool1 (grid0.coords t) _ _ (P t.val (aX m c) 1) (haloOf m c t 1 128 rfl) (ld0 m c t 1 128 rfl _) (x 0) (x 1)).trans
    (plOf_eq (aX m c) t 1 4 rfl _ _ _ h1 _ (by omega))

theorem ya_piece1 (t : Fin cfg0.N) (y : S512x512.Idx) (x : S512x128.Idx) (h0 : (y 0).val = (x 0).val) (h1 : (y 1).val = 128 + (x 1).val) :
    k0_pay8 (F := Ideal) (k0_pay3 (grid0.coords t) (iblk m c 1 t)) (k0_pay4 (grid0.coords t)) (View.ld (S := S512x512) (iblk m c 0 t) (Rect.unit ![0, 128] ![512, 128] inb_S512x512_S512x128_0_128)) (View.ld (S := S4x128x128) (iblk m c 2 t) (Rect.unit ![1, 0, 0] ![1, 128, 128] inb_S4x128x128_S1x128x128_1_0_0)) (View.ld (S := S1x512) (iblk m c 3 t) (Rect.unit ![0, 128] ![1, 128] inb_S1x512_S1x128_0_128)) x
      = yaOf (aX m c) (aW m c) (aS m c) (512 * t.val + (y 0).val) (y 1) := by
  rw [ValueIdx.eq_ix2 x]
  exact (mix1 (grid0.coords t) _ _ (P t.val (aX m c) 1) (haloOf m c t 1 128 rfl) (ld0 m c t 1 128 rfl _) _ _ (gW (aW m c) 1) (gS (aS m c) 1)
    (ld2 m c t 1 1 rfl _) (ld3 m c t 1 128 rfl _) (x 0) (x 1)).trans
    (yaOf_eq (aX m c) (aW m c) (aS m c) t 1 4 rfl _ _ _ h1 _ (by omega))

theorem pl_piece0 (t : Fin cfg0.N) (y : S512x512.Idx) (x : S512x128.Idx) (h0 : (y 0).val = (x 0).val) (h1 : (y 1).val = 0 + (x 1).val) :
    k0_pay5 (F := Ideal) (grid0.coords t) (iblk m c 1 t) (View.ld (S := S512x512) (iblk m c 0 t) (Rect.unit ![0, 0] ![512, 128] inb_S512x512_S512x128_0_0)) x
      = plOf (aX m c) (512 * t.val + (y 0).val) (y 1) := by
  rw [ValueIdx.eq_ix2 x]
  exact (pool0 (grid0.coords t) _ (P t.val (aX m c) 0) (iblk m c 1 t) (haloOf m c t 0 0 rfl) (ld0 m c t 0 0 rfl _) (x 0) (x 1)).trans
    (plOf_eq (aX m c) t 0 2 rfl _ _ _ h1 _ (by omega))

theorem ya_piece0 (t : Fin cfg0.N) (y : S512x512.Idx) (x : S512x128.Idx) (h0 : (y 0).val = (x 0).val) (h1 : (y 1).val = 0 + (x 1).val) :
    k0_pay6 (F := Ideal) (grid0.coords t) (iblk m c 1 t) (View.ld (S := S512x512) (iblk m c 0 t) (Rect.unit ![0, 0] ![512, 128] inb_S512x512_S512x128_0_0)) (View.ld (S := S4x128x128) (iblk m c 2 t) (Rect.unit ![0, 0, 0] ![1, 128, 128] inb_S4x128x128_S1x128x128_0_0_0)) (View.ld (S := S1x512) (iblk m c 3 t) (Rect.unit ![0, 0] ![1, 128] inb_S1x512_S1x128_0_0)) x
      = yaOf (aX m c) (aW m c) (aS m c) (512 * t.val + (y 0).val) (y 1) := by
  rw [ValueIdx.eq_ix2 x]
  exact (mix0 (grid0.coords t) _ (P t.val (aX m c) 0) (iblk m c 1 t) (haloOf m c t 0 0 rfl) (ld0 m c t 0 0 rfl _) _ _ (gW (aW m c) 0) (gS (aS m c) 0)
    (ld2 m c t 0 0 rfl _) (ld3 m c t 0 0 rfl _) (x 0) (x 1)).trans
    (yaOf_eq (aX m c) (aW m c) (aS m c) t 0 2 rfl _ _ _ h1 _ (by omega))

theorem pl_point (t : Fin cfg0.N) (y : S512x512.Idx) :
    out0_4 (grid0.coords t) (iblk m c 0 t) (iblk m c 1 t) (iblk m c 2 t) (iblk m c 3 t) y
      = plOf (aX m c) (512 * t.val + (y 0).val) (y 1) := by
  unfold_out out0_4
  frame_out
  canon_tiles x h
  · exact pl_piece3 m c t y x h0 h1
  · exact pl_piece2 m c t y x h0 h1
  · exact pl_piece1 m c t y x h0 h1
  · exact pl_piece0 m c t y x h0 (by omega)

theorem pl_final : (dats m 0 c).arrAt 4 cfg0.N = fun y : S8192x512.Idx => plOf (aX m c) (y 0).val (y 1) := by
  refine (dats m 0 c).arrAt_eq_of_covers 4 _ (by decide +kernel) fun t hf y => ?_
  blk_simp
  rw [after0_4]
  refine (pl_point m c t y).trans ?_
  have e0 : win0_4.index t 0 = t.val := congrFun (idx4 t) 0
  have e1 : (win0_4.blk t).view.emb y 1 = y 1 := by
    refine Fin.ext ?_
    blk_simp [idx4 t]
  rw [e0, e1, Nat.mul_comm]

theorem ya_point (t : Fin cfg0.N) (y : S512x512.Idx) :
    out0_5 (grid0.coords t) (iblk m c 0 t) (iblk m c 1 t) (iblk m c 2 t) (iblk m c 3 t) y
      = yaOf (aX m c) (aW m c) (aS m c) (512 * t.val + (y 0).val) (y 1) := by
  unfold_out out0_5
  frame_out
  canon_tiles x h
  · exact ya_piece3 m c t y x h0 h1
  · exact ya_piece2 m c t y x h0 h1
  · exact ya_piece1 m c t y x h0 h1
  · exact ya_piece0 m c t y x h0 (by omega)

theorem ya_final : (dats m 0 c).arrAt 5 cfg0.N = fun y : S8192x512.Idx => yaOf (aX m c) (aW m c) (aS m c) (y 0).val (y 1) := by
  refine (dats m 0 c).arrAt_eq_of_covers 5 _ (by decide +kernel) fun t hf y => ?_
  blk_simp
  rw [after0_5]
  refine (ya_point m c t y).trans ?_
  have e0 : win0_5.index t 0 = t.val := congrFun (idx5 t) 0
  have e1 : (win0_5.blk t).view.emb y 1 = y 1 := by
    refine Fin.ext ?_
    blk_simp [idx5 t]
  rw [e0, e1, Nat.mul_comm]

end Cert.Pool.Fwd

end
-- ==== Proof.PoolRef.lean ====
module

public import proofs.«01_k».proof.Proof.PoolBlocks
public import proofs.«01_k».proof.Proof.Tel
public import proofs.«01_k».proof.Proof.Gen.Reference19Ideal.Read
public import proofs.«01_k».proof.Proof.Gen.Pre_finite19

/-! The reference's pooling mixer read at an index: running sums over the rows, their differences at the window's
distance, and for finite activations the window sums that the kernel forms. -/

@[expose] public section

set_option maxRecDepth 16384

noncomputable section

namespace Cert.Pool.Fwd

open Cert.Reference19Ideal Cert.Reference19Ideal.Read Idealize.SL.Sem Idealize.ShloMosaic.Tactic
open Idealize.ShloMosaic hiding ix0 ix1 ix2 ix3 ix4 ix5
open Idealize.ShloMosaic.TcCoe Idealize.ShloMosaic.ValueIdx
open Cert.Pool.Ref (foldl_add_sum mid i2_0 i2_1 i3_0 i3_1 i3_2 i4_0 i4_1 i4_2 i4_3 count_at)

theorem ix3_of {a b c : ℕ} {x x' : Fin a} {y y' : Fin b} {z z' : Fin c} (hx : x = x') (hy : y = y') (hz : z = z') :
    ix3 x y z = ix3 x' y' z' := by
  subst hx hy hz
  rfl

/-- The running sum from the first row down: row `n` holds the sum of the rows up to `n`. -/
theorem runsum (x : S1x8192x512.Idx → EReal) (v : S_.Idx → EReal) (hv : ∀ i, v i = 0)
    (h : S1x8192x512.ReduceWindows ![1, 8192, 1] ![1, 1, 1] ![0, 8191, 0] ![0, 0, 0] S1x8192x512) (hu : 0 < S_.numel)
    (X : ℕ → EReal) (n : Fin 8192) (k : Fin 512) (hX : ∀ t : Fin 8192, x (ix3 0 t k) = X t.val) :
    Host.reduceWindowAdd (F := Ideal) (φ := .f32) ![1, 8192, 1] ![1, 1, 1] ![0, 8191, 0] ![0, 0, 0] x v h hu (ix3 0 n k)
      = ∑ d ∈ Finset.range (n.val + 1), X d := by
  have hn := n.isLt
  have hk := k.isLt
  unfold Host.reduceWindowAdd
  rw [Ideal.hostReduceWindowAdd_def]
  unfold Ideal.hostReduceWindowAdd Host.reduceWindow
  dsimp only
  rw [foldl_add_sum, ← Fin.sum_univ_def, hv, zero_add]
  trans ∑ m, (fun w => (fun d : Fin 8192 => if 8191 ≤ n.val + d.val then X (n.val + d.val - 8191) else 0) (mid w))
    ((Shape.rowMajor (Shape.mk 3 ![1, 8192, 1])).symm m)
  · refine Finset.sum_congr rfl fun m _ => ?_
    set w := (Shape.rowMajor (Shape.mk 3 ![1, 8192, 1])).symm m
    have h0 : (w 0).val < 1 := (w 0).isLt
    have h1' : (w 1).val < 8192 := (w 1).isLt
    have h2 : (w 2).val < 1 := (w 2).isLt
    show _ = if 8191 ≤ n.val + (w 1).val then X (n.val + (w 1).val - 8191) else 0
    split
    · next hin =>
      have h1 := (hin 1).1
      change 8191 ≤ n.val * 1 + (w 1).val at h1
      rw [if_pos (by omega)]
      refine (congrArg x ?_).trans (hX ⟨n.val + (w 1).val - 8191, by omega⟩)
      refine (ValueIdx.eq_ix3 _).trans (ix3_of (Fin.ext ?_) (Fin.ext ?_) (Fin.ext ?_))
      · show 0 * 1 + (w 0).val - 0 = 0
        omega
      · show n.val * 1 + (w 1).val - 8191 = n.val + (w 1).val - 8191
        rw [Nat.mul_one]
      · show k.val * 1 + (w 2).val - 0 = k.val
        omega
    · next hin =>
      rw [if_neg fun hlt => hin fun a => by
        match a with
        | ⟨0, _⟩ => show 0 ≤ 0 * 1 + (w 0).val ∧ 0 * 1 + (w 0).val - 0 < 1; omega
        | ⟨1, _⟩ => show 8191 ≤ n.val * 1 + (w 1).val ∧ n.val * 1 + (w 1).val - 8191 < 8192; omega
        | ⟨2, _⟩ => show 0 ≤ k.val * 1 + (w 2).val ∧ k.val * 1 + (w 2).val - 0 < 512; omega]
  rw [Equiv.sum_comp (Shape.rowMajor (Shape.mk 3 ![1, 8192, 1])).symm
      (fun w => (fun d : Fin 8192 => if 8191 ≤ n.val + d.val then X (n.val + d.val - 8191) else 0) (mid w)),
    Equiv.sum_comp mid (fun d : Fin 8192 => if 8191 ≤ n.val + d.val then X (n.val + d.val - 8191) else 0),
    Fin.sum_univ_eq_sum_range (fun d => if 8191 ≤ n.val + d then X (n.val + d - 8191) else 0) 8192,
    show Finset.range 8192 = Finset.range ((8191 - n.val) + (n.val + 1)) from congrArg Finset.range (by omega), Finset.sum_range_add,
    Finset.sum_eq_zero, zero_add]
  · refine Finset.sum_congr rfl fun d _ => ?_
    rw [if_pos (by omega), show n.val + (8191 - n.val + d) - 8191 = d by omega]
  · intro d hd
    have := Finset.mem_range.mp hd
    exact if_neg (by omega)

/-- Rows moved down by `w`, with `w` rows in front. -/
theorem moved (w m : ℕ) (hwm : w + m = 8192) (z : Shape.Idx ⟨3, ![1, w, 128]⟩ → EReal) (y : Shape.Idx ⟨3, ![1, m, 128]⟩ → EReal)
    (h : Shape.Concatenates ([(⟨⟨3, ![1, w, 128]⟩, z⟩ : (s : Shape) × (s.Idx → EReal)), ⟨⟨3, ![1, m, 128]⟩, y⟩].map (·.1)) S1x8192x128 1) (n : Fin 8192) (c : Fin 128) :
    concatenate S1x8192x128 1 [⟨⟨3, ![1, w, 128]⟩, z⟩, ⟨⟨3, ![1, m, 128]⟩, y⟩] h (ix3 0 n c)
      = if hn : n.val < w then z (ix3 0 ⟨n.val, hn⟩ c) else y (ix3 0 ⟨n.val - w, by have := n.isLt; omega⟩ c) := by
  have hn' := n.isLt
  split
  · next e =>
    exact concatenate_pair_apply_left (s₁ := ⟨3, ![1, w, 128]⟩) (1 : Fin S1x8192x128.rank) z y h (ix3 0 n c) rfl (ix3 0 ⟨n.val, e⟩ c)
      (fun b => match b with | ⟨0, _⟩ => rfl | ⟨1, _⟩ => rfl | ⟨2, _⟩ => rfl)
  · next e =>
    exact concatenate_pair_apply_right (s₁ := ⟨3, ![1, w, 128]⟩) (s₂ := ⟨3, ![1, m, 128]⟩) (1 : Fin S1x8192x128.rank) z y h (ix3 0 n c) rfl rfl
      (ix3 0 ⟨n.val - w, by omega⟩ c)
      (fun b hb => match b with | ⟨0, _⟩ => rfl | ⟨1, _⟩ => absurd rfl hb | ⟨2, _⟩ => rfl) (by show n.val - w + w = n.val; omega)

/-- The running sum less the running sum `w` rows before is the sum of the last `w` rows, none of them before the first. -/
theorem lastrows (X : S8192x512.Idx → EReal) (hX : ∀ i, IsFin (X i)) (k : Fin 512) (n w : ℕ) (hw : w ≤ 16) :
    (∑ d ∈ Finset.range (n + 1), ext X d k) - (if n < w then 0 else ∑ d ∈ Finset.range (n - w + 1), ext X d k)
      = ∑ j ∈ Finset.range w, pre X (16 + n - j) k := by
  by_cases h : n < w
  · rw [if_pos h, sub_zero]
    have e : ∑ j ∈ Finset.range w, pre X (16 + n - j) k
        = ∑ j ∈ Finset.range (n + 1), pre X (16 + n - j) k + ∑ j ∈ Finset.range (w - (n + 1)), pre X (16 + n - (n + 1 + j)) k := by
      rw [← Finset.sum_range_add (fun j => pre X (16 + n - j) k), show n + 1 + (w - (n + 1)) = w by omega]
    rw [e, Finset.sum_eq_zero (f := fun j => pre X (16 + n - (n + 1 + j)) k) fun j hj => ?_, add_zero,
      ← Finset.sum_range_reflect (fun d => ext X d k)]
    · refine Finset.sum_congr rfl fun j hj => ?_
      have := Finset.mem_range.mp hj
      unfold pre
      rw [if_neg (by omega), show 16 + n - j - 16 = n + 1 - 1 - j by omega]
    · unfold pre
      exact if_pos (by omega)
  · rw [if_neg h]
    have e : ∑ d ∈ Finset.range (n + 1), ext X d k
        = ∑ d ∈ Finset.range (n - w + 1), ext X d k + ∑ j ∈ Finset.range w, ext X (n - w + 1 + j) k := by
      rw [← Finset.sum_range_add, show n - w + 1 + w = n + 1 by omega]
    obtain ⟨r, hr⟩ : IsFin (∑ d ∈ Finset.range (n - w + 1), ext X d k) := IsFin.sum _ _ fun d _ => ext_fin X hX d k
    rw [e, hr, add_comm, EReal.add_sub_cancel_right, ← Finset.sum_range_reflect (fun j => ext X (n - w + 1 + j) k)]
    refine Finset.sum_congr rfl fun j hj => ?_
    have := Finset.mem_range.mp hj
    unfold pre
    rw [if_neg (by omega), show n - w + 1 + (w - 1 - j) = 16 + n - j - 16 by omega]

variable (x0 : (⟨S8192x512, .f32⟩ : BufTy).Contents (Elt Ideal)) (x1 : (⟨S4x128x128, .f32⟩ : BufTy).Contents (Elt Ideal))
  (x2 : (⟨S1x512, .f32⟩ : BufTy).Contents (Elt Ideal))

theorem v0_at (n : Fin 8192) (k : Fin 512) : val_main_v0 (F := Ideal) x0 (ix3 0 n k) = ext x0 n.val k := by
  rw [val_main_v0_apply, ← ext_of x0 n.val k n rfl]
  refine congrArg x0 ((ValueIdx.eq_ix2 _).trans ?_)
  congr 1

theorem v1_at (n : Fin 8192) (k : Fin 512) : val_main_v1 (F := Ideal) x0 (ix3 0 n k) = ∑ d ∈ Finset.range (n.val + 1), ext x0 d k := by
  unfold val_main_v1
  have h := fun t => v0_at x0 t k
  have hv : ∀ i, val_main_call0_call0_v0 (F := Ideal) i = 0 := fun i => by
    rw [val_main_call0_call0_v0_apply]
    exact Ideal.ofBits_zero_f32
  generalize val_main_call0_call0_v0 (F := Ideal) = v at hv ⊢
  generalize val_main_v0 (F := Ideal) x0 = y at h ⊢
  exact runsum y v hv _ _ (fun d => ext x0 d k) n k h

theorem v3_at (n : Fin 8192) (c : Fin 128) : val_main_v3 (F := Ideal) x0 (ix3 0 n c) = ∑ d ∈ Finset.range (n.val + 1), ext x0 d (gcol 0 c) := by
  rw [val_main_v3_apply, ← v1_at]
  refine congrArg _ ((ValueIdx.eq_ix3 _).trans ?_)
  have := c.isLt
  congr 1 <;> apply Fin.ext <;> simp [gcol, i3_0, i3_1, i3_2]

theorem v6_at (n : Fin 8192) (c : Fin 128) :
    val_main_v6 (F := Ideal) x0 (ix3 0 n c) = if n.val < 2 then 0 else ∑ d ∈ Finset.range (n.val - 2 + 1), ext x0 d (gcol 0 c) := by
  unfold val_main_v6
  refine (moved 2 8190 (by omega) _ _ _ n c).trans ?_
  split
  · next h =>
    exact Ideal.ofBits_zero_f32
  · next h =>
    rw [val_main_v5_apply]
    have hn := n.isLt
    refine Eq.trans ?_ (v3_at x0 ⟨n.val - 2, by omega⟩ c)
    refine congrArg _ ((ValueIdx.eq_ix3 _).trans ?_)
    congr 1

theorem v17_at (hf : ∀ i, IsFin (x0 i)) (n : Fin 8192) (c : Fin 128) :
    val_main_v17 (F := Ideal) x0 (ix3 0 n c) = row (fun r c => pre x0 r (gcol 0 c)) 2 n.val n.val c := by
  rw [val_main_v17_apply]
  unfold row
  dsimp only
  rw [pre_own]
  refine congrArg₂ (· - ·) ?_ ?_
  · rw [val_main_v15_apply, val_main_v14_apply, val_main_v12_apply, val_main_v11_apply, val_main_v10_apply, val_main_v9_apply, val_main_v8_apply, val_main_v7_apply, val_main_c_apply, val_main_c_0_apply, val_main_v2_apply]
    refine (count_at n.val 2 n.isLt (by omega) (by omega) (val_main_v13 (F := Ideal) x0 (ix3 0 n c))).trans ?_
    rw [val_main_v13_apply, v3_at, v6_at]
    exact congrArg (· * rcp 2 n.val) (lastrows x0 hf (gcol 0 c) n.val 2 (by omega))
  · rw [val_main_v16_apply, ← v0_at]
    refine congrArg _ ((ValueIdx.eq_ix3 _).trans ?_)
    congr 1 <;> apply Fin.ext <;> simp [gcol, i3_0, i3_1, i3_2]

theorem v18_at (n : Fin 8192) (c : Fin 128) : val_main_v18 (F := Ideal) x0 (ix3 0 n c) = ∑ d ∈ Finset.range (n.val + 1), ext x0 d (gcol 1 c) := by
  rw [val_main_v18_apply, ← v1_at]
  refine congrArg _ ((ValueIdx.eq_ix3 _).trans ?_)
  have := c.isLt
  congr 1 <;> apply Fin.ext <;> simp [gcol, i3_0, i3_1, i3_2]

theorem v21_at (n : Fin 8192) (c : Fin 128) :
    val_main_v21 (F := Ideal) x0 (ix3 0 n c) = if n.val < 4 then 0 else ∑ d ∈ Finset.range (n.val - 4 + 1), ext x0 d (gcol 1 c) := by
  unfold val_main_v21
  refine (moved 4 8188 (by omega) _ _ _ n c).trans ?_
  split
  · next h =>
    exact Ideal.ofBits_zero_f32
  · next h =>
    rw [val_main_v20_apply]
    have hn := n.isLt
    refine Eq.trans ?_ (v18_at x0 ⟨n.val - 4, by omega⟩ c)
    refine congrArg _ ((ValueIdx.eq_ix3 _).trans ?_)
    congr 1

theorem v32_at (hf : ∀ i, IsFin (x0 i)) (n : Fin 8192) (c : Fin 128) :
    val_main_v32 (F := Ideal) x0 (ix3 0 n c) = row (fun r c => pre x0 r (gcol 1 c)) 4 n.val n.val c := by
  rw [val_main_v32_apply]
  unfold row
  dsimp only
  rw [pre_own]
  refine congrArg₂ (· - ·) ?_ ?_
  · rw [val_main_v30_apply, val_main_v29_apply, val_main_v27_apply, val_main_v26_apply, val_main_v25_apply, val_main_v24_apply, val_main_v23_apply, val_main_v22_apply, val_main_c_2_apply, val_main_c_3_apply, val_main_v2_apply]
    refine (count_at n.val 4 n.isLt (by omega) (by omega) (val_main_v28 (F := Ideal) x0 (ix3 0 n c))).trans ?_
    rw [val_main_v28_apply, v18_at, v21_at]
    exact congrArg (· * rcp 4 n.val) (lastrows x0 hf (gcol 1 c) n.val 4 (by omega))
  · rw [val_main_v31_apply, ← v0_at]
    refine congrArg _ ((ValueIdx.eq_ix3 _).trans ?_)
    congr 1 <;> apply Fin.ext <;> simp [gcol, i3_0, i3_1, i3_2]

theorem v33_at (n : Fin 8192) (c : Fin 128) : val_main_v33 (F := Ideal) x0 (ix3 0 n c) = ∑ d ∈ Finset.range (n.val + 1), ext x0 d (gcol 2 c) := by
  rw [val_main_v33_apply, ← v1_at]
  refine congrArg _ ((ValueIdx.eq_ix3 _).trans ?_)
  have := c.isLt
  congr 1 <;> apply Fin.ext <;> simp [gcol, i3_0, i3_1, i3_2]

theorem v36_at (n : Fin 8192) (c : Fin 128) :
    val_main_v36 (F := Ideal) x0 (ix3 0 n c) = if n.val < 8 then 0 else ∑ d ∈ Finset.range (n.val - 8 + 1), ext x0 d (gcol 2 c) := by
  unfold val_main_v36
  refine (moved 8 8184 (by omega) _ _ _ n c).trans ?_
  split
  · next h =>
    exact Ideal.ofBits_zero_f32
  · next h =>
    rw [val_main_v35_apply]
    have hn := n.isLt
    refine Eq.trans ?_ (v33_at x0 ⟨n.val - 8, by omega⟩ c)
    refine congrArg _ ((ValueIdx.eq_ix3 _).trans ?_)
    congr 1

theorem v47_at (hf : ∀ i, IsFin (x0 i)) (n : Fin 8192) (c : Fin 128) :
    val_main_v47 (F := Ideal) x0 (ix3 0 n c) = row (fun r c => pre x0 r (gcol 2 c)) 8 n.val n.val c := by
  rw [val_main_v47_apply]
  unfold row
  dsimp only
  rw [pre_own]
  refine congrArg₂ (· - ·) ?_ ?_
  · rw [val_main_v45_apply, val_main_v44_apply, val_main_v42_apply, val_main_v41_apply, val_main_v40_apply, val_main_v39_apply, val_main_v38_apply, val_main_v37_apply, val_main_c_5_apply, val_main_c_6_apply, val_main_v2_apply]
    refine (count_at n.val 8 n.isLt (by omega) (by omega) (val_main_v43 (F := Ideal) x0 (ix3 0 n c))).trans ?_
    rw [val_main_v43_apply, v33_at, v36_at]
    exact congrArg (· * rcp 8 n.val) (lastrows x0 hf (gcol 2 c) n.val 8 (by omega))
  · rw [val_main_v46_apply, ← v0_at]
    refine congrArg _ ((ValueIdx.eq_ix3 _).trans ?_)
    congr 1 <;> apply Fin.ext <;> simp [gcol, i3_0, i3_1, i3_2]

theorem v48_at (n : Fin 8192) (c : Fin 128) : val_main_v48 (F := Ideal) x0 (ix3 0 n c) = ∑ d ∈ Finset.range (n.val + 1), ext x0 d (gcol 3 c) := by
  rw [val_main_v48_apply, ← v1_at]
  refine congrArg _ ((ValueIdx.eq_ix3 _).trans ?_)
  have := c.isLt
  congr 1 <;> apply Fin.ext <;> simp [gcol, i3_0, i3_1, i3_2]

theorem v51_at (n : Fin 8192) (c : Fin 128) :
    val_main_v51 (F := Ideal) x0 (ix3 0 n c) = if n.val < 16 then 0 else ∑ d ∈ Finset.range (n.val - 16 + 1), ext x0 d (gcol 3 c) := by
  unfold val_main_v51
  refine (moved 16 8176 (by omega) _ _ _ n c).trans ?_
  split
  · next h =>
    exact Ideal.ofBits_zero_f32
  · next h =>
    rw [val_main_v50_apply]
    have hn := n.isLt
    refine Eq.trans ?_ (v48_at x0 ⟨n.val - 16, by omega⟩ c)
    refine congrArg _ ((ValueIdx.eq_ix3 _).trans ?_)
    congr 1

theorem v62_at (hf : ∀ i, IsFin (x0 i)) (n : Fin 8192) (c : Fin 128) :
    val_main_v62 (F := Ideal) x0 (ix3 0 n c) = row (fun r c => pre x0 r (gcol 3 c)) 16 n.val n.val c := by
  rw [val_main_v62_apply]
  unfold row
  dsimp only
  rw [pre_own]
  refine congrArg₂ (· - ·) ?_ ?_
  · rw [val_main_v60_apply, val_main_v59_apply, val_main_v57_apply, val_main_v56_apply, val_main_v55_apply, val_main_v54_apply, val_main_v53_apply, val_main_v52_apply, val_main_c_8_apply, val_main_c_9_apply, val_main_v2_apply]
    refine (count_at n.val 16 n.isLt (by omega) (by omega) (val_main_v58 (F := Ideal) x0 (ix3 0 n c))).trans ?_
    rw [val_main_v58_apply, v48_at, v51_at]
    exact congrArg (· * rcp 16 n.val) (lastrows x0 hf (gcol 3 c) n.val 16 (by omega))
  · rw [val_main_v61_apply, ← v0_at]
    refine congrArg _ ((ValueIdx.eq_ix3 _).trans ?_)
    congr 1 <;> apply Fin.ext <;> simp [gcol, i3_0, i3_1, i3_2]

theorem plOf_gcol (n : ℕ) (g : Fin 4) (c : Fin 128) :
    plOf x0 n (gcol g c) = row (fun r c => pre x0 r (gcol g c)) (2 ^ (g.val + 1)) n n c := by
  unfold plOf
  rw [grp_of (gcol g c) g c rfl, lan_of (gcol g c) g c rfl]

theorem v67_at (hf : ∀ i, IsFin (x0 i)) (n : Fin 8192) (g : Fin 4) (c : Fin 128) :
    val_main_v67 (F := Ideal) x0 (ix4 0 n g c) = plOf x0 n.val (gcol g c) := by
  rw [plOf_gcol]
  unfold val_main_v67
  match g with
  | ⟨0, _⟩ =>
    refine (concatenate_apply_piece (2 : Fin S1x8192x4x128.rank) _ _ (ix4 0 n ⟨0, by omega⟩ c) 0 (by simp) S1x8192x1x128 (val_main_v63 (F := Ideal) x0) rfl rfl 0 rfl
      (ix4 0 n 0 c) (fun b hb => match b with | ⟨0, _⟩ => rfl | ⟨1, _⟩ => rfl | ⟨2, _⟩ => absurd rfl hb | ⟨3, _⟩ => rfl) rfl).trans ?_
    rw [val_main_v63_apply]
    refine Eq.trans (congrArg _ ((ValueIdx.eq_ix3 _).trans ?_)) (v17_at x0 hf n c)
    congr 1
  | ⟨1, _⟩ =>
    refine (concatenate_apply_piece (2 : Fin S1x8192x4x128.rank) _ _ (ix4 0 n ⟨1, by omega⟩ c) 1 (by simp) S1x8192x1x128 (val_main_v64 (F := Ideal) x0) rfl rfl 1 rfl
      (ix4 0 n 0 c) (fun b hb => match b with | ⟨0, _⟩ => rfl | ⟨1, _⟩ => rfl | ⟨2, _⟩ => absurd rfl hb | ⟨3, _⟩ => rfl) rfl).trans ?_
    rw [val_main_v64_apply]
    refine Eq.trans (congrArg _ ((ValueIdx.eq_ix3 _).trans ?_)) (v32_at x0 hf n c)
    congr 1
  | ⟨2, _⟩ =>
    refine (concatenate_apply_piece (2 : Fin S1x8192x4x128.rank) _ _ (ix4 0 n ⟨2, by omega⟩ c) 2 (by simp) S1x8192x1x128 (val_main_v65 (F := Ideal) x0) rfl rfl 2 rfl
      (ix4 0 n 0 c) (fun b hb => match b with | ⟨0, _⟩ => rfl | ⟨1, _⟩ => rfl | ⟨2, _⟩ => absurd rfl hb | ⟨3, _⟩ => rfl) rfl).trans ?_
    rw [val_main_v65_apply]
    refine Eq.trans (congrArg _ ((ValueIdx.eq_ix3 _).trans ?_)) (v47_at x0 hf n c)
    congr 1
  | ⟨3, _⟩ =>
    refine (concatenate_apply_piece (2 : Fin S1x8192x4x128.rank) _ _ (ix4 0 n ⟨3, by omega⟩ c) 3 (by simp) S1x8192x1x128 (val_main_v66 (F := Ideal) x0) rfl rfl 3 rfl
      (ix4 0 n 0 c) (fun b hb => match b with | ⟨0, _⟩ => rfl | ⟨1, _⟩ => rfl | ⟨2, _⟩ => absurd rfl hb | ⟨3, _⟩ => rfl) rfl).trans ?_
    rw [val_main_v66_apply]
    refine Eq.trans (congrArg _ ((ValueIdx.eq_ix3 _).trans ?_)) (v62_at x0 hf n c)
    congr 1

/-- The pooled rows. -/
theorem pooled_ref (hf : ∀ i, IsFin (x0 i)) : val_main_v145 (F := Ideal) x0 = fun y : S8192x512.Idx => plOf x0 (y 0).val (y 1) := by
  funext y
  obtain ⟨n, k, rfl⟩ : ∃ n k, y = ix2 n k := ⟨y 0, y 1, ValueIdx.eq_ix2 y⟩
  rw [val_main_v145_apply]
  show val_main_v68 (F := Ideal) x0 (ix2 n k) = plOf x0 n.val k
  rw [val_main_v68_apply, ← gcol_grp_lan k, ← v67_at x0 hf, gcol_grp_lan]
  refine congrArg _ ((ValueIdx.eq_ix4 _).trans ?_)
  have := k.isLt; have := n.isLt
  congr 1 <;> apply Fin.ext <;> simp [grp, lan, i4_0, i4_1, i4_2, i4_3, i2_0, i2_1] <;> omega

theorem v137_eq : val_main_v137 (F := Ideal) x0 = val_main_v67 (F := Ideal) x0 := rfl

/-- The mixed rows. -/
theorem mixed_ref (hf : ∀ i, IsFin (x0 i)) :
    val_main_v146 (F := Ideal) x0 x1 x2 = fun y : S8192x512.Idx => yaOf x0 x1 x2 (y 0).val (y 1) := by
  funext y
  obtain ⟨n, k, rfl⟩ : ∃ n k, y = ix2 n k := ⟨y 0, y 1, ValueIdx.eq_ix2 y⟩
  rw [val_main_v146_apply]
  show val_main_v144 (F := Ideal) x0 x1 x2 (ix2 n k) = yaOf x0 x1 x2 n.val k
  rw [val_main_v144_apply, val_main_v143_apply]
  unfold yaOf
  refine congrArg₂ (· * ·) ?_ ?_
  · rw [val_main_v140_apply, val_main_v139_apply,
      show idx_main_v139 (idx_main_v140 (idx_main_v144 (ix2 n k))) = ix4 (grp k) (lan k) 0 n from ?_, val_main_v138_apply]
    · refine Finset.sum_congr rfl fun d _ => ?_
      rw [mul_comm, v137_eq, ← v67_at x0 hf]
      refine congrArg₂ (· * ·) (congrArg _ ((ValueIdx.eq_ix4 _).trans ?_)) (congrArg x1 ((ValueIdx.eq_ix3 _).trans ?_))
      · congr 1
      · congr 1
    · refine (ValueIdx.eq_ix4 _).trans ?_
      have := k.isLt; have := n.isLt
      congr 1 <;> apply Fin.ext <;> simp [grp, lan, i4_0, i4_1, i4_2, i4_3, i2_0, i2_1, i3_0, i3_1, i3_2] <;> omega
  · rw [val_main_v142_apply, val_main_v141_apply, val_main_v70_apply]
    show _ = x2 (ix2 0 (gcol (grp k) (lan k)))
    rw [gcol_grp_lan]
    refine congrArg x2 ((ValueIdx.eq_ix2 _).trans ?_)
    have := k.isLt; have := n.isLt
    congr 1 <;> apply Fin.ext <;> simp [i2_0, i2_1, i3_0, i3_1, i3_2] <;> omega

/-- The precondition says that every activation is finite. -/
theorem fin_of_pre (h : Cert.Pre_finite19.fn (F := Ideal) x0 x1 x2 = fun _ => 1#1) : ∀ i, IsFin (x0 i) := by
  have h0 := congrFun h ix0
  unfold Cert.Pre_finite19.fn at h0
  dsimp only at h0
  haveI : Subsingleton Cert.Pre_finite19.S_.Idx := ⟨fun a b => (ValueIdx.eq_ix0 a).trans (ValueIdx.eq_ix0 b).symm⟩
  exact fun i => fin_of_lt _ (Host.reduce_andi_all _ _ _ _ _ h0 i)

end Cert.Pool.Fwd

end
-- ==== Proof.PoolFwd.lean ====
module

public import proofs.«01_k».proof.Proof.PoolRef

/-! The forward pooling mixer: the kernel's two result arrays are the reference's, for finite activations. -/

@[expose] public section

set_option maxRecDepth 16384

noncomputable section

namespace Cert.Pool.Fwd

open Cert.Kernel19Ideal Cert.Kernel19Ideal.Gen Idealize.SL.Sem Idealize.ShloMosaic.Tactic
open Idealize.ShloMosaic hiding ix0 ix1 ix2 ix3 ix4 ix5
open Idealize.ShloMosaic.TcCoe Idealize.ShloMosaic.ValueIdx
open Idealize.ShloMosaic.Pipeline (Dat)

variable (m : (ℓ : Loc nD τ sig) → Buf (Elt Ideal) ℓ) (c : Dev nD)

theorem aX_eq : aX m c = (m ((c : Thread nD τ).loc main_arg0) : S8192x512.Idx → EReal) := V_main_arg0 m c
theorem aS_eq : aS m c = (m ((c : Thread nD τ).loc main_arg2) : S1x512.Idx → EReal) := V_main_arg2 m c
theorem aW_eq : aW m c = (m ((c : Thread nD τ).loc main_arg1) : S4x128x128.Idx → EReal) := by
  show V m c main_v0 = _
  unfold V hostOps0
  after_results
  rfl

theorem pooled_result (hX : ∀ i, IsFin ((m ((c : Thread nD τ).loc main_arg0) : S8192x512.Idx → EReal) i)) :
    (dats m 0 c).arrAt 4 cfg0.N = Cert.Reference19Ideal.Read.val_main_v145 (F := Ideal) (m ((c : Thread nD τ).loc main_arg0)) := by
  rw [pl_final, pooled_ref _ hX, aX_eq]

theorem mixed_result (hX : ∀ i, IsFin ((m ((c : Thread nD τ).loc main_arg0) : S8192x512.Idx → EReal) i)) :
    (dats m 0 c).arrAt 5 cfg0.N = Cert.Reference19Ideal.Read.val_main_v146 (F := Ideal) (m ((c : Thread nD τ).loc main_arg0))
      (m ((c : Thread nD τ).loc main_arg1)) (m ((c : Thread nD τ).loc main_arg2)) := by
  rw [ya_final, mixed_ref _ _ _ hX, aX_eq, aW_eq, aS_eq]

end Cert.Pool.Fwd

end
-- ==== Proof.AdamFfn.lean ====
module

public import proofs.«01_k».proof.Proof.Gen.Kernel20Ideal.Value
public import proofs.«01_k».proof.Proof.Gen.Reference20Ideal.Read
public import Idealize.ShloMosaic.Lib.Pipeline.ValueKit
public import Idealize.ShloMosaic.Lib.Pipeline.ReadBack

/-! The optimiser's step for the gated block's norm scale: one row, element by element. -/

@[expose] public section

set_option maxRecDepth 16384

noncomputable section

namespace Cert.Mix.AdamFfn

open Cert.Kernel20Ideal Cert.Kernel20Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

open Cert.Reference20Ideal.Read

variable (m : (ℓ : Loc nD τ sig) → Buf (Elt Ideal) ℓ) (c : Dev nD)

abbrev x0 := m ((c : Thread nD τ).loc main_arg0)
abbrev x1 := m ((c : Thread nD τ).loc main_arg1)
abbrev x2 := m ((c : Thread nD τ).loc main_arg2)
abbrev x3 := m ((c : Thread nD τ).loc main_arg3)

theorem delta_result : (dats m 0 c).arrAt 4 cfg0.N = val_main_v23 (F := Ideal) (x0 m c) (x1 m c) (x2 m c) (x3 m c) :=
  (Cert.Kernel20Ideal.Value.final4 m c).trans (funext fun _ => rfl)

theorem m_result : (dats m 0 c).arrAt 5 cfg0.N = val_main_v4 (F := Ideal) (x1 m c) (x2 m c) :=
  (Cert.Kernel20Ideal.Value.final5 m c).trans (funext fun _ => rfl)

theorem v_result : (dats m 0 c).arrAt 6 cfg0.N = val_main_v10 (F := Ideal) (x1 m c) (x3 m c) :=
  (Cert.Kernel20Ideal.Value.final6 m c).trans (funext fun _ => rfl)

end Cert.Mix.AdamFfn

end
-- ==== Proof.AdamPle.lean ====
module

public import proofs.«01_k».proof.Proof.Gen.Kernel21Ideal.Value
public import proofs.«01_k».proof.Proof.Gen.Reference21Ideal.Read
public import Idealize.ShloMosaic.Lib.Pipeline.ValueKit
public import Idealize.ShloMosaic.Lib.Pipeline.ReadBack

/-! The optimiser's step for the per-layer embedding's norm scale: one row, element by element. -/

@[expose] public section

set_option maxRecDepth 16384

noncomputable section

namespace Cert.Mix.AdamPle

open Cert.Kernel21Ideal Cert.Kernel21Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

open Cert.Reference21Ideal.Read

variable (m : (ℓ : Loc nD τ sig) → Buf (Elt Ideal) ℓ) (c : Dev nD)

abbrev x0 := m ((c : Thread nD τ).loc main_arg0)
abbrev x1 := m ((c : Thread nD τ).loc main_arg1)
abbrev x2 := m ((c : Thread nD τ).loc main_arg2)
abbrev x3 := m ((c : Thread nD τ).loc main_arg3)

theorem delta_result : (dats m 0 c).arrAt 4 cfg0.N = val_main_v23 (F := Ideal) (x0 m c) (x1 m c) (x2 m c) (x3 m c) :=
  (Cert.Kernel21Ideal.Value.final4 m c).trans (funext fun _ => rfl)

theorem m_result : (dats m 0 c).arrAt 5 cfg0.N = val_main_v4 (F := Ideal) (x1 m c) (x2 m c) :=
  (Cert.Kernel21Ideal.Value.final5 m c).trans (funext fun _ => rfl)

theorem v_result : (dats m 0 c).arrAt 6 cfg0.N = val_main_v10 (F := Ideal) (x1 m c) (x3 m c) :=
  (Cert.Kernel21Ideal.Value.final6 m c).trans (funext fun _ => rfl)

end Cert.Mix.AdamPle

end
-- ==== Proof.AdamFinal.lean ====
module

public import proofs.«01_k».proof.Proof.Gen.Kernel22Ideal.Value
public import proofs.«01_k».proof.Proof.Gen.Reference22Ideal.Read
public import Idealize.ShloMosaic.Lib.Pipeline.ValueKit
public import Idealize.ShloMosaic.Lib.Pipeline.ReadBack

/-! The optimiser's step for the final norm's scale: one row, element by element. -/

@[expose] public section

set_option maxRecDepth 16384

noncomputable section

namespace Cert.Mix.AdamFinal

open Cert.Kernel22Ideal Cert.Kernel22Ideal.Gen Idealize.SL.Sem Idealize.ShloMosaic.Tactic
open Idealize.ShloMosaic hiding ix0 ix1 ix2 ix3 ix4 ix5
open Idealize.ShloMosaic.TcCoe Idealize.ShloMosaic.ValueIdx Idealize.ShloMosaic.StableHlo

/-- The step at one element: the two moments and the change of the weight. -/
def mom (g m : Ideal .f32) : Ideal .f32 :=
  FloatOps.addf (FloatOps.mulf (Scalar.ofBits .f32 0x3F666666#32) m) (FloatOps.mulf (Scalar.ofBits .f32 0x3DCCCCCD#32) g)
def sqr (g v : Ideal .f32) : Ideal .f32 :=
  FloatOps.addf (FloatOps.mulf (Scalar.ofBits .f32 0x3F7FBE77#32) v) (FloatOps.mulf (Scalar.ofBits .f32 0x3A83126F#32) (FloatOps.mulf g g))
def del (w g m v : Ideal .f32) : Ideal .f32 :=
  FloatOps.mulf (Scalar.ofBits .f32 0xBA83126F#32) (FloatOps.addf (FloatOps.divf (FloatOps.divf (mom g m) (Scalar.ofBits .f32 0x3F26BD02#32))
    (FloatOps.addf (FloatOps.sqrt (FloatOps.divf (sqr g v) (Scalar.ofBits .f32 0x3C231ACC#32))) (Scalar.ofBits .f32 0x322BCC77#32)))
    (FloatOps.mulf (Scalar.ofBits .f32 0x3C23D70A#32) w))

section Tile

variable (w g m v : Vec Ideal S1x1024 .f32) (y : S1x1024.Idx)

theorem mom_at : k0_pay2 (F := Ideal) g m y = mom (g y) (m y) := by
  unfold k0_pay2 k0_pay1
  simp only [shapeCast_self]
  rfl

theorem sqr_at : k0_pay3 (F := Ideal) g v y = sqr (g y) (v y) := by
  unfold k0_pay3 k0_pay1
  simp only [shapeCast_self]
  rfl

theorem del_at : k0_pay4 (F := Ideal) w g m v y = del (w y) (g y) (m y) (v y) := by
  unfold del
  rw [← mom_at, ← sqr_at]
  unfold k0_pay4
  simp only [shapeCast_self]
  rfl

end Tile

variable (m : (ℓ : Loc nD τ sig) → Buf (Elt Ideal) ℓ) (c : Dev nD)

abbrev a0 : S1x1024.Idx → EReal := V m c main_v0
abbrev a1 : S1x1024.Idx → EReal := V m c main_v1
abbrev a2 : S1x1024.Idx → EReal := V m c main_v2
abbrev a3 : S1x1024.Idx → EReal := V m c main_v3

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem rd0 (t : Fin cfg0.N) : (iblk m c 0 t : S1x1024.Idx → EReal) = a0 m c := by
  funext y
  blk_ext [iblk, idx0 t]
theorem rd1 (t : Fin cfg0.N) : (iblk m c 1 t : S1x1024.Idx → EReal) = a1 m c := by
  funext y
  blk_ext [iblk, idx1 t]
theorem rd2 (t : Fin cfg0.N) : (iblk m c 2 t : S1x1024.Idx → EReal) = a2 m c := by
  funext y
  blk_ext [iblk, idx2 t]
theorem rd3 (t : Fin cfg0.N) : (iblk m c 3 t : S1x1024.Idx → EReal) = a3 m c := by
  funext y
  blk_ext [iblk, idx3 t]

theorem delta_point (t : Fin cfg0.N) (y : S1x1024.Idx) : out0_4 (F := Ideal) (iblk m c 0 t) (iblk m c 1 t) (iblk m c 2 t) (iblk m c 3 t) y = del (a0 m c y) (a1 m c y) (a2 m c y) (a3 m c y) := by
  frame_out
  rw [rd0, rd1, rd2, rd3]
  exact del_at _ _ _ _ y

theorem delta_final : (dats m 0 c).arrAt 4 cfg0.N = fun y : S1x1024.Idx => del (a0 m c y) (a1 m c y) (a2 m c y) (a3 m c y) := by
  refine (dats m 0 c).arrAt_eq_of_covers 4 _ (by decide +kernel) fun t hf y => ?_
  blk_simp
  rw [after0_4]
  refine (delta_point m c t y).trans ?_
  have e : (win0_4.blk t).view.emb y = y := by
    funext a
    refine Fin.ext ?_
    match a with
    | ⟨0, _⟩ => blk_simp [idx4 t]
    | ⟨1, _⟩ => blk_simp [idx4 t]
  rw [e]

theorem m_point (t : Fin cfg0.N) (y : S1x1024.Idx) : out0_5 (F := Ideal) (iblk m c 0 t) (iblk m c 1 t) (iblk m c 2 t) (iblk m c 3 t) y = mom (a1 m c y) (a2 m c y) := by
  frame_out
  rw [rd1, rd2]
  exact mom_at _ _ y

theorem m_final : (dats m 0 c).arrAt 5 cfg0.N = fun y : S1x1024.Idx => mom (a1 m c y) (a2 m c y) := by
  refine (dats m 0 c).arrAt_eq_of_covers 5 _ (by decide +kernel) fun t hf y => ?_
  blk_simp
  rw [after0_5]
  refine (m_point m c t y).trans ?_
  have e : (win0_5.blk t).view.emb y = y := by
    funext a
    refine Fin.ext ?_
    match a with
    | ⟨0, _⟩ => blk_simp [idx5 t]
    | ⟨1, _⟩ => blk_simp [idx5 t]
  rw [e]

theorem v_point (t : Fin cfg0.N) (y : S1x1024.Idx) : out0_6 (F := Ideal) (iblk m c 0 t) (iblk m c 1 t) (iblk m c 2 t) (iblk m c 3 t) y = sqr (a1 m c y) (a3 m c y) := by
  frame_out
  rw [rd1, rd3]
  exact sqr_at _ _ y

theorem v_final : (dats m 0 c).arrAt 6 cfg0.N = fun y : S1x1024.Idx => sqr (a1 m c y) (a3 m c y) := by
  refine (dats m 0 c).arrAt_eq_of_covers 6 _ (by decide +kernel) fun t hf y => ?_
  blk_simp
  rw [after0_6]
  refine (v_point m c t y).trans ?_
  have e : (win0_6.blk t).view.emb y = y := by
    funext a
    refine Fin.ext ?_
    match a with
    | ⟨0, _⟩ => blk_simp [idx6 t]
    | ⟨1, _⟩ => blk_simp [idx6 t]
  rw [e]

/-- The arguments as the launch finds them. -/
abbrev x0 := m ((c : Thread nD τ).loc main_arg0)
abbrev x1 := m ((c : Thread nD τ).loc main_arg1)
abbrev x2 := m ((c : Thread nD τ).loc main_arg2)
abbrev x3 := m ((c : Thread nD τ).loc main_arg3)

theorem a0_eq : a0 m c = shapeCast S1x1024 (x0 m c) shapeCasts_S1024_S1x1024 := by
  show V m c main_v0 = _
  unfold V hostOps0
  after_results
  rfl

theorem a1_eq : a1 m c = shapeCast S1x1024 (x1 m c) shapeCasts_S1024_S1x1024 := by
  show V m c main_v1 = _
  unfold V hostOps0
  after_results
  rfl

theorem a2_eq : a2 m c = shapeCast S1x1024 (x2 m c) shapeCasts_S1024_S1x1024 := by
  show V m c main_v2 = _
  unfold V hostOps0
  after_results
  rfl

theorem a3_eq : a3 m c = shapeCast S1x1024 (x3 m c) shapeCasts_S1024_S1x1024 := by
  show V m c main_v3 = _
  unfold V hostOps0
  after_results
  rfl

open Cert.Reference22Ideal.Read

theorem delta_result : (dats m 0 c).arrAt 4 cfg0.N = val_main_v24 (F := Ideal) (x0 m c) (x1 m c) (x2 m c) (x3 m c) := by
  rw [delta_final, a0_eq, a1_eq, a2_eq, a3_eq]
  rfl

theorem m_result : (dats m 0 c).arrAt 5 cfg0.N = val_main_v25 (F := Ideal) (x1 m c) (x2 m c) := by
  rw [m_final, a1_eq, a2_eq]
  rfl

theorem v_result : (dats m 0 c).arrAt 6 cfg0.N = val_main_v26 (F := Ideal) (x1 m c) (x3 m c) := by
  rw [v_final, a1_eq, a3_eq]
  rfl

end Cert.Mix.AdamFinal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Pre_finite
public import proofs.«01_k».proof.Proof.Gen.Pre_finite2
public import proofs.«01_k».proof.Proof.Gen.Pre_finite8
public import proofs.«01_k».proof.Proof.Gen.Pre_finite14
public import proofs.«01_k».proof.Proof.Gen.Pre_finite19
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Final
public import proofs.«01_k».proof.Proof.Back
public import proofs.«01_k».proof.Proof.Down
public import proofs.«01_k».proof.Proof.Gates
public import proofs.«01_k».proof.Proof.Fwd
public import proofs.«01_k».proof.Proof.Proj
public import proofs.«01_k».proof.Proof.InGrad
public import proofs.«01_k».proof.Proof.InBack
public import proofs.«01_k».proof.Proof.MixOut
public import proofs.«01_k».proof.Proof.Merge
public import proofs.«01_k».proof.Proof.Branch
public import proofs.«01_k».proof.Proof.MixGrad
public import proofs.«01_k».proof.Proof.PleGrad
public import proofs.«01_k».proof.Proof.LossRow
public import proofs.«01_k».proof.Proof.LossRef
public import proofs.«01_k».proof.Proof.LossRun
public import proofs.«01_k».proof.Proof.LossTile
public import proofs.«01_k».proof.Proof.LossBack
public import proofs.«01_k».proof.Proof.AdamNorm
public import proofs.«01_k».proof.Proof.AdamScale
public import proofs.«01_k».proof.Proof.AdamPool
public import proofs.«01_k».proof.Proof.NormIn
public import proofs.«01_k».proof.Proof.PoolTile
public import proofs.«01_k».proof.Proof.PoolBlocks
public import proofs.«01_k».proof.Proof.PoolRef
public import proofs.«01_k».proof.Proof.PoolFwd
public import proofs.«01_k».proof.Proof.AdamFfn
public import proofs.«01_k».proof.Proof.AdamPle
public import proofs.«01_k».proof.Proof.AdamFinal

@[expose] public section

noncomputable section

namespace Cert.Proof

open Idealize.ShloMosaic Idealize.SL.Sem Cert.Kernel

/-- The reference, a host program, ends with its arguments unchanged and every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2.2.2, sem_eq_zero_of_no_sems (by decide) r.2⟩) (Cert.ReferenceIdeal.Value.run (F := Ideal) m ρ)

/-- The feed-forward layer's backward reference keeps its arguments. -/
theorem reference_frame_ffn_back : Cert.quiescent_Reference2Ideal := fun m ρ _ =>
  (θ_run _ _ _).mono (fun r h => ⟨fun c => (h c).2.2.2.2.2, sem_eq_zero_of_no_sems (by decide) r.2⟩) (Cert.Reference2Ideal.Value.run (F := Ideal) m ρ)

theorem algebraic_ffn_back : Cert.algebraic_Kernel2Ideal_Reference2Ideal_pre_finite2 := by
  intro m ρ m' ρ' hpre hagree
  refine ⟨fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    Cert.Kernel2Ideal.Value.run_blocks m ρ, ?_⟩
  refine (θ_run _ _ _).mono (fun r h c => ?_) (Cert.Reference2Ideal.Value.run (F := Ideal) m' ρ')
  obtain ⟨a0, a1, a2, a3, a4, a5⟩ := hagree c
  obtain ⟨hX, hg, hwg, hwu, hwd, hC⟩ := Cert.Ffn.BackRef.pre_fin (hpre c)
  obtain ⟨r0, r1, r2, r3, r4, rest⟩ := h c
  refine ⟨r0.trans ((Cert.Reference2Ideal.Read.val_main_v79_eq _ _).trans ?_), r1.trans ((Cert.Reference2Ideal.Read.val_main_v80_eq _ _ _ _ _).trans ?_), r2.trans ((Cert.Reference2Ideal.Read.val_main_v78_eq _ _).trans ?_), r3.trans ((Cert.Reference2Ideal.Read.val_main_v81_eq _ _).trans ?_), r4.trans ((Cert.Reference2Ideal.Read.val_main_v82_eq _ _).trans ?_), rest⟩
  · refine Eq.trans ?_ (Cert.Ffn.Back.dg_result m c hX hg hwg hwu hwd hC).symm
    show Cert.Reference2Ideal.Read.val_main_v79 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) = _
    rw [a0, a1, a2, a3, a4, a5]
  · refine Eq.trans ?_ (Cert.Ffn.Back.du_result m c).symm
    show Cert.Reference2Ideal.Read.val_main_v80 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) = _
    rw [a0, a1, a2, a4, a5]
  · refine Eq.trans ?_ (Cert.Ffn.Back.dx_result m c hX hg hwg hwu hwd hC).symm
    show Cert.Reference2Ideal.Read.val_main_v78 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) = _
    rw [a0, a1, a2, a3, a4, a5]
  · refine Eq.trans ?_ (Cert.Ffn.Back.dxb_result m c hX hg hwg hwu hwd hC).symm
    show Cert.Reference2Ideal.Read.val_main_v81 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) = _
    rw [a0, a1, a2, a3, a4, a5]
  · refine Eq.trans ?_ (Cert.Ffn.Back.dn_result m c hX hg hwg hwu hwd hC).symm
    show Cert.Reference2Ideal.Read.val_main_v82 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) = _
    rw [a0, a1, a2, a3, a4, a5]

/-- The feed-forward layer's gate and up gradients: the reference keeps its arguments. -/
theorem reference_frame_ffn_gates : Cert.quiescent_Reference3Ideal := fun m ρ _ =>
  (θ_run _ _ _).mono (fun r h => ⟨fun c => (h c).2.2, sem_eq_zero_of_no_sems (by decide) r.2⟩) (Cert.Reference3Ideal.Value.run (F := Ideal) m ρ)

theorem algebraic_ffn_gates : Cert.algebraic_Kernel3Ideal_Reference3Ideal := by
  intro m ρ m' ρ' _ hagree
  refine ⟨fun c => (Cert.Kernel3Ideal.Gen.dats m 0 c).arrAt 3 Cert.Kernel3Ideal.cfg0.N,
    fun c => (Cert.Kernel3Ideal.Gen.dats m 0 c).arrAt 4 Cert.Kernel3Ideal.cfg0.N,
    Cert.Kernel3Ideal.Value.run_blocks m ρ, ?_⟩
  refine (θ_run _ _ _).mono (fun r h c => ?_) (Cert.Reference3Ideal.Value.run (F := Ideal) m' ρ')
  obtain ⟨a0, a1, a2, a3, a4, a5⟩ := hagree c
  obtain ⟨r0, r1, rest⟩ := h c
  refine ⟨r0.trans ((Cert.Reference3Ideal.Read.val_main_v30_eq _ _).trans ?_), r1.trans ((Cert.Reference3Ideal.Read.val_main_v31_eq _ _ _ _ _).trans ?_), rest⟩
  · refine Eq.trans ?_ (Cert.Ffn.Gates.gate_result m c).symm
    show Cert.Reference3Ideal.Read.val_main_v30 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) = _
    rw [a0, a1, a2, a3, a4, a5]
  · refine Eq.trans ?_ (Cert.Ffn.Gates.up_result m c).symm
    show Cert.Reference3Ideal.Read.val_main_v31 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) = _
    rw [a0, a1, a2, a4, a5]

/-- The feed-forward layer's down gradient: the reference keeps its arguments. -/
theorem reference_frame_ffn_down : Cert.quiescent_Reference4Ideal := fun m ρ _ =>
  (θ_run _ _ _).mono (fun r h => ⟨fun c => (h c).2, sem_eq_zero_of_no_sems (by decide) r.2⟩) (Cert.Reference4Ideal.Value.run (F := Ideal) m ρ)

theorem algebraic_ffn_down : Cert.algebraic_Kernel4Ideal_Reference4Ideal := by
  intro m ρ m' ρ' _ hagree
  refine ⟨fun c => (Cert.Kernel4Ideal.Gen.dats m 0 c).arrAt 2 Cert.Kernel4Ideal.cfg0.N,
    Cert.Kernel4Ideal.Value.run_blocks m ρ, ?_⟩
  refine (θ_run _ _ _).mono (fun r h c => ?_) (Cert.Reference4Ideal.Value.run (F := Ideal) m' ρ')
  obtain ⟨a0, a1, a2, a3, a4, a5⟩ := hagree c
  obtain ⟨r0, rest⟩ := h c
  refine ⟨r0.trans ((Cert.Reference4Ideal.Read.val_main_v23_eq _ _ _ _ _).trans ?_), rest⟩
  · refine Eq.trans ?_ (Cert.Ffn.Down.result m c).symm
    show Cert.Reference4Ideal.Read.val_main_v23 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg5)) = _
    rw [a0, a1, a2, a3, a5]

/-- The feed-forward layer: the reference keeps its arguments. -/
theorem reference_frame_ffn : Cert.quiescent_Reference5Ideal := fun m ρ _ =>
  (θ_run _ _ _).mono (fun r h => ⟨fun c => (h c).2.2.2.2.2, sem_eq_zero_of_no_sems (by decide) r.2⟩) (Cert.Reference5Ideal.Value.run (F := Ideal) m ρ)

theorem algebraic_ffn : Cert.algebraic_Kernel5Ideal_Reference5Ideal := by
  intro m ρ m' ρ' _ hagree
  refine ⟨fun c => (Cert.Kernel5Ideal.Gen.dats m 0 c).arrAt 6 Cert.Kernel5Ideal.cfg0.N,
    fun c => (Cert.Kernel5Ideal.Gen.dats m 0 c).arrAt 7 Cert.Kernel5Ideal.cfg0.N,
    fun c => (Cert.Kernel5Ideal.Gen.dats m 0 c).arrAt 8 Cert.Kernel5Ideal.cfg0.N,
    fun c => (Cert.Kernel5Ideal.Gen.dats m 0 c).arrAt 9 Cert.Kernel5Ideal.cfg0.N,
    fun c => (Cert.Kernel5Ideal.Gen.dats m 0 c).arrAt 10 Cert.Kernel5Ideal.cfg0.N,
    Cert.Kernel5Ideal.Value.run_blocks m ρ, ?_⟩
  refine (θ_run _ _ _).mono (fun r h c => ?_) (Cert.Reference5Ideal.Value.run (F := Ideal) m' ρ')
  obtain ⟨a0, a1, a2, a3, a4, a5⟩ := hagree c
  obtain ⟨r0, r1, r2, r3, r4, rest⟩ := h c
  refine ⟨r0.trans ((Cert.Reference5Ideal.Read.val_main_v42_eq _ _ _).trans ?_), r1.trans ((Cert.Reference5Ideal.Read.val_main_v43_eq _ _ _).trans ?_), r2.trans ((Cert.Reference5Ideal.Read.val_main_v44_eq _ _ _ _).trans ?_), r3.trans ((Cert.Reference5Ideal.Read.val_main_v41_eq _ _ _ _ _).trans ?_), r4.trans ((Cert.Reference5Ideal.Read.val_main_v59_eq _ _).trans ?_), rest⟩
  · refine Eq.trans ?_ (Cert.Ffn.Fwd.gate_result m c).symm
    show Cert.Reference5Ideal.Read.val_main_v42 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = _
    rw [a0, a1, a2]
  · refine Eq.trans ?_ (Cert.Ffn.Fwd.up_result m c).symm
    show Cert.Reference5Ideal.Read.val_main_v43 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3)) = _
    rw [a0, a1, a3]
  · refine Eq.trans ?_ (Cert.Ffn.Fwd.act_result m c).symm
    show Cert.Reference5Ideal.Read.val_main_v44 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = _
    rw [a0, a1, a2, a3]
  · refine Eq.trans ?_ (Cert.Ffn.Fwd.x2_result m c).symm
    show Cert.Reference5Ideal.Read.val_main_v41 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) = _
    rw [a0, a1, a2, a3, a4]
  · refine Eq.trans ?_ (Cert.Ffn.Fwd.h3_result m c).symm
    show Cert.Reference5Ideal.Read.val_main_v59 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) = _
    rw [a0, a1, a2, a3, a4, a5]

/-- The mixer's projections: the reference keeps its arguments. -/
theorem reference_frame_projections : Cert.quiescent_Reference6Ideal := fun m ρ _ =>
  (θ_run _ _ _).mono (fun r h => ⟨fun c => (h c).2.2.2.2.2, sem_eq_zero_of_no_sems (by decide) r.2⟩) (Cert.Reference6Ideal.Value.run (F := Ideal) m ρ)

theorem algebraic_projections : Cert.algebraic_Kernel6Ideal_Reference6Ideal := by
  intro m ρ m' ρ' _ hagree
  refine ⟨fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N,
    fun c => (Cert.Kernel6Ideal.Gen.dats m 0 c).arrAt 8 Cert.Kernel6Ideal.cfg0.N,
    fun c => (Cert.Kernel6Ideal.Gen.dats m 0 c).arrAt 9 Cert.Kernel6Ideal.cfg0.N,
    Cert.Kernel6Ideal.Value.run_blocks m ρ, ?_⟩
  refine (θ_run _ _ _).mono (fun r h c => ?_) (Cert.Reference6Ideal.Value.run (F := Ideal) m' ρ')
  obtain ⟨a0, a1, a2⟩ := hagree c
  obtain ⟨r0, r1, r2, r3, r4, rest⟩ := h c
  refine ⟨r0.trans ((Cert.Reference6Ideal.Read.val_main_v15_eq _ _ _).trans ?_), r1.trans ((Cert.Reference6Ideal.Read.val_main_v20_eq _ _ _).trans ?_), r2.trans ((Cert.Reference6Ideal.Read.val_main_v21_eq _ _ _).trans ?_), r3.trans ((Cert.Reference6Ideal.Read.val_main_v22_eq _ _ _).trans ?_), r4.trans ((Cert.Reference6Ideal.Read.val_main_v23_eq _ _ _).trans ?_), rest⟩
  · refine Eq.trans ?_ (Cert.Mix.Proj.u_result m c).symm
    show Cert.Reference6Ideal.Read.val_main_v15 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = _
    rw [a0, a1, a2]
  · refine Eq.trans ?_ (Cert.Mix.Proj.q_result m c).symm
    show Cert.Reference6Ideal.Read.val_main_v20 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = _
    rw [a0, a1, a2]
  · refine Eq.trans ?_ (Cert.Mix.Proj.kv_result m c).symm
    show Cert.Reference6Ideal.Read.val_main_v21 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = _
    rw [a0, a1, a2]
  · refine Eq.trans ?_ (Cert.Mix.Proj.ga_result m c).symm
    show Cert.Reference6Ideal.Read.val_main_v22 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = _
    rw [a0, a1, a2]
  · refine Eq.trans ?_ (Cert.Mix.Proj.gb_result m c).symm
    show Cert.Reference6Ideal.Read.val_main_v23 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = _
    rw [a0, a1, a2]

/-- The projections' weight gradient: the reference keeps its arguments. -/
theorem reference_frame_projection_gradient : Cert.quiescent_Reference7Ideal := fun m ρ _ =>
  (θ_run _ _ _).mono (fun r h => ⟨fun c => (h c).2, sem_eq_zero_of_no_sems (by decide) r.2⟩) (Cert.Reference7Ideal.Value.run (F := Ideal) m ρ)

theorem algebraic_projection_gradient : Cert.algebraic_Kernel7Ideal_Reference7Ideal := by
  intro m ρ m' ρ' _ hagree
  refine ⟨fun c => (Cert.Kernel7Ideal.Gen.dats m 0 c).arrAt 7 Cert.Kernel7Ideal.cfg0.N,
    Cert.Kernel7Ideal.Value.run_blocks m ρ, ?_⟩
  refine (θ_run _ _ _).mono (fun r h c => ?_) (Cert.Reference7Ideal.Value.run (F := Ideal) m' ρ')
  obtain ⟨a0, a1, a2, a3⟩ := hagree c
  obtain ⟨r0, rest⟩ := h c
  refine ⟨r0.trans ((Cert.Reference7Ideal.Read.val_main_v18_eq _ _ _).trans ?_), rest⟩
  · refine Eq.trans ?_ (Cert.Mix.InGrad.result m c).symm
    show Cert.Reference7Ideal.Read.val_main_v18 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg3)) = _
    rw [a0, a1, a3]

/-- The mixer's input backwards: the reference keeps its arguments. -/
theorem reference_frame_mixer_back : Cert.quiescent_Reference8Ideal := fun m ρ _ =>
  (θ_run _ _ _).mono (fun r h => ⟨fun c => (h c).2.2, sem_eq_zero_of_no_sems (by decide) r.2⟩) (Cert.Reference8Ideal.Value.run (F := Ideal) m ρ)

theorem algebraic_mixer_back : Cert.algebraic_Kernel8Ideal_Reference8Ideal_pre_finite8 := by
  intro m ρ m' ρ' hpre hagree
  refine ⟨fun c => (Cert.Kernel8Ideal.Gen.dats m 0 c).arrAt 13 Cert.Kernel8Ideal.cfg0.N,
    fun c => (Cert.Kernel8Ideal.Gen.dats m 0 c).arrAt 14 Cert.Kernel8Ideal.cfg0.N,
    Cert.Kernel8Ideal.Value.run_blocks m ρ, ?_⟩
  refine (θ_run _ _ _).mono (fun r h c => ?_) (Cert.Reference8Ideal.Value.run (F := Ideal) m' ρ')
  obtain ⟨a0, a1, a2, a3, a4⟩ := hagree c
  obtain ⟨hX, hg, hW, hP, hC⟩ := Cert.Mix.InRef.pre_fin (hpre c)
  obtain ⟨r0, r1, rest⟩ := h c
  refine ⟨r0.trans ((Cert.Reference8Ideal.Read.val_main_v39_eq _ _).trans ?_), r1.trans ((Cert.Reference8Ideal.Read.val_main_v40_eq _ _ _).trans ?_), rest⟩
  · refine Eq.trans ?_ (Cert.Mix.InBack.dx_result m c hX hg hW hP hC).symm
    show Cert.Reference8Ideal.Read.val_main_v39 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) = _
    rw [a0, a1, a2, a3, a4]
  · refine Eq.trans ?_ (Cert.Mix.InBack.dn_result m c).symm
    show Cert.Reference8Ideal.Read.val_main_v40 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) = _
    rw [a0, a2, a3]

/-- The mixer's tail: the reference keeps its arguments. -/
theorem reference_frame_mixer : Cert.quiescent_Reference9Ideal := fun m ρ _ =>
  (θ_run _ _ _).mono (fun r h => ⟨fun c => (h c).2.2.2.2.2, sem_eq_zero_of_no_sems (by decide) r.2⟩) (Cert.Reference9Ideal.Value.run (F := Ideal) m ρ)

theorem algebraic_mixer : Cert.algebraic_Kernel9Ideal_Reference9Ideal := by
  intro m ρ m' ρ' _ hagree
  refine ⟨fun c => (Cert.Kernel9Ideal.Gen.dats m 0 c).arrAt 9 Cert.Kernel9Ideal.cfg0.N,
    fun c => (Cert.Kernel9Ideal.Gen.dats m 0 c).arrAt 10 Cert.Kernel9Ideal.cfg0.N,
    fun c => (Cert.Kernel9Ideal.Gen.dats m 0 c).arrAt 11 Cert.Kernel9Ideal.cfg0.N,
    fun c => (Cert.Kernel9Ideal.Gen.dats m 0 c).arrAt 12 Cert.Kernel9Ideal.cfg0.N,
    fun c => (Cert.Kernel9Ideal.Gen.dats m 0 c).arrAt 13 Cert.Kernel9Ideal.cfg0.N,
    Cert.Kernel9Ideal.Value.run_blocks m ρ, ?_⟩
  refine (θ_run _ _ _).mono (fun r h c => ?_) (Cert.Reference9Ideal.Value.run (F := Ideal) m' ρ')
  obtain ⟨a0, a1, a2, a3, a4, a5, a6, a7, a8⟩ := hagree c
  obtain ⟨r0, r1, r2, r3, r4, rest⟩ := h c
  refine ⟨r0.trans ((Cert.Reference9Ideal.Read.val_main_v36_eq _ _).trans ?_), r1.trans ((Cert.Reference9Ideal.Read.val_main_v37_eq _ _).trans ?_), r2.trans ((Cert.Reference9Ideal.Read.val_main_v38_eq _ _ _ _ _ _).trans ?_), r3.trans ((Cert.Reference9Ideal.Read.val_main_v35_eq _ _ _ _ _ _ _ _).trans ?_), r4.trans ((Cert.Reference9Ideal.Read.val_main_v53_eq _ _ _ _ _ _ _ _ _).trans ?_), rest⟩
  · refine Eq.trans ?_ (Cert.Mix.MixOut.ta_result m c).symm
    show Cert.Reference9Ideal.Read.val_main_v36 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg4)) = _
    rw [a0, a4]
  · refine Eq.trans ?_ (Cert.Mix.MixOut.tb_result m c).symm
    show Cert.Reference9Ideal.Read.val_main_v37 (F := Ideal) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg5)) = _
    rw [a1, a5]
  · refine Eq.trans ?_ (Cert.Mix.MixOut.merged_result m c).symm
    show Cert.Reference9Ideal.Read.val_main_v38 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) = _
    rw [a0, a1, a2, a3, a4, a5]
  · refine Eq.trans ?_ (Cert.Mix.MixOut.x1_result m c).symm
    show Cert.Reference9Ideal.Read.val_main_v35 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7)) = _
    rw [a0, a1, a2, a3, a4, a5, a6, a7]
  · refine Eq.trans ?_ (Cert.Mix.MixOut.h2_result m c).symm
    show Cert.Reference9Ideal.Read.val_main_v53 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7)) (m' ((c.tc : Thread Cert.Reference9Ideal.nD Cert.Reference9Ideal.τ).loc Cert.Reference9Ideal.main_arg8)) = _
    rw [a0, a1, a2, a3, a4, a5, a6, a7, a8]

/-- The gated merge backwards: the reference keeps its arguments. -/
theorem reference_frame_merge_back : Cert.quiescent_Reference10Ideal := fun m ρ _ =>
  (θ_run _ _ _).mono (fun r h => ⟨fun c => (h c).2.2.2.2, sem_eq_zero_of_no_sems (by decide) r.2⟩) (Cert.Reference10Ideal.Value.run (F := Ideal) m ρ)

theorem algebraic_merge_back : Cert.algebraic_Kernel10Ideal_Reference10Ideal := by
  intro m ρ m' ρ' _ hagree
  refine ⟨fun c => (Cert.Kernel10Ideal.Gen.dats m 0 c).arrAt 6 Cert.Kernel10Ideal.cfg0.N,
    fun c => (Cert.Kernel10Ideal.Gen.dats m 0 c).arrAt 7 Cert.Kernel10Ideal.cfg0.N,
    fun c => (Cert.Kernel10Ideal.Gen.dats m 0 c).arrAt 8 Cert.Kernel10Ideal.cfg0.N,
    fun c => (Cert.Kernel10Ideal.Gen.dats m 0 c).arrAt 9 Cert.Kernel10Ideal.cfg0.N,
    Cert.Kernel10Ideal.Value.run_blocks m ρ, ?_⟩
  refine (θ_run _ _ _).mono (fun r h c => ?_) (Cert.Reference10Ideal.Value.run (F := Ideal) m' ρ')
  obtain ⟨a0, a1, a2, a3, a4, a5, a6, a7⟩ := hagree c
  obtain ⟨r0, r1, r2, r3, rest⟩ := h c
  refine ⟨r0.trans ((Cert.Reference10Ideal.Read.val_main_v31_eq _ _ _).trans ?_), r1.trans ((Cert.Reference10Ideal.Read.val_main_v32_eq _ _ _).trans ?_), r2.trans ((Cert.Reference10Ideal.Read.val_main_v33_eq _ _ _ _ _).trans ?_), r3.trans ((Cert.Reference10Ideal.Read.val_main_v34_eq _ _ _ _ _).trans ?_), rest⟩
  · refine Eq.trans ?_ (Cert.Mix.Merge.ta_result m c).symm
    show Cert.Reference10Ideal.Read.val_main_v31 (F := Ideal) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg6)) (m' ((c.tc : Thread Cert.Reference10Ideal.nD Cert.Reference10Ideal.τ).loc Cert.Reference10Ideal.main_arg7)) = _
    rw [a2, a6, a7]
  · refine Eq.trans ?_ (Cert.Mix.Merge.tb_result m c).symm
    show Cert.Reference10Ideal.Read.val_main_v32 (F := Ideal) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg6)) (m' ((c.tc : Thread Cert.Reference10Ideal.nD Cert.Reference10Ideal.τ).loc Cert.Reference10Ideal.main_arg7)) = _
    rw [a3, a6, a7]
  · refine Eq.trans ?_ (Cert.Mix.Merge.ga_result m c).symm
    show Cert.Reference10Ideal.Read.val_main_v33 (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg4)) (m' ((c.tc : Thread Cert.Reference10Ideal.nD Cert.Reference10Ideal.τ).loc Cert.Reference10Ideal.main_arg6)) (m' ((c.tc : Thread Cert.Reference10Ideal.nD Cert.Reference10Ideal.τ).loc Cert.Reference10Ideal.main_arg7)) = _
    rw [a0, a2, a4, a6, a7]
  · refine Eq.trans ?_ (Cert.Mix.Merge.gb_result m c).symm
    show Cert.Reference10Ideal.Read.val_main_v34 (F := Ideal) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg5)) (m' ((c.tc : Thread Cert.Reference10Ideal.nD Cert.Reference10Ideal.τ).loc Cert.Reference10Ideal.main_arg6)) (m' ((c.tc : Thread Cert.Reference10Ideal.nD Cert.Reference10Ideal.τ).loc Cert.Reference10Ideal.main_arg7)) = _
    rw [a1, a3, a5, a6, a7]

/-- The branches backwards: the reference keeps its arguments. -/
theorem reference_frame_branches_back : Cert.quiescent_Reference11Ideal := fun m ρ _ =>
  (θ_run _ _ _).mono (fun r h => ⟨fun c => (h c).2.2, sem_eq_zero_of_no_sems (by decide) r.2⟩) (Cert.Reference11Ideal.Value.run (F := Ideal) m ρ)

theorem algebraic_branches_back : Cert.algebraic_Kernel11Ideal_Reference11Ideal := by
  intro m ρ m' ρ' _ hagree
  refine ⟨fun c => (Cert.Kernel11Ideal.Gen.dats m 0 c).arrAt 4 Cert.Kernel11Ideal.cfg0.N,
    fun c => (Cert.Kernel11Ideal.Gen.dats m 0 c).arrAt 5 Cert.Kernel11Ideal.cfg0.N,
    Cert.Kernel11Ideal.Value.run_blocks m ρ, ?_⟩
  refine (θ_run _ _ _).mono (fun r h c => ?_) (Cert.Reference11Ideal.Value.run (F := Ideal) m' ρ')
  obtain ⟨a0, a1, a2, a3, a4, a5, a6, a7⟩ := hagree c
  obtain ⟨r0, r1, rest⟩ := h c
  refine ⟨r0.trans ((Cert.Reference11Ideal.Read.val_main_v22_eq _ _ _ _).trans ?_), r1.trans ((Cert.Reference11Ideal.Read.val_main_v23_eq _ _ _ _).trans ?_), rest⟩
  · refine Eq.trans ?_ (Cert.Mix.Branch.ya_result m c).symm
    show Cert.Reference11Ideal.Read.val_main_v22 (F := Ideal) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg6)) (m' ((c.tc : Thread Cert.Reference11Ideal.nD Cert.Reference11Ideal.τ).loc Cert.Reference11Ideal.main_arg7)) = _
    rw [a2, a4, a6, a7]
  · refine Eq.trans ?_ (Cert.Mix.Branch.yb_result m c).symm
    show Cert.Reference11Ideal.Read.val_main_v23 (F := Ideal) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg5)) (m' ((c.tc : Thread Cert.Reference11Ideal.nD Cert.Reference11Ideal.τ).loc Cert.Reference11Ideal.main_arg6)) (m' ((c.tc : Thread Cert.Reference11Ideal.nD Cert.Reference11Ideal.τ).loc Cert.Reference11Ideal.main_arg7)) = _
    rw [a3, a5, a6, a7]

/-- The mixer's weight gradients: the reference keeps its arguments. -/
theorem reference_frame_mixer_gradients : Cert.quiescent_Reference12Ideal := fun m ρ _ =>
  (θ_run _ _ _).mono (fun r h => ⟨fun c => (h c).2.2.2, sem_eq_zero_of_no_sems (by decide) r.2⟩) (Cert.Reference12Ideal.Value.run (F := Ideal) m ρ)

theorem algebraic_mixer_gradients : Cert.algebraic_Kernel12Ideal_Reference12Ideal := by
  intro m ρ m' ρ' _ hagree
  refine ⟨fun c => (Cert.Kernel12Ideal.Gen.dats m 0 c).arrAt 6 Cert.Kernel12Ideal.cfg0.N,
    fun c => (Cert.Kernel12Ideal.Gen.dats m 0 c).arrAt 7 Cert.Kernel12Ideal.cfg0.N,
    fun c => (Cert.Kernel12Ideal.Gen.dats m 0 c).arrAt 8 Cert.Kernel12Ideal.cfg0.N,
    Cert.Kernel12Ideal.Value.run_blocks m ρ, ?_⟩
  refine (θ_run _ _ _).mono (fun r h c => ?_) (Cert.Reference12Ideal.Value.run (F := Ideal) m' ρ')
  obtain ⟨a0, a1, a2, a3, a4, a5, a6, a7⟩ := hagree c
  obtain ⟨r0, r1, r2, rest⟩ := h c
  refine ⟨r0.trans ((Cert.Reference12Ideal.Read.val_main_v19_eq _ _ _ _ _ _ _).trans ?_), r1.trans ((Cert.Reference12Ideal.Read.val_main_v26_eq _ _ _ _).trans ?_), r2.trans ((Cert.Reference12Ideal.Read.val_main_v24_eq _ _ _ _).trans ?_), rest⟩
  · refine Eq.trans ?_ (Cert.Mix.MixGrad.out_result m c).symm
    show Cert.Reference12Ideal.Read.val_main_v19 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) (m' ((c.tc : Thread Cert.Reference12Ideal.nD Cert.Reference12Ideal.τ).loc Cert.Reference12Ideal.main_arg5)) (m' ((c.tc : Thread Cert.Reference12Ideal.nD Cert.Reference12Ideal.τ).loc Cert.Reference12Ideal.main_arg7)) = _
    rw [a0, a1, a2, a3, a4, a5, a7]
  · refine Eq.trans ?_ (Cert.Mix.MixGrad.wa_result m c).symm
    show Cert.Reference12Ideal.Read.val_main_v26 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg6)) (m' ((c.tc : Thread Cert.Reference12Ideal.nD Cert.Reference12Ideal.τ).loc Cert.Reference12Ideal.main_arg7)) = _
    rw [a0, a2, a6, a7]
  · refine Eq.trans ?_ (Cert.Mix.MixGrad.wb_result m c).symm
    show Cert.Reference12Ideal.Read.val_main_v24 (F := Ideal) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg6)) (m' ((c.tc : Thread Cert.Reference12Ideal.nD Cert.Reference12Ideal.τ).loc Cert.Reference12Ideal.main_arg7)) = _
    rw [a1, a3, a6, a7]

/-- The per-layer embedding's gradients: the reference keeps its arguments. -/
theorem reference_frame_per_layer_gradients : Cert.quiescent_Reference13Ideal := fun m ρ _ =>
  (θ_run _ _ _).mono (fun r h => ⟨fun c => (h c).2.2, sem_eq_zero_of_no_sems (by decide) r.2⟩) (Cert.Reference13Ideal.Value.run (F := Ideal) m ρ)

theorem algebraic_per_layer_gradients : Cert.algebraic_Kernel13Ideal_Reference13Ideal := by
  intro m ρ m' ρ' _ hagree
  refine ⟨fun c => (Cert.Kernel13Ideal.Gen.dats m 0 c).arrAt 4 Cert.Kernel13Ideal.cfg0.N,
    fun c => (Cert.Kernel13Ideal.Gen.dats m 0 c).arrAt 5 Cert.Kernel13Ideal.cfg0.N,
    Cert.Kernel13Ideal.Value.run_blocks m ρ, ?_⟩
  refine (θ_run _ _ _).mono (fun r h c => ?_) (Cert.Reference13Ideal.Value.run (F := Ideal) m' ρ')
  obtain ⟨a0, a1, a2, a3, a4, a5⟩ := hagree c
  obtain ⟨r0, r1, rest⟩ := h c
  refine ⟨r0.trans ((Cert.Reference13Ideal.Read.val_main_v29_eq _ _ _ _ _).trans ?_), r1.trans ((Cert.Reference13Ideal.Read.val_main_v32_eq _ _ _ _ _ _).trans ?_), rest⟩
  · refine Eq.trans ?_ (Cert.Mix.PleGrad.pp_result m c).symm
    show Cert.Reference13Ideal.Read.val_main_v29 (F := Ideal) (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) (m' ((c.tc : Thread Cert.Reference13Ideal.nD Cert.Reference13Ideal.τ).loc Cert.Reference13Ideal.main_arg3)) (m' ((c.tc : Thread Cert.Reference13Ideal.nD Cert.Reference13Ideal.τ).loc Cert.Reference13Ideal.main_arg5)) = _
    rw [a0, a1, a2, a3, a5]
  · refine Eq.trans ?_ (Cert.Mix.PleGrad.pg_result m c).symm
    show Cert.Reference13Ideal.Read.val_main_v32 (F := Ideal) (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) (m' ((c.tc : Thread Cert.Reference13Ideal.nD Cert.Reference13Ideal.τ).loc Cert.Reference13Ideal.main_arg3)) (m' ((c.tc : Thread Cert.Reference13Ideal.nD Cert.Reference13Ideal.τ).loc Cert.Reference13Ideal.main_arg4)) (m' ((c.tc : Thread Cert.Reference13Ideal.nD Cert.Reference13Ideal.τ).loc Cert.Reference13Ideal.main_arg5)) = _
    rw [a0, a1, a2, a3, a4, a5]

/-- The per-layer embedding and the loss: the reference keeps its arguments. -/
theorem reference_frame_loss : Cert.quiescent_Reference14Ideal := fun m ρ _ =>
  (θ_run _ _ _).mono (fun r h => ⟨fun c => (h c).2.2.2.2.2.2.2, sem_eq_zero_of_no_sems (by decide) r.2⟩) (Cert.Reference14Ideal.Value.run (F := Ideal) m ρ)

theorem algebraic_loss : Cert.algebraic_Kernel14Ideal_Reference14Ideal_pre_finite14 := by
  intro m ρ m' ρ' hpre hagree
  refine ⟨fun c => (Cert.Kernel14Ideal.Gen.dats m 0 c).arrAt 9 Cert.Kernel14Ideal.cfg0.N,
    fun c => (Cert.Kernel14Ideal.Gen.dats m 0 c).arrAt 10 Cert.Kernel14Ideal.cfg0.N,
    fun c => (Cert.Kernel14Ideal.Gen.dats m 0 c).arrAt 11 Cert.Kernel14Ideal.cfg0.N,
    fun c => (Cert.Kernel14Ideal.Gen.dats m 0 c).arrAt 12 Cert.Kernel14Ideal.cfg0.N,
    fun c => (Cert.Kernel14Ideal.Gen.dats m 0 c).arrAt 13 Cert.Kernel14Ideal.cfg0.N,
    fun c => (Cert.Kernel14Ideal.Gen.dats m 0 c).arrAt 14 Cert.Kernel14Ideal.cfg0.N,
    fun c => (Cert.Kernel14Ideal.Gen.dats m 0 c).arrAt 15 Cert.Kernel14Ideal.cfg0.N,
    Cert.Kernel14Ideal.Value.run_blocks m ρ, ?_⟩
  refine (θ_run _ _ _).mono (fun r h c => ?_) (Cert.Mix.LossRun.run_values m' ρ')
  obtain ⟨a0, a1, a2, a3, a4, a5, a6⟩ := hagree c
  obtain ⟨h0, h1, h2, h3, h4, h5, h6⟩ := Cert.Mix.LossRef.pre_fin (hpre c)
  obtain ⟨r0, r1, r2, r3, r4, r5, r6, rest⟩ := h c
  refine ⟨r0.trans ?_, r1.trans ?_, r2.trans ?_, r3.trans ?_, r4.trans ?_, r5.trans ?_, r6.trans ?_, rest⟩
  · refine Eq.trans ?_ (Cert.Mix.LossBack.dx_result m c h0 h1 h2 h3 h4 h5 h6).symm
    rw [a0, a1, a2, a3, a4, a5, a6]
  · refine Eq.trans ?_ (Cert.Mix.LossBack.dxb_result m c h0 h1 h2 h3 h4 h5 h6).symm
    rw [a0, a1, a2, a3, a4, a5, a6]
  · refine Eq.trans ?_ (Cert.Mix.LossBack.dp_result m c h0 h1 h2 h3 h4 h5 h6).symm
    rw [a0, a1, a2, a3, a4, a5, a6]
  · refine Eq.trans ?_ (Cert.Mix.LossBack.dg_result m c h0 h1 h2 h3 h4 h5 h6).symm
    rw [a0, a1, a2, a3, a4, a5, a6]
  · refine Eq.trans ?_ (Cert.Mix.LossBack.df_result m c).symm
    rw [a0, a1, a2, a3, a4, a5, a6]
  · refine Eq.trans ?_ (Cert.Mix.LossBack.ls_result m c).symm
    rw [a0, a1, a2, a3, a4, a5, a6]
  · refine Eq.trans ?_ (Cert.Mix.LossBack.dn_result m c h0 h1 h2 h3 h4 h5 h6).symm
    rw [a0, a1, a2, a3, a4, a5, a6]

/-- The optimiser's update of a weight: the reference keeps its arguments. -/
theorem reference_frame_adam_norm : Cert.quiescent_Reference15Ideal := fun m ρ _ =>
  (θ_run _ _ _).mono (fun r h => ⟨fun c => (h c).2.2.2, sem_eq_zero_of_no_sems (by decide) r.2⟩) (Cert.Reference15Ideal.Value.run (F := Ideal) m ρ)

theorem algebraic_adam_norm : Cert.algebraic_Kernel15Ideal_Reference15Ideal := by
  intro m ρ m' ρ' _ hagree
  refine ⟨fun c => (Cert.Kernel15Ideal.Gen.dats m 0 c).arrAt 4 Cert.Kernel15Ideal.cfg0.N,
    fun c => (Cert.Kernel15Ideal.Gen.dats m 0 c).arrAt 5 Cert.Kernel15Ideal.cfg0.N,
    fun c => (Cert.Kernel15Ideal.Gen.dats m 0 c).arrAt 6 Cert.Kernel15Ideal.cfg0.N,
    Cert.Kernel15Ideal.Value.run_blocks m ρ, ?_⟩
  refine (θ_run _ _ _).mono (fun r h c => ?_) (Cert.Reference15Ideal.Value.run (F := Ideal) m' ρ')
  obtain ⟨a0, a1, a2, a3⟩ := hagree c
  obtain ⟨r0, r1, r2, rest⟩ := h c
  refine ⟨r0.trans ((Cert.Reference15Ideal.Read.val_main_v23_eq _ _ _ _).trans ?_), r1.trans ((Cert.Reference15Ideal.Read.val_main_v4_eq _ _).trans ?_), r2.trans ((Cert.Reference15Ideal.Read.val_main_v10_eq _ _).trans ?_), rest⟩
  · refine Eq.trans ?_ (Cert.Mix.AdamNorm.delta_result m c).symm
    show Cert.Reference15Ideal.Read.val_main_v23 (F := Ideal) (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) (m' ((c.tc : Thread Cert.Reference15Ideal.nD Cert.Reference15Ideal.τ).loc Cert.Reference15Ideal.main_arg3)) = _
    rw [a0, a1, a2, a3]
  · refine Eq.trans ?_ (Cert.Mix.AdamNorm.m_result m c).symm
    show Cert.Reference15Ideal.Read.val_main_v4 (F := Ideal) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) = _
    rw [a1, a2]
  · refine Eq.trans ?_ (Cert.Mix.AdamNorm.v_result m c).symm
    show Cert.Reference15Ideal.Read.val_main_v10 (F := Ideal) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg3)) = _
    rw [a1, a3]

/-- The optimiser's update of a weight: the reference keeps its arguments. -/
theorem reference_frame_adam_scale : Cert.quiescent_Reference16Ideal := fun m ρ _ =>
  (θ_run _ _ _).mono (fun r h => ⟨fun c => (h c).2.2.2, sem_eq_zero_of_no_sems (by decide) r.2⟩) (Cert.Reference16Ideal.Value.run (F := Ideal) m ρ)

theorem algebraic_adam_scale : Cert.algebraic_Kernel16Ideal_Reference16Ideal := by
  intro m ρ m' ρ' _ hagree
  refine ⟨fun c => (Cert.Kernel16Ideal.Gen.dats m 0 c).arrAt 4 Cert.Kernel16Ideal.cfg0.N,
    fun c => (Cert.Kernel16Ideal.Gen.dats m 0 c).arrAt 5 Cert.Kernel16Ideal.cfg0.N,
    fun c => (Cert.Kernel16Ideal.Gen.dats m 0 c).arrAt 6 Cert.Kernel16Ideal.cfg0.N,
    Cert.Kernel16Ideal.Value.run_blocks m ρ, ?_⟩
  refine (θ_run _ _ _).mono (fun r h c => ?_) (Cert.Reference16Ideal.Value.run (F := Ideal) m' ρ')
  obtain ⟨a0, a1, a2, a3⟩ := hagree c
  obtain ⟨r0, r1, r2, rest⟩ := h c
  refine ⟨r0.trans ((Cert.Reference16Ideal.Read.val_main_v23_eq _ _ _ _).trans ?_), r1.trans ((Cert.Reference16Ideal.Read.val_main_v4_eq _ _).trans ?_), r2.trans ((Cert.Reference16Ideal.Read.val_main_v10_eq _ _).trans ?_), rest⟩
  · refine Eq.trans ?_ (Cert.Mix.AdamScale.delta_result m c).symm
    show Cert.Reference16Ideal.Read.val_main_v23 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) = _
    rw [a0, a1, a2, a3]
  · refine Eq.trans ?_ (Cert.Mix.AdamScale.m_result m c).symm
    show Cert.Reference16Ideal.Read.val_main_v4 (F := Ideal) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) = _
    rw [a1, a2]
  · refine Eq.trans ?_ (Cert.Mix.AdamScale.v_result m c).symm
    show Cert.Reference16Ideal.Read.val_main_v10 (F := Ideal) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg3)) = _
    rw [a1, a3]

/-- The optimiser's update of a weight: the reference keeps its arguments. -/
theorem reference_frame_adam_pool : Cert.quiescent_Reference17Ideal := fun m ρ _ =>
  (θ_run _ _ _).mono (fun r h => ⟨fun c => (h c).2.2.2, sem_eq_zero_of_no_sems (by decide) r.2⟩) (Cert.Reference17Ideal.Value.run (F := Ideal) m ρ)

theorem algebraic_adam_pool : Cert.algebraic_Kernel17Ideal_Reference17Ideal := by
  intro m ρ m' ρ' _ hagree
  refine ⟨fun c => (Cert.Kernel17Ideal.Gen.dats m 0 c).arrAt 4 Cert.Kernel17Ideal.cfg0.N,
    fun c => (Cert.Kernel17Ideal.Gen.dats m 0 c).arrAt 5 Cert.Kernel17Ideal.cfg0.N,
    fun c => (Cert.Kernel17Ideal.Gen.dats m 0 c).arrAt 6 Cert.Kernel17Ideal.cfg0.N,
    Cert.Kernel17Ideal.Value.run_blocks m ρ, ?_⟩
  refine (θ_run _ _ _).mono (fun r h c => ?_) (Cert.Reference17Ideal.Value.run (F := Ideal) m' ρ')
  obtain ⟨a0, a1, a2, a3⟩ := hagree c
  obtain ⟨r0, r1, r2, rest⟩ := h c
  refine ⟨r0.trans ((Cert.Reference17Ideal.Read.val_main_v24_eq _ _ _ _).trans ?_), r1.trans ((Cert.Reference17Ideal.Read.val_main_v25_eq _ _).trans ?_), r2.trans ((Cert.Reference17Ideal.Read.val_main_v26_eq _ _).trans ?_), rest⟩
  · refine Eq.trans ?_ (Cert.Mix.AdamPool.delta_result m c).symm
    show Cert.Reference17Ideal.Read.val_main_v24 (F := Ideal) (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg2)) (m' ((c.tc : Thread Cert.Reference17Ideal.nD Cert.Reference17Ideal.τ).loc Cert.Reference17Ideal.main_arg3)) = _
    rw [a0, a1, a2, a3]
  · refine Eq.trans ?_ (Cert.Mix.AdamPool.m_result m c).symm
    show Cert.Reference17Ideal.Read.val_main_v25 (F := Ideal) (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg2)) = _
    rw [a1, a2]
  · refine Eq.trans ?_ (Cert.Mix.AdamPool.v_result m c).symm
    show Cert.Reference17Ideal.Read.val_main_v26 (F := Ideal) (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg3)) = _
    rw [a1, a3]

/-- The first norm: the reference keeps its arguments. -/
theorem reference_frame_norm_in : Cert.quiescent_Reference18Ideal := fun m ρ _ =>
  (θ_run _ _ _).mono (fun r h => ⟨fun c => (h c).2, sem_eq_zero_of_no_sems (by decide) r.2⟩) (Cert.Reference18Ideal.Value.run (F := Ideal) m ρ)

theorem algebraic_norm_in : Cert.algebraic_Kernel18Ideal_Reference18Ideal := by
  intro m ρ m' ρ' _ hagree
  refine ⟨fun c => (Cert.Kernel18Ideal.Gen.dats m 0 c).arrAt 2 Cert.Kernel18Ideal.cfg0.N,
    Cert.Kernel18Ideal.Value.run_blocks m ρ, ?_⟩
  refine (θ_run _ _ _).mono (fun r h c => ?_) (Cert.Reference18Ideal.Value.run (F := Ideal) m' ρ')
  obtain ⟨a0, a1⟩ := hagree c
  obtain ⟨r0, rest⟩ := h c
  refine ⟨r0.trans ((Cert.Reference18Ideal.Read.val_main_v14_eq _ _).trans ?_), rest⟩
  · refine Eq.trans ?_ (Cert.Mix.NormIn.h_result m c).symm
    show Cert.Reference18Ideal.Read.val_main_v14 (F := Ideal) (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) = _
    rw [a0, a1]

/-- The pooling mixer: the reference keeps its arguments. -/
theorem reference_frame_pool_fwd : Cert.quiescent_Reference19Ideal := fun m ρ _ =>
  (θ_run _ _ _).mono (fun r h => ⟨fun c => (h c).2.2, sem_eq_zero_of_no_sems (by decide) r.2⟩) (Cert.Reference19Ideal.Value.run (F := Ideal) m ρ)

theorem algebraic_pool_fwd : Cert.algebraic_Kernel19Ideal_Reference19Ideal_pre_finite19 := by
  intro m ρ m' ρ' hpre hagree
  refine ⟨fun c => (Cert.Kernel19Ideal.Gen.dats m 0 c).arrAt 4 Cert.Kernel19Ideal.cfg0.N,
    fun c => (Cert.Kernel19Ideal.Gen.dats m 0 c).arrAt 5 Cert.Kernel19Ideal.cfg0.N,
    Cert.Kernel19Ideal.Value.run_blocks m ρ, ?_⟩
  refine (θ_run _ _ _).mono (fun r h c => ?_) (Cert.Reference19Ideal.Value.run (F := Ideal) m' ρ')
  obtain ⟨a0, a1, a2⟩ := hagree c
  have hX := Cert.Pool.Fwd.fin_of_pre _ _ _ (hpre c)
  obtain ⟨r0, r1, rest⟩ := h c
  refine ⟨r0.trans ((Cert.Reference19Ideal.Read.val_main_v145_eq _ _).trans ?_), r1.trans ((Cert.Reference19Ideal.Read.val_main_v146_eq _ _).trans ?_), rest⟩
  · refine Eq.trans ?_ (Cert.Pool.Fwd.pooled_result m c hX).symm
    show Cert.Reference19Ideal.Read.val_main_v145 (F := Ideal) (m' ((c.tc : Thread Cert.Reference19Ideal.nD Cert.Reference19Ideal.τ).loc Cert.Reference19Ideal.main_arg0)) = _
    rw [a0]
  · refine Eq.trans ?_ (Cert.Pool.Fwd.mixed_result m c hX).symm
    show Cert.Reference19Ideal.Read.val_main_v146 (F := Ideal) (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2)) = _
    rw [a0, a1, a2]

/-- The optimiser's update of a weight: the reference keeps its arguments. -/
theorem reference_frame_adam_ffn : Cert.quiescent_Reference20Ideal := fun m ρ _ =>
  (θ_run _ _ _).mono (fun r h => ⟨fun c => (h c).2.2.2, sem_eq_zero_of_no_sems (by decide) r.2⟩) (Cert.Reference20Ideal.Value.run (F := Ideal) m ρ)

theorem algebraic_adam_ffn : Cert.algebraic_Kernel20Ideal_Reference20Ideal := by
  intro m ρ m' ρ' _ hagree
  refine ⟨fun c => (Cert.Kernel20Ideal.Gen.dats m 0 c).arrAt 4 Cert.Kernel20Ideal.cfg0.N,
    fun c => (Cert.Kernel20Ideal.Gen.dats m 0 c).arrAt 5 Cert.Kernel20Ideal.cfg0.N,
    fun c => (Cert.Kernel20Ideal.Gen.dats m 0 c).arrAt 6 Cert.Kernel20Ideal.cfg0.N,
    Cert.Kernel20Ideal.Value.run_blocks m ρ, ?_⟩
  refine (θ_run _ _ _).mono (fun r h c => ?_) (Cert.Reference20Ideal.Value.run (F := Ideal) m' ρ')
  obtain ⟨a0, a1, a2, a3⟩ := hagree c
  obtain ⟨r0, r1, r2, rest⟩ := h c
  refine ⟨r0.trans ((Cert.Reference20Ideal.Read.val_main_v23_eq _ _ _ _).trans ?_), r1.trans ((Cert.Reference20Ideal.Read.val_main_v4_eq _ _).trans ?_), r2.trans ((Cert.Reference20Ideal.Read.val_main_v10_eq _ _).trans ?_), rest⟩
  · refine Eq.trans ?_ (Cert.Mix.AdamFfn.delta_result m c).symm
    show Cert.Reference20Ideal.Read.val_main_v23 (F := Ideal) (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg2)) (m' ((c.tc : Thread Cert.Reference20Ideal.nD Cert.Reference20Ideal.τ).loc Cert.Reference20Ideal.main_arg3)) = _
    rw [a0, a1, a2, a3]
  · refine Eq.trans ?_ (Cert.Mix.AdamFfn.m_result m c).symm
    show Cert.Reference20Ideal.Read.val_main_v4 (F := Ideal) (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg2)) = _
    rw [a1, a2]
  · refine Eq.trans ?_ (Cert.Mix.AdamFfn.v_result m c).symm
    show Cert.Reference20Ideal.Read.val_main_v10 (F := Ideal) (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg3)) = _
    rw [a1, a3]

/-- The optimiser's update of a weight: the reference keeps its arguments. -/
theorem reference_frame_adam_ple : Cert.quiescent_Reference21Ideal := fun m ρ _ =>
  (θ_run _ _ _).mono (fun r h => ⟨fun c => (h c).2.2.2, sem_eq_zero_of_no_sems (by decide) r.2⟩) (Cert.Reference21Ideal.Value.run (F := Ideal) m ρ)

theorem algebraic_adam_ple : Cert.algebraic_Kernel21Ideal_Reference21Ideal := by
  intro m ρ m' ρ' _ hagree
  refine ⟨fun c => (Cert.Kernel21Ideal.Gen.dats m 0 c).arrAt 4 Cert.Kernel21Ideal.cfg0.N,
    fun c => (Cert.Kernel21Ideal.Gen.dats m 0 c).arrAt 5 Cert.Kernel21Ideal.cfg0.N,
    fun c => (Cert.Kernel21Ideal.Gen.dats m 0 c).arrAt 6 Cert.Kernel21Ideal.cfg0.N,
    Cert.Kernel21Ideal.Value.run_blocks m ρ, ?_⟩
  refine (θ_run _ _ _).mono (fun r h c => ?_) (Cert.Reference21Ideal.Value.run (F := Ideal) m' ρ')
  obtain ⟨a0, a1, a2, a3⟩ := hagree c
  obtain ⟨r0, r1, r2, rest⟩ := h c
  refine ⟨r0.trans ((Cert.Reference21Ideal.Read.val_main_v23_eq _ _ _ _).trans ?_), r1.trans ((Cert.Reference21Ideal.Read.val_main_v4_eq _ _).trans ?_), r2.trans ((Cert.Reference21Ideal.Read.val_main_v10_eq _ _).trans ?_), rest⟩
  · refine Eq.trans ?_ (Cert.Mix.AdamPle.delta_result m c).symm
    show Cert.Reference21Ideal.Read.val_main_v23 (F := Ideal) (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) = _
    rw [a0, a1, a2, a3]
  · refine Eq.trans ?_ (Cert.Mix.AdamPle.m_result m c).symm
    show Cert.Reference21Ideal.Read.val_main_v4 (F := Ideal) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) = _
    rw [a1, a2]
  · refine Eq.trans ?_ (Cert.Mix.AdamPle.v_result m c).symm
    show Cert.Reference21Ideal.Read.val_main_v10 (F := Ideal) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg3)) = _
    rw [a1, a3]

/-- The optimiser's update of a weight: the reference keeps its arguments. -/
theorem reference_frame_adam_final : Cert.quiescent_Reference22Ideal := fun m ρ _ =>
  (θ_run _ _ _).mono (fun r h => ⟨fun c => (h c).2.2.2, sem_eq_zero_of_no_sems (by decide) r.2⟩) (Cert.Reference22Ideal.Value.run (F := Ideal) m ρ)

theorem algebraic_adam_final : Cert.algebraic_Kernel22Ideal_Reference22Ideal := by
  intro m ρ m' ρ' _ hagree
  refine ⟨fun c => (Cert.Kernel22Ideal.Gen.dats m 0 c).arrAt 4 Cert.Kernel22Ideal.cfg0.N,
    fun c => (Cert.Kernel22Ideal.Gen.dats m 0 c).arrAt 5 Cert.Kernel22Ideal.cfg0.N,
    fun c => (Cert.Kernel22Ideal.Gen.dats m 0 c).arrAt 6 Cert.Kernel22Ideal.cfg0.N,
    Cert.Kernel22Ideal.Value.run_blocks m ρ, ?_⟩
  refine (θ_run _ _ _).mono (fun r h c => ?_) (Cert.Reference22Ideal.Value.run (F := Ideal) m' ρ')
  obtain ⟨a0, a1, a2, a3⟩ := hagree c
  obtain ⟨r0, r1, r2, rest⟩ := h c
  refine ⟨r0.trans ((Cert.Reference22Ideal.Read.val_main_v24_eq _ _ _ _).trans ?_), r1.trans ((Cert.Reference22Ideal.Read.val_main_v25_eq _ _).trans ?_), r2.trans ((Cert.Reference22Ideal.Read.val_main_v26_eq _ _).trans ?_), rest⟩
  · refine Eq.trans ?_ (Cert.Mix.AdamFinal.delta_result m c).symm
    show Cert.Reference22Ideal.Read.val_main_v24 (F := Ideal) (m' ((c.tc : Thread Cert.Reference22Ideal.nD Cert.Reference22Ideal.τ).loc Cert.Reference22Ideal.main_arg0)) (m' ((c.tc : Thread Cert.Reference22Ideal.nD Cert.Reference22Ideal.τ).loc Cert.Reference22Ideal.main_arg1)) (m' ((c.tc : Thread Cert.Reference22Ideal.nD Cert.Reference22Ideal.τ).loc Cert.Reference22Ideal.main_arg2)) (m' ((c.tc : Thread Cert.Reference22Ideal.nD Cert.Reference22Ideal.τ).loc Cert.Reference22Ideal.main_arg3)) = _
    rw [a0, a1, a2, a3]
  · refine Eq.trans ?_ (Cert.Mix.AdamFinal.m_result m c).symm
    show Cert.Reference22Ideal.Read.val_main_v25 (F := Ideal) (m' ((c.tc : Thread Cert.Reference22Ideal.nD Cert.Reference22Ideal.τ).loc Cert.Reference22Ideal.main_arg1)) (m' ((c.tc : Thread Cert.Reference22Ideal.nD Cert.Reference22Ideal.τ).loc Cert.Reference22Ideal.main_arg2)) = _
    rw [a1, a2]
  · refine Eq.trans ?_ (Cert.Mix.AdamFinal.v_result m c).symm
    show Cert.Reference22Ideal.Read.val_main_v26 (F := Ideal) (m' ((c.tc : Thread Cert.Reference22Ideal.nD Cert.Reference22Ideal.τ).loc Cert.Reference22Ideal.main_arg1)) (m' ((c.tc : Thread Cert.Reference22Ideal.nD Cert.Reference22Ideal.τ).loc Cert.Reference22Ideal.main_arg3)) = _
    rw [a1, a3]

theorem algebraic_pool : Cert.algebraic_KernelIdeal_ReferenceIdeal_pre_finite := by
  intro m ρ m' ρ' hpre hagree
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m ρ, ?_⟩
  refine (θ_run _ _ _).mono (fun r h c => ?_) (Cert.ReferenceIdeal.Value.run (F := Ideal) m' ρ')
  obtain ⟨a0, a1, a2, a3⟩ := hagree c
  obtain ⟨h1, h2, h3⟩ := Cert.Pool.pre_fin _ _ _ _ (hpre c)
  obtain ⟨r0, r1, r2, rest⟩ := h c
  refine ⟨r0.trans ((Cert.ReferenceIdeal.Read.val_main_v149_eq _).trans ?_), r1.trans ((Cert.ReferenceIdeal.Read.val_main_v91_eq _).trans ?_),
    r2.trans ((Cert.ReferenceIdeal.Read.val_main_v150_eq _).trans ?_), rest⟩
  · refine Eq.trans ?_ (Cert.Pool.du_eq m c h1 h2 h3).symm
    show Cert.ReferenceIdeal.Read.val_main_v149 (F := Ideal) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
    rw [a1, a2, a3]
  · refine Eq.trans ?_ (Cert.Pool.dw_eq m c).symm
    show Cert.ReferenceIdeal.Read.val_main_v91 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
    rw [a0, a2, a3]
  · refine Eq.trans ?_ (Cert.Pool.ds_eq m c).symm
    show Cert.ReferenceIdeal.Read.val_main_v150 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) = _
    rw [a0, a1, a3]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Pre_finite.Gen.facts, Cert.Pre_finite2.Gen.facts, Cert.Pre_finite8.Gen.facts,
  Cert.Pre_finite14.Gen.facts, Cert.Pre_finite19.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.Kernel2.Gen.frame m ρ,
  fun m ρ _ => Cert.Kernel2Ideal.Gen.frame m ρ,
  fun m ρ _ => Cert.Kernel2Ideal.Gen.frame m ρ,
  reference_frame_ffn_back,
  fun m ρ _ => reference_frame_ffn_back m ρ trivial,
  fun m ρ _ => Cert.Kernel3.Gen.frame m ρ,
  fun m ρ _ => Cert.Kernel3Ideal.Gen.frame m ρ,
  reference_frame_ffn_gates,
  fun m ρ _ => Cert.Kernel4.Gen.frame m ρ,
  fun m ρ _ => Cert.Kernel4Ideal.Gen.frame m ρ,
  reference_frame_ffn_down,
  fun m ρ _ => Cert.Kernel5.Gen.frame m ρ,
  fun m ρ _ => Cert.Kernel5Ideal.Gen.frame m ρ,
  reference_frame_ffn,
  fun m ρ _ => Cert.Kernel6.Gen.frame m ρ,
  fun m ρ _ => Cert.Kernel6Ideal.Gen.frame m ρ,
  reference_frame_projections,
  fun m ρ _ => Cert.Kernel7.Gen.frame m ρ,
  fun m ρ _ => Cert.Kernel7Ideal.Gen.frame m ρ,
  reference_frame_projection_gradient,
  fun m ρ _ => Cert.Kernel8.Gen.frame m ρ,
  fun m ρ _ => Cert.Kernel8Ideal.Gen.frame m ρ,
  fun m ρ _ => Cert.Kernel8Ideal.Gen.frame m ρ,
  reference_frame_mixer_back,
  fun m ρ _ => reference_frame_mixer_back m ρ trivial,
  fun m ρ _ => Cert.Kernel9.Gen.frame m ρ,
  fun m ρ _ => Cert.Kernel9Ideal.Gen.frame m ρ,
  reference_frame_mixer,
  fun m ρ _ => Cert.Kernel10.Gen.frame m ρ,
  fun m ρ _ => Cert.Kernel10Ideal.Gen.frame m ρ,
  reference_frame_merge_back,
  fun m ρ _ => Cert.Kernel11.Gen.frame m ρ,
  fun m ρ _ => Cert.Kernel11Ideal.Gen.frame m ρ,
  reference_frame_branches_back,
  fun m ρ _ => Cert.Kernel12.Gen.frame m ρ,
  fun m ρ _ => Cert.Kernel12Ideal.Gen.frame m ρ,
  reference_frame_mixer_gradients,
  fun m ρ _ => Cert.Kernel13.Gen.frame m ρ,
  fun m ρ _ => Cert.Kernel13Ideal.Gen.frame m ρ,
  reference_frame_per_layer_gradients,
  fun m ρ _ => Cert.Kernel14.Gen.frame m ρ,
  fun m ρ _ => Cert.Kernel14Ideal.Gen.frame m ρ,
  fun m ρ _ => Cert.Kernel14Ideal.Gen.frame m ρ,
  reference_frame_loss,
  fun m ρ _ => reference_frame_loss m ρ trivial,
  fun m ρ _ => Cert.Kernel15.Gen.frame m ρ,
  fun m ρ _ => Cert.Kernel15Ideal.Gen.frame m ρ,
  reference_frame_adam_norm,
  fun m ρ _ => Cert.Kernel16.Gen.frame m ρ,
  fun m ρ _ => Cert.Kernel16Ideal.Gen.frame m ρ,
  reference_frame_adam_scale,
  fun m ρ _ => Cert.Kernel17.Gen.frame m ρ,
  fun m ρ _ => Cert.Kernel17Ideal.Gen.frame m ρ,
  reference_frame_adam_pool,
  fun m ρ _ => Cert.Kernel18.Gen.frame m ρ,
  fun m ρ _ => Cert.Kernel18Ideal.Gen.frame m ρ,
  reference_frame_norm_in,
  fun m ρ _ => Cert.Kernel19.Gen.frame m ρ,
  fun m ρ _ => Cert.Kernel19Ideal.Gen.frame m ρ,
  fun m ρ _ => Cert.Kernel19Ideal.Gen.frame m ρ,
  reference_frame_pool_fwd,
  fun m ρ _ => reference_frame_pool_fwd m ρ trivial,
  fun m ρ _ => Cert.Kernel20.Gen.frame m ρ,
  fun m ρ _ => Cert.Kernel20Ideal.Gen.frame m ρ,
  reference_frame_adam_ffn,
  fun m ρ _ => Cert.Kernel21.Gen.frame m ρ,
  fun m ρ _ => Cert.Kernel21Ideal.Gen.frame m ρ,
  reference_frame_adam_ple,
  fun m ρ _ => Cert.Kernel22.Gen.frame m ρ,
  fun m ρ _ => Cert.Kernel22Ideal.Gen.frame m ρ,
  reference_frame_adam_final,
  trivial, algebraic_pool, trivial, algebraic_ffn_back, trivial, algebraic_ffn_gates, trivial, algebraic_ffn_down, trivial, algebraic_ffn, trivial, algebraic_projections, trivial, algebraic_projection_gradient, trivial, algebraic_mixer_back, trivial, algebraic_mixer, trivial, algebraic_merge_back, trivial, algebraic_branches_back, trivial, algebraic_mixer_gradients, trivial, algebraic_per_layer_gradients, trivial, algebraic_loss, trivial, algebraic_adam_norm, trivial, algebraic_adam_scale, trivial, algebraic_adam_pool, trivial, algebraic_norm_in, trivial, algebraic_pool_fwd, trivial, algebraic_adam_ffn, trivial, algebraic_adam_ple, trivial, algebraic_adam_final⟩

end Cert.Proof

end
